-- ==== Defs.lean ====
def Pre_ProjQ (m : (ℓ : Loc Cert.ProjQ.nD Cert.ProjQ.τ Cert.ProjQ.sig) → Buf (Elt Bits) ℓ) : Prop :=
  True

def Pre_ProjQIdeal (m : (ℓ : Loc Cert.ProjQIdeal.nD Cert.ProjQIdeal.τ Cert.ProjQIdeal.sig) → Buf (Elt Ideal) ℓ) : Prop :=
  True

def Pre_RefQIdeal (m : (ℓ : Loc Cert.RefQIdeal.nD Cert.RefQIdeal.τ Cert.RefQIdeal.sig) → Buf (Elt Ideal) ℓ) : Prop :=
  True

def Pre_ProjK (m : (ℓ : Loc Cert.ProjK.nD Cert.ProjK.τ Cert.ProjK.sig) → Buf (Elt Bits) ℓ) : Prop :=
  True

def Pre_ProjKIdeal (m : (ℓ : Loc Cert.ProjKIdeal.nD Cert.ProjKIdeal.τ Cert.ProjKIdeal.sig) → Buf (Elt Ideal) ℓ) : Prop :=
  True

def Pre_RefKIdeal (m : (ℓ : Loc Cert.RefKIdeal.nD Cert.RefKIdeal.τ Cert.RefKIdeal.sig) → Buf (Elt Ideal) ℓ) : Prop :=
  True

def Pre_ProjV (m : (ℓ : Loc Cert.ProjV.nD Cert.ProjV.τ Cert.ProjV.sig) → Buf (Elt Bits) ℓ) : Prop :=
  True

def Pre_ProjVIdeal (m : (ℓ : Loc Cert.ProjVIdeal.nD Cert.ProjVIdeal.τ Cert.ProjVIdeal.sig) → Buf (Elt Ideal) ℓ) : Prop :=
  True

def Pre_RefVIdeal (m : (ℓ : Loc Cert.RefVIdeal.nD Cert.RefVIdeal.τ Cert.RefVIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOIdeal (m : (ℓ : Loc Cert.RefOIdeal.nD Cert.RefOIdeal.τ Cert.RefOIdeal.sig) → Buf (Elt Ideal) ℓ) : Prop :=
  True

def quiescent_ProjQ [hProjQ : Cert.ProjQ.Facts] : Prop :=
  ∀ (m : (ℓ : Loc Cert.ProjQ.nD Cert.ProjQ.τ Cert.ProjQ.sig) → Buf (Elt Bits) ℓ) (g : Dev Cert.ProjQ.nD → PrngReg), Pre_ProjQ m →
    θ_run (Cert.ProjQ.defs (F := Bits)) (onTc (τ := Cert.ProjQ.τ) (Cert.ProjQ.main (F := Bits))) ⟨m, fun _ => 0, g⟩ (fun r => (∀ c : Dev Cert.ProjQ.nD,
      r.2.mem ((c.tc : Thread Cert.ProjQ.nD Cert.ProjQ.τ).loc Cert.ProjQ.main_arg0) = m ((c.tc : Thread Cert.ProjQ.nD Cert.ProjQ.τ).loc Cert.ProjQ.main_arg0)
      ∧ r.2.mem ((c.tc : Thread Cert.ProjQ.nD Cert.ProjQ.τ).loc Cert.ProjQ.main_arg1) = m ((c.tc : Thread Cert.ProjQ.nD Cert.ProjQ.τ).loc Cert.ProjQ.main_arg1)
      ∧ r.2.mem ((c.tc : Thread Cert.ProjQ.nD Cert.ProjQ.τ).loc Cert.ProjQ.main_arg2) = m ((c.tc : Thread Cert.ProjQ.nD Cert.ProjQ.τ).loc Cert.ProjQ.main_arg2)
      ∧ r.2.mem ((c.tc : Thread Cert.ProjQ.nD Cert.ProjQ.τ).loc Cert.ProjQ.main_arg3) = m ((c.tc : Thread Cert.ProjQ.nD Cert.ProjQ.τ).loc Cert.ProjQ.main_arg3)
      ∧ r.2.mem ((c.tc : Thread Cert.ProjQ.nD Cert.ProjQ.τ).loc Cert.ProjQ.main_arg4) = m ((c.tc : Thread Cert.ProjQ.nD Cert.ProjQ.τ).loc Cert.ProjQ.main_arg4)
      ∧ r.2.mem ((c.tc : Thread Cert.ProjQ.nD Cert.ProjQ.τ).loc Cert.ProjQ.main_arg5) = m ((c.tc : Thread Cert.ProjQ.nD Cert.ProjQ.τ).loc Cert.ProjQ.main_arg5)
      ∧ r.2.mem ((c.tc : Thread Cert.ProjQ.nD Cert.ProjQ.τ).loc Cert.ProjQ.main_arg6) = m ((c.tc : Thread Cert.ProjQ.nD Cert.ProjQ.τ).loc Cert.ProjQ.main_arg6))
      ∧ r.2.sem = fun _ => 0)

def quiescent_ProjQIdeal [hProjQIdeal : Cert.ProjQIdeal.Facts] : Prop :=
  ∀ (m : (ℓ : Loc Cert.ProjQIdeal.nD Cert.ProjQIdeal.τ Cert.ProjQIdeal.sig) → Buf (Elt Ideal) ℓ) (g : Dev Cert.ProjQIdeal.nD → PrngReg), Pre_ProjQIdeal m →
    θ_run (Cert.ProjQIdeal.defs (F := Ideal)) (onTc (τ := Cert.ProjQIdeal.τ) (Cert.ProjQIdeal.main (F := Ideal))) ⟨m, fun _ => 0, g⟩ (fun r => (∀ c : Dev Cert.ProjQIdeal.nD,
      r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
      ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1)
      ∧ r.2.mem ((c.tc : Thread Cert.ProjQIdeal.nD Cert.ProjQIdeal.τ).loc Cert.ProjQIdeal.main_arg2) = m ((c.tc : Thread Cert.ProjQIdeal.nD Cert.ProjQIdeal.τ).loc Cert.ProjQIdeal.main_arg2)
      ∧ r.2.mem ((c.tc : Thread Cert.ProjQIdeal.nD Cert.ProjQIdeal.τ).loc Cert.ProjQIdeal.main_arg3) = m ((c.tc : Thread Cert.ProjQIdeal.nD Cert.ProjQIdeal.τ).loc Cert.ProjQIdeal.main_arg3)
      ∧ r.2.mem ((c.tc : Thread Cert.ProjQIdeal.nD Cert.ProjQIdeal.τ).loc Cert.ProjQIdeal.main_arg4) = m ((c.tc : Thread Cert.ProjQIdeal.nD Cert.ProjQIdeal.τ).loc Cert.ProjQIdeal.main_arg4)
      ∧ r.2.mem ((c.tc : Thread Cert.ProjQIdeal.nD Cert.ProjQIdeal.τ).loc Cert.ProjQIdeal.main_arg5) = m ((c.tc : Thread Cert.ProjQIdeal.nD Cert.ProjQIdeal.τ).loc Cert.ProjQIdeal.main_arg5)
      ∧ r.2.mem ((c.tc : Thread Cert.ProjQIdeal.nD Cert.ProjQIdeal.τ).loc Cert.ProjQIdeal.main_arg6) = m ((c.tc : Thread Cert.ProjQIdeal.nD Cert.ProjQIdeal.τ).loc Cert.ProjQIdeal.main_arg6))
      ∧ r.2.sem = fun _ => 0)

def quiescent_RefQIdeal [hRefQIdeal : Cert.RefQIdeal.Facts] : Prop :=
  ∀ (m : (ℓ : Loc Cert.RefQIdeal.nD Cert.RefQIdeal.τ Cert.RefQIdeal.sig) → Buf (Elt Ideal) ℓ) (g : Dev Cert.RefQIdeal.nD → PrngReg), Pre_RefQIdeal m →
    θ_run (Cert.RefQIdeal.defs (F := Ideal)) (onTc (τ := Cert.RefQIdeal.τ) (Cert.RefQIdeal.main (F := Ideal))) ⟨m, fun _ => 0, g⟩ (fun r => (∀ c : Dev Cert.RefQIdeal.nD,
      r.2.mem ((c.tc : Thread Cert.RefQIdeal.nD Cert.RefQIdeal.τ).loc Cert.RefQIdeal.main_arg0) = m ((c.tc : Thread Cert.RefQIdeal.nD Cert.RefQIdeal.τ).loc Cert.RefQIdeal.main_arg0)
      ∧ r.2.mem ((c.tc : Thread Cert.RefQIdeal.nD Cert.RefQIdeal.τ).loc Cert.RefQIdeal.main_arg1) = m ((c.tc : Thread Cert.RefQIdeal.nD Cert.RefQIdeal.τ).loc Cert.RefQIdeal.main_arg1)
      ∧ r.2.mem ((c.tc : Thread Cert.RefQIdeal.nD Cert.RefQIdeal.τ).loc Cert.RefQIdeal.main_arg2) = m ((c.tc : Thread Cert.RefQIdeal.nD Cert.RefQIdeal.τ).loc Cert.RefQIdeal.main_arg2)
      ∧ r.2.mem ((c.tc : Thread Cert.RefQIdeal.nD Cert.RefQIdeal.τ).loc Cert.RefQIdeal.main_arg3) = m ((c.tc : Thread Cert.RefQIdeal.nD Cert.RefQIdeal.τ).loc Cert.RefQIdeal.main_arg3)
      ∧ r.2.mem ((c.tc : Thread Cert.RefQIdeal.nD Cert.RefQIdeal.τ).loc Cert.RefQIdeal.main_arg4) = m ((c.tc : Thread Cert.RefQIdeal.nD Cert.RefQIdeal.τ).loc Cert.RefQIdeal.main_arg4)
      ∧ r.2.mem ((c.tc : Thread Cert.RefQIdeal.nD Cert.RefQIdeal.τ).loc Cert.RefQIdeal.main_arg5) = m ((c.tc : Thread Cert.RefQIdeal.nD Cert.RefQIdeal.τ).loc Cert.RefQIdeal.main_arg5)
      ∧ r.2.mem ((c.tc : Thread Cert.RefQIdeal.nD Cert.RefQIdeal.τ).loc Cert.RefQIdeal.main_arg6) = m ((c.tc : Thread Cert.RefQIdeal.nD Cert.RefQIdeal.τ).loc Cert.RefQIdeal.main_arg6))
      ∧ r.2.sem = fun _ => 0)

def quiescent_ProjK [hProjK : Cert.ProjK.Facts] : Prop :=
  ∀ (m : (ℓ : Loc Cert.ProjK.nD Cert.ProjK.τ Cert.ProjK.sig) → Buf (Elt Bits) ℓ) (g : Dev Cert.ProjK.nD → PrngReg), Pre_ProjK m →
    θ_run (Cert.ProjK.defs (F := Bits)) (onTc (τ := Cert.ProjK.τ) (Cert.ProjK.main (F := Bits))) ⟨m, fun _ => 0, g⟩ (fun r => (∀ c : Dev Cert.ProjK.nD,
      r.2.mem ((c.tc : Thread Cert.ProjK.nD Cert.ProjK.τ).loc Cert.ProjK.main_arg0) = m ((c.tc : Thread Cert.ProjK.nD Cert.ProjK.τ).loc Cert.ProjK.main_arg0)
      ∧ r.2.mem ((c.tc : Thread Cert.ProjK.nD Cert.ProjK.τ).loc Cert.ProjK.main_arg1) = m ((c.tc : Thread Cert.ProjK.nD Cert.ProjK.τ).loc Cert.ProjK.main_arg1)
      ∧ r.2.mem ((c.tc : Thread Cert.ProjK.nD Cert.ProjK.τ).loc Cert.ProjK.main_arg2) = m ((c.tc : Thread Cert.ProjK.nD Cert.ProjK.τ).loc Cert.ProjK.main_arg2)
      ∧ r.2.mem ((c.tc : Thread Cert.ProjK.nD Cert.ProjK.τ).loc Cert.ProjK.main_arg3) = m ((c.tc : Thread Cert.ProjK.nD Cert.ProjK.τ).loc Cert.ProjK.main_arg3)
      ∧ r.2.mem ((c.tc : Thread Cert.ProjK.nD Cert.ProjK.τ).loc Cert.ProjK.main_arg4) = m ((c.tc : Thread Cert.ProjK.nD Cert.ProjK.τ).loc Cert.ProjK.main_arg4)
      ∧ r.2.mem ((c.tc : Thread Cert.ProjK.nD Cert.ProjK.τ).loc Cert.ProjK.main_arg5) = m ((c.tc : Thread Cert.ProjK.nD Cert.ProjK.τ).loc Cert.ProjK.main_arg5)
      ∧ r.2.mem ((c.tc : Thread Cert.ProjK.nD Cert.ProjK.τ).loc Cert.ProjK.main_arg6) = m ((c.tc : Thread Cert.ProjK.nD Cert.ProjK.τ).loc Cert.ProjK.main_arg6))
      ∧ r.2.sem = fun _ => 0)

def quiescent_ProjKIdeal [hProjKIdeal : Cert.ProjKIdeal.Facts] : Prop :=
  ∀ (m : (ℓ : Loc Cert.ProjKIdeal.nD Cert.ProjKIdeal.τ Cert.ProjKIdeal.sig) → Buf (Elt Ideal) ℓ) (g : Dev Cert.ProjKIdeal.nD → PrngReg), Pre_ProjKIdeal m →
    θ_run (Cert.ProjKIdeal.defs (F := Ideal)) (onTc (τ := Cert.ProjKIdeal.τ) (Cert.ProjKIdeal.main (F := Ideal))) ⟨m, fun _ => 0, g⟩ (fun r => (∀ c : Dev Cert.ProjKIdeal.nD,
      r.2.mem ((c.tc : Thread Cert.ProjKIdeal.nD Cert.ProjKIdeal.τ).loc Cert.ProjKIdeal.main_arg0) = m ((c.tc : Thread Cert.ProjKIdeal.nD Cert.ProjKIdeal.τ).loc Cert.ProjKIdeal.main_arg0)
      ∧ r.2.mem ((c.tc : Thread Cert.ProjKIdeal.nD Cert.ProjKIdeal.τ).loc Cert.ProjKIdeal.main_arg1) = m ((c.tc : Thread Cert.ProjKIdeal.nD Cert.ProjKIdeal.τ).loc Cert.ProjKIdeal.main_arg1)
      ∧ r.2.mem ((c.tc : Thread Cert.ProjKIdeal.nD Cert.ProjKIdeal.τ).loc Cert.ProjKIdeal.main_arg2) = m ((c.tc : Thread Cert.ProjKIdeal.nD Cert.ProjKIdeal.τ).loc Cert.ProjKIdeal.main_arg2)
      ∧ r.2.mem ((c.tc : Thread Cert.ProjKIdeal.nD Cert.ProjKIdeal.τ).loc Cert.ProjKIdeal.main_arg3) = m ((c.tc : Thread Cert.ProjKIdeal.nD Cert.ProjKIdeal.τ).loc Cert.ProjKIdeal.main_arg3)
      ∧ r.2.mem ((c.tc : Thread Cert.ProjKIdeal.nD Cert.ProjKIdeal.τ).loc Cert.ProjKIdeal.main_arg4) = m ((c.tc : Thread Cert.ProjKIdeal.nD Cert.ProjKIdeal.τ).loc Cert.ProjKIdeal.main_arg4)
      ∧ r.2.mem ((c.tc : Thread Cert.ProjKIdeal.nD Cert.ProjKIdeal.τ).loc Cert.ProjKIdeal.main_arg5) = m ((c.tc : Thread Cert.ProjKIdeal.nD Cert.ProjKIdeal.τ).loc Cert.ProjKIdeal.main_arg5)
      ∧ r.2.mem ((c.tc : Thread Cert.ProjKIdeal.nD Cert.ProjKIdeal.τ).loc Cert.ProjKIdeal.main_arg6) = m ((c.tc : Thread Cert.ProjKIdeal.nD Cert.ProjKIdeal.τ).loc Cert.ProjKIdeal.main_arg6))
      ∧ r.2.sem = fun _ => 0)

def quiescent_RefKIdeal [hRefKIdeal : Cert.RefKIdeal.Facts] : Prop :=
  ∀ (m : (ℓ : Loc Cert.RefKIdeal.nD Cert.RefKIdeal.τ Cert.RefKIdeal.sig) → Buf (Elt Ideal) ℓ) (g : Dev Cert.RefKIdeal.nD → PrngReg), Pre_RefKIdeal m →
    θ_run (Cert.RefKIdeal.defs (F := Ideal)) (onTc (τ := Cert.RefKIdeal.τ) (Cert.RefKIdeal.main (F := Ideal))) ⟨m, fun _ => 0, g⟩ (fun r => (∀ c : Dev Cert.RefKIdeal.nD,
      r.2.mem ((c.tc : Thread Cert.RefKIdeal.nD Cert.RefKIdeal.τ).loc Cert.RefKIdeal.main_arg0) = m ((c.tc : Thread Cert.RefKIdeal.nD Cert.RefKIdeal.τ).loc Cert.RefKIdeal.main_arg0)
      ∧ r.2.mem ((c.tc : Thread Cert.RefKIdeal.nD Cert.RefKIdeal.τ).loc Cert.RefKIdeal.main_arg1) = m ((c.tc : Thread Cert.RefKIdeal.nD Cert.RefKIdeal.τ).loc Cert.RefKIdeal.main_arg1)
      ∧ r.2.mem ((c.tc : Thread Cert.RefKIdeal.nD Cert.RefKIdeal.τ).loc Cert.RefKIdeal.main_arg2) = m ((c.tc : Thread Cert.RefKIdeal.nD Cert.RefKIdeal.τ).loc Cert.RefKIdeal.main_arg2)
      ∧ r.2.mem ((c.tc : Thread Cert.RefKIdeal.nD Cert.RefKIdeal.τ).loc Cert.RefKIdeal.main_arg3) = m ((c.tc : Thread Cert.RefKIdeal.nD Cert.RefKIdeal.τ).loc Cert.RefKIdeal.main_arg3)
      ∧ r.2.mem ((c.tc : Thread Cert.RefKIdeal.nD Cert.RefKIdeal.τ).loc Cert.RefKIdeal.main_arg4) = m ((c.tc : Thread Cert.RefKIdeal.nD Cert.RefKIdeal.τ).loc Cert.RefKIdeal.main_arg4)
      ∧ r.2.mem ((c.tc : Thread Cert.RefKIdeal.nD Cert.RefKIdeal.τ).loc Cert.RefKIdeal.main_arg5) = m ((c.tc : Thread Cert.RefKIdeal.nD Cert.RefKIdeal.τ).loc Cert.RefKIdeal.main_arg5)
      ∧ r.2.mem ((c.tc : Thread Cert.RefKIdeal.nD Cert.RefKIdeal.τ).loc Cert.RefKIdeal.main_arg6) = m ((c.tc : Thread Cert.RefKIdeal.nD Cert.RefKIdeal.τ).loc Cert.RefKIdeal.main_arg6))
      ∧ r.2.sem = fun _ => 0)

def quiescent_ProjV [hProjV : Cert.ProjV.Facts] : Prop :=
  ∀ (m : (ℓ : Loc Cert.ProjV.nD Cert.ProjV.τ Cert.ProjV.sig) → Buf (Elt Bits) ℓ) (g : Dev Cert.ProjV.nD → PrngReg), Pre_ProjV m →
    θ_run (Cert.ProjV.defs (F := Bits)) (onTc (τ := Cert.ProjV.τ) (Cert.ProjV.main (F := Bits))) ⟨m, fun _ => 0, g⟩ (fun r => (∀ c : Dev Cert.ProjV.nD,
      r.2.mem ((c.tc : Thread Cert.ProjV.nD Cert.ProjV.τ).loc Cert.ProjV.main_arg0) = m ((c.tc : Thread Cert.ProjV.nD Cert.ProjV.τ).loc Cert.ProjV.main_arg0)
      ∧ r.2.mem ((c.tc : Thread Cert.ProjV.nD Cert.ProjV.τ).loc Cert.ProjV.main_arg1) = m ((c.tc : Thread Cert.ProjV.nD Cert.ProjV.τ).loc Cert.ProjV.main_arg1)
      ∧ r.2.mem ((c.tc : Thread Cert.ProjV.nD Cert.ProjV.τ).loc Cert.ProjV.main_arg2) = m ((c.tc : Thread Cert.ProjV.nD Cert.ProjV.τ).loc Cert.ProjV.main_arg2)
      ∧ r.2.mem ((c.tc : Thread Cert.ProjV.nD Cert.ProjV.τ).loc Cert.ProjV.main_arg3) = m ((c.tc : Thread Cert.ProjV.nD Cert.ProjV.τ).loc Cert.ProjV.main_arg3))
      ∧ r.2.sem = fun _ => 0)

def quiescent_ProjVIdeal [hProjVIdeal : Cert.ProjVIdeal.Facts] : Prop :=
  ∀ (m : (ℓ : Loc Cert.ProjVIdeal.nD Cert.ProjVIdeal.τ Cert.ProjVIdeal.sig) → Buf (Elt Ideal) ℓ) (g : Dev Cert.ProjVIdeal.nD → PrngReg), Pre_ProjVIdeal m →
    θ_run (Cert.ProjVIdeal.defs (F := Ideal)) (onTc (τ := Cert.ProjVIdeal.τ) (Cert.ProjVIdeal.main (F := Ideal))) ⟨m, fun _ => 0, g⟩ (fun r => (∀ c : Dev Cert.ProjVIdeal.nD,
      r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
      ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1)
      ∧ r.2.mem ((c.tc : Thread Cert.ProjVIdeal.nD Cert.ProjVIdeal.τ).loc Cert.ProjVIdeal.main_arg2) = m ((c.tc : Thread Cert.ProjVIdeal.nD Cert.ProjVIdeal.τ).loc Cert.ProjVIdeal.main_arg2)
      ∧ r.2.mem ((c.tc : Thread Cert.ProjVIdeal.nD Cert.ProjVIdeal.τ).loc Cert.ProjVIdeal.main_arg3) = m ((c.tc : Thread Cert.ProjVIdeal.nD Cert.ProjVIdeal.τ).loc Cert.ProjVIdeal.main_arg3))
      ∧ r.2.sem = fun _ => 0)

def quiescent_RefVIdeal [hRefVIdeal : Cert.RefVIdeal.Facts] : Prop :=
  ∀ (m : (ℓ : Loc Cert.RefVIdeal.nD Cert.RefVIdeal.τ Cert.RefVIdeal.sig) → Buf (Elt Ideal) ℓ) (g : Dev Cert.RefVIdeal.nD → PrngReg), Pre_RefVIdeal m →
    θ_run (Cert.RefVIdeal.defs (F := Ideal)) (onTc (τ := Cert.RefVIdeal.τ) (Cert.RefVIdeal.main (F := Ideal))) ⟨m, fun _ => 0, g⟩ (fun r => (∀ c : Dev Cert.RefVIdeal.nD,
      r.2.mem ((c.tc : Thread Cert.RefVIdeal.nD Cert.RefVIdeal.τ).loc Cert.RefVIdeal.main_arg0) = m ((c.tc : Thread Cert.RefVIdeal.nD Cert.RefVIdeal.τ).loc Cert.RefVIdeal.main_arg0)
      ∧ r.2.mem ((c.tc : Thread Cert.RefVIdeal.nD Cert.RefVIdeal.τ).loc Cert.RefVIdeal.main_arg1) = m ((c.tc : Thread Cert.RefVIdeal.nD Cert.RefVIdeal.τ).loc Cert.RefVIdeal.main_arg1)
      ∧ r.2.mem ((c.tc : Thread Cert.RefVIdeal.nD Cert.RefVIdeal.τ).loc Cert.RefVIdeal.main_arg2) = m ((c.tc : Thread Cert.RefVIdeal.nD Cert.RefVIdeal.τ).loc Cert.RefVIdeal.main_arg2)
      ∧ r.2.mem ((c.tc : Thread Cert.RefVIdeal.nD Cert.RefVIdeal.τ).loc Cert.RefVIdeal.main_arg3) = m ((c.tc : Thread Cert.RefVIdeal.nD Cert.RefVIdeal.τ).loc Cert.RefVIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_RefOIdeal [hRefOIdeal : Cert.RefOIdeal.Facts] : Prop :=
  ∀ (m : (ℓ : Loc Cert.RefOIdeal.nD Cert.RefOIdeal.τ Cert.RefOIdeal.sig) → Buf (Elt Ideal) ℓ) (g : Dev Cert.RefOIdeal.nD → PrngReg), Pre_RefOIdeal m →
    θ_run (Cert.RefOIdeal.defs (F := Ideal)) (onTc (τ := Cert.RefOIdeal.τ) (Cert.RefOIdeal.main (F := Ideal))) ⟨m, fun _ => 0, g⟩ (fun r => (∀ c : Dev Cert.RefOIdeal.nD,
      r.2.mem ((c.tc : Thread Cert.RefOIdeal.nD Cert.RefOIdeal.τ).loc Cert.RefOIdeal.main_arg0) = m ((c.tc : Thread Cert.RefOIdeal.nD Cert.RefOIdeal.τ).loc Cert.RefOIdeal.main_arg0)
      ∧ r.2.mem ((c.tc : Thread Cert.RefOIdeal.nD Cert.RefOIdeal.τ).loc Cert.RefOIdeal.main_arg1) = m ((c.tc : Thread Cert.RefOIdeal.nD Cert.RefOIdeal.τ).loc Cert.RefOIdeal.main_arg1)
      ∧ r.2.mem ((c.tc : Thread Cert.RefOIdeal.nD Cert.RefOIdeal.τ).loc Cert.RefOIdeal.main_arg2) = m ((c.tc : Thread Cert.RefOIdeal.nD Cert.RefOIdeal.τ).loc Cert.RefOIdeal.main_arg2)
      ∧ r.2.mem ((c.tc : Thread Cert.RefOIdeal.nD Cert.RefOIdeal.τ).loc Cert.RefOIdeal.main_arg3) = m ((c.tc : Thread Cert.RefOIdeal.nD Cert.RefOIdeal.τ).loc Cert.RefOIdeal.main_arg3)
      ∧ r.2.mem ((c.tc : Thread Cert.RefOIdeal.nD Cert.RefOIdeal.τ).loc Cert.RefOIdeal.main_arg4) = m ((c.tc : Thread Cert.RefOIdeal.nD Cert.RefOIdeal.τ).loc Cert.RefOIdeal.main_arg4)
      ∧ r.2.mem ((c.tc : Thread Cert.RefOIdeal.nD Cert.RefOIdeal.τ).loc Cert.RefOIdeal.main_arg5) = m ((c.tc : Thread Cert.RefOIdeal.nD Cert.RefOIdeal.τ).loc Cert.RefOIdeal.main_arg5)
      ∧ r.2.mem ((c.tc : Thread Cert.RefOIdeal.nD Cert.RefOIdeal.τ).loc Cert.RefOIdeal.main_arg6) = m ((c.tc : Thread Cert.RefOIdeal.nD Cert.RefOIdeal.τ).loc Cert.RefOIdeal.main_arg6))
      ∧ r.2.sem = fun _ => 0)

def preserves_ProjQ_ProjQIdeal : Prop :=
  True

def algebraic_ProjQIdeal_RefQIdeal [hProjQIdeal : Cert.ProjQIdeal.Facts] [hRefQIdeal : Cert.RefQIdeal.Facts] : Prop :=
  ∀ (m : (ℓ : Loc Cert.ProjQIdeal.nD Cert.ProjQIdeal.τ Cert.ProjQIdeal.sig) → Buf (Elt Ideal) ℓ) (g : Dev Cert.ProjQIdeal.nD → PrngReg)
    (m' : (ℓ : Loc Cert.RefQIdeal.nD Cert.RefQIdeal.τ Cert.RefQIdeal.sig) → Buf (Elt Ideal) ℓ) (g' : Dev Cert.RefQIdeal.nD → PrngReg), Pre_ProjQIdeal m →
    (∀ c : Dev Cert.ProjQIdeal.nD,
      m' ((c.tc : Thread Cert.RefQIdeal.nD Cert.RefQIdeal.τ).loc Cert.RefQIdeal.main_arg0) = m ((c.tc : Thread Cert.ProjQIdeal.nD Cert.ProjQIdeal.τ).loc Cert.ProjQIdeal.main_arg0)
      ∧ m' ((c.tc : Thread Cert.RefQIdeal.nD Cert.RefQIdeal.τ).loc Cert.RefQIdeal.main_arg1) = m ((c.tc : Thread Cert.ProjQIdeal.nD Cert.ProjQIdeal.τ).loc Cert.ProjQIdeal.main_arg1)
      ∧ m' ((c.tc : Thread Cert.RefQIdeal.nD Cert.RefQIdeal.τ).loc Cert.RefQIdeal.main_arg2) = m ((c.tc : Thread Cert.ProjQIdeal.nD Cert.ProjQIdeal.τ).loc Cert.ProjQIdeal.main_arg2)
      ∧ m' ((c.tc : Thread Cert.RefQIdeal.nD Cert.RefQIdeal.τ).loc Cert.RefQIdeal.main_arg3) = m ((c.tc : Thread Cert.ProjQIdeal.nD Cert.ProjQIdeal.τ).loc Cert.ProjQIdeal.main_arg3)
      ∧ m' ((c.tc : Thread Cert.RefQIdeal.nD Cert.RefQIdeal.τ).loc Cert.RefQIdeal.main_arg4) = m ((c.tc : Thread Cert.ProjQIdeal.nD Cert.ProjQIdeal.τ).loc Cert.ProjQIdeal.main_arg4)
      ∧ m' ((c.tc : Thread Cert.RefQIdeal.nD Cert.RefQIdeal.τ).loc Cert.RefQIdeal.main_arg5) = m ((c.tc : Thread Cert.ProjQIdeal.nD Cert.ProjQIdeal.τ).loc Cert.ProjQIdeal.main_arg5)
      ∧ m' ((c.tc : Thread Cert.RefQIdeal.nD Cert.RefQIdeal.τ).loc Cert.RefQIdeal.main_arg6) = m ((c.tc : Thread Cert.ProjQIdeal.nD Cert.ProjQIdeal.τ).loc Cert.ProjQIdeal.main_arg6)) →
    ∃ (v0 : (c : Dev Cert.ProjQIdeal.nD) → Buf (Elt Ideal) ((c.tc : Thread Cert.ProjQIdeal.nD Cert.ProjQIdeal.τ).loc Cert.ProjQIdeal.main_v2_0)) (v1 : (c : Dev Cert.ProjQIdeal.nD) → Buf (Elt Ideal) ((c.tc : Thread Cert.ProjQIdeal.nD Cert.ProjQIdeal.τ).loc Cert.ProjQIdeal.main_v2_1)),
      θ_run (Cert.ProjQIdeal.defs (F := Ideal)) (onTc (τ := Cert.ProjQIdeal.τ) (Cert.ProjQIdeal.main (F := Ideal))) ⟨m, fun _ => 0, g⟩ (fun r => ∀ c : Dev Cert.ProjQIdeal.nD,
          r.2.mem ((c.tc : Thread Cert.ProjQIdeal.nD Cert.ProjQIdeal.τ).loc Cert.ProjQIdeal.main_v2_0) = v0 c
          ∧ r.2.mem ((c.tc : Thread Cert.ProjQIdeal.nD Cert.ProjQIdeal.τ).loc Cert.ProjQIdeal.main_v2_1) = v1 c
          ∧ r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
          ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1)
          ∧ r.2.mem ((c.tc : Thread Cert.ProjQIdeal.nD Cert.ProjQIdeal.τ).loc Cert.ProjQIdeal.main_arg2) = m ((c.tc : Thread Cert.ProjQIdeal.nD Cert.ProjQIdeal.τ).loc Cert.ProjQIdeal.main_arg2)
          ∧ r.2.mem ((c.tc : Thread Cert.ProjQIdeal.nD Cert.ProjQIdeal.τ).loc Cert.ProjQIdeal.main_arg3) = m ((c.tc : Thread Cert.ProjQIdeal.nD Cert.ProjQIdeal.τ).loc Cert.ProjQIdeal.main_arg3)
          ∧ r.2.mem ((c.tc : Thread Cert.ProjQIdeal.nD Cert.ProjQIdeal.τ).loc Cert.ProjQIdeal.main_arg4) = m ((c.tc : Thread Cert.ProjQIdeal.nD Cert.ProjQIdeal.τ).loc Cert.ProjQIdeal.main_arg4)
          ∧ r.2.mem ((c.tc : Thread Cert.ProjQIdeal.nD Cert.ProjQIdeal.τ).loc Cert.ProjQIdeal.main_arg5) = m ((c.tc : Thread Cert.ProjQIdeal.nD Cert.ProjQIdeal.τ).loc Cert.ProjQIdeal.main_arg5)
          ∧ r.2.mem ((c.tc : Thread Cert.ProjQIdeal.nD Cert.ProjQIdeal.τ).loc Cert.ProjQIdeal.main_arg6) = m ((c.tc : Thread Cert.ProjQIdeal.nD Cert.ProjQIdeal.τ).loc Cert.ProjQIdeal.main_arg6))
      ∧ θ_run (Cert.RefQIdeal.defs (F := Ideal)) (onTc (τ := Cert.RefQIdeal.τ) (Cert.RefQIdeal.main (F := Ideal))) ⟨m', fun _ => 0, g'⟩ (fun r => ∀ c : Dev Cert.RefQIdeal.nD,
          r.2.mem ((c.tc : Thread Cert.RefQIdeal.nD Cert.RefQIdeal.τ).loc Cert.RefQIdeal.main_v1_0) = v0 c
          ∧ r.2.mem ((c.tc : Thread Cert.RefQIdeal.nD Cert.RefQIdeal.τ).loc Cert.RefQIdeal.main_v1_1) = v1 c
          ∧ r.2.mem ((c.tc : Thread Cert.RefQIdeal.nD Cert.RefQIdeal.τ).loc Cert.RefQIdeal.main_arg0) = m' ((c.tc : Thread Cert.RefQIdeal.nD Cert.RefQIdeal.τ).loc Cert.RefQIdeal.main_arg0)
          ∧ r.2.mem ((c.tc : Thread Cert.RefQIdeal.nD Cert.RefQIdeal.τ).loc Cert.RefQIdeal.main_arg1) = m' ((c.tc : Thread Cert.RefQIdeal.nD Cert.RefQIdeal.τ).loc Cert.RefQIdeal.main_arg1)
          ∧ r.2.mem ((c.tc : Thread Cert.RefQIdeal.nD Cert.RefQIdeal.τ).loc Cert.RefQIdeal.main_arg2) = m' ((c.tc : Thread Cert.RefQIdeal.nD Cert.RefQIdeal.τ).loc Cert.RefQIdeal.main_arg2)
          ∧ r.2.mem ((c.tc : Thread Cert.RefQIdeal.nD Cert.RefQIdeal.τ).loc Cert.RefQIdeal.main_arg3) = m' ((c.tc : Thread Cert.RefQIdeal.nD Cert.RefQIdeal.τ).loc Cert.RefQIdeal.main_arg3)
          ∧ r.2.mem ((c.tc : Thread Cert.RefQIdeal.nD Cert.RefQIdeal.τ).loc Cert.RefQIdeal.main_arg4) = m' ((c.tc : Thread Cert.RefQIdeal.nD Cert.RefQIdeal.τ).loc Cert.RefQIdeal.main_arg4)
          ∧ r.2.mem ((c.tc : Thread Cert.RefQIdeal.nD Cert.RefQIdeal.τ).loc Cert.RefQIdeal.main_arg5) = m' ((c.tc : Thread Cert.RefQIdeal.nD Cert.RefQIdeal.τ).loc Cert.RefQIdeal.main_arg5)
          ∧ r.2.mem ((c.tc : Thread Cert.RefQIdeal.nD Cert.RefQIdeal.τ).loc Cert.RefQIdeal.main_arg6) = m' ((c.tc : Thread Cert.RefQIdeal.nD Cert.RefQIdeal.τ).loc Cert.RefQIdeal.main_arg6))

def preserves_ProjK_ProjKIdeal : Prop :=
  True

def algebraic_ProjKIdeal_RefKIdeal [hProjKIdeal : Cert.ProjKIdeal.Facts] [hRefKIdeal : Cert.RefKIdeal.Facts] : Prop :=
  ∀ (m : (ℓ : Loc Cert.ProjKIdeal.nD Cert.ProjKIdeal.τ Cert.ProjKIdeal.sig) → Buf (Elt Ideal) ℓ) (g : Dev Cert.ProjKIdeal.nD → PrngReg)
    (m' : (ℓ : Loc Cert.RefKIdeal.nD Cert.RefKIdeal.τ Cert.RefKIdeal.sig) → Buf (Elt Ideal) ℓ) (g' : Dev Cert.RefKIdeal.nD → PrngReg), Pre_ProjKIdeal m →
    (∀ c : Dev Cert.ProjKIdeal.nD,
      m' ((c.tc : Thread Cert.RefKIdeal.nD Cert.RefKIdeal.τ).loc Cert.RefKIdeal.main_arg0) = m ((c.tc : Thread Cert.ProjKIdeal.nD Cert.ProjKIdeal.τ).loc Cert.ProjKIdeal.main_arg0)
      ∧ m' ((c.tc : Thread Cert.RefKIdeal.nD Cert.RefKIdeal.τ).loc Cert.RefKIdeal.main_arg1) = m ((c.tc : Thread Cert.ProjKIdeal.nD Cert.ProjKIdeal.τ).loc Cert.ProjKIdeal.main_arg1)
      ∧ m' ((c.tc : Thread Cert.RefKIdeal.nD Cert.RefKIdeal.τ).loc Cert.RefKIdeal.main_arg2) = m ((c.tc : Thread Cert.ProjKIdeal.nD Cert.ProjKIdeal.τ).loc Cert.ProjKIdeal.main_arg2)
      ∧ m' ((c.tc : Thread Cert.RefKIdeal.nD Cert.RefKIdeal.τ).loc Cert.RefKIdeal.main_arg3) = m ((c.tc : Thread Cert.ProjKIdeal.nD Cert.ProjKIdeal.τ).loc Cert.ProjKIdeal.main_arg3)
      ∧ m' ((c.tc : Thread Cert.RefKIdeal.nD Cert.RefKIdeal.τ).loc Cert.RefKIdeal.main_arg4) = m ((c.tc : Thread Cert.ProjKIdeal.nD Cert.ProjKIdeal.τ).loc Cert.ProjKIdeal.main_arg4)
      ∧ m' ((c.tc : Thread Cert.RefKIdeal.nD Cert.RefKIdeal.τ).loc Cert.RefKIdeal.main_arg5) = m ((c.tc : Thread Cert.ProjKIdeal.nD Cert.ProjKIdeal.τ).loc Cert.ProjKIdeal.main_arg5)
      ∧ m' ((c.tc : Thread Cert.RefKIdeal.nD Cert.RefKIdeal.τ).loc Cert.RefKIdeal.main_arg6) = m ((c.tc : Thread Cert.ProjKIdeal.nD Cert.ProjKIdeal.τ).loc Cert.ProjKIdeal.main_arg6)) →
    ∃ (v0 : (c : Dev Cert.ProjKIdeal.nD) → Buf (Elt Ideal) ((c.tc : Thread Cert.ProjKIdeal.nD Cert.ProjKIdeal.τ).loc Cert.ProjKIdeal.main_v2_0)) (v1 : (c : Dev Cert.ProjKIdeal.nD) → Buf (Elt Ideal) ((c.tc : Thread Cert.ProjKIdeal.nD Cert.ProjKIdeal.τ).loc Cert.ProjKIdeal.main_v2_1)),
      θ_run (Cert.ProjKIdeal.defs (F := Ideal)) (onTc (τ := Cert.ProjKIdeal.τ) (Cert.ProjKIdeal.main (F := Ideal))) ⟨m, fun _ => 0, g⟩ (fun r => ∀ c : Dev Cert.ProjKIdeal.nD,
          r.2.mem ((c.tc : Thread Cert.ProjKIdeal.nD Cert.ProjKIdeal.τ).loc Cert.ProjKIdeal.main_v2_0) = v0 c
          ∧ r.2.mem ((c.tc : Thread Cert.ProjKIdeal.nD Cert.ProjKIdeal.τ).loc Cert.ProjKIdeal.main_v2_1) = v1 c
          ∧ r.2.mem ((c.tc : Thread Cert.ProjKIdeal.nD Cert.ProjKIdeal.τ).loc Cert.ProjKIdeal.main_arg0) = m ((c.tc : Thread Cert.ProjKIdeal.nD Cert.ProjKIdeal.τ).loc Cert.ProjKIdeal.main_arg0)
          ∧ r.2.mem ((c.tc : Thread Cert.ProjKIdeal.nD Cert.ProjKIdeal.τ).loc Cert.ProjKIdeal.main_arg1) = m ((c.tc : Thread Cert.ProjKIdeal.nD Cert.ProjKIdeal.τ).loc Cert.ProjKIdeal.main_arg1)
          ∧ r.2.mem ((c.tc : Thread Cert.ProjKIdeal.nD Cert.ProjKIdeal.τ).loc Cert.ProjKIdeal.main_arg2) = m ((c.tc : Thread Cert.ProjKIdeal.nD Cert.ProjKIdeal.τ).loc Cert.ProjKIdeal.main_arg2)
          ∧ r.2.mem ((c.tc : Thread Cert.ProjKIdeal.nD Cert.ProjKIdeal.τ).loc Cert.ProjKIdeal.main_arg3) = m ((c.tc : Thread Cert.ProjKIdeal.nD Cert.ProjKIdeal.τ).loc Cert.ProjKIdeal.main_arg3)
          ∧ r.2.mem ((c.tc : Thread Cert.ProjKIdeal.nD Cert.ProjKIdeal.τ).loc Cert.ProjKIdeal.main_arg4) = m ((c.tc : Thread Cert.ProjKIdeal.nD Cert.ProjKIdeal.τ).loc Cert.ProjKIdeal.main_arg4)
          ∧ r.2.mem ((c.tc : Thread Cert.ProjKIdeal.nD Cert.ProjKIdeal.τ).loc Cert.ProjKIdeal.main_arg5) = m ((c.tc : Thread Cert.ProjKIdeal.nD Cert.ProjKIdeal.τ).loc Cert.ProjKIdeal.main_arg5)
          ∧ r.2.mem ((c.tc : Thread Cert.ProjKIdeal.nD Cert.ProjKIdeal.τ).loc Cert.ProjKIdeal.main_arg6) = m ((c.tc : Thread Cert.ProjKIdeal.nD Cert.ProjKIdeal.τ).loc Cert.ProjKIdeal.main_arg6))
      ∧ θ_run (Cert.RefKIdeal.defs (F := Ideal)) (onTc (τ := Cert.RefKIdeal.τ) (Cert.RefKIdeal.main (F := Ideal))) ⟨m', fun _ => 0, g'⟩ (fun r => ∀ c : Dev Cert.RefKIdeal.nD,
          r.2.mem ((c.tc : Thread Cert.RefKIdeal.nD Cert.RefKIdeal.τ).loc Cert.RefKIdeal.main_v1_0) = v0 c
          ∧ r.2.mem ((c.tc : Thread Cert.RefKIdeal.nD Cert.RefKIdeal.τ).loc Cert.RefKIdeal.main_v1_1) = v1 c
          ∧ r.2.mem ((c.tc : Thread Cert.RefKIdeal.nD Cert.RefKIdeal.τ).loc Cert.RefKIdeal.main_arg0) = m' ((c.tc : Thread Cert.RefKIdeal.nD Cert.RefKIdeal.τ).loc Cert.RefKIdeal.main_arg0)
          ∧ r.2.mem ((c.tc : Thread Cert.RefKIdeal.nD Cert.RefKIdeal.τ).loc Cert.RefKIdeal.main_arg1) = m' ((c.tc : Thread Cert.RefKIdeal.nD Cert.RefKIdeal.τ).loc Cert.RefKIdeal.main_arg1)
          ∧ r.2.mem ((c.tc : Thread Cert.RefKIdeal.nD Cert.RefKIdeal.τ).loc Cert.RefKIdeal.main_arg2) = m' ((c.tc : Thread Cert.RefKIdeal.nD Cert.RefKIdeal.τ).loc Cert.RefKIdeal.main_arg2)
          ∧ r.2.mem ((c.tc : Thread Cert.RefKIdeal.nD Cert.RefKIdeal.τ).loc Cert.RefKIdeal.main_arg3) = m' ((c.tc : Thread Cert.RefKIdeal.nD Cert.RefKIdeal.τ).loc Cert.RefKIdeal.main_arg3)
          ∧ r.2.mem ((c.tc : Thread Cert.RefKIdeal.nD Cert.RefKIdeal.τ).loc Cert.RefKIdeal.main_arg4) = m' ((c.tc : Thread Cert.RefKIdeal.nD Cert.RefKIdeal.τ).loc Cert.RefKIdeal.main_arg4)
          ∧ r.2.mem ((c.tc : Thread Cert.RefKIdeal.nD Cert.RefKIdeal.τ).loc Cert.RefKIdeal.main_arg5) = m' ((c.tc : Thread Cert.RefKIdeal.nD Cert.RefKIdeal.τ).loc Cert.RefKIdeal.main_arg5)
          ∧ r.2.mem ((c.tc : Thread Cert.RefKIdeal.nD Cert.RefKIdeal.τ).loc Cert.RefKIdeal.main_arg6) = m' ((c.tc : Thread Cert.RefKIdeal.nD Cert.RefKIdeal.τ).loc Cert.RefKIdeal.main_arg6))

def preserves_ProjV_ProjVIdeal : Prop :=
  True

def algebraic_ProjVIdeal_RefVIdeal [hProjVIdeal : Cert.ProjVIdeal.Facts] [hRefVIdeal : Cert.RefVIdeal.Facts] : Prop :=
  ∀ (m : (ℓ : Loc Cert.ProjVIdeal.nD Cert.ProjVIdeal.τ Cert.ProjVIdeal.sig) → Buf (Elt Ideal) ℓ) (g : Dev Cert.ProjVIdeal.nD → PrngReg)
    (m' : (ℓ : Loc Cert.RefVIdeal.nD Cert.RefVIdeal.τ Cert.RefVIdeal.sig) → Buf (Elt Ideal) ℓ) (g' : Dev Cert.RefVIdeal.nD → PrngReg), Pre_ProjVIdeal m →
    (∀ c : Dev Cert.ProjVIdeal.nD,
      m' ((c.tc : Thread Cert.RefVIdeal.nD Cert.RefVIdeal.τ).loc Cert.RefVIdeal.main_arg0) = m ((c.tc : Thread Cert.ProjVIdeal.nD Cert.ProjVIdeal.τ).loc Cert.ProjVIdeal.main_arg0)
      ∧ m' ((c.tc : Thread Cert.RefVIdeal.nD Cert.RefVIdeal.τ).loc Cert.RefVIdeal.main_arg1) = m ((c.tc : Thread Cert.ProjVIdeal.nD Cert.ProjVIdeal.τ).loc Cert.ProjVIdeal.main_arg1)
      ∧ m' ((c.tc : Thread Cert.RefVIdeal.nD Cert.RefVIdeal.τ).loc Cert.RefVIdeal.main_arg2) = m ((c.tc : Thread Cert.ProjVIdeal.nD Cert.ProjVIdeal.τ).loc Cert.ProjVIdeal.main_arg2)
      ∧ m' ((c.tc : Thread Cert.RefVIdeal.nD Cert.RefVIdeal.τ).loc Cert.RefVIdeal.main_arg3) = m ((c.tc : Thread Cert.ProjVIdeal.nD Cert.ProjVIdeal.τ).loc Cert.ProjVIdeal.main_arg3)) →
    ∃ (v0 : (c : Dev Cert.ProjVIdeal.nD) → Buf (Elt Ideal) ((c.tc : Thread Cert.ProjVIdeal.nD Cert.ProjVIdeal.τ).loc Cert.ProjVIdeal.main_v1)),
      θ_run (Cert.ProjVIdeal.defs (F := Ideal)) (onTc (τ := Cert.ProjVIdeal.τ) (Cert.ProjVIdeal.main (F := Ideal))) ⟨m, fun _ => 0, g⟩ (fun r => ∀ c : Dev Cert.ProjVIdeal.nD,
          r.2.mem ((c.tc : Thread Cert.ProjVIdeal.nD Cert.ProjVIdeal.τ).loc Cert.ProjVIdeal.main_v1) = v0 c
          ∧ r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
          ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1)
          ∧ r.2.mem ((c.tc : Thread Cert.ProjVIdeal.nD Cert.ProjVIdeal.τ).loc Cert.ProjVIdeal.main_arg2) = m ((c.tc : Thread Cert.ProjVIdeal.nD Cert.ProjVIdeal.τ).loc Cert.ProjVIdeal.main_arg2)
          ∧ r.2.mem ((c.tc : Thread Cert.ProjVIdeal.nD Cert.ProjVIdeal.τ).loc Cert.ProjVIdeal.main_arg3) = m ((c.tc : Thread Cert.ProjVIdeal.nD Cert.ProjVIdeal.τ).loc Cert.ProjVIdeal.main_arg3))
      ∧ θ_run (Cert.RefVIdeal.defs (F := Ideal)) (onTc (τ := Cert.RefVIdeal.τ) (Cert.RefVIdeal.main (F := Ideal))) ⟨m', fun _ => 0, g'⟩ (fun r => ∀ c : Dev Cert.RefVIdeal.nD,
          r.2.mem ((c.tc : Thread Cert.RefVIdeal.nD Cert.RefVIdeal.τ).loc Cert.RefVIdeal.main_v1) = v0 c
          ∧ r.2.mem ((c.tc : Thread Cert.RefVIdeal.nD Cert.RefVIdeal.τ).loc Cert.RefVIdeal.main_arg0) = m' ((c.tc : Thread Cert.RefVIdeal.nD Cert.RefVIdeal.τ).loc Cert.RefVIdeal.main_arg0)
          ∧ r.2.mem ((c.tc : Thread Cert.RefVIdeal.nD Cert.RefVIdeal.τ).loc Cert.RefVIdeal.main_arg1) = m' ((c.tc : Thread Cert.RefVIdeal.nD Cert.RefVIdeal.τ).loc Cert.RefVIdeal.main_arg1)
          ∧ r.2.mem ((c.tc : Thread Cert.RefVIdeal.nD Cert.RefVIdeal.τ).loc Cert.RefVIdeal.main_arg2) = m' ((c.tc : Thread Cert.RefVIdeal.nD Cert.RefVIdeal.τ).loc Cert.RefVIdeal.main_arg2)
          ∧ r.2.mem ((c.tc : Thread Cert.RefVIdeal.nD Cert.RefVIdeal.τ).loc Cert.RefVIdeal.main_arg3) = m' ((c.tc : Thread Cert.RefVIdeal.nD Cert.RefVIdeal.τ).loc Cert.RefVIdeal.main_arg3))

def preserves_Out_OutIdeal : Prop :=
  True

def algebraic_OutIdeal_RefOIdeal [hOutIdeal : Cert.OutIdeal.Facts] [hRefOIdeal : Cert.RefOIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOIdeal.nD Cert.RefOIdeal.τ Cert.RefOIdeal.sig) → Buf (Elt Ideal) ℓ) (g' : Dev Cert.RefOIdeal.nD → PrngReg), Pre_OutIdeal m →
    (∀ c : Dev Cert.OutIdeal.nD,
      m' ((c.tc : Thread Cert.RefOIdeal.nD Cert.RefOIdeal.τ).loc Cert.RefOIdeal.main_arg0) = m ((c.tc : Thread Cert.OutIdeal.nD Cert.OutIdeal.τ).loc Cert.OutIdeal.main_arg0)
      ∧ m' ((c.tc : Thread Cert.RefOIdeal.nD Cert.RefOIdeal.τ).loc Cert.RefOIdeal.main_arg1) = m ((c.tc : Thread Cert.OutIdeal.nD Cert.OutIdeal.τ).loc Cert.OutIdeal.main_arg1)
      ∧ m' ((c.tc : Thread Cert.RefOIdeal.nD Cert.RefOIdeal.τ).loc Cert.RefOIdeal.main_arg2) = m ((c.tc : Thread Cert.OutIdeal.nD Cert.OutIdeal.τ).loc Cert.OutIdeal.main_arg2)
      ∧ m' ((c.tc : Thread Cert.RefOIdeal.nD Cert.RefOIdeal.τ).loc Cert.RefOIdeal.main_arg3) = m ((c.tc : Thread Cert.OutIdeal.nD Cert.OutIdeal.τ).loc Cert.OutIdeal.main_arg3)
      ∧ m' ((c.tc : Thread Cert.RefOIdeal.nD Cert.RefOIdeal.τ).loc Cert.RefOIdeal.main_arg4) = m ((c.tc : Thread Cert.OutIdeal.nD Cert.OutIdeal.τ).loc Cert.OutIdeal.main_arg4)
      ∧ m' ((c.tc : Thread Cert.RefOIdeal.nD Cert.RefOIdeal.τ).loc Cert.RefOIdeal.main_arg5) = m ((c.tc : Thread Cert.OutIdeal.nD Cert.OutIdeal.τ).loc Cert.OutIdeal.main_arg5)
      ∧ m' ((c.tc : Thread Cert.RefOIdeal.nD Cert.RefOIdeal.τ).loc Cert.RefOIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.RefOIdeal.defs (F := Ideal)) (onTc (τ := Cert.RefOIdeal.τ) (Cert.RefOIdeal.main (F := Ideal))) ⟨m', fun _ => 0, g'⟩ (fun r => ∀ c : Dev Cert.RefOIdeal.nD,
          r.2.mem ((c.tc : Thread Cert.RefOIdeal.nD Cert.RefOIdeal.τ).loc Cert.RefOIdeal.main_v1) = v0 c
          ∧ r.2.mem ((c.tc : Thread Cert.RefOIdeal.nD Cert.RefOIdeal.τ).loc Cert.RefOIdeal.main_arg0) = m' ((c.tc : Thread Cert.RefOIdeal.nD Cert.RefOIdeal.τ).loc Cert.RefOIdeal.main_arg0)
          ∧ r.2.mem ((c.tc : Thread Cert.RefOIdeal.nD Cert.RefOIdeal.τ).loc Cert.RefOIdeal.main_arg1) = m' ((c.tc : Thread Cert.RefOIdeal.nD Cert.RefOIdeal.τ).loc Cert.RefOIdeal.main_arg1)
          ∧ r.2.mem ((c.tc : Thread Cert.RefOIdeal.nD Cert.RefOIdeal.τ).loc Cert.RefOIdeal.main_arg2) = m' ((c.tc : Thread Cert.RefOIdeal.nD Cert.RefOIdeal.τ).loc Cert.RefOIdeal.main_arg2)
          ∧ r.2.mem ((c.tc : Thread Cert.RefOIdeal.nD Cert.RefOIdeal.τ).loc Cert.RefOIdeal.main_arg3) = m' ((c.tc : Thread Cert.RefOIdeal.nD Cert.RefOIdeal.τ).loc Cert.RefOIdeal.main_arg3)
          ∧ r.2.mem ((c.tc : Thread Cert.RefOIdeal.nD Cert.RefOIdeal.τ).loc Cert.RefOIdeal.main_arg4) = m' ((c.tc : Thread Cert.RefOIdeal.nD Cert.RefOIdeal.τ).loc Cert.RefOIdeal.main_arg4)
          ∧ r.2.mem ((c.tc : Thread Cert.RefOIdeal.nD Cert.RefOIdeal.τ).loc Cert.RefOIdeal.main_arg5) = m' ((c.tc : Thread Cert.RefOIdeal.nD Cert.RefOIdeal.τ).loc Cert.RefOIdeal.main_arg5)
          ∧ r.2.mem ((c.tc : Thread Cert.RefOIdeal.nD Cert.RefOIdeal.τ).loc Cert.RefOIdeal.main_arg6) = m' ((c.tc : Thread Cert.RefOIdeal.nD Cert.RefOIdeal.τ).loc Cert.RefOIdeal.main_arg6))

def Claim : Prop :=
  ∃ (hProjQ : Cert.ProjQ.Facts) (hProjQIdeal : Cert.ProjQIdeal.Facts) (hRefQIdeal : Cert.RefQIdeal.Facts) (hProjK : Cert.ProjK.Facts) (hProjKIdeal : Cert.ProjKIdeal.Facts) (hRefKIdeal : Cert.RefKIdeal.Facts) (hProjV : Cert.ProjV.Facts) (hProjVIdeal : Cert.ProjVIdeal.Facts) (hRefVIdeal : Cert.RefVIdeal.Facts) (hOut : Cert.Out.Facts) (hOutIdeal : Cert.OutIdeal.Facts) (hRefOIdeal : Cert.RefOIdeal.Facts),
    quiescent_ProjQ (hProjQ := hProjQ)
    ∧ quiescent_ProjQIdeal (hProjQIdeal := hProjQIdeal)
    ∧ quiescent_RefQIdeal (hRefQIdeal := hRefQIdeal)
    ∧ quiescent_ProjK (hProjK := hProjK)
    ∧ quiescent_ProjKIdeal (hProjKIdeal := hProjKIdeal)
    ∧ quiescent_RefKIdeal (hRefKIdeal := hRefKIdeal)
    ∧ quiescent_ProjV (hProjV := hProjV)
    ∧ quiescent_ProjVIdeal (hProjVIdeal := hProjVIdeal)
    ∧ quiescent_RefVIdeal (hRefVIdeal := hRefVIdeal)
    ∧ quiescent_Out (hOut := hOut)
    ∧ quiescent_OutIdeal (hOutIdeal := hOutIdeal)
    ∧ quiescent_RefOIdeal (hRefOIdeal := hRefOIdeal)
    ∧ preserves_ProjQ_ProjQIdeal
    ∧ algebraic_ProjQIdeal_RefQIdeal (hProjQIdeal := hProjQIdeal) (hRefQIdeal := hRefQIdeal)
    ∧ preserves_ProjK_ProjKIdeal
    ∧ algebraic_ProjKIdeal_RefKIdeal (hProjKIdeal := hProjKIdeal) (hRefKIdeal := hRefKIdeal)
    ∧ preserves_ProjV_ProjVIdeal
    ∧ algebraic_ProjVIdeal_RefVIdeal (hProjVIdeal := hProjVIdeal) (hRefVIdeal := hRefVIdeal)
    ∧ preserves_Out_OutIdeal
    ∧ algebraic_OutIdeal_RefOIdeal (hOutIdeal := hOutIdeal) (hRefOIdeal := hRefOIdeal)
-- ==== ProjQ.lean ====
abbrev S1536x3072 : Shape := ⟨2, ![1536, 3072]⟩
abbrev S3072x21504 : Shape := ⟨2, ![3072, 21504]⟩
abbrev S96x21504 : Shape := ⟨2, ![96, 21504]⟩
abbrev S21504 : Shape := ⟨1, ![21504]⟩
abbrev S128 : Shape := ⟨1, ![128]⟩
abbrev S1536x128 : Shape := ⟨2, ![1536, 128]⟩
abbrev S1x1x21504 : Shape := ⟨3, ![1, 1, 21504]⟩
abbrev S1x128 : Shape := ⟨2, ![1, 128]⟩
abbrev S1536x24x128 : Shape := ⟨3, ![1536, 24, 128]⟩
abbrev S3072x1024 : Shape := ⟨2, ![3072, 1024]⟩
abbrev S96x1024 : Shape := ⟨2, ![96, 1024]⟩
abbrev S1x1x1024 : Shape := ⟨3, ![1, 1, 1024]⟩
abbrev S1536x8x128 : Shape := ⟨3, ![1536, 8, 128]⟩
abbrev S1536x1024 : Shape := ⟨2, ![1536, 1024]⟩
abbrev S2x3072x512 : Shape := ⟨3, ![2, 3072, 512]⟩
abbrev S2x96x512 : Shape := ⟨3, ![2, 96, 512]⟩
abbrev S256x128 : Shape := ⟨2, ![256, 128]⟩
abbrev S96x512 : Shape := ⟨2, ![96, 512]⟩
abbrev S1x96x512 : Shape := ⟨3, ![1, 96, 512]⟩
abbrev S1x512 : Shape := ⟨2, ![1, 512]⟩
abbrev S8x512 : Shape := ⟨2, ![8, 512]⟩
abbrev S16x512 : Shape := ⟨2, ![16, 512]⟩
abbrev S32x512 : Shape := ⟨2, ![32, 512]⟩
abbrev S1x3072x512 : Shape := ⟨3, ![1, 3072, 512]⟩
abbrev S3072x512 : Shape := ⟨2, ![3072, 512]⟩
abbrev S1x32x512 : Shape := ⟨3, ![1, 32, 512]⟩
abbrev S256x3072 : Shape := ⟨2, ![256, 3072]⟩
abbrev S256x512 : Shape := ⟨2, ![256, 512]⟩
abbrev S1x1x512 : Shape := ⟨3, ![1, 1, 512]⟩
abbrev S256 : Shape := ⟨1, ![256]⟩
abbrev S256x1 : Shape := ⟨2, ![256, 1]⟩
abbrev S256x128x1 : Shape := ⟨3, ![256, 128, 1]⟩

abbrev nBuf : Space → Nat
  | .hbm => 11
  | .vmem => 16
  | .smem => 0
  | _ => 0

abbrev bufTy : (tb : Table) → Fin (tcTables nBuf tb) → BufTy
  | .hbm, ⟨0, _⟩ => ⟨S1536x3072, .bf16⟩
  | .hbm, ⟨1, _⟩ => ⟨S3072x21504, .fp8e4m3⟩
  | .hbm, ⟨2, _⟩ => ⟨S96x21504, .i8⟩
  | .hbm, ⟨3, _⟩ => ⟨S21504, .f32⟩
  | .hbm, ⟨4, _⟩ => ⟨S128, .f32⟩
  | .hbm, ⟨5, _⟩ => ⟨S1536x128, .f32⟩
  | .hbm, ⟨6, _⟩ => ⟨S1536x128, .f32⟩
  | .hbm, ⟨7, _⟩ => ⟨S1x1x21504, .f32⟩
  | .hbm, ⟨8, _⟩ => ⟨S1x128, .f32⟩
  | .hbm, ⟨9, _⟩ => ⟨S1536x24x128, .bf16⟩
  | .hbm, ⟨10, _⟩ => ⟨S1536x3072, .bf16⟩
  | .local _ .vmem, ⟨0, _⟩ => ⟨S1536x3072, .bf16⟩
  | .local _ .vmem, ⟨1, _⟩ => ⟨S3072x1024, .fp8e4m3⟩
  | .local _ .vmem, ⟨2, _⟩ => ⟨S3072x1024, .fp8e4m3⟩
  | .local _ .vmem, ⟨3, _⟩ => ⟨S96x1024, .i8⟩
  | .local _ .vmem, ⟨4, _⟩ => ⟨S96x1024, .i8⟩
  | .local _ .vmem, ⟨5, _⟩ => ⟨S1x1x1024, .f32⟩
  | .local _ .vmem, ⟨6, _⟩ => ⟨S1x1x1024, .f32⟩
  | .local _ .vmem, ⟨7, _⟩ => ⟨S1x128, .f32⟩
  | .local _ .vmem, ⟨8, _⟩ => ⟨S1536x128, .f32⟩
  | .local _ .vmem, ⟨9, _⟩ => ⟨S1536x128, .f32⟩
  | .local _ .vmem, ⟨10, _⟩ => ⟨S1536x8x128, .bf16⟩
  | .local _ .vmem, ⟨11, _⟩ => ⟨S1536x8x128, .bf16⟩
  | .local _ .vmem, ⟨12, _⟩ => ⟨S1536x1024, .bf16⟩
  | .local _ .vmem, ⟨13, _⟩ => ⟨S1536x1024, .bf16⟩
  | .local _ .vmem, ⟨14, _⟩ => ⟨S2x3072x512, .bf16⟩
  | .local _ .vmem, ⟨15, _⟩ => ⟨S2x96x512, .i32⟩
  | _, _ => ⟨S1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1536x8x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1536x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefQIdeal.lean ====
abbrev S1536x3072 : Shape := ⟨2, ![1536, 3072]⟩
abbrev S3072x21504 : Shape := ⟨2, ![3072, 21504]⟩
abbrev S96x21504 : Shape := ⟨2, ![96, 21504]⟩
abbrev S21504 : Shape := ⟨1, ![21504]⟩
abbrev S128 : Shape := ⟨1, ![128]⟩
abbrev S1536x128 : Shape := ⟨2, ![1536, 128]⟩
abbrev S1x21504 : Shape := ⟨2, ![1, 21504]⟩
abbrev S1536x24x128 : Shape := ⟨3, ![1536, 24, 128]⟩
abbrev S3072x3072 : Shape := ⟨2, ![3072, 3072]⟩
abbrev S96x3072 : Shape := ⟨2, ![96, 3072]⟩
abbrev S96x32x3072 : Shape := ⟨3, ![96, 32, 3072]⟩
abbrev S96x1x3072 : Shape := ⟨3, ![96, 1, 3072]⟩
abbrev S1x3072 : Shape := ⟨2, ![1, 3072]⟩
abbrev S1536x24 : Shape := ⟨2, ![1536, 24]⟩
abbrev S1536x24x1 : Shape := ⟨3, ![1536, 24, 1]⟩
abbrev S1x1x128 : Shape := ⟨3, ![1, 1, 128]⟩
abbrev S1536x24x127 : Shape := ⟨3, ![1536, 24, 127]⟩
abbrev S1536x1x128 : Shape := ⟨3, ![1536, 1, 128]⟩

abbrev nBuf : Space → Nat
  | .hbm => 10
  | .vmem => 9
  | .smem => 0
  | _ => 0

abbrev bufTy : (tb : Table) → Fin (tcTables nBuf tb) → BufTy
  | .hbm, ⟨0, _⟩ => ⟨S1536x3072, .bf16⟩
  | .hbm, ⟨1, _⟩ => ⟨S3072x21504, .fp8e4m3⟩
  | .hbm, ⟨2, _⟩ => ⟨S96x21504, .i8⟩
  | .hbm, ⟨3, _⟩ => ⟨S21504, .f32⟩
  | .hbm, ⟨4, _⟩ => ⟨S128, .f32⟩
  | .hbm, ⟨5, _⟩ => ⟨S1536x128, .f32⟩
  | .hbm, ⟨6, _⟩ => ⟨S1536x128, .f32⟩
  | .hbm, ⟨7, _⟩ => ⟨S1x21504, .f32⟩
  | .hbm, ⟨8, _⟩ => ⟨S1536x24x128, .bf16⟩
  | .hbm, ⟨9, _⟩ => ⟨S1536x3072, .bf16⟩
  | .local _ .vmem, ⟨0, _⟩ => ⟨S1536x3072, .bf16⟩
  | .local _ .vmem, ⟨1, _⟩ => ⟨S3072x21504, .fp8e4m3⟩
  | .local _ .vmem, ⟨2, _⟩ => ⟨S96x21504, .i8⟩
  | .local _ .vmem, ⟨3, _⟩ => ⟨S1x21504, .f32⟩
  | .local _ .vmem, ⟨4, _⟩ => ⟨S128, .f32⟩
  | .local _ .vmem, ⟨5, _⟩ => ⟨S1536x128, .f32⟩
  | .local _ .vmem, ⟨6, _⟩ => ⟨S1536x128, .f32⟩
  | .local _ .vmem, ⟨7, _⟩ => ⟨S1536x24x128, .bf16⟩
  | .local _ .vmem, ⟨8, _⟩ => ⟨S1536x3072, .bf16⟩
  | _, _ => ⟨S1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1536x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x21504 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x21504 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x21504 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x24x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ProjK.lean ====
abbrev S1536x3072 : Shape := ⟨2, ![1536, 3072]⟩
abbrev S3072x21504 : Shape := ⟨2, ![3072, 21504]⟩
abbrev S96x21504 : Shape := ⟨2, ![96, 21504]⟩
abbrev S21504 : Shape := ⟨1, ![21504]⟩
abbrev S128 : Shape := ⟨1, ![128]⟩
abbrev S1536x128 : Shape := ⟨2, ![1536, 128]⟩
abbrev S1x1x21504 : Shape := ⟨3, ![1, 1, 21504]⟩
abbrev S1x128 : Shape := ⟨2, ![1, 128]⟩
abbrev S1536x24x128 : Shape := ⟨3, ![1536, 24, 128]⟩
abbrev S3072x1024 : Shape := ⟨2, ![3072, 1024]⟩
abbrev S96x1024 : Shape := ⟨2, ![96, 1024]⟩
abbrev S1x1x1024 : Shape := ⟨3, ![1, 1, 1024]⟩
abbrev S1536x8x128 : Shape := ⟨3, ![1536, 8, 128]⟩
abbrev S1536x1024 : Shape := ⟨2, ![1536, 1024]⟩
abbrev S2x3072x512 : Shape := ⟨3, ![2, 3072, 512]⟩
abbrev S2x96x512 : Shape := ⟨3, ![2, 96, 512]⟩
abbrev S256x128 : Shape := ⟨2, ![256, 128]⟩
abbrev S96x512 : Shape := ⟨2, ![96, 512]⟩
abbrev S1x96x512 : Shape := ⟨3, ![1, 96, 512]⟩
abbrev S1x512 : Shape := ⟨2, ![1, 512]⟩
abbrev S8x512 : Shape := ⟨2, ![8, 512]⟩
abbrev S16x512 : Shape := ⟨2, ![16, 512]⟩
abbrev S32x512 : Shape := ⟨2, ![32, 512]⟩
abbrev S1x3072x512 : Shape := ⟨3, ![1, 3072, 512]⟩
abbrev S3072x512 : Shape := ⟨2, ![3072, 512]⟩
abbrev S1x32x512 : Shape := ⟨3, ![1, 32, 512]⟩
abbrev S256x3072 : Shape := ⟨2, ![256, 3072]⟩
abbrev S256x512 : Shape := ⟨2, ![256, 512]⟩
abbrev S1x1x512 : Shape := ⟨3, ![1, 1, 512]⟩
abbrev S256 : Shape := ⟨1, ![256]⟩
abbrev S256x1 : Shape := ⟨2, ![256, 1]⟩
abbrev S256x128x1 : Shape := ⟨3, ![256, 128, 1]⟩

abbrev nBuf : Space → Nat
  | .hbm => 11
  | .vmem => 16
  | .smem => 0
  | _ => 0

abbrev bufTy : (tb : Table) → Fin (tcTables nBuf tb) → BufTy
  | .hbm, ⟨0, _⟩ => ⟨S1536x3072, .bf16⟩
  | .hbm, ⟨1, _⟩ => ⟨S3072x21504, .fp8e4m3⟩
  | .hbm, ⟨2, _⟩ => ⟨S96x21504, .i8⟩
  | .hbm, ⟨3, _⟩ => ⟨S21504, .f32⟩
  | .hbm, ⟨4, _⟩ => ⟨S128, .f32⟩
  | .hbm, ⟨5, _⟩ => ⟨S1536x128, .f32⟩
  | .hbm, ⟨6, _⟩ => ⟨S1536x128, .f32⟩
  | .hbm, ⟨7, _⟩ => ⟨S1x1x21504, .f32⟩
  | .hbm, ⟨8, _⟩ => ⟨S1x128, .f32⟩
  | .hbm, ⟨9, _⟩ => ⟨S1536x24x128, .bf16⟩
  | .hbm, ⟨10, _⟩ => ⟨S1536x3072, .bf16⟩
  | .local _ .vmem, ⟨0, _⟩ => ⟨S1536x3072, .bf16⟩
  | .local _ .vmem, ⟨1, _⟩ => ⟨S3072x1024, .fp8e4m3⟩
  | .local _ .vmem, ⟨2, _⟩ => ⟨S3072x1024, .fp8e4m3⟩
  | .local _ .vmem, ⟨3, _⟩ => ⟨S96x1024, .i8⟩
  | .local _ .vmem, ⟨4, _⟩ => ⟨S96x1024, .i8⟩
  | .local _ .vmem, ⟨5, _⟩ => ⟨S1x1x1024, .f32⟩
  | .local _ .vmem, ⟨6, _⟩ => ⟨S1x1x1024, .f32⟩
  | .local _ .vmem, ⟨7, _⟩ => ⟨S1x128, .f32⟩
  | .local _ .vmem, ⟨8, _⟩ => ⟨S1536x128, .f32⟩
  | .local _ .vmem, ⟨9, _⟩ => ⟨S1536x128, .f32⟩
  | .local _ .vmem, ⟨10, _⟩ => ⟨S1536x8x128, .bf16⟩
  | .local _ .vmem, ⟨11, _⟩ => ⟨S1536x8x128, .bf16⟩
  | .local _ .vmem, ⟨12, _⟩ => ⟨S1536x1024, .bf16⟩
  | .local _ .vmem, ⟨13, _⟩ => ⟨S1536x1024, .bf16⟩
  | .local _ .vmem, ⟨14, _⟩ => ⟨S2x3072x512, .bf16⟩
  | .local _ .vmem, ⟨15, _⟩ => ⟨S2x96x512, .i32⟩
  | _, _ => ⟨S1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1536x8x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1536x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefKIdeal.lean ====
abbrev S1536x3072 : Shape := ⟨2, ![1536, 3072]⟩
abbrev S3072x21504 : Shape := ⟨2, ![3072, 21504]⟩
abbrev S96x21504 : Shape := ⟨2, ![96, 21504]⟩
abbrev S21504 : Shape := ⟨1, ![21504]⟩
abbrev S128 : Shape := ⟨1, ![128]⟩
abbrev S1536x128 : Shape := ⟨2, ![1536, 128]⟩
abbrev S1x21504 : Shape := ⟨2, ![1, 21504]⟩
abbrev S1536x24x128 : Shape := ⟨3, ![1536, 24, 128]⟩
abbrev S3072x3072 : Shape := ⟨2, ![3072, 3072]⟩
abbrev S96x3072 : Shape := ⟨2, ![96, 3072]⟩
abbrev S96x32x3072 : Shape := ⟨3, ![96, 32, 3072]⟩
abbrev S96x1x3072 : Shape := ⟨3, ![96, 1, 3072]⟩
abbrev S1x3072 : Shape := ⟨2, ![1, 3072]⟩
abbrev S1536x24 : Shape := ⟨2, ![1536, 24]⟩
abbrev S1536x24x1 : Shape := ⟨3, ![1536, 24, 1]⟩
abbrev S1x1x128 : Shape := ⟨3, ![1, 1, 128]⟩
abbrev S1536x24x127 : Shape := ⟨3, ![1536, 24, 127]⟩
abbrev S1536x1x128 : Shape := ⟨3, ![1536, 1, 128]⟩

abbrev nBuf : Space → Nat
  | .hbm => 10
  | .vmem => 9
  | .smem => 0
  | _ => 0

abbrev bufTy : (tb : Table) → Fin (tcTables nBuf tb) → BufTy
  | .hbm, ⟨0, _⟩ => ⟨S1536x3072, .bf16⟩
  | .hbm, ⟨1, _⟩ => ⟨S3072x21504, .fp8e4m3⟩
  | .hbm, ⟨2, _⟩ => ⟨S96x21504, .i8⟩
  | .hbm, ⟨3, _⟩ => ⟨S21504, .f32⟩
  | .hbm, ⟨4, _⟩ => ⟨S128, .f32⟩
  | .hbm, ⟨5, _⟩ => ⟨S1536x128, .f32⟩
  | .hbm, ⟨6, _⟩ => ⟨S1536x128, .f32⟩
  | .hbm, ⟨7, _⟩ => ⟨S1x21504, .f32⟩
  | .hbm, ⟨8, _⟩ => ⟨S1536x24x128, .bf16⟩
  | .hbm, ⟨9, _⟩ => ⟨S1536x3072, .bf16⟩
  | .local _ .vmem, ⟨0, _⟩ => ⟨S1536x3072, .bf16⟩
  | .local _ .vmem, ⟨1, _⟩ => ⟨S3072x21504, .fp8e4m3⟩
  | .local _ .vmem, ⟨2, _⟩ => ⟨S96x21504, .i8⟩
  | .local _ .vmem, ⟨3, _⟩ => ⟨S1x21504, .f32⟩
  | .local _ .vmem, ⟨4, _⟩ => ⟨S128, .f32⟩
  | .local _ .vmem, ⟨5, _⟩ => ⟨S1536x128, .f32⟩
  | .local _ .vmem, ⟨6, _⟩ => ⟨S1536x128, .f32⟩
  | .local _ .vmem, ⟨7, _⟩ => ⟨S1536x24x128, .bf16⟩
  | .local _ .vmem, ⟨8, _⟩ => ⟨S1536x3072, .bf16⟩
  | _, _ => ⟨S1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1536x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x21504 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x21504 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x21504 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x24x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ProjV.lean ====
abbrev S1536x3072 : Shape := ⟨2, ![1536, 3072]⟩
abbrev S3072x21504 : Shape := ⟨2, ![3072, 21504]⟩
abbrev S96x21504 : Shape := ⟨2, ![96, 21504]⟩
abbrev S21504 : Shape := ⟨1, ![21504]⟩
abbrev S1x1x21504 : Shape := ⟨3, ![1, 1, 21504]⟩
abbrev S3072x512 : Shape := ⟨2, ![3072, 512]⟩
abbrev S96x512 : Shape := ⟨2, ![96, 512]⟩
abbrev S1x1x512 : Shape := ⟨3, ![1, 1, 512]⟩
abbrev S1536x512 : Shape := ⟨2, ![1536, 512]⟩
abbrev S1x512 : Shape := ⟨2, ![1, 512]⟩
abbrev S8x512 : Shape := ⟨2, ![8, 512]⟩
abbrev S16x512 : Shape := ⟨2, ![16, 512]⟩
abbrev S32x512 : Shape := ⟨2, ![32, 512]⟩
abbrev S256x3072 : Shape := ⟨2, ![256, 3072]⟩
abbrev S256x512 : Shape := ⟨2, ![256, 512]⟩

abbrev nBuf : Space → Nat
  | .hbm => 6
  | .vmem => 11
  | .smem => 0
  | _ => 0

abbrev bufTy : (tb : Table) → Fin (tcTables nBuf tb) → BufTy
  | .hbm, ⟨0, _⟩ => ⟨S1536x3072, .bf16⟩
  | .hbm, ⟨1, _⟩ => ⟨S3072x21504, .fp8e4m3⟩
  | .hbm, ⟨2, _⟩ => ⟨S96x21504, .i8⟩
  | .hbm, ⟨3, _⟩ => ⟨S21504, .f32⟩
  | .hbm, ⟨4, _⟩ => ⟨S1x1x21504, .f32⟩
  | .hbm, ⟨5, _⟩ => ⟨S1536x3072, .bf16⟩
  | .local _ .vmem, ⟨0, _⟩ => ⟨S1536x3072, .bf16⟩
  | .local _ .vmem, ⟨1, _⟩ => ⟨S3072x512, .fp8e4m3⟩
  | .local _ .vmem, ⟨2, _⟩ => ⟨S3072x512, .fp8e4m3⟩
  | .local _ .vmem, ⟨3, _⟩ => ⟨S96x512, .i8⟩
  | .local _ .vmem, ⟨4, _⟩ => ⟨S96x512, .i8⟩
  | .local _ .vmem, ⟨5, _⟩ => ⟨S1x1x512, .f32⟩
  | .local _ .vmem, ⟨6, _⟩ => ⟨S1x1x512, .f32⟩
  | .local _ .vmem, ⟨7, _⟩ => ⟨S1536x512, .bf16⟩
  | .local _ .vmem, ⟨8, _⟩ => ⟨S1536x512, .bf16⟩
  | .local _ .vmem, ⟨9, _⟩ => ⟨S3072x512, .bf16⟩
  | .local _ .vmem, ⟨10, _⟩ => ⟨S96x512, .i32⟩
  | _, _ => ⟨S1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefVIdeal.lean ====
abbrev S1536x3072 : Shape := ⟨2, ![1536, 3072]⟩
abbrev S3072x21504 : Shape := ⟨2, ![3072, 21504]⟩
abbrev S96x21504 : Shape := ⟨2, ![96, 21504]⟩
abbrev S21504 : Shape := ⟨1, ![21504]⟩
abbrev S1x21504 : Shape := ⟨2, ![1, 21504]⟩
abbrev S3072x3072 : Shape := ⟨2, ![3072, 3072]⟩
abbrev S96x3072 : Shape := ⟨2, ![96, 3072]⟩
abbrev S96x32x3072 : Shape := ⟨3, ![96, 32, 3072]⟩
abbrev S96x1x3072 : Shape := ⟨3, ![96, 1, 3072]⟩
abbrev S1x3072 : Shape := ⟨2, ![1, 3072]⟩

abbrev nBuf : Space → Nat
  | .hbm => 6
  | .vmem => 5
  | .smem => 0
  | _ => 0

abbrev bufTy : (tb : Table) → Fin (tcTables nBuf tb) → BufTy
  | .hbm, ⟨0, _⟩ => ⟨S1536x3072, .bf16⟩
  | .hbm, ⟨1, _⟩ => ⟨S3072x21504, .fp8e4m3⟩
  | .hbm, ⟨2, _⟩ => ⟨S96x21504, .i8⟩
  | .hbm, ⟨3, _⟩ => ⟨S21504, .f32⟩
  | .hbm, ⟨4, _⟩ => ⟨S1x21504, .f32⟩
  | .hbm, ⟨5, _⟩ => ⟨S1536x3072, .bf16⟩
  | .local _ .vmem, ⟨0, _⟩ => ⟨S1536x3072, .bf16⟩
  | .local _ .vmem, ⟨1, _⟩ => ⟨S3072x21504, .fp8e4m3⟩
  | .local _ .vmem, ⟨2, _⟩ => ⟨S96x21504, .i8⟩
  | .local _ .vmem, ⟨3, _⟩ => ⟨S1x21504, .f32⟩
  | .local _ .vmem, ⟨4, _⟩ => ⟨S1536x3072, .bf16⟩
  | _, _ => ⟨S1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1536x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x21504 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x21504 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x21504 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Out.lean ====
abbrev S1536x3072 : Shape := ⟨2, ![1536, 3072]⟩
abbrev S1536x12288 : Shape := ⟨2, ![1536, 12288]⟩
abbrev S15360x3072 : Shape := ⟨2, ![15360, 3072]⟩
abbrev S480x3072 : Shape := ⟨2, ![480, 3072]⟩
abbrev S2x3072 : Shape := ⟨2, ![2, 3072]⟩
abbrev S3072 : Shape := ⟨1, ![3072]⟩
abbrev S2x1x3072 : Shape := ⟨3, ![2, 1, 3072]⟩
abbrev S1x1x3072 : Shape := ⟨3, ![1, 1, 3072]⟩
abbrev S3072x512 : Shape := ⟨2, ![3072, 512]⟩
abbrev S96x512 : Shape := ⟨2, ![96, 512]⟩
abbrev S1536x512 : Shape := ⟨2, ![1536, 512]⟩
abbrev S2x1x512 : Shape := ⟨3, ![2, 1, 512]⟩
abbrev S1x1x512 : Shape := ⟨3, ![1, 1, 512]⟩
abbrev S6x1536x512 : Shape := ⟨3, ![6, 1536, 512]⟩
abbrev S1x512 : Shape := ⟨2, ![1, 512]⟩
abbrev S8x512 : Shape := ⟨2, ![8, 512]⟩
abbrev S16x512 : Shape := ⟨2, ![16, 512]⟩
abbrev S32x512 : Shape := ⟨2, ![32, 512]⟩
abbrev S256x3072 : Shape := ⟨2, ![256, 3072]⟩
abbrev S256x512 : Shape := ⟨2, ![256, 512]⟩
abbrev S1x256x512 : Shape := ⟨3, ![1, 256, 512]⟩

abbrev nBuf : Space → Nat
  | .hbm => 10
  | .vmem => 18
  | .smem => 0
  | _ => 0

abbrev bufTy : (tb : Table) → Fin (tcTables nBuf tb) → BufTy
  | .hbm, ⟨0, _⟩ => ⟨S1536x3072, .bf16⟩
  | .hbm, ⟨1, _⟩ => ⟨S1536x12288, .bf16⟩
  | .hbm, ⟨2, _⟩ => ⟨S15360x3072, .fp8e4m3⟩
  | .hbm, ⟨3, _⟩ => ⟨S480x3072, .i8⟩
  | .hbm, ⟨4, _⟩ => ⟨S1536x3072, .bf16⟩
  | .hbm, ⟨5, _⟩ => ⟨S2x3072, .f32⟩
  | .hbm, ⟨6, _⟩ => ⟨S3072, .f32⟩
  | .hbm, ⟨7, _⟩ => ⟨S2x1x3072, .f32⟩
  | .hbm, ⟨8, _⟩ => ⟨S1x1x3072, .f32⟩
  | .hbm, ⟨9, _⟩ => ⟨S1536x3072, .bf16⟩
  | .local _ .vmem, ⟨0, _⟩ => ⟨S1536x3072, .bf16⟩
  | .local _ .vmem, ⟨1, _⟩ => ⟨S1536x3072, .bf16⟩
  | .local _ .vmem, ⟨2, _⟩ => ⟨S1536x3072, .bf16⟩
  | .local _ .vmem, ⟨3, _⟩ => ⟨S3072x512, .fp8e4m3⟩
  | .local _ .vmem, ⟨4, _⟩ => ⟨S3072x512, .fp8e4m3⟩
  | .local _ .vmem, ⟨5, _⟩ => ⟨S96x512, .i8⟩
  | .local _ .vmem, ⟨6, _⟩ => ⟨S96x512, .i8⟩
  | .local _ .vmem, ⟨7, _⟩ => ⟨S1536x512, .bf16⟩
  | .local _ .vmem, ⟨8, _⟩ => ⟨S1536x512, .bf16⟩
  | .local _ .vmem, ⟨9, _⟩ => ⟨S2x1x512, .f32⟩
  | .local _ .vmem, ⟨10, _⟩ => ⟨S2x1x512, .f32⟩
  | .local _ .vmem, ⟨11, _⟩ => ⟨S1x1x512, .f32⟩
  | .local _ .vmem, ⟨12, _⟩ => ⟨S1x1x512, .f32⟩
  | .local _ .vmem, ⟨13, _⟩ => ⟨S1536x512, .bf16⟩
  | .local _ .vmem, ⟨14, _⟩ => ⟨S1536x512, .bf16⟩
  | .local _ .vmem, ⟨15, _⟩ => ⟨S6x1536x512, .f32⟩
  | .local _ .vmem, ⟨16, _⟩ => ⟨S3072x512, .bf16⟩
  | .local _ .vmem, ⟨17, _⟩ => ⟨S96x512, .i32⟩
  | _, _ => ⟨S1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![5, 6], ![false, false]⟩

def k0_cond1 (i : grid0.Coords) : BitVec 1 :=
  let arg0 : BitVec 32 := BitVec.ofNat 32 (i 0).val
  let c0_i32 : BitVec 32 := 0#32
  let v1066 : BitVec 1 := Scalar.cmpi .eq arg0 c0_i32
  let v1067 : BitVec 32 := Scalar.extui v1066
  let c0_i32_391 : BitVec 32 := 0#32
  let v1068 : BitVec 1 := Scalar.cmpi .ne v1067 c0_i32_391
  v1068

def k0_off1 (i : grid0.Coords) : Fin 3 → Nat :=
  let arg1 : BitVec 32 := BitVec.ofNat 32 (i 1).val
  let v1078 : Index := Scalar.indexCast arg1
  let c0_399 : Index := 0#32
  let c0_400 : Index := 0#32
  ![v1078.toNat, 0, 0]
def k0_off2 (i : grid0.Coords) : Fin 3 → Nat :=
  let arg1 : BitVec 32 := BitVec.ofNat 32 (i 1).val
  let v1085 : Index := Scalar.indexCast arg1
  let c256_406 : Index := 256#32
  let c0_407 : Index := 0#32
  ![v1085.toNat, 256, 0]
def k0_off3 (i : grid0.Coords) : Fin 3 → Nat :=
  let arg1 : BitVec 32 := BitVec.ofNat 32 (i 1).val
  let v1092 : Index := Scalar.indexCast arg1
  let c512_413 : Index := 512#32
  let c0_414 : Index := 0#32
  ![v1092.toNat, 512, 0]
def k0_off4 (i : grid0.Coords) : Fin 3 → Nat :=
  let arg1 : BitVec 32 := BitVec.ofNat 32 (i 1).val
  let v1099 : Index := Scalar.indexCast arg1
  let c768_420 : Index := 768#32
  let c0_421 : Index := 0#32
  ![v1099.toNat, 768, 0]
def k0_off5 (i : grid0.Coords) : Fin 3 → Nat :=
  let arg1 : BitVec 32 := BitVec.ofNat 32 (i 1).val
  let v1106 : Index := Scalar.indexCast arg1
  let c1024_427 : Index := 1024#32
  let c0_428 : Index := 0#32
  ![v1106.toNat, 1024, 0]
def k0_off6 (i : grid0.Coords) : Fin 3 → Nat :=
  let arg1 : BitVec 32 := BitVec.ofNat 32 (i 1).val
  let v1113 : Index := Scalar.indexCast arg1
  let c1280_434 : Index := 1280#32
  let c0_435 : Index := 0#32
  ![v1113.toNat, 1280, 0]
def k0_cond2 (i : grid0.Coords) : BitVec 1 :=
  let arg0 : BitVec 32 := BitVec.ofNat 32 (i 0).val
  let c0_i32_392 : BitVec 32 := 0#32
  let v1069 : BitVec 1 := Scalar.cmpi .sgt arg0 c0_i32_392
  let v1070 : BitVec 32 := Scalar.extui v1069
  let c0_i32_393 : BitVec 32 := 0#32
  let v1071 : BitVec 1 := Scalar.cmpi .ne v1070 c0_i32_393
  v1071

def k0_off7 (i : grid0.Coords) : Fin 3 → Nat :=
  let arg1 : BitVec 32 := BitVec.ofNat 32 (i 1).val
  let v1075 : Index := Scalar.indexCast arg1
  let c0_395 : Index := 0#32
  let c0_396 : Index := 0#32
  ![v1075.toNat, 0, 0]
def k0_off8 (i : grid0.Coords) : Fin 3 → Nat :=
  let arg1 : BitVec 32 := BitVec.ofNat 32 (i 1).val
  let v1086 : Index := Scalar.indexCast arg1
  let c256_403 : Index := 256#32
  let c0_404 : Index := 0#32
  ![v1086.toNat, 256, 0]
def k0_off9 (i : grid0.Coords) : Fin 3 → Nat :=
  let arg1 : BitVec 32 := BitVec.ofNat 32 (i 1).val
  let v1097 : Index := Scalar.indexCast arg1
  let c512_412 : Index := 512#32
  let c0_413 : Index := 0#32
  ![v1097.toNat, 512, 0]
def k0_off10 (i : grid0.Coords) : Fin 3 → Nat :=
  let arg1 : BitVec 32 := BitVec.ofNat 32 (i 1).val
  let v1108 : Index := Scalar.indexCast arg1
  let c768_421 : Index := 768#32
  let c0_422 : Index := 0#32
  ![v1108.toNat, 768, 0]
def k0_off11 (i : grid0.Coords) : Fin 3 → Nat :=
  let arg1 : BitVec 32 := BitVec.ofNat 32 (i 1).val
  let v1119 : Index := Scalar.indexCast arg1
  let c1024_430 : Index := 1024#32
  let c0_431 : Index := 0#32
  ![v1119.toNat, 1024, 0]
def k0_off12 (i : grid0.Coords) : Fin 3 → Nat :=
  let arg1 : BitVec 32 := BitVec.ofNat 32 (i 1).val
  let v1130 : Index := Scalar.indexCast arg1
  let c1280_439 : Index := 1280#32
  let c0_440 : Index := 0#32
  ![v1130.toNat, 1280, 0]
def k0_cond3 (i : grid0.Coords) : BitVec 1 :=
  let arg0 : BitVec 32 := BitVec.ofNat 32 (i 0).val
  let c4_i32 : BitVec 32 := 4#32
  let v1072 : BitVec 1 := Scalar.cmpi .eq arg0 c4_i32
  let v1073 : BitVec 32 := Scalar.extui v1072
  let c0_i32_394 : BitVec 32 := 0#32
  let v1074 : BitVec 1 := Scalar.cmpi .ne v1073 c0_i32_394
  v1074

def k0_off13 (i : grid0.Coords) : Fin 3 → Nat :=
  let arg1 : BitVec 32 := BitVec.ofNat 32 (i 1).val
  let v1075 : Index := Scalar.indexCast arg1
  let c0_395 : Index := 0#32
  let c0_396 : Index := 0#32
  ![v1075.toNat, 0, 0]
def k0_off14 (i : grid0.Coords) : Fin 3 → Nat :=
  let arg1 : BitVec 32 := BitVec.ofNat 32 (i 1).val
  let v1091 : Index := Scalar.indexCast arg1
  let c256_407 : Index := 256#32
  let c0_408 : Index := 0#32
  ![v1091.toNat, 256, 0]
def k0_off15 (i : grid0.Coords) : Fin 3 → Nat :=
  let arg1 : BitVec 32 := BitVec.ofNat 32 (i 1).val
  let v1107 : Index := Scalar.indexCast arg1
  let c512_419 : Index := 512#32
  let c0_420 : Index := 0#32
  ![v1107.toNat, 512, 0]
def k0_off16 (i : grid0.Coords) : Fin 3 → Nat :=
  let arg1 : BitVec 32 := BitVec.ofNat 32 (i 1).val
  let v1123 : Index := Scalar.indexCast arg1
  let c768_431 : Index := 768#32
  let c0_432 : Index := 0#32
  ![v1123.toNat, 768, 0]
def k0_off17 (i : grid0.Coords) : Fin 3 → Nat :=
  let arg1 : BitVec 32 := BitVec.ofNat 32 (i 1).val
  let v1139 : Index := Scalar.indexCast arg1
  let c1024_443 : Index := 1024#32
  let c0_444 : Index := 0#32
  ![v1139.toNat, 1024, 0]
def k0_off18 (i : grid0.Coords) : Fin 3 → Nat :=
  let arg1 : BitVec 32 := BitVec.ofNat 32 (i 1).val
  let v1155 : Index := Scalar.indexCast arg1
  let c1280_455 : Index := 1280#32
  let c0_456 : Index := 0#32
  ![v1155.toNat, 1280, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .eq arg0 c4_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .eq arg0 c4_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, c0_i32_1.toNat, v1.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .eq arg0 c4_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, c0_i32_1.toNat, v1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .eq arg0 c4_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

abbrev stage0_0 : Fin 1 → Memref sig .tc .vmem S1536x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1536x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3072x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S96x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1536x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1536x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefOIdeal.lean ====
abbrev S1536x3072 : Shape := ⟨2, ![1536, 3072]⟩
abbrev S1536x12288 : Shape := ⟨2, ![1536, 12288]⟩
abbrev S15360x3072 : Shape := ⟨2, ![15360, 3072]⟩
abbrev S480x3072 : Shape := ⟨2, ![480, 3072]⟩
abbrev S2x3072 : Shape := ⟨2, ![2, 3072]⟩
abbrev S3072 : Shape := ⟨1, ![3072]⟩
abbrev S1x3072 : Shape := ⟨2, ![1, 3072]⟩
abbrev S480x32x3072 : Shape := ⟨3, ![480, 32, 3072]⟩
abbrev S480x1x3072 : Shape := ⟨3, ![480, 1, 3072]⟩
abbrev S12288x3072 : Shape := ⟨2, ![12288, 3072]⟩
abbrev S3072x3072 : Shape := ⟨2, ![3072, 3072]⟩
abbrev S2x768x3072 : Shape := ⟨3, ![2, 768, 3072]⟩
abbrev S2x1x3072 : Shape := ⟨3, ![2, 1, 3072]⟩

abbrev nBuf : Space → Nat
  | .hbm => 9
  | .vmem => 8
  | .smem => 0
  | _ => 0

abbrev bufTy : (tb : Table) → Fin (tcTables nBuf tb) → BufTy
  | .hbm, ⟨0, _⟩ => ⟨S1536x3072, .bf16⟩
  | .hbm, ⟨1, _⟩ => ⟨S1536x12288, .bf16⟩
  | .hbm, ⟨2, _⟩ => ⟨S15360x3072, .fp8e4m3⟩
  | .hbm, ⟨3, _⟩ => ⟨S480x3072, .i8⟩
  | .hbm, ⟨4, _⟩ => ⟨S1536x3072, .bf16⟩
  | .hbm, ⟨5, _⟩ => ⟨S2x3072, .f32⟩
  | .hbm, ⟨6, _⟩ => ⟨S3072, .f32⟩
  | .hbm, ⟨7, _⟩ => ⟨S1x3072, .f32⟩
  | .hbm, ⟨8, _⟩ => ⟨S1536x3072, .bf16⟩
  | .local _ .vmem, ⟨0, _⟩ => ⟨S1536x3072, .bf16⟩
  | .local _ .vmem, ⟨1, _⟩ => ⟨S1536x12288, .bf16⟩
  | .local _ .vmem, ⟨2, _⟩ => ⟨S15360x3072, .fp8e4m3⟩
  | .local _ .vmem, ⟨3, _⟩ => ⟨S480x3072, .i8⟩
  | .local _ .vmem, ⟨4, _⟩ => ⟨S1536x3072, .bf16⟩
  | .local _ .vmem, ⟨5, _⟩ => ⟨S2x3072, .f32⟩
  | .local _ .vmem, ⟨6, _⟩ => ⟨S1x3072, .f32⟩
  | .local _ .vmem, ⟨7, _⟩ => ⟨S1536x3072, .bf16⟩
  | _, _ => ⟨S1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1536x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x12288 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S15360x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S480x3072 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Scale.lean ====
/-
  The scale of a block of weights. A scale is stored as one byte, the exponent field of a power of two. The kernels lay the
  byte into both halves of a word so that each half is a bfloat16 pattern; the references lay it into a single-precision
  pattern. Read as extended reals the two are the same number.
-/
module

public import Idealize.ShloMosaic.Lib.Pointwise
public import Idealize.ShloMosaic.Lib.BitcastPair

@[expose] public section

set_option maxRecDepth 16384

noncomputable section

namespace Cert.Scale

open Idealize.ShloMosaic Idealize.ShloMosaic.TcCoe Idealize.SL.Sem

/-- The number a scale byte stands for: the power of two whose exponent field it is. -/
def scaleOf (x : BitVec 8) : EReal := Ideal.ofBits .f32 (x.setWidth 32 <<< 23)

/-- The word in which a scale byte is laid twice, once per half. -/
def wordOf (x : BitVec 8) : BitVec 32 := (x.setWidth 32 <<< 7) ||| (x.setWidth 32 <<< 23)

/-- Both halves of the word are the byte moved to a bfloat16 exponent field. -/
theorem half_wordOf : ∀ (x : BitVec 8) (p : Fin 2),
    (wordOf x).extractLsb' (16 * p.val) 16 = (x.setWidth 16 <<< 7) := by
  intro x p
  revert x
  fin_cases p <;> decide +kernel

theorem exp_bf16 : ∀ x : BitVec 8, ((x.setWidth 16 <<< 7).extractLsb' 7 8).toNat = x.toNat := by decide +kernel
theorem frac_bf16 : ∀ x : BitVec 8, ((x.setWidth 16 <<< 7).extractLsb' 0 7).toNat = 0 := by decide +kernel
theorem sign_bf16 : ∀ x : BitVec 8, ((x.setWidth 16 <<< 7).extractLsb' (8 + 7) 1 == 1#1) = false := by decide +kernel
theorem exp_f32 : ∀ x : BitVec 8, ((x.setWidth 32 <<< 23).extractLsb' 23 8).toNat = x.toNat := by decide +kernel
theorem frac_f32 : ∀ x : BitVec 8, ((x.setWidth 32 <<< 23).extractLsb' 0 23).toNat = 0 := by decide +kernel
theorem sign_f32 : ∀ x : BitVec 8, ((x.setWidth 32 <<< 23).extractLsb' (8 + 23) 1 == 1#1) = false := by decide +kernel

/-- A scale byte in a bfloat16 exponent field and in a single-precision one denote the same number. -/
theorem bf16_eq_scaleOf (x : BitVec 8) : Ideal.ofBits .bf16 (x.setWidth 16 <<< 7) = scaleOf x := by
  show Ideal.ieee 8 7 _ = Ideal.ieee 8 23 _
  unfold Ideal.ieee
  simp only [exp_bf16, frac_bf16, sign_bf16, exp_f32, frac_f32, sign_f32]
  simp only [Bool.false_eq_true, if_false, if_true]
  by_cases h1 : x.toNat = 2 ^ 8 - 1
  · rw [if_pos h1, if_pos h1]
  · rw [if_neg h1, if_neg h1]
    by_cases h2 : x.toNat = 0
    · rw [if_pos h2, if_pos h2]; simp
    · rw [if_neg h2, if_neg h2]
      congr 1
      simp only [one_mul, Nat.cast_add, Nat.cast_zero, add_zero, Nat.cast_pow, Nat.cast_ofNat]
      rw [← zpow_natCast, ← zpow_natCast, ← zpow_add₀ (by norm_num), ← zpow_add₀ (by norm_num)]
      congr 1
      push_cast
      ring

/-- Half `p` of the doubled word denotes the scale. -/
theorem half_eq_scaleOf (x : BitVec 8) (p : Nat) (hp : p < 2) :
    Ideal.ofBits .bf16 ((wordOf x).extractLsb' (16 * p) 16) = scaleOf x := by
  rw [half_wordOf x ⟨p, hp⟩, bf16_eq_scaleOf]

/-- The references take the bias off the stored exponent and put it back. -/
theorem bias_roundtrip : ∀ x : BitVec 8, (x.setWidth 32 - 127#32 + 127#32) <<< 23 = x.setWidth 32 <<< 23 := by decide +kernel

end Cert.Scale

end
-- ==== Proof.Rotary.lean ====
/-
  One head of a projection in the extended reals: divided by the root of its mean square, scaled, and rotated in pairs of
  neighbouring columns.
-/
module

public import Idealize.ShloMosaic.Lib.Pointwise

@[expose] public section

set_option maxRecDepth 16384

noncomputable section

namespace Cert.Rotary

open Idealize.ShloMosaic Idealize.ShloMosaic.TcCoe Idealize.SL.Sem

/-- The other column of a column's pair: 0 and 1, 2 and 3, … exchanged. -/
def partner (d : Fin 128) : Fin 128 := if d.val % 2 = 0 then ⟨(d.val + 1) % 128, Nat.mod_lt _ (by decide)⟩ else ⟨d.val - 1, by omega⟩

/-- A head divided by the root of its mean square plus a small constant, times the columns' weights. -/
def headNorm (v nw : Fin 128 → EReal) (d : Fin 128) : EReal :=
  Ideal.div (v d) (Ideal.sqrt (Ideal.div (∑ j : Fin 128, v j * v j) (Ideal.ofBits .f32 0x43000000#32) + Ideal.ofBits .f32 0x358637BD#32)) * nw d

/-- A normalised head rotated: each column by the cosine, its partner by the signed sine. -/
def normRot (v nw cs sn : Fin 128 → EReal) (d : Fin 128) : EReal :=
  cs d * headNorm v nw d + sn d * headNorm v nw (partner d)

end Cert.Rotary

end
-- ==== Proof.QPieces.lean ====
/-
  What one store of the projection kernel holds, read at an index: a block of 32 rows of widened weights, and one head of 128
  columns normalised and rotated.
-/
module

public import proofs.«01_k».proof.ProjQIdeal
public import proofs.«01_k».proof.Proof.Scale
public import proofs.«01_k».proof.Proof.Rotary

@[expose] public section

set_option maxRecDepth 16384

noncomputable section

namespace Cert.ProjQIdeal.Pieces

open Cert.ProjQIdeal Idealize.ShloMosaic Idealize.ShloMosaic.TcCoe Idealize.SL.Sem
open Cert.Scale Cert.Rotary
open Cert.ProjQIdeal.Facts₀

variable [Facts₀]

/-- The words of a tile of scales: each byte laid twice. -/
def words (v1 : Vec Ideal S96x512 .i8) : IVec S1x96x512 32 :=
  shapeCast S1x96x512
    (ori (shli (extui 32 v1 natLt_8_32) (broadcast S96x512 7#32)) (shli (extui 32 v1 natLt_8_32) (broadcast S96x512 23#32)))
    shapeCasts_S96x512_S1x96x512

theorem words_at (v1 : Vec Ideal S96x512 .i8) (b : Fin 96) (c : Fin 512) : words v1 (ix3 0 b c) = wordOf (v1 (ix2 b c)) := by
  unfold words
  pointwise
  rfl

/-- 32 rows of weights times one row of scales. -/
def wide (e : Vec Ideal S1x512 .i32) (w : Vec Ideal S32x512 .fp8e4m3) : Vec Ideal S1x32x512 .bf16 :=
  shapeCast S1x32x512
    (shapeCast S32x512
      (mulf (F := Ideal) (extf .bf16 w bitsLt_fp8e4m3_bf16)
        (concatenate S32x512 0
          [⟨S16x512, bitcastToFloat .bf16 (bitcast S16x512 16 (broadcastTo S8x512 (shapeCast S1x512 e shapeCasts_S1x512_S1x512)
              broadcasts_S1x512_S8x512) bitcasts_S8x512_w32_S16x512_w16)⟩,
           ⟨S16x512, bitcastToFloat .bf16 (bitcast S16x512 16 (broadcastTo S8x512 (shapeCast S1x512 e shapeCasts_S1x512_S1x512)
              broadcasts_S1x512_S8x512) bitcasts_S8x512_w32_S16x512_w16)⟩]
          concatenates_S16x512_S16x512_S32x512_d0))
      shapeCasts_S32x512_S32x512)
    shapeCasts_S32x512_S1x32x512

/-- The doubled words of one row, read as bfloat16: every row of the tile is the row of scales. -/
theorem scaleTile_at (e : Vec Ideal S1x512 .i32) (x : Fin 512 → BitVec 8) (he : ∀ c : Fin 512, e (ix2 0 c) = wordOf (x c))
    (r : Fin 16) (c : Fin 512) :
    bitcastToFloat (F := Ideal) .bf16 (bitcast S16x512 16 (broadcastTo S8x512 (shapeCast S1x512 e shapeCasts_S1x512_S1x512)
              broadcasts_S1x512_S8x512) bitcasts_S8x512_w32_S16x512_w16) (ix2 r c) = scaleOf (x c) := by
  show Ideal.ofBits .bf16 (bitcast S16x512 16 _ bitcasts_S8x512_w32_S16x512_w16 (ix2 r c)) = _
  rw [bitcast_32_16]
  rw [show (broadcastTo S8x512 (shapeCast S1x512 e shapeCasts_S1x512_S1x512) broadcasts_S1x512_S8x512
      ((bitcasts_S8x512_w32_S16x512_w16).srcIdx (ix2 r c) (S16x512.row (ix2 r c) / 2) _)) = wordOf (x c) from by
    rw [← he c]
    pointwise
    rfl]
  exact half_eq_scaleOf _ _ (Nat.mod_lt _ (by decide))

theorem wide_at (e : Vec Ideal S1x512 .i32) (w : Vec Ideal S32x512 .fp8e4m3) (x : Fin 512 → BitVec 8)
    (he : ∀ c : Fin 512, e (ix2 0 c) = wordOf (x c)) (r : Fin 32) (c : Fin 512) :
    wide e w (ix3 0 r c) = (show EReal from w (ix2 r c)) * scaleOf (x c) := by
  unfold wide
  have h := scaleTile_at e x he
  generalize bitcastToFloat (F := Ideal) .bf16 (bitcast S16x512 16 (broadcastTo S8x512 (shapeCast S1x512 e shapeCasts_S1x512_S1x512)
              broadcasts_S1x512_S8x512) bitcasts_S8x512_w32_S16x512_w16) = s at h ⊢
  pointwise
  split_ifs with hr
  · exact congrArg _ (h ⟨r, hr⟩ c)
  all_goals exact congrArg _ (h ⟨r - 16, by omega⟩ c)

/-- One head of 128 columns from column `off 1` of the accumulated product: normalised, scaled, rotated. -/
def head (off : Fin 2 → Nat) (hs : S256x512.Slices off S256x128) (acc : FVec Ideal S256x512 .f32) (cv sv : Vec Ideal S256x128 .f32)
    (nv : Vec Ideal S1x128 .f32) : FVec Ideal S256x128 .bf16 :=
  have v1461 : FVec Ideal S256x128 .f32 := extractStridedSlice S256x128 off acc hs
  have v1462 : FVec Ideal S256x128 .f32 := mulf v1461 v1461
  have v1463 : FVec Ideal S256 .f32 := multiReduction .add [1] S256 v1462 0x00000000#32 reduces_S256x128_S256 (.inl rfl) rfl
  have v1464 : FVec Ideal S256x1 .f32 := shapeCast S256x1 v1463 shapeCasts_S256_S256x1
  have v1465 : FVec Ideal S256x1 .f32 := broadcast S256x1 (Scalar.ofBits .f32 0x43000000#32)
  have v1466 : FVec Ideal S256x1 .f32 := divf v1464 v1465
  have v1467 : FVec Ideal S256x1 .f32 := broadcast S256x1 (Scalar.ofBits .f32 0x358637BD#32)
  have v1468 : FVec Ideal S256x1 .f32 := addf v1466 v1467
  have v1469 : FVec Ideal S256x1 .f32 := sqrt v1468
  have v1470 : FVec Ideal S256x128 .f32 := broadcastTo S256x128 v1469 broadcasts_S256x1_S256x128
  have v1471 : FVec Ideal S256x128 .f32 := divf v1461 v1470
  have v1473 : FVec Ideal S1x128 .f32 := shapeCast S1x128 nv shapeCasts_S1x128_S1x128
  have v1474 : FVec Ideal S256x128 .f32 := broadcastTo S256x128 v1473 broadcasts_S1x128_S256x128
  have v1475 : FVec Ideal S256x128 .f32 := mulf v1471 v1474
  have v1476 : FVec Ideal S256x128 .f32 := mulf cv v1475
  have v1478 : IVec S256x128 32 := xori (iota .tc S256x128 32 [1] iota_S256x128_d1_w32) (broadcast S256x128 1#32)
  have v1480 : IVec S256x128 1 := cmpi .slt v1478 (broadcast S256x128 0#32)
  have v1482 : IVec S256x128 32 := addi v1478 (broadcast S256x128 128#32)
  have v1483 : IVec S256x128 32 := select v1480 v1482 v1478
  have v1484 : IVec S256x128x1 32 := shapeCast S256x128x1 v1483 shapeCasts_S256x128_S256x128x1
  have v1485 : IVec S256x128 32 := shapeCast S256x128 v1484 shapeCasts_S256x128x1_S256x128
  have v1486 : FVec Ideal S256x128 .f32 := dynamicGather 1 v1475 v1485
  have v1487 : FVec Ideal S256x128 .f32 := mulf sv v1486
  have v1488 : FVec Ideal S256x128 .f32 := addf v1476 v1487
  truncf .bf16 v1488 bitsLt_bf16_f32

/-- Flipping the last bit of a column's number names its partner. -/
theorem lane : ∀ d : Fin 128,
    (Scalar.select (IntOp.cmpi CmpIPredicate.slt (IntOp.xori (BitVec.ofNat 32 d.val) 1#32) 0#32)
      (IntOp.addi (IntOp.xori (BitVec.ofNat 32 d.val) 1#32) 128#32)
      (IntOp.xori (BitVec.ofNat 32 d.val) 1#32)).toNat % 128 = (partner d).val := by decide +kernel

theorem head_at (o : Nat) (ho : o + 128 ≤ 512) (hs : S256x512.Slices ![0, o] S256x128) (acc : FVec Ideal S256x512 .f32) (cv sv : Vec Ideal S256x128 .f32)
    (nv : Vec Ideal S1x128 .f32) (r : Fin 256) (d : Fin 128) :
    head ![0, o] hs acc cv sv nv (ix2 r d)
      = normRot (fun j => acc (ix2 r ⟨o + j, by omega⟩)) (fun j => nv (ix2 0 j)) (fun j => cv (ix2 r j)) (fun j => sv (ix2 r j)) d := by
  unfold head
  pointwise
  unfold normRot headNorm
  simp only [lane d]

end Cert.ProjQIdeal.Pieces

end
-- ==== Proof.QWeights.lean ====
/-
  What the projection kernel's scratch of widened weights holds when it is read: both halves of the block's columns, each
  weight times its scale.
-/
module

public import proofs.«01_k».proof.Proof.Gen.ProjQIdeal.Frame
public import proofs.«01_k».proof.Proof.QPieces
public import Idealize.ShloMosaic.Lib.Pipeline.ReadBack
public import Idealize.ShloMosaic.Lib.WholeRead

@[expose] public section

set_option maxRecDepth 16384

noncomputable section

namespace Cert.ProjQIdeal.Weights

open Cert.ProjQIdeal Cert.ProjQIdeal.Gen Idealize.ShloMosaic Idealize.ShloMosaic.TcCoe Idealize.SL.Sem
open Cert.Scale Cert.Rotary Cert.ProjQIdeal.Pieces

/-- The widened weight of row `k` and column `q` of half `n` of a block of 1024 columns. -/
def weight (x1 : Vec Ideal S3072x1024 .fp8e4m3) (x2 : Vec Ideal S96x1024 .i8) (n : Fin 2) (k : Fin 3072) (q : Fin 512) : EReal :=
  (show EReal from x1 (ix2 k ⟨512 * n.val + q.val, by omega⟩)) * scaleOf (x2 (ix2 ⟨k.val / 32, by omega⟩ ⟨512 * n.val + q.val, by omega⟩))

/-- The widened weights of a block of 1024 columns: half, row, column of the half. -/
def weights (x1 : Vec Ideal S3072x1024 .fp8e4m3) (x2 : Vec Ideal S96x1024 .i8) (y : S2x3072x512.Idx) : EReal :=
  weight x1 x2 (y 0) (y 1) (y 2)

/-- Row `b` of the scales scratch, loaded after half `n` of it was stored: the stored words' row. -/
theorem row_at {sig : RefSig} {κ : Kind} {sp : Space} (v : View sig κ sp S2x96x512 .i32) (n b : Nat) (hb : b < 96)
    (inb : ∀ a, (![n, 0, 0] : Fin 3 → Nat) a + S1x96x512.size a ≤ S2x96x512.size a)
    (inb' : ∀ a, (![b, 0] : Fin 2 → Nat) a + S1x512.size a ≤ S96x512.size a)
    (h0 : (![1, 96, 512] : Fin 3 → Nat) 0 = 1) (hs : ∀ i : Fin 2, (![1, 96, 512] : Fin 3 → Nat) i.succ = (![96, 512] : Fin 2 → Nat) i)
    (hr : ∀ a, (Rect.unit (s := S2x96x512) ![n, 0, 0] S1x96x512.size inb).stride a = 1)
    (P : IVec S1x96x512 32) (L : List (View.Piece (Elt Ideal) S2x96x512 .i32))
    (hR : (Rect.unit (s := S96x512) ![b, 0] S1x512.size inb').toLoadRect.shape.numel
      = ((Rect.unit (s := S2x96x512) ![n, 0, 0] S1x96x512.size inb).withinL
          ((Rect.unit (s := S96x512) ![b, 0] S1x512.size inb').consLift ![1, 96, 512] h0 hs).toLoadRect hr).shape.numel) (c : Fin 512) :
    (LoadRect.valAlong hR (v.readCov (⟨Rect.unit (s := S2x96x512) ![n, 0, 0] S1x96x512.size inb, P⟩ :: L)
        ((Rect.unit (s := S2x96x512) ![n, 0, 0] S1x96x512.size inb).withinL
          ((Rect.unit (s := S96x512) ![b, 0] S1x512.size inb').consLift ![1, 96, 512] h0 hs).toLoadRect hr)) : IVec S1x512 32) (ix2 0 c)
      = P (ix3 0 ⟨b, hb⟩ c) := by
  rw [View.readCov_eq_canon']
  refine (congrArg (View.canon _) (Rect.idx_withinL (Rect.unit (s := S2x96x512) ![n, 0, 0] S1x96x512.size inb) _ hr _)).trans ?_
  refine (View.canon_cons_emb (Rect.unit (s := S2x96x512) ![n, 0, 0] S1x96x512.size inb) P L _).trans ?_
  refine congrArg P (funext fun a => Fin.ext ?_)
  have key := Rect.reshapeEquiv_consLift_succ (Rect.unit (s := S96x512) ![b, 0] S1x512.size inb') ![1, 96, 512] h0 hs
    (Shape.reshapeEquiv hR (ix2 0 c))
  have back : Shape.reshapeEquiv ((Rect.unit (s := S96x512) ![b, 0] S1x512.size inb').numel_consLift ![1, 96, 512] h0 hs)
      (Shape.reshapeEquiv hR (ix2 0 c)) = ix2 0 c := by
    have e := (Shape.reshapeEquiv hR).symm_apply_apply (ix2 0 c)
    rw [Shape.reshapeEquiv_symm] at e
    exact e
  rw [back] at key
  generalize Shape.reshapeEquiv hR (ix2 0 c) = z at key
  have k0 := key 0
  have k1 := key 1
  have z0 : (z 0).val < 1 := (z 0).isLt
  have e0 : (z 1).val = 0 := k0
  have e1 : (z 2).val = c.val := k1
  match a with
  | ⟨0, _⟩ => show 0 + 1 * (z 0).val = 0; omega
  | ⟨1, _⟩ => show b + 1 * (z 1).val = b; omega
  | ⟨2, _⟩ => show 0 + 1 * (z 2).val = c.val; omega

theorem scales_inb (n : Nat) (hn : n < 2) : ∀ a, (![n, 0, 0] : Fin 3 → Nat) a + S1x96x512.size a ≤ S2x96x512.size a
  | ⟨0, _⟩ => by show n + 1 ≤ 2; omega
  | ⟨1, _⟩ => by show 0 + 96 ≤ 96; omega
  | ⟨2, _⟩ => by show 0 + 512 ≤ 512; omega

theorem row_inb (b : Nat) (hb : b < 96) : ∀ a, (![b, 0] : Fin 2 → Nat) a + S1x512.size a ≤ S96x512.size a
  | ⟨0, _⟩ => by show b + 1 ≤ 96; omega
  | ⟨1, _⟩ => by show 0 + 512 ≤ 512; omega

theorem rows_inb (n b o q : Nat) (hn : n < 2) (hb : b < 96) (ho : o = 32 * b) (hq : q = 512 * n) :
    ∀ a, (![o, q] : Fin 2 → Nat) a + S32x512.size a ≤ S3072x1024.size a
  | ⟨0, _⟩ => by show o + 32 ≤ 3072; omega
  | ⟨1, _⟩ => by show q + 512 ≤ 1024; omega

theorem cols_inb (n q : Nat) (hn : n < 2) (hq : q = 512 * n) : ∀ a, (![0, q] : Fin 2 → Nat) a + S96x512.size a ≤ S96x1024.size a
  | ⟨0, _⟩ => by show 0 + 96 ≤ 96; omega
  | ⟨1, _⟩ => by show q + 512 ≤ 1024; omega

theorem store_inb (n b o : Nat) (hn : n < 2) (hb : b < 96) (ho : o = 32 * b) :
    ∀ a, (![n, o, 0] : Fin 3 → Nat) a + S1x32x512.size a ≤ S2x3072x512.size a
  | ⟨0, _⟩ => by show n + 1 ≤ 2; omega
  | ⟨1, _⟩ => by show o + 32 ≤ 3072; omega
  | ⟨2, _⟩ => by show 0 + 512 ≤ 512; omega

theorem tail_sizes : ∀ i : Fin 2, (![1, 96, 512] : Fin 3 → Nat) i.succ = (![96, 512] : Fin 2 → Nat) i
  | ⟨0, _⟩ => rfl
  | ⟨1, _⟩ => rfl

theorem unit_stride (n : Nat) (hn : n < 2) : ∀ a, (Rect.unit (s := S2x96x512) ![n, 0, 0] S1x96x512.size (scales_inb n hn)).stride a = 1 :=
  fun _ => rfl

theorem read_numel (n b : Nat) (hn : n < 2) (hb : b < 96) :
    (Rect.unit (s := S96x512) ![b, 0] S1x512.size (row_inb b hb)).toLoadRect.shape.numel
      = ((Rect.unit (s := S2x96x512) ![n, 0, 0] S1x96x512.size (scales_inb n hn)).withinL
          ((Rect.unit (s := S96x512) ![b, 0] S1x512.size (row_inb b hb)).consLift ![1, 96, 512] rfl tail_sizes).toLoadRect
          (unit_stride n hn)).shape.numel :=
  ((Rect.unit (s := S96x512) ![b, 0] S1x512.size (row_inb b hb)).numel_consLift ![1, 96, 512] rfl tail_sizes).symm

/-- What one store of 32 rows of widened weights holds: rows `32 b …` of half `n`. -/
theorem piece (arg2 : Memref sig .tc .vmem S3072x1024 .fp8e4m3) (harg2 : arg2.IsWhole)
    (arg3 : Memref sig .tc .vmem S96x1024 .i8) (harg3 : arg3.IsWhole) (arg11 : Memref sig .tc .vmem S2x96x512 .i32)
    (x1 : Vec Ideal S3072x1024 .fp8e4m3) (x2 : Vec Ideal S96x1024 .i8)
    (n b o q : Nat) (hn : n < 2) (hb : b < 96) (ho : o = 32 * b) (hq : q = 512 * n)
    (L : List (View.Piece (Elt Ideal) S2x96x512 .i32))
    (x : S1x32x512.Idx) :
    wide (LoadRect.valAlong (read_numel n b hn hb) (arg11.view.readCov (⟨Rect.unit (s := S2x96x512) ![n, 0, 0] S1x96x512.size (scales_inb n hn),
          words (View.readAt (Elt Ideal) arg3.view (Rect.unit (s := S96x1024) ![0, q] S96x512.size (cols_inb n q hn hq)).toLoadRect (harg3.unread x2))⟩ :: L)
        ((Rect.unit (s := S2x96x512) ![n, 0, 0] S1x96x512.size (scales_inb n hn)).withinL
          ((Rect.unit (s := S96x512) ![b, 0] S1x512.size (row_inb b hb)).consLift ![1, 96, 512] rfl tail_sizes).toLoadRect (unit_stride n hn))))
      (View.readAt (Elt Ideal) arg2.view (Rect.unit (s := S3072x1024) ![o, q] S32x512.size (rows_inb n b o q hn hb ho hq)).toLoadRect (harg2.unread x1)) x
      = weights x1 x2 ((Rect.unit (s := S2x3072x512) ![n, o, 0] S1x32x512.size (store_inb n b o hn hb ho)).emb x) := by
  have hx0 : (x 0).val < 1 := (x 0).isLt
  have hx1 : (x 1).val < 32 := (x 1).isLt
  have hx2 : (x 2).val < 512 := (x 2).isLt
  have hx : x = ix3 0 (⟨(x 1).val, hx1⟩ : Fin 32) (⟨(x 2).val, hx2⟩ : Fin 512) := by
    funext a
    match a with
    | ⟨0, _⟩ => exact Fin.ext (by show (x 0).val = 0; omega)
    | ⟨1, _⟩ => rfl
    | ⟨2, _⟩ => rfl
  rw [hx]
  refine (wide_at _ _ (fun c : Fin 512 => x2 (ix2 (⟨b, hb⟩ : Fin 96) (⟨512 * n + c.val, by omega⟩ : Fin 1024)))
    (fun c => (row_at arg11.view n b hb (scales_inb n hn) (row_inb b hb) rfl tail_sizes (unit_stride n hn) _ L (read_numel n b hn hb) c).trans
      ((words_at _ ⟨b, hb⟩ c).trans (congrArg wordOf ((harg3.readAt_unread x2 _ _).trans (congrArg x2 ?_))))) _ _).trans ?_
  · funext a
    match a with
    | ⟨0, _⟩ => exact Fin.ext (by show 0 + 1 * b = b; omega)
    | ⟨1, _⟩ => exact Fin.ext (by show q + 1 * c.val = 512 * n + c.val; omega)
  · refine congrArg₂ (fun u v : EReal => u * v) ((harg2.readAt_unread x1 _ _).trans (congrArg x1 ?_)) (congrArg (fun i => scaleOf (x2 i)) ?_)
    · funext a
      match a with
      | ⟨0, _⟩ => rfl
      | ⟨1, _⟩ => exact Fin.ext (by show q + 1 * (x 2).val = 512 * (n + 1 * 0) + (0 + 1 * (x 2).val); omega)
    · funext a
      match a with
      | ⟨0, _⟩ => exact Fin.ext (by show b = (o + 1 * (x 1).val) / 32; omega)
      | ⟨1, _⟩ => exact Fin.ext (by show 512 * n + (x 2).val = 512 * (n + 1 * 0) + (0 + 1 * (x 2).val); omega)

end Cert.ProjQIdeal.Weights

end
-- ==== Proof.QStores.lean ====
/-
  Every store of widened weights of the projection kernel, and the whole of what its scratch holds when it is read.
-/
module

public import proofs.«01_k».proof.Proof.QWeights

@[expose] public section

set_option maxRecDepth 16384

noncomputable section

namespace Cert.ProjQIdeal.Weights

open Cert.ProjQIdeal Cert.ProjQIdeal.Gen Idealize.ShloMosaic Idealize.ShloMosaic.TcCoe Idealize.SL.Sem
open Cert.Scale Cert.Rotary Cert.ProjQIdeal.Pieces

variable (c : Dev nD) (arg2 : Memref sig .tc .vmem S3072x1024 .fp8e4m3) (harg2 : arg2.IsWhole)
  (arg3 : Memref sig .tc .vmem S96x1024 .i8) (harg3 : arg3.IsWhole) (arg11 : Memref sig .tc .vmem S2x96x512 .i32)
  (x1 : Vec Ideal S3072x1024 .fp8e4m3) (x2 : Vec Ideal S96x1024 .i8)

set_option maxHeartbeats 8000000 in
/-- The stores into the first half all hold the widened weights. -/
theorem pieces_first : View.PiecesOf (weights x1 x2) (kernelRun0_A.sl.HS0_96 c arg2 harg2 arg3 harg3 arg11 x1 x2) := by
  unfold kernelRun0_A.sl.HS0_96
  refine And.intro (fun x => piece arg2 harg2 arg3 harg3 arg11 x1 x2 0 95 3040 0 (by decide) (by decide) rfl rfl [] x) ?_
  refine And.intro (fun x => piece arg2 harg2 arg3 harg3 arg11 x1 x2 0 94 3008 0 (by decide) (by decide) rfl rfl [] x) ?_
  refine And.intro (fun x => piece arg2 harg2 arg3 harg3 arg11 x1 x2 0 93 2976 0 (by decide) (by decide) rfl rfl [] x) ?_
  refine And.intro (fun x => piece arg2 harg2 arg3 harg3 arg11 x1 x2 0 92 2944 0 (by decide) (by decide) rfl rfl [] x) ?_
  refine And.intro (fun x => piece arg2 harg2 arg3 harg3 arg11 x1 x2 0 91 2912 0 (by decide) (by decide) rfl rfl [] x) ?_
  refine And.intro (fun x => piece arg2 harg2 arg3 harg3 arg11 x1 x2 0 90 2880 0 (by decide) (by decide) rfl rfl [] x) ?_
  refine And.intro (fun x => piece arg2 harg2 arg3 harg3 arg11 x1 x2 0 89 2848 0 (by decide) (by decide) rfl rfl [] x) ?_
  refine And.intro (fun x => piece arg2 harg2 arg3 harg3 arg11 x1 x2 0 88 2816 0 (by decide) (by decide) rfl rfl [] x) ?_
  refine And.intro (fun x => piece arg2 harg2 arg3 harg3 arg11 x1 x2 0 87 2784 0 (by decide) (by decide) rfl rfl [] x) ?_
  refine And.intro (fun x => piece arg2 harg2 arg3 harg3 arg11 x1 x2 0 86 2752 0 (by decide) (by decide) rfl rfl [] x) ?_
  refine And.intro (fun x => piece arg2 harg2 arg3 harg3 arg11 x1 x2 0 85 2720 0 (by decide) (by decide) rfl rfl [] x) ?_
  refine And.intro (fun x => piece arg2 harg2 arg3 harg3 arg11 x1 x2 0 84 2688 0 (by decide) (by decide) rfl rfl [] x) ?_
  refine And.intro (fun x => piece arg2 harg2 arg3 harg3 arg11 x1 x2 0 83 2656 0 (by decide) (by decide) rfl rfl [] x) ?_
  refine And.intro (fun x => piece arg2 harg2 arg3 harg3 arg11 x1 x2 0 82 2624 0 (by decide) (by decide) rfl rfl [] x) ?_
  refine And.intro (fun x => piece arg2 harg2 arg3 harg3 arg11 x1 x2 0 81 2592 0 (by decide) (by decide) rfl rfl [] x) ?_
  refine And.intro (fun x => piece arg2 harg2 arg3 harg3 arg11 x1 x2 0 80 2560 0 (by decide) (by decide) rfl rfl [] x) ?_
  refine And.intro (fun x => piece arg2 harg2 arg3 harg3 arg11 x1 x2 0 79 2528 0 (by decide) (by decide) rfl rfl [] x) ?_
  refine And.intro (fun x => piece arg2 harg2 arg3 harg3 arg11 x1 x2 0 78 2496 0 (by decide) (by decide) rfl rfl [] x) ?_
  refine And.intro (fun x => piece arg2 harg2 arg3 harg3 arg11 x1 x2 0 77 2464 0 (by decide) (by decide) rfl rfl [] x) ?_
  refine And.intro (fun x => piece arg2 harg2 arg3 harg3 arg11 x1 x2 0 76 2432 0 (by decide) (by decide) rfl rfl [] x) ?_
  refine And.intro (fun x => piece arg2 harg2 arg3 harg3 arg11 x1 x2 0 75 2400 0 (by decide) (by decide) rfl rfl [] x) ?_
  refine And.intro (fun x => piece arg2 harg2 arg3 harg3 arg11 x1 x2 0 74 2368 0 (by decide) (by decide) rfl rfl [] x) ?_
  refine And.intro (fun x => piece arg2 harg2 arg3 harg3 arg11 x1 x2 0 73 2336 0 (by decide) (by decide) rfl rfl [] x) ?_
  refine And.intro (fun x => piece arg2 harg2 arg3 harg3 arg11 x1 x2 0 72 2304 0 (by decide) (by decide) rfl rfl [] x) ?_
  refine And.intro (fun x => piece arg2 harg2 arg3 harg3 arg11 x1 x2 0 71 2272 0 (by decide) (by decide) rfl rfl [] x) ?_
  refine And.intro (fun x => piece arg2 harg2 arg3 harg3 arg11 x1 x2 0 70 2240 0 (by decide) (by decide) rfl rfl [] x) ?_
  refine And.intro (fun x => piece arg2 harg2 arg3 harg3 arg11 x1 x2 0 69 2208 0 (by decide) (by decide) rfl rfl [] x) ?_
  refine And.intro (fun x => piece arg2 harg2 arg3 harg3 arg11 x1 x2 0 68 2176 0 (by decide) (by decide) rfl rfl [] x) ?_
  refine And.intro (fun x => piece arg2 harg2 arg3 harg3 arg11 x1 x2 0 67 2144 0 (by decide) (by decide) rfl rfl [] x) ?_
  refine And.intro (fun x => piece arg2 harg2 arg3 harg3 arg11 x1 x2 0 66 2112 0 (by decide) (by decide) rfl rfl [] x) ?_
  refine And.intro (fun x => piece arg2 harg2 arg3 harg3 arg11 x1 x2 0 65 2080 0 (by decide) (by decide) rfl rfl [] x) ?_
  refine And.intro (fun x => piece arg2 harg2 arg3 harg3 arg11 x1 x2 0 64 2048 0 (by decide) (by decide) rfl rfl [] x) ?_
  refine And.intro (fun x => piece arg2 harg2 arg3 harg3 arg11 x1 x2 0 63 2016 0 (by decide) (by decide) rfl rfl [] x) ?_
  refine And.intro (fun x => piece arg2 harg2 arg3 harg3 arg11 x1 x2 0 62 1984 0 (by decide) (by decide) rfl rfl [] x) ?_
  refine And.intro (fun x => piece arg2 harg2 arg3 harg3 arg11 x1 x2 0 61 1952 0 (by decide) (by decide) rfl rfl [] x) ?_
  refine And.intro (fun x => piece arg2 harg2 arg3 harg3 arg11 x1 x2 0 60 1920 0 (by decide) (by decide) rfl rfl [] x) ?_
  refine And.intro (fun x => piece arg2 harg2 arg3 harg3 arg11 x1 x2 0 59 1888 0 (by decide) (by decide) rfl rfl [] x) ?_
  refine And.intro (fun x => piece arg2 harg2 arg3 harg3 arg11 x1 x2 0 58 1856 0 (by decide) (by decide) rfl rfl [] x) ?_
  refine And.intro (fun x => piece arg2 harg2 arg3 harg3 arg11 x1 x2 0 57 1824 0 (by decide) (by decide) rfl rfl [] x) ?_
  refine And.intro (fun x => piece arg2 harg2 arg3 harg3 arg11 x1 x2 0 56 1792 0 (by decide) (by decide) rfl rfl [] x) ?_
  refine And.intro (fun x => piece arg2 harg2 arg3 harg3 arg11 x1 x2 0 55 1760 0 (by decide) (by decide) rfl rfl [] x) ?_
  refine And.intro (fun x => piece arg2 harg2 arg3 harg3 arg11 x1 x2 0 54 1728 0 (by decide) (by decide) rfl rfl [] x) ?_
  refine And.intro (fun x => piece arg2 harg2 arg3 harg3 arg11 x1 x2 0 53 1696 0 (by decide) (by decide) rfl rfl [] x) ?_
  refine And.intro (fun x => piece arg2 harg2 arg3 harg3 arg11 x1 x2 0 52 1664 0 (by decide) (by decide) rfl rfl [] x) ?_
  refine And.intro (fun x => piece arg2 harg2 arg3 harg3 arg11 x1 x2 0 51 1632 0 (by decide) (by decide) rfl rfl [] x) ?_
  refine And.intro (fun x => piece arg2 harg2 arg3 harg3 arg11 x1 x2 0 50 1600 0 (by decide) (by decide) rfl rfl [] x) ?_
  refine And.intro (fun x => piece arg2 harg2 arg3 harg3 arg11 x1 x2 0 49 1568 0 (by decide) (by decide) rfl rfl [] x) ?_
  refine And.intro (fun x => piece arg2 harg2 arg3 harg3 arg11 x1 x2 0 48 1536 0 (by decide) (by decide) rfl rfl [] x) ?_
  refine And.intro (fun x => piece arg2 harg2 arg3 harg3 arg11 x1 x2 0 47 1504 0 (by decide) (by decide) rfl rfl [] x) ?_
  refine And.intro (fun x => piece arg2 harg2 arg3 harg3 arg11 x1 x2 0 46 1472 0 (by decide) (by decide) rfl rfl [] x) ?_
  refine And.intro (fun x => piece arg2 harg2 arg3 harg3 arg11 x1 x2 0 45 1440 0 (by decide) (by decide) rfl rfl [] x) ?_
  refine And.intro (fun x => piece arg2 harg2 arg3 harg3 arg11 x1 x2 0 44 1408 0 (by decide) (by decide) rfl rfl [] x) ?_
  refine And.intro (fun x => piece arg2 harg2 arg3 harg3 arg11 x1 x2 0 43 1376 0 (by decide) (by decide) rfl rfl [] x) ?_
  refine And.intro (fun x => piece arg2 harg2 arg3 harg3 arg11 x1 x2 0 42 1344 0 (by decide) (by decide) rfl rfl [] x) ?_
  refine And.intro (fun x => piece arg2 harg2 arg3 harg3 arg11 x1 x2 0 41 1312 0 (by decide) (by decide) rfl rfl [] x) ?_
  refine And.intro (fun x => piece arg2 harg2 arg3 harg3 arg11 x1 x2 0 40 1280 0 (by decide) (by decide) rfl rfl [] x) ?_
  refine And.intro (fun x => piece arg2 harg2 arg3 harg3 arg11 x1 x2 0 39 1248 0 (by decide) (by decide) rfl rfl [] x) ?_
  refine And.intro (fun x => piece arg2 harg2 arg3 harg3 arg11 x1 x2 0 38 1216 0 (by decide) (by decide) rfl rfl [] x) ?_
  refine And.intro (fun x => piece arg2 harg2 arg3 harg3 arg11 x1 x2 0 37 1184 0 (by decide) (by decide) rfl rfl [] x) ?_
  refine And.intro (fun x => piece arg2 harg2 arg3 harg3 arg11 x1 x2 0 36 1152 0 (by decide) (by decide) rfl rfl [] x) ?_
  refine And.intro (fun x => piece arg2 harg2 arg3 harg3 arg11 x1 x2 0 35 1120 0 (by decide) (by decide) rfl rfl [] x) ?_
  refine And.intro (fun x => piece arg2 harg2 arg3 harg3 arg11 x1 x2 0 34 1088 0 (by decide) (by decide) rfl rfl [] x) ?_
  refine And.intro (fun x => piece arg2 harg2 arg3 harg3 arg11 x1 x2 0 33 1056 0 (by decide) (by decide) rfl rfl [] x) ?_
  refine And.intro (fun x => piece arg2 harg2 arg3 harg3 arg11 x1 x2 0 32 1024 0 (by decide) (by decide) rfl rfl [] x) ?_
  refine And.intro (fun x => piece arg2 harg2 arg3 harg3 arg11 x1 x2 0 31 992 0 (by decide) (by decide) rfl rfl [] x) ?_
  refine And.intro (fun x => piece arg2 harg2 arg3 harg3 arg11 x1 x2 0 30 960 0 (by decide) (by decide) rfl rfl [] x) ?_
  refine And.intro (fun x => piece arg2 harg2 arg3 harg3 arg11 x1 x2 0 29 928 0 (by decide) (by decide) rfl rfl [] x) ?_
  refine And.intro (fun x => piece arg2 harg2 arg3 harg3 arg11 x1 x2 0 28 896 0 (by decide) (by decide) rfl rfl [] x) ?_
  refine And.intro (fun x => piece arg2 harg2 arg3 harg3 arg11 x1 x2 0 27 864 0 (by decide) (by decide) rfl rfl [] x) ?_
  refine And.intro (fun x => piece arg2 harg2 arg3 harg3 arg11 x1 x2 0 26 832 0 (by decide) (by decide) rfl rfl [] x) ?_
  refine And.intro (fun x => piece arg2 harg2 arg3 harg3 arg11 x1 x2 0 25 800 0 (by decide) (by decide) rfl rfl [] x) ?_
  refine And.intro (fun x => piece arg2 harg2 arg3 harg3 arg11 x1 x2 0 24 768 0 (by decide) (by decide) rfl rfl [] x) ?_
  refine And.intro (fun x => piece arg2 harg2 arg3 harg3 arg11 x1 x2 0 23 736 0 (by decide) (by decide) rfl rfl [] x) ?_
  refine And.intro (fun x => piece arg2 harg2 arg3 harg3 arg11 x1 x2 0 22 704 0 (by decide) (by decide) rfl rfl [] x) ?_
  refine And.intro (fun x => piece arg2 harg2 arg3 harg3 arg11 x1 x2 0 21 672 0 (by decide) (by decide) rfl rfl [] x) ?_
  refine And.intro (fun x => piece arg2 harg2 arg3 harg3 arg11 x1 x2 0 20 640 0 (by decide) (by decide) rfl rfl [] x) ?_
  refine And.intro (fun x => piece arg2 harg2 arg3 harg3 arg11 x1 x2 0 19 608 0 (by decide) (by decide) rfl rfl [] x) ?_
  refine And.intro (fun x => piece arg2 harg2 arg3 harg3 arg11 x1 x2 0 18 576 0 (by decide) (by decide) rfl rfl [] x) ?_
  refine And.intro (fun x => piece arg2 harg2 arg3 harg3 arg11 x1 x2 0 17 544 0 (by decide) (by decide) rfl rfl [] x) ?_
  refine And.intro (fun x => piece arg2 harg2 arg3 harg3 arg11 x1 x2 0 16 512 0 (by decide) (by decide) rfl rfl [] x) ?_
  refine And.intro (fun x => piece arg2 harg2 arg3 harg3 arg11 x1 x2 0 15 480 0 (by decide) (by decide) rfl rfl [] x) ?_
  refine And.intro (fun x => piece arg2 harg2 arg3 harg3 arg11 x1 x2 0 14 448 0 (by decide) (by decide) rfl rfl [] x) ?_
  refine And.intro (fun x => piece arg2 harg2 arg3 harg3 arg11 x1 x2 0 13 416 0 (by decide) (by decide) rfl rfl [] x) ?_
  refine And.intro (fun x => piece arg2 harg2 arg3 harg3 arg11 x1 x2 0 12 384 0 (by decide) (by decide) rfl rfl [] x) ?_
  refine And.intro (fun x => piece arg2 harg2 arg3 harg3 arg11 x1 x2 0 11 352 0 (by decide) (by decide) rfl rfl [] x) ?_
  refine And.intro (fun x => piece arg2 harg2 arg3 harg3 arg11 x1 x2 0 10 320 0 (by decide) (by decide) rfl rfl [] x) ?_
  refine And.intro (fun x => piece arg2 harg2 arg3 harg3 arg11 x1 x2 0 9 288 0 (by decide) (by decide) rfl rfl [] x) ?_
  refine And.intro (fun x => piece arg2 harg2 arg3 harg3 arg11 x1 x2 0 8 256 0 (by decide) (by decide) rfl rfl [] x) ?_
  refine And.intro (fun x => piece arg2 harg2 arg3 harg3 arg11 x1 x2 0 7 224 0 (by decide) (by decide) rfl rfl [] x) ?_
  refine And.intro (fun x => piece arg2 harg2 arg3 harg3 arg11 x1 x2 0 6 192 0 (by decide) (by decide) rfl rfl [] x) ?_
  refine And.intro (fun x => piece arg2 harg2 arg3 harg3 arg11 x1 x2 0 5 160 0 (by decide) (by decide) rfl rfl [] x) ?_
  refine And.intro (fun x => piece arg2 harg2 arg3 harg3 arg11 x1 x2 0 4 128 0 (by decide) (by decide) rfl rfl [] x) ?_
  refine And.intro (fun x => piece arg2 harg2 arg3 harg3 arg11 x1 x2 0 3 96 0 (by decide) (by decide) rfl rfl [] x) ?_
  refine And.intro (fun x => piece arg2 harg2 arg3 harg3 arg11 x1 x2 0 2 64 0 (by decide) (by decide) rfl rfl [] x) ?_
  refine And.intro (fun x => piece arg2 harg2 arg3 harg3 arg11 x1 x2 0 1 32 0 (by decide) (by decide) rfl rfl [] x) ?_
  refine And.intro (fun x => piece arg2 harg2 arg3 harg3 arg11 x1 x2 0 0 0 0 (by decide) (by decide) rfl rfl [] x) ?_
  exact trivial

set_option maxHeartbeats 8000000 in
/-- The stores into both halves all hold the widened weights. -/
theorem pieces_both : View.PiecesOf (weights x1 x2) (kernelRun0_A.sl.HS0_192 c arg2 harg2 arg3 harg3 arg11 x1 x2) := by
  unfold kernelRun0_A.sl.HS0_192
  refine And.intro (fun x => piece arg2 harg2 arg3 harg3 arg11 x1 x2 1 95 3040 512 (by decide) (by decide) rfl rfl
    (kernelRun0_A.sl.HS1_1 c arg3 harg3 x2) x) ?_
  refine And.intro (fun x => piece arg2 harg2 arg3 harg3 arg11 x1 x2 1 94 3008 512 (by decide) (by decide) rfl rfl
    (kernelRun0_A.sl.HS1_1 c arg3 harg3 x2) x) ?_
  refine And.intro (fun x => piece arg2 harg2 arg3 harg3 arg11 x1 x2 1 93 2976 512 (by decide) (by decide) rfl rfl
    (kernelRun0_A.sl.HS1_1 c arg3 harg3 x2) x) ?_
  refine And.intro (fun x => piece arg2 harg2 arg3 harg3 arg11 x1 x2 1 92 2944 512 (by decide) (by decide) rfl rfl
    (kernelRun0_A.sl.HS1_1 c arg3 harg3 x2) x) ?_
  refine And.intro (fun x => piece arg2 harg2 arg3 harg3 arg11 x1 x2 1 91 2912 512 (by decide) (by decide) rfl rfl
    (kernelRun0_A.sl.HS1_1 c arg3 harg3 x2) x) ?_
  refine And.intro (fun x => piece arg2 harg2 arg3 harg3 arg11 x1 x2 1 90 2880 512 (by decide) (by decide) rfl rfl
    (kernelRun0_A.sl.HS1_1 c arg3 harg3 x2) x) ?_
  refine And.intro (fun x => piece arg2 harg2 arg3 harg3 arg11 x1 x2 1 89 2848 512 (by decide) (by decide) rfl rfl
    (kernelRun0_A.sl.HS1_1 c arg3 harg3 x2) x) ?_
  refine And.intro (fun x => piece arg2 harg2 arg3 harg3 arg11 x1 x2 1 88 2816 512 (by decide) (by decide) rfl rfl
    (kernelRun0_A.sl.HS1_1 c arg3 harg3 x2) x) ?_
  refine And.intro (fun x => piece arg2 harg2 arg3 harg3 arg11 x1 x2 1 87 2784 512 (by decide) (by decide) rfl rfl
    (kernelRun0_A.sl.HS1_1 c arg3 harg3 x2) x) ?_
  refine And.intro (fun x => piece arg2 harg2 arg3 harg3 arg11 x1 x2 1 86 2752 512 (by decide) (by decide) rfl rfl
    (kernelRun0_A.sl.HS1_1 c arg3 harg3 x2) x) ?_
  refine And.intro (fun x => piece arg2 harg2 arg3 harg3 arg11 x1 x2 1 85 2720 512 (by decide) (by decide) rfl rfl
    (kernelRun0_A.sl.HS1_1 c arg3 harg3 x2) x) ?_
  refine And.intro (fun x => piece arg2 harg2 arg3 harg3 arg11 x1 x2 1 84 2688 512 (by decide) (by decide) rfl rfl
    (kernelRun0_A.sl.HS1_1 c arg3 harg3 x2) x) ?_
  refine And.intro (fun x => piece arg2 harg2 arg3 harg3 arg11 x1 x2 1 83 2656 512 (by decide) (by decide) rfl rfl
    (kernelRun0_A.sl.HS1_1 c arg3 harg3 x2) x) ?_
  refine And.intro (fun x => piece arg2 harg2 arg3 harg3 arg11 x1 x2 1 82 2624 512 (by decide) (by decide) rfl rfl
    (kernelRun0_A.sl.HS1_1 c arg3 harg3 x2) x) ?_
  refine And.intro (fun x => piece arg2 harg2 arg3 harg3 arg11 x1 x2 1 81 2592 512 (by decide) (by decide) rfl rfl
    (kernelRun0_A.sl.HS1_1 c arg3 harg3 x2) x) ?_
  refine And.intro (fun x => piece arg2 harg2 arg3 harg3 arg11 x1 x2 1 80 2560 512 (by decide) (by decide) rfl rfl
    (kernelRun0_A.sl.HS1_1 c arg3 harg3 x2) x) ?_
  refine And.intro (fun x => piece arg2 harg2 arg3 harg3 arg11 x1 x2 1 79 2528 512 (by decide) (by decide) rfl rfl
    (kernelRun0_A.sl.HS1_1 c arg3 harg3 x2) x) ?_
  refine And.intro (fun x => piece arg2 harg2 arg3 harg3 arg11 x1 x2 1 78 2496 512 (by decide) (by decide) rfl rfl
    (kernelRun0_A.sl.HS1_1 c arg3 harg3 x2) x) ?_
  refine And.intro (fun x => piece arg2 harg2 arg3 harg3 arg11 x1 x2 1 77 2464 512 (by decide) (by decide) rfl rfl
    (kernelRun0_A.sl.HS1_1 c arg3 harg3 x2) x) ?_
  refine And.intro (fun x => piece arg2 harg2 arg3 harg3 arg11 x1 x2 1 76 2432 512 (by decide) (by decide) rfl rfl
    (kernelRun0_A.sl.HS1_1 c arg3 harg3 x2) x) ?_
  refine And.intro (fun x => piece arg2 harg2 arg3 harg3 arg11 x1 x2 1 75 2400 512 (by decide) (by decide) rfl rfl
    (kernelRun0_A.sl.HS1_1 c arg3 harg3 x2) x) ?_
  refine And.intro (fun x => piece arg2 harg2 arg3 harg3 arg11 x1 x2 1 74 2368 512 (by decide) (by decide) rfl rfl
    (kernelRun0_A.sl.HS1_1 c arg3 harg3 x2) x) ?_
  refine And.intro (fun x => piece arg2 harg2 arg3 harg3 arg11 x1 x2 1 73 2336 512 (by decide) (by decide) rfl rfl
    (kernelRun0_A.sl.HS1_1 c arg3 harg3 x2) x) ?_
  refine And.intro (fun x => piece arg2 harg2 arg3 harg3 arg11 x1 x2 1 72 2304 512 (by decide) (by decide) rfl rfl
    (kernelRun0_A.sl.HS1_1 c arg3 harg3 x2) x) ?_
  refine And.intro (fun x => piece arg2 harg2 arg3 harg3 arg11 x1 x2 1 71 2272 512 (by decide) (by decide) rfl rfl
    (kernelRun0_A.sl.HS1_1 c arg3 harg3 x2) x) ?_
  refine And.intro (fun x => piece arg2 harg2 arg3 harg3 arg11 x1 x2 1 70 2240 512 (by decide) (by decide) rfl rfl
    (kernelRun0_A.sl.HS1_1 c arg3 harg3 x2) x) ?_
  refine And.intro (fun x => piece arg2 harg2 arg3 harg3 arg11 x1 x2 1 69 2208 512 (by decide) (by decide) rfl rfl
    (kernelRun0_A.sl.HS1_1 c arg3 harg3 x2) x) ?_
  refine And.intro (fun x => piece arg2 harg2 arg3 harg3 arg11 x1 x2 1 68 2176 512 (by decide) (by decide) rfl rfl
    (kernelRun0_A.sl.HS1_1 c arg3 harg3 x2) x) ?_
  refine And.intro (fun x => piece arg2 harg2 arg3 harg3 arg11 x1 x2 1 67 2144 512 (by decide) (by decide) rfl rfl
    (kernelRun0_A.sl.HS1_1 c arg3 harg3 x2) x) ?_
  refine And.intro (fun x => piece arg2 harg2 arg3 harg3 arg11 x1 x2 1 66 2112 512 (by decide) (by decide) rfl rfl
    (kernelRun0_A.sl.HS1_1 c arg3 harg3 x2) x) ?_
  refine And.intro (fun x => piece arg2 harg2 arg3 harg3 arg11 x1 x2 1 65 2080 512 (by decide) (by decide) rfl rfl
    (kernelRun0_A.sl.HS1_1 c arg3 harg3 x2) x) ?_
  refine And.intro (fun x => piece arg2 harg2 arg3 harg3 arg11 x1 x2 1 64 2048 512 (by decide) (by decide) rfl rfl
    (kernelRun0_A.sl.HS1_1 c arg3 harg3 x2) x) ?_
  refine And.intro (fun x => piece arg2 harg2 arg3 harg3 arg11 x1 x2 1 63 2016 512 (by decide) (by decide) rfl rfl
    (kernelRun0_A.sl.HS1_1 c arg3 harg3 x2) x) ?_
  refine And.intro (fun x => piece arg2 harg2 arg3 harg3 arg11 x1 x2 1 62 1984 512 (by decide) (by decide) rfl rfl
    (kernelRun0_A.sl.HS1_1 c arg3 harg3 x2) x) ?_
  refine And.intro (fun x => piece arg2 harg2 arg3 harg3 arg11 x1 x2 1 61 1952 512 (by decide) (by decide) rfl rfl
    (kernelRun0_A.sl.HS1_1 c arg3 harg3 x2) x) ?_
  refine And.intro (fun x => piece arg2 harg2 arg3 harg3 arg11 x1 x2 1 60 1920 512 (by decide) (by decide) rfl rfl
    (kernelRun0_A.sl.HS1_1 c arg3 harg3 x2) x) ?_
  refine And.intro (fun x => piece arg2 harg2 arg3 harg3 arg11 x1 x2 1 59 1888 512 (by decide) (by decide) rfl rfl
    (kernelRun0_A.sl.HS1_1 c arg3 harg3 x2) x) ?_
  refine And.intro (fun x => piece arg2 harg2 arg3 harg3 arg11 x1 x2 1 58 1856 512 (by decide) (by decide) rfl rfl
    (kernelRun0_A.sl.HS1_1 c arg3 harg3 x2) x) ?_
  refine And.intro (fun x => piece arg2 harg2 arg3 harg3 arg11 x1 x2 1 57 1824 512 (by decide) (by decide) rfl rfl
    (kernelRun0_A.sl.HS1_1 c arg3 harg3 x2) x) ?_
  refine And.intro (fun x => piece arg2 harg2 arg3 harg3 arg11 x1 x2 1 56 1792 512 (by decide) (by decide) rfl rfl
    (kernelRun0_A.sl.HS1_1 c arg3 harg3 x2) x) ?_
  refine And.intro (fun x => piece arg2 harg2 arg3 harg3 arg11 x1 x2 1 55 1760 512 (by decide) (by decide) rfl rfl
    (kernelRun0_A.sl.HS1_1 c arg3 harg3 x2) x) ?_
  refine And.intro (fun x => piece arg2 harg2 arg3 harg3 arg11 x1 x2 1 54 1728 512 (by decide) (by decide) rfl rfl
    (kernelRun0_A.sl.HS1_1 c arg3 harg3 x2) x) ?_
  refine And.intro (fun x => piece arg2 harg2 arg3 harg3 arg11 x1 x2 1 53 1696 512 (by decide) (by decide) rfl rfl
    (kernelRun0_A.sl.HS1_1 c arg3 harg3 x2) x) ?_
  refine And.intro (fun x => piece arg2 harg2 arg3 harg3 arg11 x1 x2 1 52 1664 512 (by decide) (by decide) rfl rfl
    (kernelRun0_A.sl.HS1_1 c arg3 harg3 x2) x) ?_
  refine And.intro (fun x => piece arg2 harg2 arg3 harg3 arg11 x1 x2 1 51 1632 512 (by decide) (by decide) rfl rfl
    (kernelRun0_A.sl.HS1_1 c arg3 harg3 x2) x) ?_
  refine And.intro (fun x => piece arg2 harg2 arg3 harg3 arg11 x1 x2 1 50 1600 512 (by decide) (by decide) rfl rfl
    (kernelRun0_A.sl.HS1_1 c arg3 harg3 x2) x) ?_
  refine And.intro (fun x => piece arg2 harg2 arg3 harg3 arg11 x1 x2 1 49 1568 512 (by decide) (by decide) rfl rfl
    (kernelRun0_A.sl.HS1_1 c arg3 harg3 x2) x) ?_
  refine And.intro (fun x => piece arg2 harg2 arg3 harg3 arg11 x1 x2 1 48 1536 512 (by decide) (by decide) rfl rfl
    (kernelRun0_A.sl.HS1_1 c arg3 harg3 x2) x) ?_
  refine And.intro (fun x => piece arg2 harg2 arg3 harg3 arg11 x1 x2 1 47 1504 512 (by decide) (by decide) rfl rfl
    (kernelRun0_A.sl.HS1_1 c arg3 harg3 x2) x) ?_
  refine And.intro (fun x => piece arg2 harg2 arg3 harg3 arg11 x1 x2 1 46 1472 512 (by decide) (by decide) rfl rfl
    (kernelRun0_A.sl.HS1_1 c arg3 harg3 x2) x) ?_
  refine And.intro (fun x => piece arg2 harg2 arg3 harg3 arg11 x1 x2 1 45 1440 512 (by decide) (by decide) rfl rfl
    (kernelRun0_A.sl.HS1_1 c arg3 harg3 x2) x) ?_
  refine And.intro (fun x => piece arg2 harg2 arg3 harg3 arg11 x1 x2 1 44 1408 512 (by decide) (by decide) rfl rfl
    (kernelRun0_A.sl.HS1_1 c arg3 harg3 x2) x) ?_
  refine And.intro (fun x => piece arg2 harg2 arg3 harg3 arg11 x1 x2 1 43 1376 512 (by decide) (by decide) rfl rfl
    (kernelRun0_A.sl.HS1_1 c arg3 harg3 x2) x) ?_
  refine And.intro (fun x => piece arg2 harg2 arg3 harg3 arg11 x1 x2 1 42 1344 512 (by decide) (by decide) rfl rfl
    (kernelRun0_A.sl.HS1_1 c arg3 harg3 x2) x) ?_
  refine And.intro (fun x => piece arg2 harg2 arg3 harg3 arg11 x1 x2 1 41 1312 512 (by decide) (by decide) rfl rfl
    (kernelRun0_A.sl.HS1_1 c arg3 harg3 x2) x) ?_
  refine And.intro (fun x => piece arg2 harg2 arg3 harg3 arg11 x1 x2 1 40 1280 512 (by decide) (by decide) rfl rfl
    (kernelRun0_A.sl.HS1_1 c arg3 harg3 x2) x) ?_
  refine And.intro (fun x => piece arg2 harg2 arg3 harg3 arg11 x1 x2 1 39 1248 512 (by decide) (by decide) rfl rfl
    (kernelRun0_A.sl.HS1_1 c arg3 harg3 x2) x) ?_
  refine And.intro (fun x => piece arg2 harg2 arg3 harg3 arg11 x1 x2 1 38 1216 512 (by decide) (by decide) rfl rfl
    (kernelRun0_A.sl.HS1_1 c arg3 harg3 x2) x) ?_
  refine And.intro (fun x => piece arg2 harg2 arg3 harg3 arg11 x1 x2 1 37 1184 512 (by decide) (by decide) rfl rfl
    (kernelRun0_A.sl.HS1_1 c arg3 harg3 x2) x) ?_
  refine And.intro (fun x => piece arg2 harg2 arg3 harg3 arg11 x1 x2 1 36 1152 512 (by decide) (by decide) rfl rfl
    (kernelRun0_A.sl.HS1_1 c arg3 harg3 x2) x) ?_
  refine And.intro (fun x => piece arg2 harg2 arg3 harg3 arg11 x1 x2 1 35 1120 512 (by decide) (by decide) rfl rfl
    (kernelRun0_A.sl.HS1_1 c arg3 harg3 x2) x) ?_
  refine And.intro (fun x => piece arg2 harg2 arg3 harg3 arg11 x1 x2 1 34 1088 512 (by decide) (by decide) rfl rfl
    (kernelRun0_A.sl.HS1_1 c arg3 harg3 x2) x) ?_
  refine And.intro (fun x => piece arg2 harg2 arg3 harg3 arg11 x1 x2 1 33 1056 512 (by decide) (by decide) rfl rfl
    (kernelRun0_A.sl.HS1_1 c arg3 harg3 x2) x) ?_
  refine And.intro (fun x => piece arg2 harg2 arg3 harg3 arg11 x1 x2 1 32 1024 512 (by decide) (by decide) rfl rfl
    (kernelRun0_A.sl.HS1_1 c arg3 harg3 x2) x) ?_
  refine And.intro (fun x => piece arg2 harg2 arg3 harg3 arg11 x1 x2 1 31 992 512 (by decide) (by decide) rfl rfl
    (kernelRun0_A.sl.HS1_1 c arg3 harg3 x2) x) ?_
  refine And.intro (fun x => piece arg2 harg2 arg3 harg3 arg11 x1 x2 1 30 960 512 (by decide) (by decide) rfl rfl
    (kernelRun0_A.sl.HS1_1 c arg3 harg3 x2) x) ?_
  refine And.intro (fun x => piece arg2 harg2 arg3 harg3 arg11 x1 x2 1 29 928 512 (by decide) (by decide) rfl rfl
    (kernelRun0_A.sl.HS1_1 c arg3 harg3 x2) x) ?_
  refine And.intro (fun x => piece arg2 harg2 arg3 harg3 arg11 x1 x2 1 28 896 512 (by decide) (by decide) rfl rfl
    (kernelRun0_A.sl.HS1_1 c arg3 harg3 x2) x) ?_
  refine And.intro (fun x => piece arg2 harg2 arg3 harg3 arg11 x1 x2 1 27 864 512 (by decide) (by decide) rfl rfl
    (kernelRun0_A.sl.HS1_1 c arg3 harg3 x2) x) ?_
  refine And.intro (fun x => piece arg2 harg2 arg3 harg3 arg11 x1 x2 1 26 832 512 (by decide) (by decide) rfl rfl
    (kernelRun0_A.sl.HS1_1 c arg3 harg3 x2) x) ?_
  refine And.intro (fun x => piece arg2 harg2 arg3 harg3 arg11 x1 x2 1 25 800 512 (by decide) (by decide) rfl rfl
    (kernelRun0_A.sl.HS1_1 c arg3 harg3 x2) x) ?_
  refine And.intro (fun x => piece arg2 harg2 arg3 harg3 arg11 x1 x2 1 24 768 512 (by decide) (by decide) rfl rfl
    (kernelRun0_A.sl.HS1_1 c arg3 harg3 x2) x) ?_
  refine And.intro (fun x => piece arg2 harg2 arg3 harg3 arg11 x1 x2 1 23 736 512 (by decide) (by decide) rfl rfl
    (kernelRun0_A.sl.HS1_1 c arg3 harg3 x2) x) ?_
  refine And.intro (fun x => piece arg2 harg2 arg3 harg3 arg11 x1 x2 1 22 704 512 (by decide) (by decide) rfl rfl
    (kernelRun0_A.sl.HS1_1 c arg3 harg3 x2) x) ?_
  refine And.intro (fun x => piece arg2 harg2 arg3 harg3 arg11 x1 x2 1 21 672 512 (by decide) (by decide) rfl rfl
    (kernelRun0_A.sl.HS1_1 c arg3 harg3 x2) x) ?_
  refine And.intro (fun x => piece arg2 harg2 arg3 harg3 arg11 x1 x2 1 20 640 512 (by decide) (by decide) rfl rfl
    (kernelRun0_A.sl.HS1_1 c arg3 harg3 x2) x) ?_
  refine And.intro (fun x => piece arg2 harg2 arg3 harg3 arg11 x1 x2 1 19 608 512 (by decide) (by decide) rfl rfl
    (kernelRun0_A.sl.HS1_1 c arg3 harg3 x2) x) ?_
  refine And.intro (fun x => piece arg2 harg2 arg3 harg3 arg11 x1 x2 1 18 576 512 (by decide) (by decide) rfl rfl
    (kernelRun0_A.sl.HS1_1 c arg3 harg3 x2) x) ?_
  refine And.intro (fun x => piece arg2 harg2 arg3 harg3 arg11 x1 x2 1 17 544 512 (by decide) (by decide) rfl rfl
    (kernelRun0_A.sl.HS1_1 c arg3 harg3 x2) x) ?_
  refine And.intro (fun x => piece arg2 harg2 arg3 harg3 arg11 x1 x2 1 16 512 512 (by decide) (by decide) rfl rfl
    (kernelRun0_A.sl.HS1_1 c arg3 harg3 x2) x) ?_
  refine And.intro (fun x => piece arg2 harg2 arg3 harg3 arg11 x1 x2 1 15 480 512 (by decide) (by decide) rfl rfl
    (kernelRun0_A.sl.HS1_1 c arg3 harg3 x2) x) ?_
  refine And.intro (fun x => piece arg2 harg2 arg3 harg3 arg11 x1 x2 1 14 448 512 (by decide) (by decide) rfl rfl
    (kernelRun0_A.sl.HS1_1 c arg3 harg3 x2) x) ?_
  refine And.intro (fun x => piece arg2 harg2 arg3 harg3 arg11 x1 x2 1 13 416 512 (by decide) (by decide) rfl rfl
    (kernelRun0_A.sl.HS1_1 c arg3 harg3 x2) x) ?_
  refine And.intro (fun x => piece arg2 harg2 arg3 harg3 arg11 x1 x2 1 12 384 512 (by decide) (by decide) rfl rfl
    (kernelRun0_A.sl.HS1_1 c arg3 harg3 x2) x) ?_
  refine And.intro (fun x => piece arg2 harg2 arg3 harg3 arg11 x1 x2 1 11 352 512 (by decide) (by decide) rfl rfl
    (kernelRun0_A.sl.HS1_1 c arg3 harg3 x2) x) ?_
  refine And.intro (fun x => piece arg2 harg2 arg3 harg3 arg11 x1 x2 1 10 320 512 (by decide) (by decide) rfl rfl
    (kernelRun0_A.sl.HS1_1 c arg3 harg3 x2) x) ?_
  refine And.intro (fun x => piece arg2 harg2 arg3 harg3 arg11 x1 x2 1 9 288 512 (by decide) (by decide) rfl rfl
    (kernelRun0_A.sl.HS1_1 c arg3 harg3 x2) x) ?_
  refine And.intro (fun x => piece arg2 harg2 arg3 harg3 arg11 x1 x2 1 8 256 512 (by decide) (by decide) rfl rfl
    (kernelRun0_A.sl.HS1_1 c arg3 harg3 x2) x) ?_
  refine And.intro (fun x => piece arg2 harg2 arg3 harg3 arg11 x1 x2 1 7 224 512 (by decide) (by decide) rfl rfl
    (kernelRun0_A.sl.HS1_1 c arg3 harg3 x2) x) ?_
  refine And.intro (fun x => piece arg2 harg2 arg3 harg3 arg11 x1 x2 1 6 192 512 (by decide) (by decide) rfl rfl
    (kernelRun0_A.sl.HS1_1 c arg3 harg3 x2) x) ?_
  refine And.intro (fun x => piece arg2 harg2 arg3 harg3 arg11 x1 x2 1 5 160 512 (by decide) (by decide) rfl rfl
    (kernelRun0_A.sl.HS1_1 c arg3 harg3 x2) x) ?_
  refine And.intro (fun x => piece arg2 harg2 arg3 harg3 arg11 x1 x2 1 4 128 512 (by decide) (by decide) rfl rfl
    (kernelRun0_A.sl.HS1_1 c arg3 harg3 x2) x) ?_
  refine And.intro (fun x => piece arg2 harg2 arg3 harg3 arg11 x1 x2 1 3 96 512 (by decide) (by decide) rfl rfl
    (kernelRun0_A.sl.HS1_1 c arg3 harg3 x2) x) ?_
  refine And.intro (fun x => piece arg2 harg2 arg3 harg3 arg11 x1 x2 1 2 64 512 (by decide) (by decide) rfl rfl
    (kernelRun0_A.sl.HS1_1 c arg3 harg3 x2) x) ?_
  refine And.intro (fun x => piece arg2 harg2 arg3 harg3 arg11 x1 x2 1 1 32 512 (by decide) (by decide) rfl rfl
    (kernelRun0_A.sl.HS1_1 c arg3 harg3 x2) x) ?_
  refine And.intro (fun x => piece arg2 harg2 arg3 harg3 arg11 x1 x2 1 0 0 512 (by decide) (by decide) rfl rfl
    (kernelRun0_A.sl.HS1_1 c arg3 harg3 x2) x) ?_
  exact pieces_first c arg2 harg2 arg3 harg3 arg11 x1 x2

/-- The first half is written whole before it is read. -/
theorem cover_first (k : Fin 3072) (q : Fin 512) :
    ∃ p ∈ kernelRun0_A.sl.HS0_96 (F := Ideal) c arg2 harg2 arg3 harg3 arg11 x1 x2, (ix3 0 k q : S2x3072x512.Idx) ∈ p.1.set := by
  have h := View.cover_of_tiledBy (s := S2x3072x512) (Val := Elt Ideal)
    ((⟨Rect.unit (s := S2x3072x512) ![1, 0, 0] S1x3072x512.size inb_S2x3072x512_S1x3072x512_1_0_0, fun _ => (0 : EReal)⟩
      : View.Piece (Elt Ideal) S2x3072x512 .bf16) :: kernelRun0_A.sl.HS0_96 c arg2 harg2 arg3 harg3 arg11 x1 x2)
    ![1, 32, 512] (by sl_kernel_rfl) (ix3 0 k q)
  obtain ⟨p, hp, hy⟩ := h
  rcases List.mem_cons.mp hp with rfl | hp
  · exact absurd hy (by
      rw [Rect.mem_set_unit]
      intro hh
      have := (hh 0).1
      exact absurd this (show ¬ (1 ≤ 0) by decide))
  · exact ⟨p, hp, hy⟩

/-- Both halves are written whole before the second is read. -/
theorem cover_both (y : S2x3072x512.Idx) :
    ∃ p ∈ kernelRun0_A.sl.HS0_192 (F := Ideal) c arg2 harg2 arg3 harg3 arg11 x1 x2, y ∈ p.1.set :=
  View.cover_of_tiledL _ ![1, 32, 512] (by sl_kernel_rfl) y

end Cert.ProjQIdeal.Weights

end
-- ==== Proof.QBlock.lean ====
/-
  One grid point of the projection kernel: what its block of 1024 columns holds, as a function of the windows' contents.
-/
module

public import proofs.«01_k».proof.Proof.QStores

@[expose] public section

set_option maxRecDepth 16384

noncomputable section

namespace Cert.ProjQIdeal.Block

open Cert.ProjQIdeal Cert.ProjQIdeal.Gen Idealize.ShloMosaic Idealize.ShloMosaic.TcCoe Idealize.SL.Sem
open Cert.Scale Cert.Rotary Cert.ProjQIdeal.Pieces Cert.ProjQIdeal.Weights

/-- A tile of the projection: 256 rows times the widened weights of one half, plus the bias. -/
def product (a : Vec Ideal S256x3072 .bf16) (w : Vec Ideal S1x3072x512 .bf16) (b : Vec Ideal S1x1x512 .f32) : FVec Ideal S256x512 .f32 :=
  have w' : FVec Ideal S3072x512 .bf16 := shapeCast S3072x512 w shapeCasts_S1x3072x512_S3072x512
  have z : FVec Ideal S256x512 .f32 := constant S256x512 .f32 0x00000000#32
  have d : FVec Ideal S256x512 .f32 := matmul (φ₁ := .bf16) (φ₂ := .bf16) dot_S256x3072_S3072x512_S256x512_1_0_0_1_n_n none a w' z
  have b' : FVec Ideal S1x512 .f32 := shapeCast S1x512 b shapeCasts_S1x1x512_S1x512
  have e : FVec Ideal S256x512 .f32 := broadcastTo S256x512 b' broadcasts_S1x512_S256x512
  addf d e

theorem product_at (a : Vec Ideal S256x3072 .bf16) (w : Vec Ideal S1x3072x512 .bf16) (b : Vec Ideal S1x1x512 .f32) (r : Fin 256) (q : Fin 512) :
    product a w b (ix2 r q) = ((∑ k : Fin 3072, (a (ix2 r k) : EReal) * w (ix3 0 k q)) + b (ix3 0 0 q) : EReal) := by
  unfold product
  pointwise

section
variable (x0 : Vec Ideal S1536x3072 .bf16) (x1 : Vec Ideal S3072x1024 .fp8e4m3) (x2 : Vec Ideal S96x1024 .i8)
  (x3 : Vec Ideal S1x1x1024 .f32) (x4 : Vec Ideal S1x128 .f32) (x5 x6 : Vec Ideal S1536x128 .f32)

/-- Entry `(i, q)` of the block's projection, before its heads are normalised. -/
def proj (i : Fin 1536) (q : Fin 1024) : EReal :=
  (∑ k : Fin 3072, (x0 (ix2 i k) : EReal) * ((x1 (ix2 k q) : EReal) * scaleOf (x2 (ix2 (⟨k.val / 32, by omega⟩ : Fin 96) q))))
    + (x3 (ix3 0 0 q) : EReal)

/-- Entry `(i, q)` of the block: the head that column `q` lies in, normalised and rotated. -/
def entry (i : Fin 1536) (q : Fin 1024) : EReal :=
  normRot (fun j => proj x0 x1 x2 x3 i ⟨128 * (q.val / 128) + j.val, by omega⟩) (fun j => x4 (ix2 0 j)) (fun j => x5 (ix2 i j))
    (fun j => x6 (ix2 i j)) ⟨q.val % 128, by omega⟩

/-- The block of 1024 columns. -/
def block (y : S1536x1024.Idx) : EReal := entry x0 x1 x2 x3 x4 x5 x6 (y 0) (y 1)
end

theorem a_inb (r : Nat) (hr : r + 256 ≤ 1536) : ∀ a, (![r, 0] : Fin 2 → Nat) a + S256x3072.size a ≤ S1536x3072.size a
  | ⟨0, _⟩ => hr
  | ⟨1, _⟩ => by show 0 + 3072 ≤ 3072; omega

theorem b_inb (q : Nat) (hq : q + 512 ≤ 1024) : ∀ a, (![0, 0, q] : Fin 3 → Nat) a + S1x1x512.size a ≤ S1x1x1024.size a
  | ⟨0, _⟩ => by show 0 + 1 ≤ 1; omega
  | ⟨1, _⟩ => by show 0 + 1 ≤ 1; omega
  | ⟨2, _⟩ => hq

theorem r_inb (r : Nat) (hr : r + 256 ≤ 1536) : ∀ a, (![r, 0] : Fin 2 → Nat) a + S256x128.size a ≤ S1536x128.size a
  | ⟨0, _⟩ => hr
  | ⟨1, _⟩ => by show 0 + 128 ≤ 128; omega

theorem n_inb : ∀ a, (![0, 0] : Fin 2 → Nat) a + S1x128.size a ≤ S1x128.size a
  | ⟨0, _⟩ => by show 0 + 1 ≤ 1; omega
  | ⟨1, _⟩ => by show 0 + 128 ≤ 128; omega

theorem o_inb (r p : Nat) (hr : r + 256 ≤ 1536) (hp : p + 128 ≤ 1024) :
    ∀ a, (![r, p] : Fin 2 → Nat) a + S256x128.size a ≤ S1536x1024.size a
  | ⟨0, _⟩ => hr
  | ⟨1, _⟩ => hp

/-- What one store of a head holds: rows `r …` and columns `p …` of the block. -/
theorem piece (arg1 : Memref sig .tc .vmem S1536x3072 .bf16) (harg1 : arg1.IsWhole)
    (arg4 : Memref sig .tc .vmem S1x1x1024 .f32) (harg4 : arg4.IsWhole) (arg5 : Memref sig .tc .vmem S1x128 .f32) (harg5 : arg5.IsWhole)
    (arg6 : Memref sig .tc .vmem S1536x128 .f32) (harg6 : arg6.IsWhole) (arg7 : Memref sig .tc .vmem S1536x128 .f32) (harg7 : arg7.IsWhole)
    (x0 : Vec Ideal S1536x3072 .bf16) (x1 : Vec Ideal S3072x1024 .fp8e4m3) (x2 : Vec Ideal S96x1024 .i8)
    (x3 : Vec Ideal S1x1x1024 .f32) (x4 : Vec Ideal S1x128 .f32) (x5 x6 : Vec Ideal S1536x128 .f32)
    (n : Fin 2) (w : Vec Ideal S1x3072x512 .bf16) (hw : ∀ k q, w (ix3 0 k q) = weight x1 x2 n k q)
    (r q o p : Nat) (hr : r + 256 ≤ 1536) (hq : q = 512 * n.val) (hq' : q + 512 ≤ 1024) (ho : o + 128 ≤ 512) (ho' : o % 128 = 0)
    (hp : p = 512 * n.val + o) (hp' : p + 128 ≤ 1024) (hs : S256x512.Slices ![0, o] S256x128) (x : S256x128.Idx) :
    head ![0, o] hs
      (product (View.readAt (Elt Ideal) arg1.view (Rect.unit (s := S1536x3072) ![r, 0] S256x3072.size (a_inb r hr)).toLoadRect (harg1.unread x0)) w
        (View.readAt (Elt Ideal) arg4.view (Rect.unit (s := S1x1x1024) ![0, 0, q] S1x1x512.size (b_inb q hq')).toLoadRect (harg4.unread x3)))
      (View.readAt (Elt Ideal) arg6.view (Rect.unit (s := S1536x128) ![r, 0] S256x128.size (r_inb r hr)).toLoadRect (harg6.unread x5))
      (View.readAt (Elt Ideal) arg7.view (Rect.unit (s := S1536x128) ![r, 0] S256x128.size (r_inb r hr)).toLoadRect (harg7.unread x6))
      (View.readAt (Elt Ideal) arg5.view (Rect.unit (s := S1x128) ![0, 0] S1x128.size n_inb).toLoadRect (harg5.unread x4)) x
      = block x0 x1 x2 x3 x4 x5 x6 ((Rect.unit (s := S1536x1024) ![r, p] S256x128.size (o_inb r p hr hp')).emb x) := by
  have hx0 : (x 0).val < 256 := (x 0).isLt
  have hx1 : (x 1).val < 128 := (x 1).isLt
  have hn : n.val < 2 := n.isLt
  have hx : x = ix2 (⟨(x 0).val, hx0⟩ : Fin 256) (⟨(x 1).val, hx1⟩ : Fin 128) := by
    funext a
    match a with
    | ⟨0, _⟩ => rfl
    | ⟨1, _⟩ => rfl
  generalize (⟨(x 0).val, hx0⟩ : Fin 256) = i at hx
  generalize (⟨(x 1).val, hx1⟩ : Fin 128) = d at hx
  subst hx
  refine (head_at o ho hs _ _ _ _ i d).trans ?_
  have e0 : ∀ j : Fin 128, product (View.readAt (Elt Ideal) arg1.view (Rect.unit (s := S1536x3072) ![r, 0] S256x3072.size (a_inb r hr)).toLoadRect (harg1.unread x0)) w
        (View.readAt (Elt Ideal) arg4.view (Rect.unit (s := S1x1x1024) ![0, 0, q] S1x1x512.size (b_inb q hq')).toLoadRect (harg4.unread x3))
        (ix2 i (⟨o + j.val, by omega⟩ : Fin 512))
      = proj x0 x1 x2 x3 ⟨r + i.val, by omega⟩ ⟨p + j.val, by omega⟩ := by
    intro j
    refine (product_at _ _ _ i _).trans ?_
    refine congrArg₂ (fun u v : EReal => u + v) (Finset.sum_congr rfl fun k _ => congrArg₂ (fun u v : EReal => u * v) ?_ ?_) ?_
    · refine (harg1.readAt_unread x0 _ _).trans (congrArg x0 (funext fun a => ?_))
      match a with
      | ⟨0, _⟩ => exact Fin.ext (by show r + 1 * i.val = r + i.val; omega)
      | ⟨1, _⟩ => exact Fin.ext (by show 0 + 1 * k.val = k.val; omega)
    · refine (hw k _).trans ?_
      refine congrArg (fun c : Fin 1024 => (x1 (ix2 k c) : EReal) * scaleOf (x2 (ix2 (⟨k.val / 32, by omega⟩ : Fin 96) c))) ?_
      exact Fin.ext (by show 512 * n.val + (o + j.val) = p + j.val; omega)
    · refine (harg4.readAt_unread x3 _ _).trans (congrArg x3 (funext fun a => ?_))
      match a with
      | ⟨0, _⟩ => rfl
      | ⟨1, _⟩ => rfl
      | ⟨2, _⟩ => exact Fin.ext (by show q + 1 * (o + j.val) = p + j.val; omega)
  have e1 : ∀ (m : Memref sig .tc .vmem S1536x128 .f32) (hm : m.IsWhole) (v : Vec Ideal S1536x128 .f32) (j : Fin 128),
      View.readAt (Elt Ideal) m.view (Rect.unit (s := S1536x128) ![r, 0] S256x128.size (r_inb r hr)).toLoadRect (hm.unread v) (ix2 i j)
        = v (ix2 (⟨r + i.val, by omega⟩ : Fin 1536) j) := by
    intro m hm v j
    refine (hm.readAt_unread v _ _).trans (congrArg v (funext fun a => ?_))
    match a with
    | ⟨0, _⟩ => exact Fin.ext (by show r + 1 * i.val = r + i.val; omega)
    | ⟨1, _⟩ => exact Fin.ext (by show 0 + 1 * j.val = j.val; omega)
  have e2 : ∀ j : Fin 128,
      View.readAt (Elt Ideal) arg5.view (Rect.unit (s := S1x128) ![0, 0] S1x128.size n_inb).toLoadRect (harg5.unread x4) (ix2 0 j)
        = x4 (ix2 0 j) := by
    intro j
    refine (harg5.readAt_unread x4 _ _).trans (congrArg x4 (funext fun a => ?_))
    match a with
    | ⟨0, _⟩ => rfl
    | ⟨1, _⟩ => exact Fin.ext (by show 0 + 1 * j.val = j.val; omega)
  have key : block x0 x1 x2 x3 x4 x5 x6 ((Rect.unit (s := S1536x1024) ![r, p] S256x128.size (o_inb r p hr hp')).emb (ix2 i d))
      = entry x0 x1 x2 x3 x4 x5 x6 ⟨r + i.val, by omega⟩ ⟨p + d.val, by omega⟩ :=
    congrArg₂ (entry x0 x1 x2 x3 x4 x5 x6) (Fin.ext (by show r + 1 * i.val = r + i.val; omega))
      (Fin.ext (by show p + 1 * d.val = p + d.val; omega))
  rw [key]
  unfold entry
  have f0 : ∀ j : Fin 128, (⟨128 * ((p + d.val) / 128) + j.val, by omega⟩ : Fin 1024) = ⟨p + j.val, by omega⟩ :=
    fun j => Fin.ext (by show 128 * ((p + d.val) / 128) + j.val = p + j.val; omega)
  have f1 : (⟨(p + d.val) % 128, by omega⟩ : Fin 128) = d := Fin.ext (by show (p + d.val) % 128 = d.val; omega)
  simp only [f0, f1, e0, e1, e2]

end Cert.ProjQIdeal.Block

end
-- ==== Proof.QOut.lean ====
/-
  The two outputs of one grid point of the projection kernel: the block of columns, and the same block with its heads apart.
-/
module

public import proofs.«01_k».proof.Proof.QBlock

@[expose] public section

set_option maxRecDepth 16384

noncomputable section

namespace Cert.ProjQIdeal.Block

open Cert.ProjQIdeal Cert.ProjQIdeal.Gen Idealize.ShloMosaic Idealize.ShloMosaic.TcCoe Idealize.SL.Sem
open Cert.Scale Cert.Rotary Cert.ProjQIdeal.Pieces Cert.ProjQIdeal.Weights

variable (c : Dev nD) (arg1 : Memref sig .tc .vmem S1536x3072 .bf16) (harg1 : arg1.IsWhole)
  (arg2 : Memref sig .tc .vmem S3072x1024 .fp8e4m3) (harg2 : arg2.IsWhole) (arg3 : Memref sig .tc .vmem S96x1024 .i8) (harg3 : arg3.IsWhole)
  (arg4 : Memref sig .tc .vmem S1x1x1024 .f32) (harg4 : arg4.IsWhole) (arg5 : Memref sig .tc .vmem S1x128 .f32) (harg5 : arg5.IsWhole)
  (arg6 : Memref sig .tc .vmem S1536x128 .f32) (harg6 : arg6.IsWhole) (arg7 : Memref sig .tc .vmem S1536x128 .f32) (harg7 : arg7.IsWhole)
  (arg8 : Memref sig .tc .vmem S1536x8x128 .bf16) (harg8 : arg8.IsWhole) (arg9 : Memref sig .tc .vmem S1536x1024 .bf16) (harg9 : arg9.IsWhole)
  (arg10 : Memref sig .tc .vmem S2x3072x512 .bf16) (harg10 : arg10.IsWhole) (arg11 : Memref sig .tc .vmem S2x96x512 .i32) (harg11 : arg11.IsWhole)
  (x0 : Vec Ideal S1536x3072 .bf16) (x1 : Vec Ideal S3072x1024 .fp8e4m3) (x2 : Vec Ideal S96x1024 .i8)
  (x3 : Vec Ideal S1x1x1024 .f32) (x4 : Vec Ideal S1x128 .f32) (x5 x6 : Vec Ideal S1536x128 .f32)

/-- The first half of the widened weights, as the products read it. -/
def firstHalf : Vec Ideal S1x3072x512 .bf16 :=
  arg10.view.readCov (kernelRun0_A.sl.HS0_96 (F := Ideal) c arg2 harg2 arg3 harg3 arg11 x1 x2)
    (Rect.unit (s := S2x3072x512) ![0, 0, 0] S1x3072x512.size inb_S2x3072x512_S1x3072x512_0_0_0).toLoadRect

/-- The second half of the widened weights, as the products read it. -/
def secondHalf : Vec Ideal S1x3072x512 .bf16 :=
  arg10.view.readCov (kernelRun0_A.sl.HS0_192 (F := Ideal) c arg2 harg2 arg3 harg3 arg11 x1 x2)
    (Rect.unit (s := S2x3072x512) ![1, 0, 0] S1x3072x512.size inb_S2x3072x512_S1x3072x512_1_0_0).toLoadRect

theorem firstHalf_at (k : Fin 3072) (q : Fin 512) :
    firstHalf c arg2 harg2 arg3 harg3 arg10 arg11 x1 x2 (ix3 0 k q) = weight x1 x2 0 k q := by
  unfold firstHalf
  rw [View.readCov_eq_canon']
  have e : (Rect.unit (s := S2x3072x512) ![0, 0, 0] S1x3072x512.size inb_S2x3072x512_S1x3072x512_0_0_0).toLoadRect.idx (ix3 0 k q)
      = ix3 0 k q := by
    funext a
    match a with
    | ⟨0, _⟩ => rfl
    | ⟨1, _⟩ => exact Fin.ext (by show 0 + 1 * k.val = k.val; omega)
    | ⟨2, _⟩ => exact Fin.ext (by show 0 + 1 * q.val = q.val; omega)
  refine (congrArg (View.canon _) e).trans ?_
  exact View.canon_append_of_piecesOf (weights x1 x2) [] _ (pieces_first c arg2 harg2 arg3 harg3 arg11 x1 x2) _
    (cover_first c arg2 harg2 arg3 harg3 arg11 x1 x2 k q)

theorem secondHalf_at (k : Fin 3072) (q : Fin 512) :
    secondHalf c arg2 harg2 arg3 harg3 arg10 arg11 x1 x2 (ix3 0 k q) = weight x1 x2 1 k q := by
  unfold secondHalf
  rw [View.readCov_eq_canon']
  have e : (Rect.unit (s := S2x3072x512) ![1, 0, 0] S1x3072x512.size inb_S2x3072x512_S1x3072x512_1_0_0).toLoadRect.idx (ix3 0 k q)
      = ix3 1 k q := by
    funext a
    match a with
    | ⟨0, _⟩ => rfl
    | ⟨1, _⟩ => exact Fin.ext (by show 0 + 1 * k.val = k.val; omega)
    | ⟨2, _⟩ => exact Fin.ext (by show 0 + 1 * q.val = q.val; omega)
  refine (congrArg (View.canon _) e).trans ?_
  exact View.canon_append_of_piecesOf (weights x1 x2) [] _ (pieces_both c arg2 harg2 arg3 harg3 arg11 x1 x2) _
    (cover_both c arg2 harg2 arg3 harg3 arg11 x1 x2 _)

set_option maxHeartbeats 8000000 in
/-- Every store of a head holds the block's columns there. -/
theorem pieces : View.PiecesOf (block x0 x1 x2 x3 x4 x5 x6)
    (kernelRun0_A.sl.H8_48 c arg1 harg1 arg2 harg2 arg3 harg3 arg4 harg4 arg5 harg5 arg6 harg6 arg7 harg7 arg10 arg11 x0 x1 x2 x3 x4 x5 x6) := by
  unfold kernelRun0_A.sl.H8_48
  have first := firstHalf_at c arg2 harg2 arg3 harg3 arg10 arg11 x1 x2
  have second := secondHalf_at c arg2 harg2 arg3 harg3 arg10 arg11 x1 x2
  refine And.intro (fun x => piece arg1 harg1 arg4 harg4 arg5 harg5 arg6 harg6 arg7 harg7 x0 x1 x2 x3 x4 x5 x6 1 _ second
    1280 512 384 896 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 1 _ second
    1280 512 256 768 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 1 _ second
    1280 512 128 640 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 1 _ second
    1280 512 0 512 (by decide) rfl (by decide) (by decide) rfl rfl (by decide) slices_S256x512_o0_0_S256x128 x) ?_
  refine And.intro (fun x => piece arg1 harg1 arg4 harg4 arg5 harg5 arg6 harg6 arg7 harg7 x0 x1 x2 x3 x4 x5 x6 1 _ second
    1024 512 384 896 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 1 _ second
    1024 512 256 768 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 1 _ second
    1024 512 128 640 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 1 _ second
    1024 512 0 512 (by decide) rfl (by decide) (by decide) rfl rfl (by decide) slices_S256x512_o0_0_S256x128 x) ?_
  refine And.intro (fun x => piece arg1 harg1 arg4 harg4 arg5 harg5 arg6 harg6 arg7 harg7 x0 x1 x2 x3 x4 x5 x6 1 _ second
    768 512 384 896 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 1 _ second
    768 512 256 768 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 1 _ second
    768 512 128 640 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 1 _ second
    768 512 0 512 (by decide) rfl (by decide) (by decide) rfl rfl (by decide) slices_S256x512_o0_0_S256x128 x) ?_
  refine And.intro (fun x => piece arg1 harg1 arg4 harg4 arg5 harg5 arg6 harg6 arg7 harg7 x0 x1 x2 x3 x4 x5 x6 1 _ second
    512 512 384 896 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 1 _ second
    512 512 256 768 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 1 _ second
    512 512 128 640 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 1 _ second
    512 512 0 512 (by decide) rfl (by decide) (by decide) rfl rfl (by decide) slices_S256x512_o0_0_S256x128 x) ?_
  refine And.intro (fun x => piece arg1 harg1 arg4 harg4 arg5 harg5 arg6 harg6 arg7 harg7 x0 x1 x2 x3 x4 x5 x6 1 _ second
    256 512 384 896 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 1 _ second
    256 512 256 768 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 1 _ second
    256 512 128 640 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 1 _ second
    256 512 0 512 (by decide) rfl (by decide) (by decide) rfl rfl (by decide) slices_S256x512_o0_0_S256x128 x) ?_
  refine And.intro (fun x => piece arg1 harg1 arg4 harg4 arg5 harg5 arg6 harg6 arg7 harg7 x0 x1 x2 x3 x4 x5 x6 1 _ second
    0 512 384 896 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 1 _ second
    0 512 256 768 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 1 _ second
    0 512 128 640 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 1 _ second
    0 512 0 512 (by decide) rfl (by decide) (by decide) rfl rfl (by decide) slices_S256x512_o0_0_S256x128 x) ?_
  refine And.intro (fun x => piece arg1 harg1 arg4 harg4 arg5 harg5 arg6 harg6 arg7 harg7 x0 x1 x2 x3 x4 x5 x6 0 _ first
    1280 0 384 384 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 0 _ first
    1280 0 256 256 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 0 _ first
    1280 0 128 128 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 0 _ first
    1280 0 0 0 (by decide) rfl (by decide) (by decide) rfl rfl (by decide) slices_S256x512_o0_0_S256x128 x) ?_
  refine And.intro (fun x => piece arg1 harg1 arg4 harg4 arg5 harg5 arg6 harg6 arg7 harg7 x0 x1 x2 x3 x4 x5 x6 0 _ first
    1024 0 384 384 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 0 _ first
    1024 0 256 256 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 0 _ first
    1024 0 128 128 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 0 _ first
    1024 0 0 0 (by decide) rfl (by decide) (by decide) rfl rfl (by decide) slices_S256x512_o0_0_S256x128 x) ?_
  refine And.intro (fun x => piece arg1 harg1 arg4 harg4 arg5 harg5 arg6 harg6 arg7 harg7 x0 x1 x2 x3 x4 x5 x6 0 _ first
    768 0 384 384 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 0 _ first
    768 0 256 256 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 0 _ first
    768 0 128 128 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 0 _ first
    768 0 0 0 (by decide) rfl (by decide) (by decide) rfl rfl (by decide) slices_S256x512_o0_0_S256x128 x) ?_
  refine And.intro (fun x => piece arg1 harg1 arg4 harg4 arg5 harg5 arg6 harg6 arg7 harg7 x0 x1 x2 x3 x4 x5 x6 0 _ first
    512 0 384 384 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 0 _ first
    512 0 256 256 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 0 _ first
    512 0 128 128 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 0 _ first
    512 0 0 0 (by decide) rfl (by decide) (by decide) rfl rfl (by decide) slices_S256x512_o0_0_S256x128 x) ?_
  refine And.intro (fun x => piece arg1 harg1 arg4 harg4 arg5 harg5 arg6 harg6 arg7 harg7 x0 x1 x2 x3 x4 x5 x6 0 _ first
    256 0 384 384 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 0 _ first
    256 0 256 256 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 0 _ first
    256 0 128 128 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 0 _ first
    256 0 0 0 (by decide) rfl (by decide) (by decide) rfl rfl (by decide) slices_S256x512_o0_0_S256x128 x) ?_
  refine And.intro (fun x => piece arg1 harg1 arg4 harg4 arg5 harg5 arg6 harg6 arg7 harg7 x0 x1 x2 x3 x4 x5 x6 0 _ first
    0 0 384 384 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 0 _ first
    0 0 256 256 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 0 _ first
    0 0 128 128 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 0 _ first
    0 0 0 0 (by decide) rfl (by decide) (by decide) rfl rfl (by decide) slices_S256x512_o0_0_S256x128 x) ?_
  exact trivial

/-- The flat output of one point is the block. -/
theorem flat_out (i : grid0.Coords) :
    out0_A_8 (F := Ideal) c i arg1 harg1 arg2 harg2 arg3 harg3 arg4 harg4 arg5 harg5 arg6 harg6 arg7 harg7 arg8 harg8 arg9 harg9 arg10 harg10
      arg11 harg11 x0 x1 x2 x3 x4 x5 x6 = block x0 x1 x2 x3 x4 x5 x6 := by
  funext y
  unfold out0_A_8
  rw [View.read_writes_junk_eq_canon]
  · exact View.canon_append_of_piecesOf (block x0 x1 x2 x3 x4 x5 x6) [] _
      (pieces c arg1 harg1 arg2 harg2 arg3 harg3 arg4 harg4 arg5 harg5 arg6 harg6 arg7 harg7 arg10 arg11 x0 x1 x2 x3 x4 x5 x6) y
      (cover0_A_8 c i arg1 harg1 arg2 harg2 arg3 harg3 arg4 harg4 arg5 harg5 arg6 harg6 arg7 harg7 arg8 harg8 arg9 harg9 arg10 harg10
        arg11 harg11 x0 x1 x2 x3 x4 x5 x6 y)

theorem pay_at (v : Vec Ideal S1536x1024 .bf16) (r : Fin 1536) (h : Fin 8) (d : Fin 128) :
    shapeCast S1536x8x128 (shapeCast S1536x1024 v shapeCasts_S1536x1024_S1536x1024) shapeCasts_S1536x1024_S1536x8x128 (ix3 r h d) = v (ix2 r (⟨128 * h.val + d.val, by omega⟩ : Fin 1024)) := by
  pointwise
  exact congrArg (fun q => v (ix2 r q)) (Fin.ext (by show h.val * 128 + d.val = 128 * h.val + d.val; omega))

theorem read_at (y : S1536x1024.Idx) :
    arg9.view.readCov (kernelRun0_A.sl.H8_48 c arg1 harg1 arg2 harg2 arg3 harg3 arg4 harg4 arg5 harg5 arg6 harg6 arg7 harg7 arg10 arg11 x0 x1
      x2 x3 x4 x5 x6) (Rect.unit (s := S1536x1024) ![0, 0] S1536x1024.size inb_S1536x1024_S1536x1024_0_0).toLoadRect y
      = block x0 x1 x2 x3 x4 x5 x6 y := by
  rw [View.readCov_eq_canon']
  have e : (Rect.unit (s := S1536x1024) ![0, 0] S1536x1024.size inb_S1536x1024_S1536x1024_0_0).toLoadRect.idx y = y := by
    funext a
    match a with
    | ⟨0, _⟩ => exact Fin.ext (by show 0 + 1 * (y 0).val = (y 0).val; omega)
    | ⟨1, _⟩ => exact Fin.ext (by show 0 + 1 * (y 1).val = (y 1).val; omega)
  refine (congrArg (View.canon _) e).trans ?_
  exact View.canon_append_of_piecesOf (block x0 x1 x2 x3 x4 x5 x6) []
    (kernelRun0_A.sl.H8_48 (F := Ideal) c arg1 harg1 arg2 harg2 arg3 harg3 arg4 harg4 arg5 harg5 arg6 harg6 arg7 harg7 arg10 arg11 x0 x1 x2 x3 x4 x5 x6)
    (pieces c arg1 harg1 arg2 harg2 arg3 harg3 arg4 harg4 arg5 harg5 arg6 harg6 arg7 harg7 arg10 arg11 x0 x1 x2 x3 x4 x5 x6) y
    (View.cover_of_tiledL (s := S1536x1024) (Val := Elt Ideal) _ ![256, 128] (by sl_kernel_rfl) y)

/-- The rotated output of one point is the block with its heads apart. -/
theorem rot_out (i : grid0.Coords) (r : Fin 1536) (h : Fin 8) (d : Fin 128) :
    out0_A_7 (F := Ideal) c i arg1 harg1 arg2 harg2 arg3 harg3 arg4 harg4 arg5 harg5 arg6 harg6 arg7 harg7 arg8 harg8 arg9 harg9 arg10 harg10
      arg11 harg11 x0 x1 x2 x3 x4 x5 x6 (ix3 r h d) = entry x0 x1 x2 x3 x4 x5 x6 r ⟨128 * h.val + d.val, by omega⟩ := by
  unfold out0_A_7
  rw [View.read_writes_junk_eq_canon]
  have e : (ix3 r h d : S1536x8x128.Idx)
      = (Rect.unit (s := S1536x8x128) ![0, 0, 0] S1536x8x128.size inb_S1536x8x128_S1536x8x128_0_0_0).emb (ix3 r h d) := by
    funext a
    match a with
    | ⟨0, _⟩ => exact Fin.ext (by show r.val = 0 + 1 * r.val; omega)
    | ⟨1, _⟩ => exact Fin.ext (by show h.val = 0 + 1 * h.val; omega)
    | ⟨2, _⟩ => exact Fin.ext (by show d.val = 0 + 1 * d.val; omega)
  rw [e]
  refine (View.canon_cons_emb (Rect.unit (s := S1536x8x128) ![0, 0, 0] S1536x8x128.size inb_S1536x8x128_S1536x8x128_0_0_0) _ [] _).trans ?_
  unfold k0_pay398
  refine (pay_at _ r h d).trans ?_
  exact read_at c arg1 harg1 arg2 harg2 arg3 harg3 arg4 harg4 arg5 harg5 arg6 harg6 arg7 harg7 arg9 arg10 arg11 x0 x1 x2 x3 x4 x5 x6 _

end Cert.ProjQIdeal.Block

end
-- ==== Proof.Spec.lean ====
/-
  The projection with its heads normalised and rotated, entry by entry, as a function of the arguments' entries.
-/
module

public import proofs.«01_k».proof.Proof.Scale
public import proofs.«01_k».proof.Proof.Rotary

@[expose] public section

set_option maxRecDepth 16384

noncomputable section

namespace Cert.Spec

open Idealize.ShloMosaic Idealize.ShloMosaic.TcCoe Idealize.SL.Sem
open Cert.Scale Cert.Rotary

/-- The columns of the projection's weights that one projection uses: 3072 of the 21504, from `base` on. -/
def column (base : Nat) (hbase : base + 3072 ≤ 21504) (q : Fin 3072) : Fin 21504 := ⟨base + q.val, by omega⟩

variable (base : Nat) (hbase : base + 3072 ≤ 21504)
  (a0 : (⟨2, ![1536, 3072]⟩ : Shape).Idx → EReal) (a1 : (⟨2, ![3072, 21504]⟩ : Shape).Idx → EReal)
  (a2 : (⟨2, ![96, 21504]⟩ : Shape).Idx → BitVec 8) (a3 : (⟨1, ![21504]⟩ : Shape).Idx → EReal)
  (a4 : (⟨1, ![128]⟩ : Shape).Idx → EReal) (a5 a6 : (⟨2, ![1536, 128]⟩ : Shape).Idx → EReal)

/-- Entry `(i, q)` of the projection: the row times the column of scaled weights, plus the column's bias. -/
def projAt (i : Fin 1536) (q : Fin 3072) : EReal :=
  (∑ k : Fin 3072, a0 (ix2 i k)
      * (a1 (ix2 k (column base hbase q)) * scaleOf (a2 (ix2 (⟨k.val / 32, by omega⟩ : Fin 96) (column base hbase q)))))
    + a3 (ix1 (column base hbase q))

/-- Column `d` of head `h` of row `i`, normalised and rotated. -/
def headAt (i : Fin 1536) (h : Fin 24) (d : Fin 128) : EReal :=
  normRot (fun j => projAt base hbase a0 a1 a2 a3 i ⟨128 * h.val + j.val, by omega⟩) (fun j => a4 (ix1 j)) (fun j => a5 (ix2 i j))
    (fun j => a6 (ix2 i j)) d

/-- The result with its heads apart. -/
def rot (y : (⟨3, ![1536, 24, 128]⟩ : Shape).Idx) : EReal := headAt base hbase a0 a1 a2 a3 a4 a5 a6 (y 0) (y 1) (y 2)

/-- The result as rows of 3072 columns. -/
def flat (y : (⟨2, ![1536, 3072]⟩ : Shape).Idx) : EReal :=
  headAt base hbase a0 a1 a2 a3 a4 a5 a6 (y 0) ⟨(y 1).val / 128, by have h : (y 1).val < 3072 := (y 1).isLt; omega⟩
    ⟨(y 1).val % 128, by omega⟩

end Cert.Spec

end
-- ==== Proof.QArray.lean ====
/-
  The projection kernel's results after the whole grid, as functions of the arguments.
-/
module

public import proofs.«01_k».proof.Proof.Gen.ProjQIdeal.Value
public import proofs.«01_k».proof.Proof.QOut
public import proofs.«01_k».proof.Proof.Spec

@[expose] public section

set_option maxRecDepth 16384

noncomputable section

namespace Cert.ProjQIdeal.Array

open Cert.ProjQIdeal Cert.ProjQIdeal.Gen Idealize.ShloMosaic Idealize.ShloMosaic.TcCoe Idealize.SL.Sem
open Cert.Scale Cert.Rotary Cert.Spec Cert.ProjQIdeal.Block

/-- Column 0 of the weights this projection uses. -/
abbrev base : Nat := 0

theorem base_le : base + 3072 ≤ 21504 := by decide

/-- A block's entry is the whole result's, when the windows hold block `t` of the weights, scales and biases. -/
theorem entry_eq (a0 : Vec Ideal S1536x3072 .bf16) (a1 : Vec Ideal S3072x21504 .fp8e4m3) (a2 : Vec Ideal S96x21504 .i8)
    (a3 : Vec Ideal S21504 .f32) (a4 : Vec Ideal S128 .f32) (a5 a6 : Vec Ideal S1536x128 .f32)
    (x1 : Vec Ideal S3072x1024 .fp8e4m3) (x2 : Vec Ideal S96x1024 .i8) (x3 : Vec Ideal S1x1x1024 .f32) (x4 : Vec Ideal S1x128 .f32)
    (t : Nat) (ht : t < 3)
    (h1 : ∀ (k : Fin 3072) (q : Fin 1024), x1 (ix2 k q) = a1 (ix2 k (column base base_le ⟨1024 * t + q.val, by omega⟩)))
    (h2 : ∀ (k : Fin 96) (q : Fin 1024), x2 (ix2 k q) = a2 (ix2 k (column base base_le ⟨1024 * t + q.val, by omega⟩)))
    (h3 : ∀ q : Fin 1024, x3 (ix3 0 0 q) = a3 (ix1 (column base base_le ⟨1024 * t + q.val, by omega⟩)))
    (h4 : ∀ j : Fin 128, x4 (ix2 0 j) = a4 (ix1 j)) (i : Fin 1536) (q : Fin 1024) (h : Fin 24) (d : Fin 128)
    (hh : h.val = 8 * t + q.val / 128) (hd : d.val = q.val % 128) :
    entry a0 x1 x2 x3 x4 a5 a6 i q = headAt base base_le a0 a1 a2 a3 a4 a5 a6 i h d := by
  have e : ∀ j : Fin 128, proj a0 x1 x2 x3 i ⟨128 * (q.val / 128) + j.val, by omega⟩
      = projAt base base_le a0 a1 a2 a3 i ⟨128 * h.val + j.val, by omega⟩ := by
    intro j
    have f : (⟨1024 * t + (128 * (q.val / 128) + j.val), by omega⟩ : Fin 3072) = ⟨128 * h.val + j.val, by omega⟩ :=
      Fin.ext (by show 1024 * t + (128 * (q.val / 128) + j.val) = 128 * h.val + j.val; omega)
    unfold proj projAt
    simp only [h1, h2, h3, f]
  unfold entry headAt
  simp only [e, h4]
  exact congrArg _ (Fin.ext (by show q.val % 128 = d.val; omega))

variable (m : (ℓ : Loc nD τ sig) → Buf (Elt Ideal) ℓ) (ρ : Dev nD → PrngReg)

theorem bias_at (b : Vec Ideal S21504 .f32) (q : Fin 21504) : shapeCast S1x1x21504 b shapeCasts_S21504_S1x1x21504 (ix3 0 0 q) = b (ix1 q) := by
  pointwise

theorem norm_at (b : Vec Ideal S128 .f32) (q : Fin 128) : shapeCast S1x128 b shapeCasts_S128_S1x128 (ix2 0 q) = b (ix1 q) := by
  pointwise

/-- The bias, as the kernel's windows take it. -/
theorem bias_row (c : Dev nD) (q : Fin 21504) :
    (V m c main_v0 : Vec Ideal S1x1x21504 .f32) (ix3 0 0 q) = (m ((c : Thread nD τ).loc main_arg3) : Vec Ideal S21504 .f32) (ix1 q) := by
  have e : V m c main_v0 = (shapeCast S1x1x21504 (m ((c : Thread nD τ).loc main_arg3) : Vec Ideal S21504 .f32) shapeCasts_S21504_S1x1x21504
      : Vec Ideal S1x1x21504 .f32) := by
    show StableHlo.after hostOps0 _ (Proc.devRef .tc main_v0) = _
    after_results
    rfl
  exact (congrFun e _).trans (bias_at _ q)

/-- The heads' weights, as the kernel's window takes them. -/
theorem norm_row (c : Dev nD) (q : Fin 128) :
    (V m c main_v1 : Vec Ideal S1x128 .f32) (ix2 0 q) = (m ((c : Thread nD τ).loc main_arg4) : Vec Ideal S128 .f32) (ix1 q) := by
  have e : V m c main_v1 = (shapeCast S1x128 (m ((c : Thread nD τ).loc main_arg4) : Vec Ideal S128 .f32) shapeCasts_S128_S1x128
      : Vec Ideal S1x128 .f32) := by
    show StableHlo.after hostOps0 _ (Proc.devRef .tc main_v1) = _
    after_results
    rfl
  exact (congrFun e _).trans (norm_at _ q)

theorem points (t : Fin cfg0.N) : t.val < 3 := t.isLt

theorem iblk0_eq (c : Dev nD) (t : Fin cfg0.N) : iblk m c 0 t = V m c main_arg0 := by
  have e := (by decide +kernel : ∀ t : Fin grid0.N, win0_0.index t (0 : Fin 2) = 0 ∧ win0_0.index t (1 : Fin 2) = 0) t
  funext j
  show V m c main_arg0 (((cfg0.win 0).blk t).view.emb j) = V m c main_arg0 j
  refine congrArg (V m c main_arg0) (funext fun a => Fin.ext ?_)
  match a with
  | ⟨0, _⟩ => have := e.1; show win0_0.index t (0 : Fin 2) * 1536 + 1 * (j 0).val = (j 0).val; omega
  | ⟨1, _⟩ => have := e.2; show win0_0.index t (1 : Fin 2) * 3072 + 1 * (j 1).val = (j 1).val; omega

theorem iblk4_eq (c : Dev nD) (t : Fin cfg0.N) : iblk m c 4 t = V m c main_v1 := by
  have e := (by decide +kernel : ∀ t : Fin grid0.N, win0_4.index t (0 : Fin 2) = 0 ∧ win0_4.index t (1 : Fin 2) = 0) t
  funext j
  show V m c main_v1 (((cfg0.win 4).blk t).view.emb j) = V m c main_v1 j
  refine congrArg (V m c main_v1) (funext fun a => Fin.ext ?_)
  match a with
  | ⟨0, _⟩ => have := e.1; show win0_4.index t (0 : Fin 2) * 1 + 1 * (j 0).val = (j 0).val; omega
  | ⟨1, _⟩ => have := e.2; show win0_4.index t (1 : Fin 2) * 128 + 1 * (j 1).val = (j 1).val; omega

theorem iblk5_eq (c : Dev nD) (t : Fin cfg0.N) : iblk m c 5 t = V m c main_arg5 := by
  have e := (by decide +kernel : ∀ t : Fin grid0.N, win0_5.index t (0 : Fin 2) = 0 ∧ win0_5.index t (1 : Fin 2) = 0) t
  funext j
  show V m c main_arg5 (((cfg0.win 5).blk t).view.emb j) = V m c main_arg5 j
  refine congrArg (V m c main_arg5) (funext fun a => Fin.ext ?_)
  match a with
  | ⟨0, _⟩ => have := e.1; show win0_5.index t (0 : Fin 2) * 1536 + 1 * (j 0).val = (j 0).val; omega
  | ⟨1, _⟩ => have := e.2; show win0_5.index t (1 : Fin 2) * 128 + 1 * (j 1).val = (j 1).val; omega

theorem iblk6_eq (c : Dev nD) (t : Fin cfg0.N) : iblk m c 6 t = V m c main_arg6 := by
  have e := (by decide +kernel : ∀ t : Fin grid0.N, win0_6.index t (0 : Fin 2) = 0 ∧ win0_6.index t (1 : Fin 2) = 0) t
  funext j
  show V m c main_arg6 (((cfg0.win 6).blk t).view.emb j) = V m c main_arg6 j
  refine congrArg (V m c main_arg6) (funext fun a => Fin.ext ?_)
  match a with
  | ⟨0, _⟩ => have := e.1; show win0_6.index t (0 : Fin 2) * 1536 + 1 * (j 0).val = (j 0).val; omega
  | ⟨1, _⟩ => have := e.2; show win0_6.index t (1 : Fin 2) * 128 + 1 * (j 1).val = (j 1).val; omega

/-- Block `t` of the weights. -/
theorem iblk1_at (c : Dev nD) (t : Fin cfg0.N) (k : Fin 3072) (q : Fin 1024) :
    iblk m c 1 t (ix2 k q) = V m c main_arg1 (ix2 k (column base base_le ⟨1024 * t.val + q.val, by have := points t; omega⟩)) := by
  have e := (by decide +kernel : ∀ t : Fin grid0.N, win0_1.index t (0 : Fin 2) = 0 ∧ win0_1.index t (1 : Fin 2) * 1024 = base + 1024 * t.val) t
  show V m c main_arg1 (((cfg0.win 1).blk t).view.emb (ix2 k q)) = _
  refine congrArg (V m c main_arg1) (funext fun a => Fin.ext ?_)
  match a with
  | ⟨0, _⟩ => have := e.1; show win0_1.index t (0 : Fin 2) * 3072 + 1 * k.val = k.val; omega
  | ⟨1, _⟩ => have := e.2; show win0_1.index t (1 : Fin 2) * 1024 + 1 * q.val = base + (1024 * t.val + q.val); omega

/-- Block `t` of the scales. -/
theorem iblk2_at (c : Dev nD) (t : Fin cfg0.N) (k : Fin 96) (q : Fin 1024) :
    iblk m c 2 t (ix2 k q) = V m c main_arg2 (ix2 k (column base base_le ⟨1024 * t.val + q.val, by have := points t; omega⟩)) := by
  have e := (by decide +kernel : ∀ t : Fin grid0.N, win0_2.index t (0 : Fin 2) = 0 ∧ win0_2.index t (1 : Fin 2) * 1024 = base + 1024 * t.val) t
  show V m c main_arg2 (((cfg0.win 2).blk t).view.emb (ix2 k q)) = _
  refine congrArg (V m c main_arg2) (funext fun a => Fin.ext ?_)
  match a with
  | ⟨0, _⟩ => have := e.1; show win0_2.index t (0 : Fin 2) * 96 + 1 * k.val = k.val; omega
  | ⟨1, _⟩ => have := e.2; show win0_2.index t (1 : Fin 2) * 1024 + 1 * q.val = base + (1024 * t.val + q.val); omega

/-- Block `t` of the biases. -/
theorem iblk3_at (c : Dev nD) (t : Fin cfg0.N) (q : Fin 1024) :
    iblk m c 3 t (ix3 0 0 q) = V m c main_v0 (ix3 0 0 (column base base_le ⟨1024 * t.val + q.val, by have := points t; omega⟩)) := by
  have e := (by decide +kernel : ∀ t : Fin grid0.N, win0_3.index t (0 : Fin 3) = 0 ∧ win0_3.index t (1 : Fin 3) = 0
    ∧ win0_3.index t (2 : Fin 3) * 1024 = base + 1024 * t.val) t
  show V m c main_v0 (((cfg0.win 3).blk t).view.emb (ix3 0 0 q)) = _
  refine congrArg (V m c main_v0) (funext fun a => Fin.ext ?_)
  match a with
  | ⟨0, _⟩ => have := e.1; show win0_3.index t (0 : Fin 3) * 1 + 1 * 0 = 0; omega
  | ⟨1, _⟩ => have := e.2.1; show win0_3.index t (1 : Fin 3) * 1 + 1 * 0 = 0; omega
  | ⟨2, _⟩ => have := e.2.2; show win0_3.index t (2 : Fin 3) * 1024 + 1 * q.val = base + (1024 * t.val + q.val); omega

/-- What one point leaves at row `i` and column `q` of its block, in terms of the arguments. -/
theorem point_entry (c : Dev nD) (t : Fin cfg0.N) (i : Fin 1536) (q : Fin 1024) (h : Fin 24) (d : Fin 128)
    (hh : h.val = 8 * t.val + q.val / 128) (hd : d.val = q.val % 128) :
    entry (iblk m c 0 t) (iblk m c 1 t) (iblk m c 2 t) (iblk m c 3 t) (iblk m c 4 t) (iblk m c 5 t) (iblk m c 6 t) i q
      = headAt base base_le (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) i h d := by
  rw [iblk0_eq, iblk4_eq, iblk5_eq, iblk6_eq, V_main_arg0, V_main_arg5, V_main_arg6]
  refine entry_eq _ _ _ _ _ _ _ _ _ _ _ t.val (points t) (fun k q => ?_) (fun k q => ?_) (fun q => ?_) (fun j => norm_row m c j) i q h d hh hd
  · exact (iblk1_at m c t k q).trans (congrFun (V_main_arg1 m c) _)
  · exact (iblk2_at m c t k q).trans (congrFun (V_main_arg2 m c) _)
  · exact (iblk3_at m c t q).trans (bias_row m c _)

theorem emb7 (t : Fin cfg0.N) (i : Fin 1536) (h : Fin 8) (d : Fin 128) :
    ((cfg0.win 7).blk t).view.emb (ix3 i h d) = (ix3 i (⟨8 * t.val + h.val, by have := points t; omega⟩ : Fin 24) d : S1536x24x128.Idx) := by
  have e := (by decide +kernel : ∀ t : Fin grid0.N, win0_7.index t (0 : Fin 3) = 0 ∧ win0_7.index t (1 : Fin 3) = t.val
    ∧ win0_7.index t (2 : Fin 3) = 0) t
  refine funext fun a => Fin.ext ?_
  match a with
  | ⟨0, _⟩ => have := e.1; show win0_7.index t (0 : Fin 3) * 1536 + 1 * i.val = i.val; omega
  | ⟨1, _⟩ => have := e.2.1; show win0_7.index t (1 : Fin 3) * 8 + 1 * h.val = 8 * t.val + h.val; omega
  | ⟨2, _⟩ => have := e.2.2; show win0_7.index t (2 : Fin 3) * 128 + 1 * d.val = d.val; omega

theorem emb8 (t : Fin cfg0.N) (i : Fin 1536) (q : Fin 1024) :
    ((cfg0.win 8).blk t).view.emb (ix2 i q) = (ix2 i (⟨1024 * t.val + q.val, by have := points t; omega⟩ : Fin 3072) : S1536x3072.Idx) := by
  have e := (by decide +kernel : ∀ t : Fin grid0.N, win0_8.index t (0 : Fin 2) = 0 ∧ win0_8.index t (1 : Fin 2) = t.val) t
  refine funext fun a => Fin.ext ?_
  match a with
  | ⟨0, _⟩ => have := e.1; show win0_8.index t (0 : Fin 2) * 1536 + 1 * i.val = i.val; omega
  | ⟨1, _⟩ => have := e.2; show win0_8.index t (1 : Fin 2) * 1024 + 1 * q.val = 1024 * t.val + q.val; omega

/-- The rotated result of the arguments. -/
abbrev rotOf (c : Dev nD) : Vec Ideal S1536x24x128 .bf16 :=
  rot base base_le (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))

/-- The flat result of the arguments. -/
abbrev flatOf (c : Dev nD) : Vec Ideal S1536x3072 .bf16 :=
  flat base base_le (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))

theorem read7 (t : Fin cfg0.N) (X : S1536x8x128.Idx → EReal) (G : Vec Ideal S1536x24x128 .bf16)
    (h : ∀ (i : Fin 1536) (h : Fin 8) (d : Fin 128), X (ix3 i h d) = G (ix3 i (⟨8 * t.val + h.val, by have := points t; omega⟩ : Fin 24) d)) :
    (cfg0.win 7).cut (grid0.coords t) X = ((cfg0.win 7).blk t).view.read (Elt Ideal) G := by
  funext j
  have e : j = ix3 (j 0) (j 1) (j 2) := funext fun a => by
    match a with
    | ⟨0, _⟩ => rfl
    | ⟨1, _⟩ => rfl
    | ⟨2, _⟩ => rfl
  rw [e]
  show X (ix3 (j 0) (j 1) (j 2)) = G (((cfg0.win 7).blk t).view.emb (ix3 (j 0) (j 1) (j 2)))
  exact (h (j 0) (j 1) (j 2)).trans (congrArg G (emb7 t (j 0) (j 1) (j 2)).symm)

theorem read8 (t : Fin cfg0.N) (X : S1536x1024.Idx → EReal) (G : Vec Ideal S1536x3072 .bf16)
    (h : ∀ (i : Fin 1536) (q : Fin 1024), X (ix2 i q) = G (ix2 i (⟨1024 * t.val + q.val, by have := points t; omega⟩ : Fin 3072))) :
    (cfg0.win 8).cut (grid0.coords t) X = ((cfg0.win 8).blk t).view.read (Elt Ideal) G := by
  funext j
  have e : j = ix2 (j 0) (j 1) := funext fun a => by
    match a with
    | ⟨0, _⟩ => rfl
    | ⟨1, _⟩ => rfl
  rw [e]
  show X (ix2 (j 0) (j 1)) = G (((cfg0.win 8).blk t).view.emb (ix2 (j 0) (j 1)))
  exact (h (j 0) (j 1)).trans (congrArg G (emb8 t (j 0) (j 1)).symm)

theorem covered7 (y : S1536x24x128.Idx) : ∃ t : Fin cfg0.N, (cfg0.win 7).flush t = true ∧ y ∈ ((cfg0.win 7).blk t).view.set := by
  have h1 : (y 1).val < 24 := (y 1).isLt
  obtain ⟨t, ht⟩ : ∃ t : Fin cfg0.N, t.val = (y 1).val / 8 := ⟨⟨(y 1).val / 8, by show (y 1).val / 8 < 3; omega⟩, rfl⟩
  have e : ((cfg0.win 7).blk t).view.emb (ix3 (⟨(y 0).val, (y 0).isLt⟩ : Fin 1536) (⟨(y 1).val % 8, by omega⟩ : Fin 8)
      (⟨(y 2).val, (y 2).isLt⟩ : Fin 128)) = y := by
    rw [emb7]
    funext a
    match a with
    | ⟨0, _⟩ => rfl
    | ⟨1, _⟩ => exact Fin.ext (by show 8 * t.val + (y 1).val % 8 = (y 1).val; omega)
    | ⟨2, _⟩ => rfl
  have h := ((cfg0.win 7).blk t).view.emb_mem_set (ix3 (⟨(y 0).val, (y 0).isLt⟩ : Fin 1536) (⟨(y 1).val % 8, by omega⟩ : Fin 8)
      (⟨(y 2).val, (y 2).isLt⟩ : Fin 128))
  exact ⟨t, flush0_7 t, Eq.mp (congrArg (fun z => z ∈ ((cfg0.win 7).blk t).view.set) e) h⟩

theorem covered8 (y : S1536x3072.Idx) : ∃ t : Fin cfg0.N, (cfg0.win 8).flush t = true ∧ y ∈ ((cfg0.win 8).blk t).view.set := by
  have h1 : (y 1).val < 3072 := (y 1).isLt
  obtain ⟨t, ht⟩ : ∃ t : Fin cfg0.N, t.val = (y 1).val / 1024 := ⟨⟨(y 1).val / 1024, by show (y 1).val / 1024 < 3; omega⟩, rfl⟩
  have e : ((cfg0.win 8).blk t).view.emb (ix2 (⟨(y 0).val, (y 0).isLt⟩ : Fin 1536) (⟨(y 1).val % 1024, by omega⟩ : Fin 1024)) = y := by
    rw [emb8]
    funext a
    match a with
    | ⟨0, _⟩ => rfl
    | ⟨1, _⟩ => exact Fin.ext (by show 1024 * t.val + (y 1).val % 1024 = (y 1).val; omega)
  have h := ((cfg0.win 8).blk t).view.emb_mem_set (ix2 (⟨(y 0).val, (y 0).isLt⟩ : Fin 1536) (⟨(y 1).val % 1024, by omega⟩ : Fin 1024))
  exact ⟨t, flush0_8 t, Eq.mp (congrArg (fun z => z ∈ ((cfg0.win 8).blk t).view.set) e) h⟩

/-- The rotated result after the run, as a function of the arguments. -/
theorem final7 (c : Dev nD) : (dats m 0 c).arrAt 7 cfg0.N = rotOf m c := by
  refine (dats m 0 c).arrAt_eq_of_cover 7 (rotOf m c) (fun t _ => ?_) covered7
  rw [Value.flushed7_A]
  refine read7 t _ _ fun i h d => ?_
  rw [rot_out]
  exact point_entry m c t i _ _ d (by show 8 * t.val + h.val = 8 * t.val + (128 * h.val + d.val) / 128; omega)
    (by show d.val = (128 * h.val + d.val) % 128; omega)

/-- The flat result after the run, as a function of the arguments. -/
theorem final8 (c : Dev nD) : (dats m 0 c).arrAt 8 cfg0.N = flatOf m c := by
  refine (dats m 0 c).arrAt_eq_of_cover 8 (flatOf m c) (fun t _ => ?_) covered8
  rw [Value.flushed8_A]
  refine read8 t _ _ fun i q => ?_
  rw [flat_out]
  exact point_entry m c t i q _ _ (by show (1024 * t.val + q.val) / 128 = 8 * t.val + q.val / 128; omega)
    (by show (1024 * t.val + q.val) % 128 = q.val % 128; omega)

end Cert.ProjQIdeal.Array

end
-- ==== Proof.QRef.lean ====
/-
  What the reference computes: the projection with its heads normalised and rotated, entry by entry.
-/
module

public import proofs.«01_k».proof.Proof.Gen.RefQIdeal.Value
public import proofs.«01_k».proof.Proof.Spec

@[expose] public section

set_option maxRecDepth 16384

noncomputable section

namespace Cert.RefQIdeal.Ref

open Cert.RefQIdeal Cert.RefQIdeal.Gen Idealize.ShloMosaic Idealize.ShloMosaic.TcCoe Idealize.SL.Sem
open Cert.Scale Cert.Rotary Cert.Spec

/-- A scale's byte, unbiased and biased again and laid in the exponent's place. -/
theorem shifted (x : BitVec 8) :
    Ideal.ofBits .f32 (IntOp.shli ArithUnit.vector (IntOp.addi (IntOp.subi (BitVec.setWidth 32 x) 127#32) 127#32) 23#32) = scaleOf x := by
  unfold scaleOf
  exact congrArg (Ideal.ofBits .f32) (bias_roundtrip x)

/-- The reference's test of a column's parity. -/
theorem even_lane : ∀ d : Fin 128, IntOp.cmpi CmpIPredicate.eq
            (Scalar.select
              (IntOp.andi
                (IntOp.xori
                  (IntOp.cmpi CmpIPredicate.slt
                    (IntOp.remsi ArithUnit.vector (BitVec.ofNat 32 d.val)
                      (Scalar.select (Scalar.cmpi CmpIPredicate.eq 2#32 0#32) 1#32 2#32))
                    0#32)
                  (Scalar.cmpi CmpIPredicate.slt (Scalar.select (Scalar.cmpi CmpIPredicate.eq 2#32 0#32) 1#32 2#32)
                    0#32))
                (IntOp.cmpi CmpIPredicate.ne
                  (IntOp.remsi ArithUnit.vector (BitVec.ofNat 32 d.val)
                    (Scalar.select (Scalar.cmpi CmpIPredicate.eq 2#32 0#32) 1#32 2#32))
                  0#32))
              (IntOp.addi
                (IntOp.remsi ArithUnit.vector (BitVec.ofNat 32 d.val)
                  (Scalar.select (Scalar.cmpi CmpIPredicate.eq 2#32 0#32) 1#32 2#32))
                (Scalar.select (Scalar.cmpi CmpIPredicate.eq 2#32 0#32) 1#32 2#32))
              (IntOp.remsi ArithUnit.vector (BitVec.ofNat 32 d.val)
                (Scalar.select (Scalar.cmpi CmpIPredicate.eq 2#32 0#32) 1#32 2#32)))
            0#32 = if d.val % 2 = 0 then 1#1 else 0#1 := by decide +kernel

/-- The reference's rows before the heads are taken apart, at an index. -/
theorem normed_at (w : Vec Ideal S3072x3072 .fp8e4m3) (e : Vec Ideal S96x3072 .i8) (x : Vec Ideal S1536x3072 .bf16)
    (b : Vec Ideal S1x3072 .f32) (nw : Vec Ideal S128 .f32) (i : Fin 1536) (h : Fin 24) (d : Fin 128) :
    k0_pay3 w e x b nw (ix3 i h d)
      = headNorm (fun j => ((∑ k : Fin 3072, (x (ix2 i k) : EReal) * ((w (ix2 k ⟨128 * h.val + j.val, by omega⟩) : EReal)
            * scaleOf (e (ix2 (⟨k.val / 32, by omega⟩ : Fin 96) ⟨128 * h.val + j.val, by omega⟩))))
          + (b (ix2 0 ⟨128 * h.val + j.val, by omega⟩) : EReal) : EReal)) (fun j => nw (ix1 j)) d := by
  unfold k0_pay3
  pointwise
  simp only [shifted, Nat.mul_comm h.val 128]
  rfl

theorem rotated_at (v : FVec Ideal S1536x24x128 .f32) (cs sn : Vec Ideal S1536x128 .f32) (i : Fin 1536) (h : Fin 24) (d : Fin 128) :
    k0_pay1 v cs sn (ix3 i h d) = ((cs (ix2 i d) : EReal) * v (ix3 i h d) + (sn (ix2 i d) : EReal) * v (ix3 i h (partner d)) : EReal) := by
  unfold k0_pay1
  pointwise
  rw [even_lane d]
  refine congrArg (fun u : EReal => (cs (ix2 i d) : EReal) * v (ix3 i h d) + (sn (ix2 i d) : EReal) * u) ?_
  by_cases hd : d.val % 2 = 0
  · have e : partner d = ⟨1 + d.val, by omega⟩ := by
      unfold partner
      rw [if_pos hd]
      exact Fin.ext (by show (d.val + 1) % 128 = 1 + d.val; omega)
    rw [if_pos hd, e, dif_pos (show d.val < 127 by omega)]
    rfl
  · have e : partner d = ⟨d.val - 1, by omega⟩ := by
      unfold partner
      rw [if_neg hd]
    rw [if_neg hd, e, dif_neg (show ¬ d.val < 1 by omega)]
    rfl

/-- Column 0 of the weights this projection uses. -/
abbrev base : Nat := 0

theorem base_le : base + 3072 ≤ 21504 := by decide

variable (x0 : Vec Ideal S1536x3072 .bf16) (x1 : Vec Ideal S3072x21504 .fp8e4m3) (x2 : Vec Ideal S96x21504 .i8)
  (x3 : Vec Ideal S1x21504 .f32) (x4 : Vec Ideal S128 .f32) (x5 x6 : Vec Ideal S1536x128 .f32)

/-- The rotated rows as the body computes them, at an index. -/
theorem body_at (i : Fin 1536) (h : Fin 24) (d : Fin 128) :
    k0_pay1 (k0_pay4 x0 x1 x2 x3 x4 x5 x6) (View.ld x5 r0_5) (View.ld x6 r0_5) (ix3 i h d)
      = headAt base base_le x0 x1 x2 (fun y => x3 (ix2 0 (y 0))) x4 x5 x6 i h d := by
  have l0 : ∀ k, View.ld x0 r0_2 (ix2 i k) = x0 (ix2 i k) := fun k => congrArg x0 (funext fun a => by
    match a with
    | ⟨0, _⟩ => exact Fin.ext (by show 0 + 1 * i.val = i.val; omega)
    | ⟨1, _⟩ => exact Fin.ext (by show 0 + 1 * k.val = k.val; omega))
  have l1 : ∀ k q : Fin 3072, View.ld x1 r0_0 (ix2 k q) = x1 (ix2 k (column base base_le q)) := fun k q => congrArg x1 (funext fun a => by
    match a with
    | ⟨0, _⟩ => exact Fin.ext (by show 0 + 1 * k.val = k.val; omega)
    | ⟨1, _⟩ => exact Fin.ext (by show base + 1 * q.val = base + q.val; omega))
  have l2 : ∀ (k : Fin 96) (q : Fin 3072), View.ld x2 r0_1 (ix2 k q) = x2 (ix2 k (column base base_le q)) := fun k q => congrArg x2 (funext fun a => by
    match a with
    | ⟨0, _⟩ => exact Fin.ext (by show 0 + 1 * k.val = k.val; omega)
    | ⟨1, _⟩ => exact Fin.ext (by show base + 1 * q.val = base + q.val; omega))
  have l3 : ∀ q : Fin 3072, View.ld x3 r0_3 (ix2 0 q) = x3 (ix2 0 (column base base_le q)) := fun q => congrArg x3 (funext fun a => by
    match a with
    | ⟨0, _⟩ => rfl
    | ⟨1, _⟩ => exact Fin.ext (by show base + 1 * q.val = base + q.val; omega))
  have l4 : ∀ j : Fin 128, View.ld x4 r0_4 (ix1 j) = x4 (ix1 j) := fun j => congrArg x4 (funext fun a => by
    match a with
    | ⟨0, _⟩ => exact Fin.ext (by show 0 + 1 * j.val = j.val; omega))
  have l5 : ∀ (v : Vec Ideal S1536x128 .f32) (j : Fin 128), View.ld v r0_5 (ix2 i j) = v (ix2 i j) := fun v j => congrArg v (funext fun a => by
    match a with
    | ⟨0, _⟩ => exact Fin.ext (by show 0 + 1 * i.val = i.val; omega)
    | ⟨1, _⟩ => exact Fin.ext (by show 0 + 1 * j.val = j.val; omega))
  refine (rotated_at _ _ _ i h d).trans ?_
  unfold k0_pay4
  rw [normed_at, normed_at, l5, l5]
  simp only [l0, l1, l2, l3, l4]
  rfl

/-- The rotated result the body leaves. -/
theorem rot_out : out0_7 x0 x1 x2 x3 x4 x5 x6 = rot base base_le x0 x1 x2 (fun y => x3 (ix2 0 (y 0))) x4 x5 x6 := by
  funext y
  unfold out0_7
  rw [show y = ix3 (y 0) (y 1) (y 2) from funext fun a => by
    match a with
    | ⟨0, _⟩ => rfl
    | ⟨1, _⟩ => rfl
    | ⟨2, _⟩ => rfl]
  refine (congrFun (View.canon_unit_zero (funext fun a => by fin_cases a <;> rfl) _ _) _).trans ?_
  exact body_at x0 x1 x2 x3 x4 x5 x6 (y 0) (y 1) (y 2)

theorem joined_at (v : FVec Ideal S1536x24x128 .bf16) (i : Fin 1536) (q : Fin 3072) :
    shapeCast S1536x3072 v shapeCasts_S1536x24x128_S1536x3072 (ix2 i q)
      = v (ix3 i (⟨q.val / 128, by omega⟩ : Fin 24) (⟨q.val % 128, by omega⟩ : Fin 128)) := by
  pointwise

/-- The flat result the body leaves. -/
theorem flat_out : out0_8 x0 x1 x2 x3 x4 x5 x6 = flat base base_le x0 x1 x2 (fun y => x3 (ix2 0 (y 0))) x4 x5 x6 := by
  funext y
  unfold out0_8
  refine (congrFun (View.canon_unit_zero (funext fun a => by fin_cases a <;> rfl) _ _) _).trans ?_
  refine Eq.trans ?_ (body_at x0 x1 x2 x3 x4 x5 x6 (y 0) ⟨(y 1).val / 128, by have h : (y 1).val < 3072 := (y 1).isLt; omega⟩
    ⟨(y 1).val % 128, by omega⟩)
  refine (congrArg _ (show y = ix2 (y 0) (y 1) from funext fun a => by
    match a with
    | ⟨0, _⟩ => rfl
    | ⟨1, _⟩ => rfl)).trans ?_
  unfold k0_pay2
  exact joined_at _ (y 0) (y 1)

variable (m : (ℓ : Loc nD τ sig) → Buf (Elt Ideal) ℓ) (ρ : Dev nD → PrngReg)

theorem row_at (b : Vec Ideal S21504 .f32) (q : Fin 21504) : shapeCast S1x21504 b shapeCasts_S21504_S1x21504 (ix2 0 q) = b (ix1 q) := by
  pointwise

/-- The bias, as a row. -/
theorem bias_row (c : Dev nD) (q : Fin 21504) :
    (V m c main_v0 : Vec Ideal S1x21504 .f32) (ix2 0 q) = (m ((c : Thread nD τ).loc main_arg3) : Vec Ideal S21504 .f32) (ix1 q) := by
  have e : V m c main_v0 = (shapeCast S1x21504 (m ((c : Thread nD τ).loc main_arg3) : Vec Ideal S21504 .f32) shapeCasts_S21504_S1x21504
      : Vec Ideal S1x21504 .f32) := by
    show StableHlo.after hostOps0 _ (Proc.devRef .tc main_v0) = _
    after_results
    rfl
  exact (congrFun e _).trans (row_at _ q)

theorem iblk0_eq (c : Dev nD) (t : Fin cfg0.N) : iblk m c 0 t = V m c main_arg0 := by
  have e := (by decide +kernel : ∀ t : Fin grid0.N, win0_0.index t (0 : Fin 2) = 0 ∧ win0_0.index t (1 : Fin 2) = 0) t
  funext j
  show V m c main_arg0 (((cfg0.win 0).blk t).view.emb j) = V m c main_arg0 j
  refine congrArg (V m c main_arg0) (funext fun a => Fin.ext ?_)
  match a with
  | ⟨0, _⟩ => have := e.1; show win0_0.index t (0 : Fin 2) * 1536 + 1 * (j 0).val = (j 0).val; omega
  | ⟨1, _⟩ => have := e.2; show win0_0.index t (1 : Fin 2) * 3072 + 1 * (j 1).val = (j 1).val; omega

theorem iblk1_eq (c : Dev nD) (t : Fin cfg0.N) : iblk m c 1 t = V m c main_arg1 := by
  have e := (by decide +kernel : ∀ t : Fin grid0.N, win0_1.index t (0 : Fin 2) = 0 ∧ win0_1.index t (1 : Fin 2) = 0) t
  funext j
  show V m c main_arg1 (((cfg0.win 1).blk t).view.emb j) = V m c main_arg1 j
  refine congrArg (V m c main_arg1) (funext fun a => Fin.ext ?_)
  match a with
  | ⟨0, _⟩ => have := e.1; show win0_1.index t (0 : Fin 2) * 3072 + 1 * (j 0).val = (j 0).val; omega
  | ⟨1, _⟩ => have := e.2; show win0_1.index t (1 : Fin 2) * 21504 + 1 * (j 1).val = (j 1).val; omega

theorem iblk2_eq (c : Dev nD) (t : Fin cfg0.N) : iblk m c 2 t = V m c main_arg2 := by
  have e := (by decide +kernel : ∀ t : Fin grid0.N, win0_2.index t (0 : Fin 2) = 0 ∧ win0_2.index t (1 : Fin 2) = 0) t
  funext j
  show V m c main_arg2 (((cfg0.win 2).blk t).view.emb j) = V m c main_arg2 j
  refine congrArg (V m c main_arg2) (funext fun a => Fin.ext ?_)
  match a with
  | ⟨0, _⟩ => have := e.1; show win0_2.index t (0 : Fin 2) * 96 + 1 * (j 0).val = (j 0).val; omega
  | ⟨1, _⟩ => have := e.2; show win0_2.index t (1 : Fin 2) * 21504 + 1 * (j 1).val = (j 1).val; omega

theorem iblk3_eq (c : Dev nD) (t : Fin cfg0.N) : iblk m c 3 t = V m c main_v0 := by
  have e := (by decide +kernel : ∀ t : Fin grid0.N, win0_3.index t (0 : Fin 2) = 0 ∧ win0_3.index t (1 : Fin 2) = 0) t
  funext j
  show V m c main_v0 (((cfg0.win 3).blk t).view.emb j) = V m c main_v0 j
  refine congrArg (V m c main_v0) (funext fun a => Fin.ext ?_)
  match a with
  | ⟨0, _⟩ => have := e.1; show win0_3.index t (0 : Fin 2) * 1 + 1 * (j 0).val = (j 0).val; omega
  | ⟨1, _⟩ => have := e.2; show win0_3.index t (1 : Fin 2) * 21504 + 1 * (j 1).val = (j 1).val; omega

theorem iblk4_eq (c : Dev nD) (t : Fin cfg0.N) : iblk m c 4 t = V m c main_arg4 := by
  have e := (by decide +kernel : ∀ t : Fin grid0.N, win0_4.index t (0 : Fin 1) = 0) t
  funext j
  show V m c main_arg4 (((cfg0.win 4).blk t).view.emb j) = V m c main_arg4 j
  refine congrArg (V m c main_arg4) (funext fun a => Fin.ext ?_)
  match a with
  | ⟨0, _⟩ => have := e; show win0_4.index t (0 : Fin 1) * 128 + 1 * (j 0).val = (j 0).val; omega

theorem iblk5_eq (c : Dev nD) (t : Fin cfg0.N) : iblk m c 5 t = V m c main_arg5 := by
  have e := (by decide +kernel : ∀ t : Fin grid0.N, win0_5.index t (0 : Fin 2) = 0 ∧ win0_5.index t (1 : Fin 2) = 0) t
  funext j
  show V m c main_arg5 (((cfg0.win 5).blk t).view.emb j) = V m c main_arg5 j
  refine congrArg (V m c main_arg5) (funext fun a => Fin.ext ?_)
  match a with
  | ⟨0, _⟩ => have := e.1; show win0_5.index t (0 : Fin 2) * 1536 + 1 * (j 0).val = (j 0).val; omega
  | ⟨1, _⟩ => have := e.2; show win0_5.index t (1 : Fin 2) * 128 + 1 * (j 1).val = (j 1).val; omega

theorem iblk6_eq (c : Dev nD) (t : Fin cfg0.N) : iblk m c 6 t = V m c main_arg6 := by
  have e := (by decide +kernel : ∀ t : Fin grid0.N, win0_6.index t (0 : Fin 2) = 0 ∧ win0_6.index t (1 : Fin 2) = 0) t
  funext j
  show V m c main_arg6 (((cfg0.win 6).blk t).view.emb j) = V m c main_arg6 j
  refine congrArg (V m c main_arg6) (funext fun a => Fin.ext ?_)
  match a with
  | ⟨0, _⟩ => have := e.1; show win0_6.index t (0 : Fin 2) * 1536 + 1 * (j 0).val = (j 0).val; omega
  | ⟨1, _⟩ => have := e.2; show win0_6.index t (1 : Fin 2) * 128 + 1 * (j 1).val = (j 1).val; omega

theorem emb7 (t : Fin cfg0.N) (j : S1536x24x128.Idx) : ((cfg0.win 7).blk t).view.emb j = j := by
  have e := (by decide +kernel : ∀ t : Fin grid0.N, win0_7.index t (0 : Fin 3) = 0 ∧ win0_7.index t (1 : Fin 3) = 0 ∧ win0_7.index t (2 : Fin 3) = 0) t
  funext a
  apply Fin.ext
  match a with
  | ⟨0, _⟩ => have := e.1; show win0_7.index t (0 : Fin 3) * 1536 + 1 * (j 0).val = (j 0).val; omega
  | ⟨1, _⟩ => have := e.2.1; show win0_7.index t (1 : Fin 3) * 24 + 1 * (j 1).val = (j 1).val; omega
  | ⟨2, _⟩ => have := e.2.2; show win0_7.index t (2 : Fin 3) * 128 + 1 * (j 2).val = (j 2).val; omega

theorem cut7 (t : Fin cfg0.N) (X : Vec Ideal S1536x24x128 .bf16) :
    (cfg0.win 7).cut (grid0.coords t) X = ((cfg0.win 7).blk t).view.read (Elt Ideal) X := by
  funext j
  show X j = X (((cfg0.win 7).blk t).view.emb j)
  rw [emb7]

/-- The rotated result after the run, as a function of the arguments. -/
theorem final7 (c : Dev nD) : (dats m 0 c).arrAt 7 cfg0.N
    = rot base base_le (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine ((dats m 0 c).arrAt_eq_of_cover 7 (out0_7 (V m c main_arg0) (V m c main_arg1) (V m c main_arg2) (V m c main_v0) (V m c main_arg4)
    (V m c main_arg5) (V m c main_arg6)) (fun t _ => ?_) (fun i => ⟨(⟨0, by decide⟩ : Fin cfg0.N), flush0_7 _, ?_⟩)).trans ?_
  · rw [Value.flushed7, iblk0_eq, iblk1_eq, iblk2_eq, iblk3_eq, iblk4_eq, iblk5_eq, iblk6_eq]
    exact cut7 t _
  · have h := ((cfg0.win 7).blk (⟨0, by decide⟩ : Fin cfg0.N)).view.emb_mem_set i
    rwa [emb7] at h
  · rw [rot_out, V_main_arg0, V_main_arg1, V_main_arg2, V_main_arg4, V_main_arg5, V_main_arg6]
    refine congrArg (fun b => rot base base_le _ _ _ b _ _ _) (funext fun y => ?_)
    refine (bias_row m c (y 0)).trans (congrArg _ (funext fun a => ?_))
    match a with
    | ⟨0, _⟩ => rfl

theorem emb8 (t : Fin cfg0.N) (j : S1536x3072.Idx) : ((cfg0.win 8).blk t).view.emb j = j := by
  have e := (by decide +kernel : ∀ t : Fin grid0.N, win0_8.index t (0 : Fin 2) = 0 ∧ win0_8.index t (1 : Fin 2) = 0) t
  funext a
  apply Fin.ext
  match a with
  | ⟨0, _⟩ => have := e.1; show win0_8.index t (0 : Fin 2) * 1536 + 1 * (j 0).val = (j 0).val; omega
  | ⟨1, _⟩ => have := e.2; show win0_8.index t (1 : Fin 2) * 3072 + 1 * (j 1).val = (j 1).val; omega

theorem cut8 (t : Fin cfg0.N) (X : Vec Ideal S1536x3072 .bf16) :
    (cfg0.win 8).cut (grid0.coords t) X = ((cfg0.win 8).blk t).view.read (Elt Ideal) X := by
  funext j
  show X j = X (((cfg0.win 8).blk t).view.emb j)
  rw [emb8]

/-- The flat result after the run, as a function of the arguments. -/
theorem final8 (c : Dev nD) : (dats m 0 c).arrAt 8 cfg0.N
    = flat base base_le (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine ((dats m 0 c).arrAt_eq_of_cover 8 (out0_8 (V m c main_arg0) (V m c main_arg1) (V m c main_arg2) (V m c main_v0) (V m c main_arg4)
    (V m c main_arg5) (V m c main_arg6)) (fun t _ => ?_) (fun i => ⟨(⟨0, by decide⟩ : Fin cfg0.N), flush0_8 _, ?_⟩)).trans ?_
  · rw [Value.flushed8, iblk0_eq, iblk1_eq, iblk2_eq, iblk3_eq, iblk4_eq, iblk5_eq, iblk6_eq]
    exact cut8 t _
  · have h := ((cfg0.win 8).blk (⟨0, by decide⟩ : Fin cfg0.N)).view.emb_mem_set i
    rwa [emb8] at h
  · rw [flat_out, V_main_arg0, V_main_arg1, V_main_arg2, V_main_arg4, V_main_arg5, V_main_arg6]
    refine congrArg (fun b => flat base base_le _ _ _ b _ _ _) (funext fun y => ?_)
    refine (bias_row m c (y 0)).trans (congrArg _ (funext fun a => ?_))
    match a with
    | ⟨0, _⟩ => rfl

end Cert.RefQIdeal.Ref

end
-- ==== Proof.QEq.lean ====
/-
  The projection kernel and its reference end with equal results.
-/
module

public import proofs.«01_k».proof.Defs
public import proofs.«01_k».proof.Proof.QArray
public import proofs.«01_k».proof.Proof.QRef

@[expose] public section

set_option maxRecDepth 16384

noncomputable section

namespace Cert.ProjQIdeal.Equal

open Idealize.ShloMosaic Idealize.ShloMosaic.TcCoe Idealize.SL.Sem Cert.Spec

/-- From memories that agree on the arguments, both end with the rotated heads and the flat result the
    arguments determine. -/
theorem algebraic : Cert.algebraic_ProjQIdeal_RefQIdeal (hProjQIdeal := Cert.ProjQIdeal.Gen.facts) (hRefQIdeal := Cert.RefQIdeal.Gen.facts) := by
  intro m g m' g' _ hm
  have k7 := Cert.ProjQIdeal.Array.final7 m
  have k8 := Cert.ProjQIdeal.Array.final8 m
  have r7 : ∀ c, (Cert.RefQIdeal.Gen.dats m' 0 c).arrAt 7 Cert.RefQIdeal.cfg0.N = Cert.ProjQIdeal.Array.rotOf m c := fun c => by
    obtain ⟨h0, h1, h2, h3, h4, h5, h6⟩ := hm c
    refine (Cert.RefQIdeal.Ref.final7 m' c).trans ?_
    rw [h0, h1, h2, h3, h4, h5, h6]
  have r8 : ∀ c, (Cert.RefQIdeal.Gen.dats m' 0 c).arrAt 8 Cert.RefQIdeal.cfg0.N = Cert.ProjQIdeal.Array.flatOf m c := fun c => by
    obtain ⟨h0, h1, h2, h3, h4, h5, h6⟩ := hm c
    refine (Cert.RefQIdeal.Ref.final8 m' c).trans ?_
    rw [h0, h1, h2, h3, h4, h5, h6]
  refine ⟨fun c => Cert.ProjQIdeal.Array.rotOf m c, fun c => Cert.ProjQIdeal.Array.flatOf m c, ?_, ?_⟩
  · refine (θ_run _ _ _).mono ?_ (Cert.ProjQIdeal.Value.run_blocks m g)
    exact fun r h c => ⟨(h c).1.trans (k7 c), (h c).2.1.trans (k8 c), (h c).2.2⟩
  · refine (θ_run _ _ _).mono ?_ (Cert.RefQIdeal.Value.run_blocks m' g')
    exact fun r h c => ⟨(h c).1.trans (r7 c), (h c).2.1.trans (r8 c), (h c).2.2⟩

end Cert.ProjQIdeal.Equal

end
-- ==== Proof.KPieces.lean ====
/-
  What one store of the projection kernel holds, read at an index: a block of 32 rows of widened weights, and one head of 128
  columns normalised and rotated.
-/
module

public import proofs.«01_k».proof.ProjKIdeal
public import proofs.«01_k».proof.Proof.Scale
public import proofs.«01_k».proof.Proof.Rotary

@[expose] public section

set_option maxRecDepth 16384

noncomputable section

namespace Cert.ProjKIdeal.Pieces

open Cert.ProjKIdeal Idealize.ShloMosaic Idealize.ShloMosaic.TcCoe Idealize.SL.Sem
open Cert.Scale Cert.Rotary
open Cert.ProjKIdeal.Facts₀

variable [Facts₀]

/-- The words of a tile of scales: each byte laid twice. -/
def words (v1 : Vec Ideal S96x512 .i8) : IVec S1x96x512 32 :=
  shapeCast S1x96x512
    (ori (shli (extui 32 v1 natLt_8_32) (broadcast S96x512 7#32)) (shli (extui 32 v1 natLt_8_32) (broadcast S96x512 23#32)))
    shapeCasts_S96x512_S1x96x512

theorem words_at (v1 : Vec Ideal S96x512 .i8) (b : Fin 96) (c : Fin 512) : words v1 (ix3 0 b c) = wordOf (v1 (ix2 b c)) := by
  unfold words
  pointwise
  rfl

/-- 32 rows of weights times one row of scales. -/
def wide (e : Vec Ideal S1x512 .i32) (w : Vec Ideal S32x512 .fp8e4m3) : Vec Ideal S1x32x512 .bf16 :=
  shapeCast S1x32x512
    (shapeCast S32x512
      (mulf (F := Ideal) (extf .bf16 w bitsLt_fp8e4m3_bf16)
        (concatenate S32x512 0
          [⟨S16x512, bitcastToFloat .bf16 (bitcast S16x512 16 (broadcastTo S8x512 (shapeCast S1x512 e shapeCasts_S1x512_S1x512)
              broadcasts_S1x512_S8x512) bitcasts_S8x512_w32_S16x512_w16)⟩,
           ⟨S16x512, bitcastToFloat .bf16 (bitcast S16x512 16 (broadcastTo S8x512 (shapeCast S1x512 e shapeCasts_S1x512_S1x512)
              broadcasts_S1x512_S8x512) bitcasts_S8x512_w32_S16x512_w16)⟩]
          concatenates_S16x512_S16x512_S32x512_d0))
      shapeCasts_S32x512_S32x512)
    shapeCasts_S32x512_S1x32x512

/-- The doubled words of one row, read as bfloat16: every row of the tile is the row of scales. -/
theorem scaleTile_at (e : Vec Ideal S1x512 .i32) (x : Fin 512 → BitVec 8) (he : ∀ c : Fin 512, e (ix2 0 c) = wordOf (x c))
    (r : Fin 16) (c : Fin 512) :
    bitcastToFloat (F := Ideal) .bf16 (bitcast S16x512 16 (broadcastTo S8x512 (shapeCast S1x512 e shapeCasts_S1x512_S1x512)
              broadcasts_S1x512_S8x512) bitcasts_S8x512_w32_S16x512_w16) (ix2 r c) = scaleOf (x c) := by
  show Ideal.ofBits .bf16 (bitcast S16x512 16 _ bitcasts_S8x512_w32_S16x512_w16 (ix2 r c)) = _
  rw [bitcast_32_16]
  rw [show (broadcastTo S8x512 (shapeCast S1x512 e shapeCasts_S1x512_S1x512) broadcasts_S1x512_S8x512
      ((bitcasts_S8x512_w32_S16x512_w16).srcIdx (ix2 r c) (S16x512.row (ix2 r c) / 2) _)) = wordOf (x c) from by
    rw [← he c]
    pointwise
    rfl]
  exact half_eq_scaleOf _ _ (Nat.mod_lt _ (by decide))

theorem wide_at (e : Vec Ideal S1x512 .i32) (w : Vec Ideal S32x512 .fp8e4m3) (x : Fin 512 → BitVec 8)
    (he : ∀ c : Fin 512, e (ix2 0 c) = wordOf (x c)) (r : Fin 32) (c : Fin 512) :
    wide e w (ix3 0 r c) = (show EReal from w (ix2 r c)) * scaleOf (x c) := by
  unfold wide
  have h := scaleTile_at e x he
  generalize bitcastToFloat (F := Ideal) .bf16 (bitcast S16x512 16 (broadcastTo S8x512 (shapeCast S1x512 e shapeCasts_S1x512_S1x512)
              broadcasts_S1x512_S8x512) bitcasts_S8x512_w32_S16x512_w16) = s at h ⊢
  pointwise
  split_ifs with hr
  · exact congrArg _ (h ⟨r, hr⟩ c)
  all_goals exact congrArg _ (h ⟨r - 16, by omega⟩ c)

/-- One head of 128 columns from column `off 1` of the accumulated product: normalised, scaled, rotated. -/
def head (off : Fin 2 → Nat) (hs : S256x512.Slices off S256x128) (acc : FVec Ideal S256x512 .f32) (cv sv : Vec Ideal S256x128 .f32)
    (nv : Vec Ideal S1x128 .f32) : FVec Ideal S256x128 .bf16 :=
  have v1461 : FVec Ideal S256x128 .f32 := extractStridedSlice S256x128 off acc hs
  have v1462 : FVec Ideal S256x128 .f32 := mulf v1461 v1461
  have v1463 : FVec Ideal S256 .f32 := multiReduction .add [1] S256 v1462 0x00000000#32 reduces_S256x128_S256 (.inl rfl) rfl
  have v1464 : FVec Ideal S256x1 .f32 := shapeCast S256x1 v1463 shapeCasts_S256_S256x1
  have v1465 : FVec Ideal S256x1 .f32 := broadcast S256x1 (Scalar.ofBits .f32 0x43000000#32)
  have v1466 : FVec Ideal S256x1 .f32 := divf v1464 v1465
  have v1467 : FVec Ideal S256x1 .f32 := broadcast S256x1 (Scalar.ofBits .f32 0x358637BD#32)
  have v1468 : FVec Ideal S256x1 .f32 := addf v1466 v1467
  have v1469 : FVec Ideal S256x1 .f32 := sqrt v1468
  have v1470 : FVec Ideal S256x128 .f32 := broadcastTo S256x128 v1469 broadcasts_S256x1_S256x128
  have v1471 : FVec Ideal S256x128 .f32 := divf v1461 v1470
  have v1473 : FVec Ideal S1x128 .f32 := shapeCast S1x128 nv shapeCasts_S1x128_S1x128
  have v1474 : FVec Ideal S256x128 .f32 := broadcastTo S256x128 v1473 broadcasts_S1x128_S256x128
  have v1475 : FVec Ideal S256x128 .f32 := mulf v1471 v1474
  have v1476 : FVec Ideal S256x128 .f32 := mulf cv v1475
  have v1478 : IVec S256x128 32 := xori (iota .tc S256x128 32 [1] iota_S256x128_d1_w32) (broadcast S256x128 1#32)
  have v1480 : IVec S256x128 1 := cmpi .slt v1478 (broadcast S256x128 0#32)
  have v1482 : IVec S256x128 32 := addi v1478 (broadcast S256x128 128#32)
  have v1483 : IVec S256x128 32 := select v1480 v1482 v1478
  have v1484 : IVec S256x128x1 32 := shapeCast S256x128x1 v1483 shapeCasts_S256x128_S256x128x1
  have v1485 : IVec S256x128 32 := shapeCast S256x128 v1484 shapeCasts_S256x128x1_S256x128
  have v1486 : FVec Ideal S256x128 .f32 := dynamicGather 1 v1475 v1485
  have v1487 : FVec Ideal S256x128 .f32 := mulf sv v1486
  have v1488 : FVec Ideal S256x128 .f32 := addf v1476 v1487
  truncf .bf16 v1488 bitsLt_bf16_f32

/-- Flipping the last bit of a column's number names its partner. -/
theorem lane : ∀ d : Fin 128,
    (Scalar.select (IntOp.cmpi CmpIPredicate.slt (IntOp.xori (BitVec.ofNat 32 d.val) 1#32) 0#32)
      (IntOp.addi (IntOp.xori (BitVec.ofNat 32 d.val) 1#32) 128#32)
      (IntOp.xori (BitVec.ofNat 32 d.val) 1#32)).toNat % 128 = (partner d).val := by decide +kernel

theorem head_at (o : Nat) (ho : o + 128 ≤ 512) (hs : S256x512.Slices ![0, o] S256x128) (acc : FVec Ideal S256x512 .f32) (cv sv : Vec Ideal S256x128 .f32)
    (nv : Vec Ideal S1x128 .f32) (r : Fin 256) (d : Fin 128) :
    head ![0, o] hs acc cv sv nv (ix2 r d)
      = normRot (fun j => acc (ix2 r ⟨o + j, by omega⟩)) (fun j => nv (ix2 0 j)) (fun j => cv (ix2 r j)) (fun j => sv (ix2 r j)) d := by
  unfold head
  pointwise
  unfold normRot headNorm
  simp only [lane d]

end Cert.ProjKIdeal.Pieces

end
-- ==== Proof.KWeights.lean ====
/-
  What the projection kernel's scratch of widened weights holds when it is read: both halves of the block's columns, each
  weight times its scale.
-/
module

public import proofs.«01_k».proof.Proof.Gen.ProjKIdeal.Frame
public import proofs.«01_k».proof.Proof.KPieces
public import Idealize.ShloMosaic.Lib.Pipeline.ReadBack
public import Idealize.ShloMosaic.Lib.WholeRead

@[expose] public section

set_option maxRecDepth 16384

noncomputable section

namespace Cert.ProjKIdeal.Weights

open Cert.ProjKIdeal Cert.ProjKIdeal.Gen Idealize.ShloMosaic Idealize.ShloMosaic.TcCoe Idealize.SL.Sem
open Cert.Scale Cert.Rotary Cert.ProjKIdeal.Pieces

/-- The widened weight of row `k` and column `q` of half `n` of a block of 1024 columns. -/
def weight (x1 : Vec Ideal S3072x1024 .fp8e4m3) (x2 : Vec Ideal S96x1024 .i8) (n : Fin 2) (k : Fin 3072) (q : Fin 512) : EReal :=
  (show EReal from x1 (ix2 k ⟨512 * n.val + q.val, by omega⟩)) * scaleOf (x2 (ix2 ⟨k.val / 32, by omega⟩ ⟨512 * n.val + q.val, by omega⟩))

/-- The widened weights of a block of 1024 columns: half, row, column of the half. -/
def weights (x1 : Vec Ideal S3072x1024 .fp8e4m3) (x2 : Vec Ideal S96x1024 .i8) (y : S2x3072x512.Idx) : EReal :=
  weight x1 x2 (y 0) (y 1) (y 2)

/-- Row `b` of the scales scratch, loaded after half `n` of it was stored: the stored words' row. -/
theorem row_at {sig : RefSig} {κ : Kind} {sp : Space} (v : View sig κ sp S2x96x512 .i32) (n b : Nat) (hb : b < 96)
    (inb : ∀ a, (![n, 0, 0] : Fin 3 → Nat) a + S1x96x512.size a ≤ S2x96x512.size a)
    (inb' : ∀ a, (![b, 0] : Fin 2 → Nat) a + S1x512.size a ≤ S96x512.size a)
    (h0 : (![1, 96, 512] : Fin 3 → Nat) 0 = 1) (hs : ∀ i : Fin 2, (![1, 96, 512] : Fin 3 → Nat) i.succ = (![96, 512] : Fin 2 → Nat) i)
    (hr : ∀ a, (Rect.unit (s := S2x96x512) ![n, 0, 0] S1x96x512.size inb).stride a = 1)
    (P : IVec S1x96x512 32) (L : List (View.Piece (Elt Ideal) S2x96x512 .i32))
    (hR : (Rect.unit (s := S96x512) ![b, 0] S1x512.size inb').toLoadRect.shape.numel
      = ((Rect.unit (s := S2x96x512) ![n, 0, 0] S1x96x512.size inb).withinL
          ((Rect.unit (s := S96x512) ![b, 0] S1x512.size inb').consLift ![1, 96, 512] h0 hs).toLoadRect hr).shape.numel) (c : Fin 512) :
    (LoadRect.valAlong hR (v.readCov (⟨Rect.unit (s := S2x96x512) ![n, 0, 0] S1x96x512.size inb, P⟩ :: L)
        ((Rect.unit (s := S2x96x512) ![n, 0, 0] S1x96x512.size inb).withinL
          ((Rect.unit (s := S96x512) ![b, 0] S1x512.size inb').consLift ![1, 96, 512] h0 hs).toLoadRect hr)) : IVec S1x512 32) (ix2 0 c)
      = P (ix3 0 ⟨b, hb⟩ c) := by
  rw [View.readCov_eq_canon']
  refine (congrArg (View.canon _) (Rect.idx_withinL (Rect.unit (s := S2x96x512) ![n, 0, 0] S1x96x512.size inb) _ hr _)).trans ?_
  refine (View.canon_cons_emb (Rect.unit (s := S2x96x512) ![n, 0, 0] S1x96x512.size inb) P L _).trans ?_
  refine congrArg P (funext fun a => Fin.ext ?_)
  have key := Rect.reshapeEquiv_consLift_succ (Rect.unit (s := S96x512) ![b, 0] S1x512.size inb') ![1, 96, 512] h0 hs
    (Shape.reshapeEquiv hR (ix2 0 c))
  have back : Shape.reshapeEquiv ((Rect.unit (s := S96x512) ![b, 0] S1x512.size inb').numel_consLift ![1, 96, 512] h0 hs)
      (Shape.reshapeEquiv hR (ix2 0 c)) = ix2 0 c := by
    have e := (Shape.reshapeEquiv hR).symm_apply_apply (ix2 0 c)
    rw [Shape.reshapeEquiv_symm] at e
    exact e
  rw [back] at key
  generalize Shape.reshapeEquiv hR (ix2 0 c) = z at key
  have k0 := key 0
  have k1 := key 1
  have z0 : (z 0).val < 1 := (z 0).isLt
  have e0 : (z 1).val = 0 := k0
  have e1 : (z 2).val = c.val := k1
  match a with
  | ⟨0, _⟩ => show 0 + 1 * (z 0).val = 0; omega
  | ⟨1, _⟩ => show b + 1 * (z 1).val = b; omega
  | ⟨2, _⟩ => show 0 + 1 * (z 2).val = c.val; omega

theorem scales_inb (n : Nat) (hn : n < 2) : ∀ a, (![n, 0, 0] : Fin 3 → Nat) a + S1x96x512.size a ≤ S2x96x512.size a
  | ⟨0, _⟩ => by show n + 1 ≤ 2; omega
  | ⟨1, _⟩ => by show 0 + 96 ≤ 96; omega
  | ⟨2, _⟩ => by show 0 + 512 ≤ 512; omega

theorem row_inb (b : Nat) (hb : b < 96) : ∀ a, (![b, 0] : Fin 2 → Nat) a + S1x512.size a ≤ S96x512.size a
  | ⟨0, _⟩ => by show b + 1 ≤ 96; omega
  | ⟨1, _⟩ => by show 0 + 512 ≤ 512; omega

theorem rows_inb (n b o q : Nat) (hn : n < 2) (hb : b < 96) (ho : o = 32 * b) (hq : q = 512 * n) :
    ∀ a, (![o, q] : Fin 2 → Nat) a + S32x512.size a ≤ S3072x1024.size a
  | ⟨0, _⟩ => by show o + 32 ≤ 3072; omega
  | ⟨1, _⟩ => by show q + 512 ≤ 1024; omega

theorem cols_inb (n q : Nat) (hn : n < 2) (hq : q = 512 * n) : ∀ a, (![0, q] : Fin 2 → Nat) a + S96x512.size a ≤ S96x1024.size a
  | ⟨0, _⟩ => by show 0 + 96 ≤ 96; omega
  | ⟨1, _⟩ => by show q + 512 ≤ 1024; omega

theorem store_inb (n b o : Nat) (hn : n < 2) (hb : b < 96) (ho : o = 32 * b) :
    ∀ a, (![n, o, 0] : Fin 3 → Nat) a + S1x32x512.size a ≤ S2x3072x512.size a
  | ⟨0, _⟩ => by show n + 1 ≤ 2; omega
  | ⟨1, _⟩ => by show o + 32 ≤ 3072; omega
  | ⟨2, _⟩ => by show 0 + 512 ≤ 512; omega

theorem tail_sizes : ∀ i : Fin 2, (![1, 96, 512] : Fin 3 → Nat) i.succ = (![96, 512] : Fin 2 → Nat) i
  | ⟨0, _⟩ => rfl
  | ⟨1, _⟩ => rfl

theorem unit_stride (n : Nat) (hn : n < 2) : ∀ a, (Rect.unit (s := S2x96x512) ![n, 0, 0] S1x96x512.size (scales_inb n hn)).stride a = 1 :=
  fun _ => rfl

theorem read_numel (n b : Nat) (hn : n < 2) (hb : b < 96) :
    (Rect.unit (s := S96x512) ![b, 0] S1x512.size (row_inb b hb)).toLoadRect.shape.numel
      = ((Rect.unit (s := S2x96x512) ![n, 0, 0] S1x96x512.size (scales_inb n hn)).withinL
          ((Rect.unit (s := S96x512) ![b, 0] S1x512.size (row_inb b hb)).consLift ![1, 96, 512] rfl tail_sizes).toLoadRect
          (unit_stride n hn)).shape.numel :=
  ((Rect.unit (s := S96x512) ![b, 0] S1x512.size (row_inb b hb)).numel_consLift ![1, 96, 512] rfl tail_sizes).symm

/-- What one store of 32 rows of widened weights holds: rows `32 b …` of half `n`. -/
theorem piece (arg2 : Memref sig .tc .vmem S3072x1024 .fp8e4m3) (harg2 : arg2.IsWhole)
    (arg3 : Memref sig .tc .vmem S96x1024 .i8) (harg3 : arg3.IsWhole) (arg11 : Memref sig .tc .vmem S2x96x512 .i32)
    (x1 : Vec Ideal S3072x1024 .fp8e4m3) (x2 : Vec Ideal S96x1024 .i8)
    (n b o q : Nat) (hn : n < 2) (hb : b < 96) (ho : o = 32 * b) (hq : q = 512 * n)
    (L : List (View.Piece (Elt Ideal) S2x96x512 .i32))
    (x : S1x32x512.Idx) :
    wide (LoadRect.valAlong (read_numel n b hn hb) (arg11.view.readCov (⟨Rect.unit (s := S2x96x512) ![n, 0, 0] S1x96x512.size (scales_inb n hn),
          words (View.readAt (Elt Ideal) arg3.view (Rect.unit (s := S96x1024) ![0, q] S96x512.size (cols_inb n q hn hq)).toLoadRect (harg3.unread x2))⟩ :: L)
        ((Rect.unit (s := S2x96x512) ![n, 0, 0] S1x96x512.size (scales_inb n hn)).withinL
          ((Rect.unit (s := S96x512) ![b, 0] S1x512.size (row_inb b hb)).consLift ![1, 96, 512] rfl tail_sizes).toLoadRect (unit_stride n hn))))
      (View.readAt (Elt Ideal) arg2.view (Rect.unit (s := S3072x1024) ![o, q] S32x512.size (rows_inb n b o q hn hb ho hq)).toLoadRect (harg2.unread x1)) x
      = weights x1 x2 ((Rect.unit (s := S2x3072x512) ![n, o, 0] S1x32x512.size (store_inb n b o hn hb ho)).emb x) := by
  have hx0 : (x 0).val < 1 := (x 0).isLt
  have hx1 : (x 1).val < 32 := (x 1).isLt
  have hx2 : (x 2).val < 512 := (x 2).isLt
  have hx : x = ix3 0 (⟨(x 1).val, hx1⟩ : Fin 32) (⟨(x 2).val, hx2⟩ : Fin 512) := by
    funext a
    match a with
    | ⟨0, _⟩ => exact Fin.ext (by show (x 0).val = 0; omega)
    | ⟨1, _⟩ => rfl
    | ⟨2, _⟩ => rfl
  rw [hx]
  refine (wide_at _ _ (fun c : Fin 512 => x2 (ix2 (⟨b, hb⟩ : Fin 96) (⟨512 * n + c.val, by omega⟩ : Fin 1024)))
    (fun c => (row_at arg11.view n b hb (scales_inb n hn) (row_inb b hb) rfl tail_sizes (unit_stride n hn) _ L (read_numel n b hn hb) c).trans
      ((words_at _ ⟨b, hb⟩ c).trans (congrArg wordOf ((harg3.readAt_unread x2 _ _).trans (congrArg x2 ?_))))) _ _).trans ?_
  · funext a
    match a with
    | ⟨0, _⟩ => exact Fin.ext (by show 0 + 1 * b = b; omega)
    | ⟨1, _⟩ => exact Fin.ext (by show q + 1 * c.val = 512 * n + c.val; omega)
  · refine congrArg₂ (fun u v : EReal => u * v) ((harg2.readAt_unread x1 _ _).trans (congrArg x1 ?_)) (congrArg (fun i => scaleOf (x2 i)) ?_)
    · funext a
      match a with
      | ⟨0, _⟩ => rfl
      | ⟨1, _⟩ => exact Fin.ext (by show q + 1 * (x 2).val = 512 * (n + 1 * 0) + (0 + 1 * (x 2).val); omega)
    · funext a
      match a with
      | ⟨0, _⟩ => exact Fin.ext (by show b = (o + 1 * (x 1).val) / 32; omega)
      | ⟨1, _⟩ => exact Fin.ext (by show 512 * n + (x 2).val = 512 * (n + 1 * 0) + (0 + 1 * (x 2).val); omega)

end Cert.ProjKIdeal.Weights

end
-- ==== Proof.KStores.lean ====
/-
  Every store of widened weights of the projection kernel, and the whole of what its scratch holds when it is read.
-/
module

public import proofs.«01_k».proof.Proof.KWeights

@[expose] public section

set_option maxRecDepth 16384

noncomputable section

namespace Cert.ProjKIdeal.Weights

open Cert.ProjKIdeal Cert.ProjKIdeal.Gen Idealize.ShloMosaic Idealize.ShloMosaic.TcCoe Idealize.SL.Sem
open Cert.Scale Cert.Rotary Cert.ProjKIdeal.Pieces

variable (c : Dev nD) (arg2 : Memref sig .tc .vmem S3072x1024 .fp8e4m3) (harg2 : arg2.IsWhole)
  (arg3 : Memref sig .tc .vmem S96x1024 .i8) (harg3 : arg3.IsWhole) (arg11 : Memref sig .tc .vmem S2x96x512 .i32)
  (x1 : Vec Ideal S3072x1024 .fp8e4m3) (x2 : Vec Ideal S96x1024 .i8)

set_option maxHeartbeats 8000000 in
/-- The stores into the first half all hold the widened weights. -/
theorem pieces_first : View.PiecesOf (weights x1 x2) (kernelRun0_A.sl.HS0_96 c arg2 harg2 arg3 harg3 arg11 x1 x2) := by
  unfold kernelRun0_A.sl.HS0_96
  refine And.intro (fun x => piece arg2 harg2 arg3 harg3 arg11 x1 x2 0 95 3040 0 (by decide) (by decide) rfl rfl [] x) ?_
  refine And.intro (fun x => piece arg2 harg2 arg3 harg3 arg11 x1 x2 0 94 3008 0 (by decide) (by decide) rfl rfl [] x) ?_
  refine And.intro (fun x => piece arg2 harg2 arg3 harg3 arg11 x1 x2 0 93 2976 0 (by decide) (by decide) rfl rfl [] x) ?_
  refine And.intro (fun x => piece arg2 harg2 arg3 harg3 arg11 x1 x2 0 92 2944 0 (by decide) (by decide) rfl rfl [] x) ?_
  refine And.intro (fun x => piece arg2 harg2 arg3 harg3 arg11 x1 x2 0 91 2912 0 (by decide) (by decide) rfl rfl [] x) ?_
  refine And.intro (fun x => piece arg2 harg2 arg3 harg3 arg11 x1 x2 0 90 2880 0 (by decide) (by decide) rfl rfl [] x) ?_
  refine And.intro (fun x => piece arg2 harg2 arg3 harg3 arg11 x1 x2 0 89 2848 0 (by decide) (by decide) rfl rfl [] x) ?_
  refine And.intro (fun x => piece arg2 harg2 arg3 harg3 arg11 x1 x2 0 88 2816 0 (by decide) (by decide) rfl rfl [] x) ?_
  refine And.intro (fun x => piece arg2 harg2 arg3 harg3 arg11 x1 x2 0 87 2784 0 (by decide) (by decide) rfl rfl [] x) ?_
  refine And.intro (fun x => piece arg2 harg2 arg3 harg3 arg11 x1 x2 0 86 2752 0 (by decide) (by decide) rfl rfl [] x) ?_
  refine And.intro (fun x => piece arg2 harg2 arg3 harg3 arg11 x1 x2 0 85 2720 0 (by decide) (by decide) rfl rfl [] x) ?_
  refine And.intro (fun x => piece arg2 harg2 arg3 harg3 arg11 x1 x2 0 84 2688 0 (by decide) (by decide) rfl rfl [] x) ?_
  refine And.intro (fun x => piece arg2 harg2 arg3 harg3 arg11 x1 x2 0 83 2656 0 (by decide) (by decide) rfl rfl [] x) ?_
  refine And.intro (fun x => piece arg2 harg2 arg3 harg3 arg11 x1 x2 0 82 2624 0 (by decide) (by decide) rfl rfl [] x) ?_
  refine And.intro (fun x => piece arg2 harg2 arg3 harg3 arg11 x1 x2 0 81 2592 0 (by decide) (by decide) rfl rfl [] x) ?_
  refine And.intro (fun x => piece arg2 harg2 arg3 harg3 arg11 x1 x2 0 80 2560 0 (by decide) (by decide) rfl rfl [] x) ?_
  refine And.intro (fun x => piece arg2 harg2 arg3 harg3 arg11 x1 x2 0 79 2528 0 (by decide) (by decide) rfl rfl [] x) ?_
  refine And.intro (fun x => piece arg2 harg2 arg3 harg3 arg11 x1 x2 0 78 2496 0 (by decide) (by decide) rfl rfl [] x) ?_
  refine And.intro (fun x => piece arg2 harg2 arg3 harg3 arg11 x1 x2 0 77 2464 0 (by decide) (by decide) rfl rfl [] x) ?_
  refine And.intro (fun x => piece arg2 harg2 arg3 harg3 arg11 x1 x2 0 76 2432 0 (by decide) (by decide) rfl rfl [] x) ?_
  refine And.intro (fun x => piece arg2 harg2 arg3 harg3 arg11 x1 x2 0 75 2400 0 (by decide) (by decide) rfl rfl [] x) ?_
  refine And.intro (fun x => piece arg2 harg2 arg3 harg3 arg11 x1 x2 0 74 2368 0 (by decide) (by decide) rfl rfl [] x) ?_
  refine And.intro (fun x => piece arg2 harg2 arg3 harg3 arg11 x1 x2 0 73 2336 0 (by decide) (by decide) rfl rfl [] x) ?_
  refine And.intro (fun x => piece arg2 harg2 arg3 harg3 arg11 x1 x2 0 72 2304 0 (by decide) (by decide) rfl rfl [] x) ?_
  refine And.intro (fun x => piece arg2 harg2 arg3 harg3 arg11 x1 x2 0 71 2272 0 (by decide) (by decide) rfl rfl [] x) ?_
  refine And.intro (fun x => piece arg2 harg2 arg3 harg3 arg11 x1 x2 0 70 2240 0 (by decide) (by decide) rfl rfl [] x) ?_
  refine And.intro (fun x => piece arg2 harg2 arg3 harg3 arg11 x1 x2 0 69 2208 0 (by decide) (by decide) rfl rfl [] x) ?_
  refine And.intro (fun x => piece arg2 harg2 arg3 harg3 arg11 x1 x2 0 68 2176 0 (by decide) (by decide) rfl rfl [] x) ?_
  refine And.intro (fun x => piece arg2 harg2 arg3 harg3 arg11 x1 x2 0 67 2144 0 (by decide) (by decide) rfl rfl [] x) ?_
  refine And.intro (fun x => piece arg2 harg2 arg3 harg3 arg11 x1 x2 0 66 2112 0 (by decide) (by decide) rfl rfl [] x) ?_
  refine And.intro (fun x => piece arg2 harg2 arg3 harg3 arg11 x1 x2 0 65 2080 0 (by decide) (by decide) rfl rfl [] x) ?_
  refine And.intro (fun x => piece arg2 harg2 arg3 harg3 arg11 x1 x2 0 64 2048 0 (by decide) (by decide) rfl rfl [] x) ?_
  refine And.intro (fun x => piece arg2 harg2 arg3 harg3 arg11 x1 x2 0 63 2016 0 (by decide) (by decide) rfl rfl [] x) ?_
  refine And.intro (fun x => piece arg2 harg2 arg3 harg3 arg11 x1 x2 0 62 1984 0 (by decide) (by decide) rfl rfl [] x) ?_
  refine And.intro (fun x => piece arg2 harg2 arg3 harg3 arg11 x1 x2 0 61 1952 0 (by decide) (by decide) rfl rfl [] x) ?_
  refine And.intro (fun x => piece arg2 harg2 arg3 harg3 arg11 x1 x2 0 60 1920 0 (by decide) (by decide) rfl rfl [] x) ?_
  refine And.intro (fun x => piece arg2 harg2 arg3 harg3 arg11 x1 x2 0 59 1888 0 (by decide) (by decide) rfl rfl [] x) ?_
  refine And.intro (fun x => piece arg2 harg2 arg3 harg3 arg11 x1 x2 0 58 1856 0 (by decide) (by decide) rfl rfl [] x) ?_
  refine And.intro (fun x => piece arg2 harg2 arg3 harg3 arg11 x1 x2 0 57 1824 0 (by decide) (by decide) rfl rfl [] x) ?_
  refine And.intro (fun x => piece arg2 harg2 arg3 harg3 arg11 x1 x2 0 56 1792 0 (by decide) (by decide) rfl rfl [] x) ?_
  refine And.intro (fun x => piece arg2 harg2 arg3 harg3 arg11 x1 x2 0 55 1760 0 (by decide) (by decide) rfl rfl [] x) ?_
  refine And.intro (fun x => piece arg2 harg2 arg3 harg3 arg11 x1 x2 0 54 1728 0 (by decide) (by decide) rfl rfl [] x) ?_
  refine And.intro (fun x => piece arg2 harg2 arg3 harg3 arg11 x1 x2 0 53 1696 0 (by decide) (by decide) rfl rfl [] x) ?_
  refine And.intro (fun x => piece arg2 harg2 arg3 harg3 arg11 x1 x2 0 52 1664 0 (by decide) (by decide) rfl rfl [] x) ?_
  refine And.intro (fun x => piece arg2 harg2 arg3 harg3 arg11 x1 x2 0 51 1632 0 (by decide) (by decide) rfl rfl [] x) ?_
  refine And.intro (fun x => piece arg2 harg2 arg3 harg3 arg11 x1 x2 0 50 1600 0 (by decide) (by decide) rfl rfl [] x) ?_
  refine And.intro (fun x => piece arg2 harg2 arg3 harg3 arg11 x1 x2 0 49 1568 0 (by decide) (by decide) rfl rfl [] x) ?_
  refine And.intro (fun x => piece arg2 harg2 arg3 harg3 arg11 x1 x2 0 48 1536 0 (by decide) (by decide) rfl rfl [] x) ?_
  refine And.intro (fun x => piece arg2 harg2 arg3 harg3 arg11 x1 x2 0 47 1504 0 (by decide) (by decide) rfl rfl [] x) ?_
  refine And.intro (fun x => piece arg2 harg2 arg3 harg3 arg11 x1 x2 0 46 1472 0 (by decide) (by decide) rfl rfl [] x) ?_
  refine And.intro (fun x => piece arg2 harg2 arg3 harg3 arg11 x1 x2 0 45 1440 0 (by decide) (by decide) rfl rfl [] x) ?_
  refine And.intro (fun x => piece arg2 harg2 arg3 harg3 arg11 x1 x2 0 44 1408 0 (by decide) (by decide) rfl rfl [] x) ?_
  refine And.intro (fun x => piece arg2 harg2 arg3 harg3 arg11 x1 x2 0 43 1376 0 (by decide) (by decide) rfl rfl [] x) ?_
  refine And.intro (fun x => piece arg2 harg2 arg3 harg3 arg11 x1 x2 0 42 1344 0 (by decide) (by decide) rfl rfl [] x) ?_
  refine And.intro (fun x => piece arg2 harg2 arg3 harg3 arg11 x1 x2 0 41 1312 0 (by decide) (by decide) rfl rfl [] x) ?_
  refine And.intro (fun x => piece arg2 harg2 arg3 harg3 arg11 x1 x2 0 40 1280 0 (by decide) (by decide) rfl rfl [] x) ?_
  refine And.intro (fun x => piece arg2 harg2 arg3 harg3 arg11 x1 x2 0 39 1248 0 (by decide) (by decide) rfl rfl [] x) ?_
  refine And.intro (fun x => piece arg2 harg2 arg3 harg3 arg11 x1 x2 0 38 1216 0 (by decide) (by decide) rfl rfl [] x) ?_
  refine And.intro (fun x => piece arg2 harg2 arg3 harg3 arg11 x1 x2 0 37 1184 0 (by decide) (by decide) rfl rfl [] x) ?_
  refine And.intro (fun x => piece arg2 harg2 arg3 harg3 arg11 x1 x2 0 36 1152 0 (by decide) (by decide) rfl rfl [] x) ?_
  refine And.intro (fun x => piece arg2 harg2 arg3 harg3 arg11 x1 x2 0 35 1120 0 (by decide) (by decide) rfl rfl [] x) ?_
  refine And.intro (fun x => piece arg2 harg2 arg3 harg3 arg11 x1 x2 0 34 1088 0 (by decide) (by decide) rfl rfl [] x) ?_
  refine And.intro (fun x => piece arg2 harg2 arg3 harg3 arg11 x1 x2 0 33 1056 0 (by decide) (by decide) rfl rfl [] x) ?_
  refine And.intro (fun x => piece arg2 harg2 arg3 harg3 arg11 x1 x2 0 32 1024 0 (by decide) (by decide) rfl rfl [] x) ?_
  refine And.intro (fun x => piece arg2 harg2 arg3 harg3 arg11 x1 x2 0 31 992 0 (by decide) (by decide) rfl rfl [] x) ?_
  refine And.intro (fun x => piece arg2 harg2 arg3 harg3 arg11 x1 x2 0 30 960 0 (by decide) (by decide) rfl rfl [] x) ?_
  refine And.intro (fun x => piece arg2 harg2 arg3 harg3 arg11 x1 x2 0 29 928 0 (by decide) (by decide) rfl rfl [] x) ?_
  refine And.intro (fun x => piece arg2 harg2 arg3 harg3 arg11 x1 x2 0 28 896 0 (by decide) (by decide) rfl rfl [] x) ?_
  refine And.intro (fun x => piece arg2 harg2 arg3 harg3 arg11 x1 x2 0 27 864 0 (by decide) (by decide) rfl rfl [] x) ?_
  refine And.intro (fun x => piece arg2 harg2 arg3 harg3 arg11 x1 x2 0 26 832 0 (by decide) (by decide) rfl rfl [] x) ?_
  refine And.intro (fun x => piece arg2 harg2 arg3 harg3 arg11 x1 x2 0 25 800 0 (by decide) (by decide) rfl rfl [] x) ?_
  refine And.intro (fun x => piece arg2 harg2 arg3 harg3 arg11 x1 x2 0 24 768 0 (by decide) (by decide) rfl rfl [] x) ?_
  refine And.intro (fun x => piece arg2 harg2 arg3 harg3 arg11 x1 x2 0 23 736 0 (by decide) (by decide) rfl rfl [] x) ?_
  refine And.intro (fun x => piece arg2 harg2 arg3 harg3 arg11 x1 x2 0 22 704 0 (by decide) (by decide) rfl rfl [] x) ?_
  refine And.intro (fun x => piece arg2 harg2 arg3 harg3 arg11 x1 x2 0 21 672 0 (by decide) (by decide) rfl rfl [] x) ?_
  refine And.intro (fun x => piece arg2 harg2 arg3 harg3 arg11 x1 x2 0 20 640 0 (by decide) (by decide) rfl rfl [] x) ?_
  refine And.intro (fun x => piece arg2 harg2 arg3 harg3 arg11 x1 x2 0 19 608 0 (by decide) (by decide) rfl rfl [] x) ?_
  refine And.intro (fun x => piece arg2 harg2 arg3 harg3 arg11 x1 x2 0 18 576 0 (by decide) (by decide) rfl rfl [] x) ?_
  refine And.intro (fun x => piece arg2 harg2 arg3 harg3 arg11 x1 x2 0 17 544 0 (by decide) (by decide) rfl rfl [] x) ?_
  refine And.intro (fun x => piece arg2 harg2 arg3 harg3 arg11 x1 x2 0 16 512 0 (by decide) (by decide) rfl rfl [] x) ?_
  refine And.intro (fun x => piece arg2 harg2 arg3 harg3 arg11 x1 x2 0 15 480 0 (by decide) (by decide) rfl rfl [] x) ?_
  refine And.intro (fun x => piece arg2 harg2 arg3 harg3 arg11 x1 x2 0 14 448 0 (by decide) (by decide) rfl rfl [] x) ?_
  refine And.intro (fun x => piece arg2 harg2 arg3 harg3 arg11 x1 x2 0 13 416 0 (by decide) (by decide) rfl rfl [] x) ?_
  refine And.intro (fun x => piece arg2 harg2 arg3 harg3 arg11 x1 x2 0 12 384 0 (by decide) (by decide) rfl rfl [] x) ?_
  refine And.intro (fun x => piece arg2 harg2 arg3 harg3 arg11 x1 x2 0 11 352 0 (by decide) (by decide) rfl rfl [] x) ?_
  refine And.intro (fun x => piece arg2 harg2 arg3 harg3 arg11 x1 x2 0 10 320 0 (by decide) (by decide) rfl rfl [] x) ?_
  refine And.intro (fun x => piece arg2 harg2 arg3 harg3 arg11 x1 x2 0 9 288 0 (by decide) (by decide) rfl rfl [] x) ?_
  refine And.intro (fun x => piece arg2 harg2 arg3 harg3 arg11 x1 x2 0 8 256 0 (by decide) (by decide) rfl rfl [] x) ?_
  refine And.intro (fun x => piece arg2 harg2 arg3 harg3 arg11 x1 x2 0 7 224 0 (by decide) (by decide) rfl rfl [] x) ?_
  refine And.intro (fun x => piece arg2 harg2 arg3 harg3 arg11 x1 x2 0 6 192 0 (by decide) (by decide) rfl rfl [] x) ?_
  refine And.intro (fun x => piece arg2 harg2 arg3 harg3 arg11 x1 x2 0 5 160 0 (by decide) (by decide) rfl rfl [] x) ?_
  refine And.intro (fun x => piece arg2 harg2 arg3 harg3 arg11 x1 x2 0 4 128 0 (by decide) (by decide) rfl rfl [] x) ?_
  refine And.intro (fun x => piece arg2 harg2 arg3 harg3 arg11 x1 x2 0 3 96 0 (by decide) (by decide) rfl rfl [] x) ?_
  refine And.intro (fun x => piece arg2 harg2 arg3 harg3 arg11 x1 x2 0 2 64 0 (by decide) (by decide) rfl rfl [] x) ?_
  refine And.intro (fun x => piece arg2 harg2 arg3 harg3 arg11 x1 x2 0 1 32 0 (by decide) (by decide) rfl rfl [] x) ?_
  refine And.intro (fun x => piece arg2 harg2 arg3 harg3 arg11 x1 x2 0 0 0 0 (by decide) (by decide) rfl rfl [] x) ?_
  exact trivial

set_option maxHeartbeats 8000000 in
/-- The stores into both halves all hold the widened weights. -/
theorem pieces_both : View.PiecesOf (weights x1 x2) (kernelRun0_A.sl.HS0_192 c arg2 harg2 arg3 harg3 arg11 x1 x2) := by
  unfold kernelRun0_A.sl.HS0_192
  refine And.intro (fun x => piece arg2 harg2 arg3 harg3 arg11 x1 x2 1 95 3040 512 (by decide) (by decide) rfl rfl
    (kernelRun0_A.sl.HS1_1 c arg3 harg3 x2) x) ?_
  refine And.intro (fun x => piece arg2 harg2 arg3 harg3 arg11 x1 x2 1 94 3008 512 (by decide) (by decide) rfl rfl
    (kernelRun0_A.sl.HS1_1 c arg3 harg3 x2) x) ?_
  refine And.intro (fun x => piece arg2 harg2 arg3 harg3 arg11 x1 x2 1 93 2976 512 (by decide) (by decide) rfl rfl
    (kernelRun0_A.sl.HS1_1 c arg3 harg3 x2) x) ?_
  refine And.intro (fun x => piece arg2 harg2 arg3 harg3 arg11 x1 x2 1 92 2944 512 (by decide) (by decide) rfl rfl
    (kernelRun0_A.sl.HS1_1 c arg3 harg3 x2) x) ?_
  refine And.intro (fun x => piece arg2 harg2 arg3 harg3 arg11 x1 x2 1 91 2912 512 (by decide) (by decide) rfl rfl
    (kernelRun0_A.sl.HS1_1 c arg3 harg3 x2) x) ?_
  refine And.intro (fun x => piece arg2 harg2 arg3 harg3 arg11 x1 x2 1 90 2880 512 (by decide) (by decide) rfl rfl
    (kernelRun0_A.sl.HS1_1 c arg3 harg3 x2) x) ?_
  refine And.intro (fun x => piece arg2 harg2 arg3 harg3 arg11 x1 x2 1 89 2848 512 (by decide) (by decide) rfl rfl
    (kernelRun0_A.sl.HS1_1 c arg3 harg3 x2) x) ?_
  refine And.intro (fun x => piece arg2 harg2 arg3 harg3 arg11 x1 x2 1 88 2816 512 (by decide) (by decide) rfl rfl
    (kernelRun0_A.sl.HS1_1 c arg3 harg3 x2) x) ?_
  refine And.intro (fun x => piece arg2 harg2 arg3 harg3 arg11 x1 x2 1 87 2784 512 (by decide) (by decide) rfl rfl
    (kernelRun0_A.sl.HS1_1 c arg3 harg3 x2) x) ?_
  refine And.intro (fun x => piece arg2 harg2 arg3 harg3 arg11 x1 x2 1 86 2752 512 (by decide) (by decide) rfl rfl
    (kernelRun0_A.sl.HS1_1 c arg3 harg3 x2) x) ?_
  refine And.intro (fun x => piece arg2 harg2 arg3 harg3 arg11 x1 x2 1 85 2720 512 (by decide) (by decide) rfl rfl
    (kernelRun0_A.sl.HS1_1 c arg3 harg3 x2) x) ?_
  refine And.intro (fun x => piece arg2 harg2 arg3 harg3 arg11 x1 x2 1 84 2688 512 (by decide) (by decide) rfl rfl
    (kernelRun0_A.sl.HS1_1 c arg3 harg3 x2) x) ?_
  refine And.intro (fun x => piece arg2 harg2 arg3 harg3 arg11 x1 x2 1 83 2656 512 (by decide) (by decide) rfl rfl
    (kernelRun0_A.sl.HS1_1 c arg3 harg3 x2) x) ?_
  refine And.intro (fun x => piece arg2 harg2 arg3 harg3 arg11 x1 x2 1 82 2624 512 (by decide) (by decide) rfl rfl
    (kernelRun0_A.sl.HS1_1 c arg3 harg3 x2) x) ?_
  refine And.intro (fun x => piece arg2 harg2 arg3 harg3 arg11 x1 x2 1 81 2592 512 (by decide) (by decide) rfl rfl
    (kernelRun0_A.sl.HS1_1 c arg3 harg3 x2) x) ?_
  refine And.intro (fun x => piece arg2 harg2 arg3 harg3 arg11 x1 x2 1 80 2560 512 (by decide) (by decide) rfl rfl
    (kernelRun0_A.sl.HS1_1 c arg3 harg3 x2) x) ?_
  refine And.intro (fun x => piece arg2 harg2 arg3 harg3 arg11 x1 x2 1 79 2528 512 (by decide) (by decide) rfl rfl
    (kernelRun0_A.sl.HS1_1 c arg3 harg3 x2) x) ?_
  refine And.intro (fun x => piece arg2 harg2 arg3 harg3 arg11 x1 x2 1 78 2496 512 (by decide) (by decide) rfl rfl
    (kernelRun0_A.sl.HS1_1 c arg3 harg3 x2) x) ?_
  refine And.intro (fun x => piece arg2 harg2 arg3 harg3 arg11 x1 x2 1 77 2464 512 (by decide) (by decide) rfl rfl
    (kernelRun0_A.sl.HS1_1 c arg3 harg3 x2) x) ?_
  refine And.intro (fun x => piece arg2 harg2 arg3 harg3 arg11 x1 x2 1 76 2432 512 (by decide) (by decide) rfl rfl
    (kernelRun0_A.sl.HS1_1 c arg3 harg3 x2) x) ?_
  refine And.intro (fun x => piece arg2 harg2 arg3 harg3 arg11 x1 x2 1 75 2400 512 (by decide) (by decide) rfl rfl
    (kernelRun0_A.sl.HS1_1 c arg3 harg3 x2) x) ?_
  refine And.intro (fun x => piece arg2 harg2 arg3 harg3 arg11 x1 x2 1 74 2368 512 (by decide) (by decide) rfl rfl
    (kernelRun0_A.sl.HS1_1 c arg3 harg3 x2) x) ?_
  refine And.intro (fun x => piece arg2 harg2 arg3 harg3 arg11 x1 x2 1 73 2336 512 (by decide) (by decide) rfl rfl
    (kernelRun0_A.sl.HS1_1 c arg3 harg3 x2) x) ?_
  refine And.intro (fun x => piece arg2 harg2 arg3 harg3 arg11 x1 x2 1 72 2304 512 (by decide) (by decide) rfl rfl
    (kernelRun0_A.sl.HS1_1 c arg3 harg3 x2) x) ?_
  refine And.intro (fun x => piece arg2 harg2 arg3 harg3 arg11 x1 x2 1 71 2272 512 (by decide) (by decide) rfl rfl
    (kernelRun0_A.sl.HS1_1 c arg3 harg3 x2) x) ?_
  refine And.intro (fun x => piece arg2 harg2 arg3 harg3 arg11 x1 x2 1 70 2240 512 (by decide) (by decide) rfl rfl
    (kernelRun0_A.sl.HS1_1 c arg3 harg3 x2) x) ?_
  refine And.intro (fun x => piece arg2 harg2 arg3 harg3 arg11 x1 x2 1 69 2208 512 (by decide) (by decide) rfl rfl
    (kernelRun0_A.sl.HS1_1 c arg3 harg3 x2) x) ?_
  refine And.intro (fun x => piece arg2 harg2 arg3 harg3 arg11 x1 x2 1 68 2176 512 (by decide) (by decide) rfl rfl
    (kernelRun0_A.sl.HS1_1 c arg3 harg3 x2) x) ?_
  refine And.intro (fun x => piece arg2 harg2 arg3 harg3 arg11 x1 x2 1 67 2144 512 (by decide) (by decide) rfl rfl
    (kernelRun0_A.sl.HS1_1 c arg3 harg3 x2) x) ?_
  refine And.intro (fun x => piece arg2 harg2 arg3 harg3 arg11 x1 x2 1 66 2112 512 (by decide) (by decide) rfl rfl
    (kernelRun0_A.sl.HS1_1 c arg3 harg3 x2) x) ?_
  refine And.intro (fun x => piece arg2 harg2 arg3 harg3 arg11 x1 x2 1 65 2080 512 (by decide) (by decide) rfl rfl
    (kernelRun0_A.sl.HS1_1 c arg3 harg3 x2) x) ?_
  refine And.intro (fun x => piece arg2 harg2 arg3 harg3 arg11 x1 x2 1 64 2048 512 (by decide) (by decide) rfl rfl
    (kernelRun0_A.sl.HS1_1 c arg3 harg3 x2) x) ?_
  refine And.intro (fun x => piece arg2 harg2 arg3 harg3 arg11 x1 x2 1 63 2016 512 (by decide) (by decide) rfl rfl
    (kernelRun0_A.sl.HS1_1 c arg3 harg3 x2) x) ?_
  refine And.intro (fun x => piece arg2 harg2 arg3 harg3 arg11 x1 x2 1 62 1984 512 (by decide) (by decide) rfl rfl
    (kernelRun0_A.sl.HS1_1 c arg3 harg3 x2) x) ?_
  refine And.intro (fun x => piece arg2 harg2 arg3 harg3 arg11 x1 x2 1 61 1952 512 (by decide) (by decide) rfl rfl
    (kernelRun0_A.sl.HS1_1 c arg3 harg3 x2) x) ?_
  refine And.intro (fun x => piece arg2 harg2 arg3 harg3 arg11 x1 x2 1 60 1920 512 (by decide) (by decide) rfl rfl
    (kernelRun0_A.sl.HS1_1 c arg3 harg3 x2) x) ?_
  refine And.intro (fun x => piece arg2 harg2 arg3 harg3 arg11 x1 x2 1 59 1888 512 (by decide) (by decide) rfl rfl
    (kernelRun0_A.sl.HS1_1 c arg3 harg3 x2) x) ?_
  refine And.intro (fun x => piece arg2 harg2 arg3 harg3 arg11 x1 x2 1 58 1856 512 (by decide) (by decide) rfl rfl
    (kernelRun0_A.sl.HS1_1 c arg3 harg3 x2) x) ?_
  refine And.intro (fun x => piece arg2 harg2 arg3 harg3 arg11 x1 x2 1 57 1824 512 (by decide) (by decide) rfl rfl
    (kernelRun0_A.sl.HS1_1 c arg3 harg3 x2) x) ?_
  refine And.intro (fun x => piece arg2 harg2 arg3 harg3 arg11 x1 x2 1 56 1792 512 (by decide) (by decide) rfl rfl
    (kernelRun0_A.sl.HS1_1 c arg3 harg3 x2) x) ?_
  refine And.intro (fun x => piece arg2 harg2 arg3 harg3 arg11 x1 x2 1 55 1760 512 (by decide) (by decide) rfl rfl
    (kernelRun0_A.sl.HS1_1 c arg3 harg3 x2) x) ?_
  refine And.intro (fun x => piece arg2 harg2 arg3 harg3 arg11 x1 x2 1 54 1728 512 (by decide) (by decide) rfl rfl
    (kernelRun0_A.sl.HS1_1 c arg3 harg3 x2) x) ?_
  refine And.intro (fun x => piece arg2 harg2 arg3 harg3 arg11 x1 x2 1 53 1696 512 (by decide) (by decide) rfl rfl
    (kernelRun0_A.sl.HS1_1 c arg3 harg3 x2) x) ?_
  refine And.intro (fun x => piece arg2 harg2 arg3 harg3 arg11 x1 x2 1 52 1664 512 (by decide) (by decide) rfl rfl
    (kernelRun0_A.sl.HS1_1 c arg3 harg3 x2) x) ?_
  refine And.intro (fun x => piece arg2 harg2 arg3 harg3 arg11 x1 x2 1 51 1632 512 (by decide) (by decide) rfl rfl
    (kernelRun0_A.sl.HS1_1 c arg3 harg3 x2) x) ?_
  refine And.intro (fun x => piece arg2 harg2 arg3 harg3 arg11 x1 x2 1 50 1600 512 (by decide) (by decide) rfl rfl
    (kernelRun0_A.sl.HS1_1 c arg3 harg3 x2) x) ?_
  refine And.intro (fun x => piece arg2 harg2 arg3 harg3 arg11 x1 x2 1 49 1568 512 (by decide) (by decide) rfl rfl
    (kernelRun0_A.sl.HS1_1 c arg3 harg3 x2) x) ?_
  refine And.intro (fun x => piece arg2 harg2 arg3 harg3 arg11 x1 x2 1 48 1536 512 (by decide) (by decide) rfl rfl
    (kernelRun0_A.sl.HS1_1 c arg3 harg3 x2) x) ?_
  refine And.intro (fun x => piece arg2 harg2 arg3 harg3 arg11 x1 x2 1 47 1504 512 (by decide) (by decide) rfl rfl
    (kernelRun0_A.sl.HS1_1 c arg3 harg3 x2) x) ?_
  refine And.intro (fun x => piece arg2 harg2 arg3 harg3 arg11 x1 x2 1 46 1472 512 (by decide) (by decide) rfl rfl
    (kernelRun0_A.sl.HS1_1 c arg3 harg3 x2) x) ?_
  refine And.intro (fun x => piece arg2 harg2 arg3 harg3 arg11 x1 x2 1 45 1440 512 (by decide) (by decide) rfl rfl
    (kernelRun0_A.sl.HS1_1 c arg3 harg3 x2) x) ?_
  refine And.intro (fun x => piece arg2 harg2 arg3 harg3 arg11 x1 x2 1 44 1408 512 (by decide) (by decide) rfl rfl
    (kernelRun0_A.sl.HS1_1 c arg3 harg3 x2) x) ?_
  refine And.intro (fun x => piece arg2 harg2 arg3 harg3 arg11 x1 x2 1 43 1376 512 (by decide) (by decide) rfl rfl
    (kernelRun0_A.sl.HS1_1 c arg3 harg3 x2) x) ?_
  refine And.intro (fun x => piece arg2 harg2 arg3 harg3 arg11 x1 x2 1 42 1344 512 (by decide) (by decide) rfl rfl
    (kernelRun0_A.sl.HS1_1 c arg3 harg3 x2) x) ?_
  refine And.intro (fun x => piece arg2 harg2 arg3 harg3 arg11 x1 x2 1 41 1312 512 (by decide) (by decide) rfl rfl
    (kernelRun0_A.sl.HS1_1 c arg3 harg3 x2) x) ?_
  refine And.intro (fun x => piece arg2 harg2 arg3 harg3 arg11 x1 x2 1 40 1280 512 (by decide) (by decide) rfl rfl
    (kernelRun0_A.sl.HS1_1 c arg3 harg3 x2) x) ?_
  refine And.intro (fun x => piece arg2 harg2 arg3 harg3 arg11 x1 x2 1 39 1248 512 (by decide) (by decide) rfl rfl
    (kernelRun0_A.sl.HS1_1 c arg3 harg3 x2) x) ?_
  refine And.intro (fun x => piece arg2 harg2 arg3 harg3 arg11 x1 x2 1 38 1216 512 (by decide) (by decide) rfl rfl
    (kernelRun0_A.sl.HS1_1 c arg3 harg3 x2) x) ?_
  refine And.intro (fun x => piece arg2 harg2 arg3 harg3 arg11 x1 x2 1 37 1184 512 (by decide) (by decide) rfl rfl
    (kernelRun0_A.sl.HS1_1 c arg3 harg3 x2) x) ?_
  refine And.intro (fun x => piece arg2 harg2 arg3 harg3 arg11 x1 x2 1 36 1152 512 (by decide) (by decide) rfl rfl
    (kernelRun0_A.sl.HS1_1 c arg3 harg3 x2) x) ?_
  refine And.intro (fun x => piece arg2 harg2 arg3 harg3 arg11 x1 x2 1 35 1120 512 (by decide) (by decide) rfl rfl
    (kernelRun0_A.sl.HS1_1 c arg3 harg3 x2) x) ?_
  refine And.intro (fun x => piece arg2 harg2 arg3 harg3 arg11 x1 x2 1 34 1088 512 (by decide) (by decide) rfl rfl
    (kernelRun0_A.sl.HS1_1 c arg3 harg3 x2) x) ?_
  refine And.intro (fun x => piece arg2 harg2 arg3 harg3 arg11 x1 x2 1 33 1056 512 (by decide) (by decide) rfl rfl
    (kernelRun0_A.sl.HS1_1 c arg3 harg3 x2) x) ?_
  refine And.intro (fun x => piece arg2 harg2 arg3 harg3 arg11 x1 x2 1 32 1024 512 (by decide) (by decide) rfl rfl
    (kernelRun0_A.sl.HS1_1 c arg3 harg3 x2) x) ?_
  refine And.intro (fun x => piece arg2 harg2 arg3 harg3 arg11 x1 x2 1 31 992 512 (by decide) (by decide) rfl rfl
    (kernelRun0_A.sl.HS1_1 c arg3 harg3 x2) x) ?_
  refine And.intro (fun x => piece arg2 harg2 arg3 harg3 arg11 x1 x2 1 30 960 512 (by decide) (by decide) rfl rfl
    (kernelRun0_A.sl.HS1_1 c arg3 harg3 x2) x) ?_
  refine And.intro (fun x => piece arg2 harg2 arg3 harg3 arg11 x1 x2 1 29 928 512 (by decide) (by decide) rfl rfl
    (kernelRun0_A.sl.HS1_1 c arg3 harg3 x2) x) ?_
  refine And.intro (fun x => piece arg2 harg2 arg3 harg3 arg11 x1 x2 1 28 896 512 (by decide) (by decide) rfl rfl
    (kernelRun0_A.sl.HS1_1 c arg3 harg3 x2) x) ?_
  refine And.intro (fun x => piece arg2 harg2 arg3 harg3 arg11 x1 x2 1 27 864 512 (by decide) (by decide) rfl rfl
    (kernelRun0_A.sl.HS1_1 c arg3 harg3 x2) x) ?_
  refine And.intro (fun x => piece arg2 harg2 arg3 harg3 arg11 x1 x2 1 26 832 512 (by decide) (by decide) rfl rfl
    (kernelRun0_A.sl.HS1_1 c arg3 harg3 x2) x) ?_
  refine And.intro (fun x => piece arg2 harg2 arg3 harg3 arg11 x1 x2 1 25 800 512 (by decide) (by decide) rfl rfl
    (kernelRun0_A.sl.HS1_1 c arg3 harg3 x2) x) ?_
  refine And.intro (fun x => piece arg2 harg2 arg3 harg3 arg11 x1 x2 1 24 768 512 (by decide) (by decide) rfl rfl
    (kernelRun0_A.sl.HS1_1 c arg3 harg3 x2) x) ?_
  refine And.intro (fun x => piece arg2 harg2 arg3 harg3 arg11 x1 x2 1 23 736 512 (by decide) (by decide) rfl rfl
    (kernelRun0_A.sl.HS1_1 c arg3 harg3 x2) x) ?_
  refine And.intro (fun x => piece arg2 harg2 arg3 harg3 arg11 x1 x2 1 22 704 512 (by decide) (by decide) rfl rfl
    (kernelRun0_A.sl.HS1_1 c arg3 harg3 x2) x) ?_
  refine And.intro (fun x => piece arg2 harg2 arg3 harg3 arg11 x1 x2 1 21 672 512 (by decide) (by decide) rfl rfl
    (kernelRun0_A.sl.HS1_1 c arg3 harg3 x2) x) ?_
  refine And.intro (fun x => piece arg2 harg2 arg3 harg3 arg11 x1 x2 1 20 640 512 (by decide) (by decide) rfl rfl
    (kernelRun0_A.sl.HS1_1 c arg3 harg3 x2) x) ?_
  refine And.intro (fun x => piece arg2 harg2 arg3 harg3 arg11 x1 x2 1 19 608 512 (by decide) (by decide) rfl rfl
    (kernelRun0_A.sl.HS1_1 c arg3 harg3 x2) x) ?_
  refine And.intro (fun x => piece arg2 harg2 arg3 harg3 arg11 x1 x2 1 18 576 512 (by decide) (by decide) rfl rfl
    (kernelRun0_A.sl.HS1_1 c arg3 harg3 x2) x) ?_
  refine And.intro (fun x => piece arg2 harg2 arg3 harg3 arg11 x1 x2 1 17 544 512 (by decide) (by decide) rfl rfl
    (kernelRun0_A.sl.HS1_1 c arg3 harg3 x2) x) ?_
  refine And.intro (fun x => piece arg2 harg2 arg3 harg3 arg11 x1 x2 1 16 512 512 (by decide) (by decide) rfl rfl
    (kernelRun0_A.sl.HS1_1 c arg3 harg3 x2) x) ?_
  refine And.intro (fun x => piece arg2 harg2 arg3 harg3 arg11 x1 x2 1 15 480 512 (by decide) (by decide) rfl rfl
    (kernelRun0_A.sl.HS1_1 c arg3 harg3 x2) x) ?_
  refine And.intro (fun x => piece arg2 harg2 arg3 harg3 arg11 x1 x2 1 14 448 512 (by decide) (by decide) rfl rfl
    (kernelRun0_A.sl.HS1_1 c arg3 harg3 x2) x) ?_
  refine And.intro (fun x => piece arg2 harg2 arg3 harg3 arg11 x1 x2 1 13 416 512 (by decide) (by decide) rfl rfl
    (kernelRun0_A.sl.HS1_1 c arg3 harg3 x2) x) ?_
  refine And.intro (fun x => piece arg2 harg2 arg3 harg3 arg11 x1 x2 1 12 384 512 (by decide) (by decide) rfl rfl
    (kernelRun0_A.sl.HS1_1 c arg3 harg3 x2) x) ?_
  refine And.intro (fun x => piece arg2 harg2 arg3 harg3 arg11 x1 x2 1 11 352 512 (by decide) (by decide) rfl rfl
    (kernelRun0_A.sl.HS1_1 c arg3 harg3 x2) x) ?_
  refine And.intro (fun x => piece arg2 harg2 arg3 harg3 arg11 x1 x2 1 10 320 512 (by decide) (by decide) rfl rfl
    (kernelRun0_A.sl.HS1_1 c arg3 harg3 x2) x) ?_
  refine And.intro (fun x => piece arg2 harg2 arg3 harg3 arg11 x1 x2 1 9 288 512 (by decide) (by decide) rfl rfl
    (kernelRun0_A.sl.HS1_1 c arg3 harg3 x2) x) ?_
  refine And.intro (fun x => piece arg2 harg2 arg3 harg3 arg11 x1 x2 1 8 256 512 (by decide) (by decide) rfl rfl
    (kernelRun0_A.sl.HS1_1 c arg3 harg3 x2) x) ?_
  refine And.intro (fun x => piece arg2 harg2 arg3 harg3 arg11 x1 x2 1 7 224 512 (by decide) (by decide) rfl rfl
    (kernelRun0_A.sl.HS1_1 c arg3 harg3 x2) x) ?_
  refine And.intro (fun x => piece arg2 harg2 arg3 harg3 arg11 x1 x2 1 6 192 512 (by decide) (by decide) rfl rfl
    (kernelRun0_A.sl.HS1_1 c arg3 harg3 x2) x) ?_
  refine And.intro (fun x => piece arg2 harg2 arg3 harg3 arg11 x1 x2 1 5 160 512 (by decide) (by decide) rfl rfl
    (kernelRun0_A.sl.HS1_1 c arg3 harg3 x2) x) ?_
  refine And.intro (fun x => piece arg2 harg2 arg3 harg3 arg11 x1 x2 1 4 128 512 (by decide) (by decide) rfl rfl
    (kernelRun0_A.sl.HS1_1 c arg3 harg3 x2) x) ?_
  refine And.intro (fun x => piece arg2 harg2 arg3 harg3 arg11 x1 x2 1 3 96 512 (by decide) (by decide) rfl rfl
    (kernelRun0_A.sl.HS1_1 c arg3 harg3 x2) x) ?_
  refine And.intro (fun x => piece arg2 harg2 arg3 harg3 arg11 x1 x2 1 2 64 512 (by decide) (by decide) rfl rfl
    (kernelRun0_A.sl.HS1_1 c arg3 harg3 x2) x) ?_
  refine And.intro (fun x => piece arg2 harg2 arg3 harg3 arg11 x1 x2 1 1 32 512 (by decide) (by decide) rfl rfl
    (kernelRun0_A.sl.HS1_1 c arg3 harg3 x2) x) ?_
  refine And.intro (fun x => piece arg2 harg2 arg3 harg3 arg11 x1 x2 1 0 0 512 (by decide) (by decide) rfl rfl
    (kernelRun0_A.sl.HS1_1 c arg3 harg3 x2) x) ?_
  exact pieces_first c arg2 harg2 arg3 harg3 arg11 x1 x2

/-- The first half is written whole before it is read. -/
theorem cover_first (k : Fin 3072) (q : Fin 512) :
    ∃ p ∈ kernelRun0_A.sl.HS0_96 (F := Ideal) c arg2 harg2 arg3 harg3 arg11 x1 x2, (ix3 0 k q : S2x3072x512.Idx) ∈ p.1.set := by
  have h := View.cover_of_tiledBy (s := S2x3072x512) (Val := Elt Ideal)
    ((⟨Rect.unit (s := S2x3072x512) ![1, 0, 0] S1x3072x512.size inb_S2x3072x512_S1x3072x512_1_0_0, fun _ => (0 : EReal)⟩
      : View.Piece (Elt Ideal) S2x3072x512 .bf16) :: kernelRun0_A.sl.HS0_96 c arg2 harg2 arg3 harg3 arg11 x1 x2)
    ![1, 32, 512] (by sl_kernel_rfl) (ix3 0 k q)
  obtain ⟨p, hp, hy⟩ := h
  rcases List.mem_cons.mp hp with rfl | hp
  · exact absurd hy (by
      rw [Rect.mem_set_unit]
      intro hh
      have := (hh 0).1
      exact absurd this (show ¬ (1 ≤ 0) by decide))
  · exact ⟨p, hp, hy⟩

/-- Both halves are written whole before the second is read. -/
theorem cover_both (y : S2x3072x512.Idx) :
    ∃ p ∈ kernelRun0_A.sl.HS0_192 (F := Ideal) c arg2 harg2 arg3 harg3 arg11 x1 x2, y ∈ p.1.set :=
  View.cover_of_tiledL _ ![1, 32, 512] (by sl_kernel_rfl) y

end Cert.ProjKIdeal.Weights

end
-- ==== Proof.KBlock.lean ====
/-
  One grid point of the projection kernel: what its block of 1024 columns holds, as a function of the windows' contents.
-/
module

public import proofs.«01_k».proof.Proof.KStores

@[expose] public section

set_option maxRecDepth 16384

noncomputable section

namespace Cert.ProjKIdeal.Block

open Cert.ProjKIdeal Cert.ProjKIdeal.Gen Idealize.ShloMosaic Idealize.ShloMosaic.TcCoe Idealize.SL.Sem
open Cert.Scale Cert.Rotary Cert.ProjKIdeal.Pieces Cert.ProjKIdeal.Weights

/-- A tile of the projection: 256 rows times the widened weights of one half, plus the bias. -/
def product (a : Vec Ideal S256x3072 .bf16) (w : Vec Ideal S1x3072x512 .bf16) (b : Vec Ideal S1x1x512 .f32) : FVec Ideal S256x512 .f32 :=
  have w' : FVec Ideal S3072x512 .bf16 := shapeCast S3072x512 w shapeCasts_S1x3072x512_S3072x512
  have z : FVec Ideal S256x512 .f32 := constant S256x512 .f32 0x00000000#32
  have d : FVec Ideal S256x512 .f32 := matmul (φ₁ := .bf16) (φ₂ := .bf16) dot_S256x3072_S3072x512_S256x512_1_0_0_1_n_n none a w' z
  have b' : FVec Ideal S1x512 .f32 := shapeCast S1x512 b shapeCasts_S1x1x512_S1x512
  have e : FVec Ideal S256x512 .f32 := broadcastTo S256x512 b' broadcasts_S1x512_S256x512
  addf d e

theorem product_at (a : Vec Ideal S256x3072 .bf16) (w : Vec Ideal S1x3072x512 .bf16) (b : Vec Ideal S1x1x512 .f32) (r : Fin 256) (q : Fin 512) :
    product a w b (ix2 r q) = ((∑ k : Fin 3072, (a (ix2 r k) : EReal) * w (ix3 0 k q)) + b (ix3 0 0 q) : EReal) := by
  unfold product
  pointwise

section
variable (x0 : Vec Ideal S1536x3072 .bf16) (x1 : Vec Ideal S3072x1024 .fp8e4m3) (x2 : Vec Ideal S96x1024 .i8)
  (x3 : Vec Ideal S1x1x1024 .f32) (x4 : Vec Ideal S1x128 .f32) (x5 x6 : Vec Ideal S1536x128 .f32)

/-- Entry `(i, q)` of the block's projection, before its heads are normalised. -/
def proj (i : Fin 1536) (q : Fin 1024) : EReal :=
  (∑ k : Fin 3072, (x0 (ix2 i k) : EReal) * ((x1 (ix2 k q) : EReal) * scaleOf (x2 (ix2 (⟨k.val / 32, by omega⟩ : Fin 96) q))))
    + (x3 (ix3 0 0 q) : EReal)

/-- Entry `(i, q)` of the block: the head that column `q` lies in, normalised and rotated. -/
def entry (i : Fin 1536) (q : Fin 1024) : EReal :=
  normRot (fun j => proj x0 x1 x2 x3 i ⟨128 * (q.val / 128) + j.val, by omega⟩) (fun j => x4 (ix2 0 j)) (fun j => x5 (ix2 i j))
    (fun j => x6 (ix2 i j)) ⟨q.val % 128, by omega⟩

/-- The block of 1024 columns. -/
def block (y : S1536x1024.Idx) : EReal := entry x0 x1 x2 x3 x4 x5 x6 (y 0) (y 1)
end

theorem a_inb (r : Nat) (hr : r + 256 ≤ 1536) : ∀ a, (![r, 0] : Fin 2 → Nat) a + S256x3072.size a ≤ S1536x3072.size a
  | ⟨0, _⟩ => hr
  | ⟨1, _⟩ => by show 0 + 3072 ≤ 3072; omega

theorem b_inb (q : Nat) (hq : q + 512 ≤ 1024) : ∀ a, (![0, 0, q] : Fin 3 → Nat) a + S1x1x512.size a ≤ S1x1x1024.size a
  | ⟨0, _⟩ => by show 0 + 1 ≤ 1; omega
  | ⟨1, _⟩ => by show 0 + 1 ≤ 1; omega
  | ⟨2, _⟩ => hq

theorem r_inb (r : Nat) (hr : r + 256 ≤ 1536) : ∀ a, (![r, 0] : Fin 2 → Nat) a + S256x128.size a ≤ S1536x128.size a
  | ⟨0, _⟩ => hr
  | ⟨1, _⟩ => by show 0 + 128 ≤ 128; omega

theorem n_inb : ∀ a, (![0, 0] : Fin 2 → Nat) a + S1x128.size a ≤ S1x128.size a
  | ⟨0, _⟩ => by show 0 + 1 ≤ 1; omega
  | ⟨1, _⟩ => by show 0 + 128 ≤ 128; omega

theorem o_inb (r p : Nat) (hr : r + 256 ≤ 1536) (hp : p + 128 ≤ 1024) :
    ∀ a, (![r, p] : Fin 2 → Nat) a + S256x128.size a ≤ S1536x1024.size a
  | ⟨0, _⟩ => hr
  | ⟨1, _⟩ => hp

/-- What one store of a head holds: rows `r …` and columns `p …` of the block. -/
theorem piece (arg1 : Memref sig .tc .vmem S1536x3072 .bf16) (harg1 : arg1.IsWhole)
    (arg4 : Memref sig .tc .vmem S1x1x1024 .f32) (harg4 : arg4.IsWhole) (arg5 : Memref sig .tc .vmem S1x128 .f32) (harg5 : arg5.IsWhole)
    (arg6 : Memref sig .tc .vmem S1536x128 .f32) (harg6 : arg6.IsWhole) (arg7 : Memref sig .tc .vmem S1536x128 .f32) (harg7 : arg7.IsWhole)
    (x0 : Vec Ideal S1536x3072 .bf16) (x1 : Vec Ideal S3072x1024 .fp8e4m3) (x2 : Vec Ideal S96x1024 .i8)
    (x3 : Vec Ideal S1x1x1024 .f32) (x4 : Vec Ideal S1x128 .f32) (x5 x6 : Vec Ideal S1536x128 .f32)
    (n : Fin 2) (w : Vec Ideal S1x3072x512 .bf16) (hw : ∀ k q, w (ix3 0 k q) = weight x1 x2 n k q)
    (r q o p : Nat) (hr : r + 256 ≤ 1536) (hq : q = 512 * n.val) (hq' : q + 512 ≤ 1024) (ho : o + 128 ≤ 512) (ho' : o % 128 = 0)
    (hp : p = 512 * n.val + o) (hp' : p + 128 ≤ 1024) (hs : S256x512.Slices ![0, o] S256x128) (x : S256x128.Idx) :
    head ![0, o] hs
      (product (View.readAt (Elt Ideal) arg1.view (Rect.unit (s := S1536x3072) ![r, 0] S256x3072.size (a_inb r hr)).toLoadRect (harg1.unread x0)) w
        (View.readAt (Elt Ideal) arg4.view (Rect.unit (s := S1x1x1024) ![0, 0, q] S1x1x512.size (b_inb q hq')).toLoadRect (harg4.unread x3)))
      (View.readAt (Elt Ideal) arg6.view (Rect.unit (s := S1536x128) ![r, 0] S256x128.size (r_inb r hr)).toLoadRect (harg6.unread x5))
      (View.readAt (Elt Ideal) arg7.view (Rect.unit (s := S1536x128) ![r, 0] S256x128.size (r_inb r hr)).toLoadRect (harg7.unread x6))
      (View.readAt (Elt Ideal) arg5.view (Rect.unit (s := S1x128) ![0, 0] S1x128.size n_inb).toLoadRect (harg5.unread x4)) x
      = block x0 x1 x2 x3 x4 x5 x6 ((Rect.unit (s := S1536x1024) ![r, p] S256x128.size (o_inb r p hr hp')).emb x) := by
  have hx0 : (x 0).val < 256 := (x 0).isLt
  have hx1 : (x 1).val < 128 := (x 1).isLt
  have hn : n.val < 2 := n.isLt
  have hx : x = ix2 (⟨(x 0).val, hx0⟩ : Fin 256) (⟨(x 1).val, hx1⟩ : Fin 128) := by
    funext a
    match a with
    | ⟨0, _⟩ => rfl
    | ⟨1, _⟩ => rfl
  generalize (⟨(x 0).val, hx0⟩ : Fin 256) = i at hx
  generalize (⟨(x 1).val, hx1⟩ : Fin 128) = d at hx
  subst hx
  refine (head_at o ho hs _ _ _ _ i d).trans ?_
  have e0 : ∀ j : Fin 128, product (View.readAt (Elt Ideal) arg1.view (Rect.unit (s := S1536x3072) ![r, 0] S256x3072.size (a_inb r hr)).toLoadRect (harg1.unread x0)) w
        (View.readAt (Elt Ideal) arg4.view (Rect.unit (s := S1x1x1024) ![0, 0, q] S1x1x512.size (b_inb q hq')).toLoadRect (harg4.unread x3))
        (ix2 i (⟨o + j.val, by omega⟩ : Fin 512))
      = proj x0 x1 x2 x3 ⟨r + i.val, by omega⟩ ⟨p + j.val, by omega⟩ := by
    intro j
    refine (product_at _ _ _ i _).trans ?_
    refine congrArg₂ (fun u v : EReal => u + v) (Finset.sum_congr rfl fun k _ => congrArg₂ (fun u v : EReal => u * v) ?_ ?_) ?_
    · refine (harg1.readAt_unread x0 _ _).trans (congrArg x0 (funext fun a => ?_))
      match a with
      | ⟨0, _⟩ => exact Fin.ext (by show r + 1 * i.val = r + i.val; omega)
      | ⟨1, _⟩ => exact Fin.ext (by show 0 + 1 * k.val = k.val; omega)
    · refine (hw k _).trans ?_
      refine congrArg (fun c : Fin 1024 => (x1 (ix2 k c) : EReal) * scaleOf (x2 (ix2 (⟨k.val / 32, by omega⟩ : Fin 96) c))) ?_
      exact Fin.ext (by show 512 * n.val + (o + j.val) = p + j.val; omega)
    · refine (harg4.readAt_unread x3 _ _).trans (congrArg x3 (funext fun a => ?_))
      match a with
      | ⟨0, _⟩ => rfl
      | ⟨1, _⟩ => rfl
      | ⟨2, _⟩ => exact Fin.ext (by show q + 1 * (o + j.val) = p + j.val; omega)
  have e1 : ∀ (m : Memref sig .tc .vmem S1536x128 .f32) (hm : m.IsWhole) (v : Vec Ideal S1536x128 .f32) (j : Fin 128),
      View.readAt (Elt Ideal) m.view (Rect.unit (s := S1536x128) ![r, 0] S256x128.size (r_inb r hr)).toLoadRect (hm.unread v) (ix2 i j)
        = v (ix2 (⟨r + i.val, by omega⟩ : Fin 1536) j) := by
    intro m hm v j
    refine (hm.readAt_unread v _ _).trans (congrArg v (funext fun a => ?_))
    match a with
    | ⟨0, _⟩ => exact Fin.ext (by show r + 1 * i.val = r + i.val; omega)
    | ⟨1, _⟩ => exact Fin.ext (by show 0 + 1 * j.val = j.val; omega)
  have e2 : ∀ j : Fin 128,
      View.readAt (Elt Ideal) arg5.view (Rect.unit (s := S1x128) ![0, 0] S1x128.size n_inb).toLoadRect (harg5.unread x4) (ix2 0 j)
        = x4 (ix2 0 j) := by
    intro j
    refine (harg5.readAt_unread x4 _ _).trans (congrArg x4 (funext fun a => ?_))
    match a with
    | ⟨0, _⟩ => rfl
    | ⟨1, _⟩ => exact Fin.ext (by show 0 + 1 * j.val = j.val; omega)
  have key : block x0 x1 x2 x3 x4 x5 x6 ((Rect.unit (s := S1536x1024) ![r, p] S256x128.size (o_inb r p hr hp')).emb (ix2 i d))
      = entry x0 x1 x2 x3 x4 x5 x6 ⟨r + i.val, by omega⟩ ⟨p + d.val, by omega⟩ :=
    congrArg₂ (entry x0 x1 x2 x3 x4 x5 x6) (Fin.ext (by show r + 1 * i.val = r + i.val; omega))
      (Fin.ext (by show p + 1 * d.val = p + d.val; omega))
  rw [key]
  unfold entry
  have f0 : ∀ j : Fin 128, (⟨128 * ((p + d.val) / 128) + j.val, by omega⟩ : Fin 1024) = ⟨p + j.val, by omega⟩ :=
    fun j => Fin.ext (by show 128 * ((p + d.val) / 128) + j.val = p + j.val; omega)
  have f1 : (⟨(p + d.val) % 128, by omega⟩ : Fin 128) = d := Fin.ext (by show (p + d.val) % 128 = d.val; omega)
  simp only [f0, f1, e0, e1, e2]

end Cert.ProjKIdeal.Block

end
-- ==== Proof.KOut.lean ====
/-
  The two outputs of one grid point of the projection kernel: the block of columns, and the same block with its heads apart.
-/
module

public import proofs.«01_k».proof.Proof.KBlock

@[expose] public section

set_option maxRecDepth 16384

noncomputable section

namespace Cert.ProjKIdeal.Block

open Cert.ProjKIdeal Cert.ProjKIdeal.Gen Idealize.ShloMosaic Idealize.ShloMosaic.TcCoe Idealize.SL.Sem
open Cert.Scale Cert.Rotary Cert.ProjKIdeal.Pieces Cert.ProjKIdeal.Weights

variable (c : Dev nD) (arg1 : Memref sig .tc .vmem S1536x3072 .bf16) (harg1 : arg1.IsWhole)
  (arg2 : Memref sig .tc .vmem S3072x1024 .fp8e4m3) (harg2 : arg2.IsWhole) (arg3 : Memref sig .tc .vmem S96x1024 .i8) (harg3 : arg3.IsWhole)
  (arg4 : Memref sig .tc .vmem S1x1x1024 .f32) (harg4 : arg4.IsWhole) (arg5 : Memref sig .tc .vmem S1x128 .f32) (harg5 : arg5.IsWhole)
  (arg6 : Memref sig .tc .vmem S1536x128 .f32) (harg6 : arg6.IsWhole) (arg7 : Memref sig .tc .vmem S1536x128 .f32) (harg7 : arg7.IsWhole)
  (arg8 : Memref sig .tc .vmem S1536x8x128 .bf16) (harg8 : arg8.IsWhole) (arg9 : Memref sig .tc .vmem S1536x1024 .bf16) (harg9 : arg9.IsWhole)
  (arg10 : Memref sig .tc .vmem S2x3072x512 .bf16) (harg10 : arg10.IsWhole) (arg11 : Memref sig .tc .vmem S2x96x512 .i32) (harg11 : arg11.IsWhole)
  (x0 : Vec Ideal S1536x3072 .bf16) (x1 : Vec Ideal S3072x1024 .fp8e4m3) (x2 : Vec Ideal S96x1024 .i8)
  (x3 : Vec Ideal S1x1x1024 .f32) (x4 : Vec Ideal S1x128 .f32) (x5 x6 : Vec Ideal S1536x128 .f32)

/-- The first half of the widened weights, as the products read it. -/
def firstHalf : Vec Ideal S1x3072x512 .bf16 :=
  arg10.view.readCov (kernelRun0_A.sl.HS0_96 (F := Ideal) c arg2 harg2 arg3 harg3 arg11 x1 x2)
    (Rect.unit (s := S2x3072x512) ![0, 0, 0] S1x3072x512.size inb_S2x3072x512_S1x3072x512_0_0_0).toLoadRect

/-- The second half of the widened weights, as the products read it. -/
def secondHalf : Vec Ideal S1x3072x512 .bf16 :=
  arg10.view.readCov (kernelRun0_A.sl.HS0_192 (F := Ideal) c arg2 harg2 arg3 harg3 arg11 x1 x2)
    (Rect.unit (s := S2x3072x512) ![1, 0, 0] S1x3072x512.size inb_S2x3072x512_S1x3072x512_1_0_0).toLoadRect

theorem firstHalf_at (k : Fin 3072) (q : Fin 512) :
    firstHalf c arg2 harg2 arg3 harg3 arg10 arg11 x1 x2 (ix3 0 k q) = weight x1 x2 0 k q := by
  unfold firstHalf
  rw [View.readCov_eq_canon']
  have e : (Rect.unit (s := S2x3072x512) ![0, 0, 0] S1x3072x512.size inb_S2x3072x512_S1x3072x512_0_0_0).toLoadRect.idx (ix3 0 k q)
      = ix3 0 k q := by
    funext a
    match a with
    | ⟨0, _⟩ => rfl
    | ⟨1, _⟩ => exact Fin.ext (by show 0 + 1 * k.val = k.val; omega)
    | ⟨2, _⟩ => exact Fin.ext (by show 0 + 1 * q.val = q.val; omega)
  refine (congrArg (View.canon _) e).trans ?_
  exact View.canon_append_of_piecesOf (weights x1 x2) [] _ (pieces_first c arg2 harg2 arg3 harg3 arg11 x1 x2) _
    (cover_first c arg2 harg2 arg3 harg3 arg11 x1 x2 k q)

theorem secondHalf_at (k : Fin 3072) (q : Fin 512) :
    secondHalf c arg2 harg2 arg3 harg3 arg10 arg11 x1 x2 (ix3 0 k q) = weight x1 x2 1 k q := by
  unfold secondHalf
  rw [View.readCov_eq_canon']
  have e : (Rect.unit (s := S2x3072x512) ![1, 0, 0] S1x3072x512.size inb_S2x3072x512_S1x3072x512_1_0_0).toLoadRect.idx (ix3 0 k q)
      = ix3 1 k q := by
    funext a
    match a with
    | ⟨0, _⟩ => rfl
    | ⟨1, _⟩ => exact Fin.ext (by show 0 + 1 * k.val = k.val; omega)
    | ⟨2, _⟩ => exact Fin.ext (by show 0 + 1 * q.val = q.val; omega)
  refine (congrArg (View.canon _) e).trans ?_
  exact View.canon_append_of_piecesOf (weights x1 x2) [] _ (pieces_both c arg2 harg2 arg3 harg3 arg11 x1 x2) _
    (cover_both c arg2 harg2 arg3 harg3 arg11 x1 x2 _)

set_option maxHeartbeats 8000000 in
/-- Every store of a head holds the block's columns there. -/
theorem pieces : View.PiecesOf (block x0 x1 x2 x3 x4 x5 x6)
    (kernelRun0_A.sl.H8_48 c arg1 harg1 arg2 harg2 arg3 harg3 arg4 harg4 arg5 harg5 arg6 harg6 arg7 harg7 arg10 arg11 x0 x1 x2 x3 x4 x5 x6) := by
  unfold kernelRun0_A.sl.H8_48
  have first := firstHalf_at c arg2 harg2 arg3 harg3 arg10 arg11 x1 x2
  have second := secondHalf_at c arg2 harg2 arg3 harg3 arg10 arg11 x1 x2
  refine And.intro (fun x => piece arg1 harg1 arg4 harg4 arg5 harg5 arg6 harg6 arg7 harg7 x0 x1 x2 x3 x4 x5 x6 1 _ second
    1280 512 384 896 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 1 _ second
    1280 512 256 768 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 1 _ second
    1280 512 128 640 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 1 _ second
    1280 512 0 512 (by decide) rfl (by decide) (by decide) rfl rfl (by decide) slices_S256x512_o0_0_S256x128 x) ?_
  refine And.intro (fun x => piece arg1 harg1 arg4 harg4 arg5 harg5 arg6 harg6 arg7 harg7 x0 x1 x2 x3 x4 x5 x6 1 _ second
    1024 512 384 896 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 1 _ second
    1024 512 256 768 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 1 _ second
    1024 512 128 640 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 1 _ second
    1024 512 0 512 (by decide) rfl (by decide) (by decide) rfl rfl (by decide) slices_S256x512_o0_0_S256x128 x) ?_
  refine And.intro (fun x => piece arg1 harg1 arg4 harg4 arg5 harg5 arg6 harg6 arg7 harg7 x0 x1 x2 x3 x4 x5 x6 1 _ second
    768 512 384 896 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 1 _ second
    768 512 256 768 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 1 _ second
    768 512 128 640 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 1 _ second
    768 512 0 512 (by decide) rfl (by decide) (by decide) rfl rfl (by decide) slices_S256x512_o0_0_S256x128 x) ?_
  refine And.intro (fun x => piece arg1 harg1 arg4 harg4 arg5 harg5 arg6 harg6 arg7 harg7 x0 x1 x2 x3 x4 x5 x6 1 _ second
    512 512 384 896 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 1 _ second
    512 512 256 768 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 1 _ second
    512 512 128 640 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 1 _ second
    512 512 0 512 (by decide) rfl (by decide) (by decide) rfl rfl (by decide) slices_S256x512_o0_0_S256x128 x) ?_
  refine And.intro (fun x => piece arg1 harg1 arg4 harg4 arg5 harg5 arg6 harg6 arg7 harg7 x0 x1 x2 x3 x4 x5 x6 1 _ second
    256 512 384 896 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 1 _ second
    256 512 256 768 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 1 _ second
    256 512 128 640 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 1 _ second
    256 512 0 512 (by decide) rfl (by decide) (by decide) rfl rfl (by decide) slices_S256x512_o0_0_S256x128 x) ?_
  refine And.intro (fun x => piece arg1 harg1 arg4 harg4 arg5 harg5 arg6 harg6 arg7 harg7 x0 x1 x2 x3 x4 x5 x6 1 _ second
    0 512 384 896 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 1 _ second
    0 512 256 768 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 1 _ second
    0 512 128 640 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 1 _ second
    0 512 0 512 (by decide) rfl (by decide) (by decide) rfl rfl (by decide) slices_S256x512_o0_0_S256x128 x) ?_
  refine And.intro (fun x => piece arg1 harg1 arg4 harg4 arg5 harg5 arg6 harg6 arg7 harg7 x0 x1 x2 x3 x4 x5 x6 0 _ first
    1280 0 384 384 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 0 _ first
    1280 0 256 256 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 0 _ first
    1280 0 128 128 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 0 _ first
    1280 0 0 0 (by decide) rfl (by decide) (by decide) rfl rfl (by decide) slices_S256x512_o0_0_S256x128 x) ?_
  refine And.intro (fun x => piece arg1 harg1 arg4 harg4 arg5 harg5 arg6 harg6 arg7 harg7 x0 x1 x2 x3 x4 x5 x6 0 _ first
    1024 0 384 384 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 0 _ first
    1024 0 256 256 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 0 _ first
    1024 0 128 128 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 0 _ first
    1024 0 0 0 (by decide) rfl (by decide) (by decide) rfl rfl (by decide) slices_S256x512_o0_0_S256x128 x) ?_
  refine And.intro (fun x => piece arg1 harg1 arg4 harg4 arg5 harg5 arg6 harg6 arg7 harg7 x0 x1 x2 x3 x4 x5 x6 0 _ first
    768 0 384 384 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 0 _ first
    768 0 256 256 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 0 _ first
    768 0 128 128 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 0 _ first
    768 0 0 0 (by decide) rfl (by decide) (by decide) rfl rfl (by decide) slices_S256x512_o0_0_S256x128 x) ?_
  refine And.intro (fun x => piece arg1 harg1 arg4 harg4 arg5 harg5 arg6 harg6 arg7 harg7 x0 x1 x2 x3 x4 x5 x6 0 _ first
    512 0 384 384 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 0 _ first
    512 0 256 256 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 0 _ first
    512 0 128 128 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 0 _ first
    512 0 0 0 (by decide) rfl (by decide) (by decide) rfl rfl (by decide) slices_S256x512_o0_0_S256x128 x) ?_
  refine And.intro (fun x => piece arg1 harg1 arg4 harg4 arg5 harg5 arg6 harg6 arg7 harg7 x0 x1 x2 x3 x4 x5 x6 0 _ first
    256 0 384 384 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 0 _ first
    256 0 256 256 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 0 _ first
    256 0 128 128 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 0 _ first
    256 0 0 0 (by decide) rfl (by decide) (by decide) rfl rfl (by decide) slices_S256x512_o0_0_S256x128 x) ?_
  refine And.intro (fun x => piece arg1 harg1 arg4 harg4 arg5 harg5 arg6 harg6 arg7 harg7 x0 x1 x2 x3 x4 x5 x6 0 _ first
    0 0 384 384 (by decide) rfl (by decide) (by decide) rfl rfl (by decide) slices_S256x512_o0_384_S256x128 x) ?_
  refine And.intro (fun x => piece arg1 harg1 arg4 harg4 arg5 harg5 arg6 harg6 arg7 harg7 x0 x1 x2 x3 x4 x5 x6 0 _ first
    0 0 256 256 (by decide) rfl (by decide) (by decide) rfl rfl (by decide) slices_S256x512_o0_256_S256x128 x) ?_
  refine And.intro (fun x => piece arg1 harg1 arg4 harg4 arg5 harg5 arg6 harg6 arg7 harg7 x0 x1 x2 x3 x4 x5 x6 0 _ first
    0 0 128 128 (by decide) rfl (by decide) (by decide) rfl rfl (by decide) slices_S256x512_o0_128_S256x128 x) ?_
  refine And.intro (fun x => piece arg1 harg1 arg4 harg4 arg5 harg5 arg6 harg6 arg7 harg7 x0 x1 x2 x3 x4 x5 x6 0 _ first
    0 0 0 0 (by decide) rfl (by decide) (by decide) rfl rfl (by decide) slices_S256x512_o0_0_S256x128 x) ?_
  exact trivial

/-- The flat output of one point is the block. -/
theorem flat_out (i : grid0.Coords) :
    out0_A_8 (F := Ideal) c i arg1 harg1 arg2 harg2 arg3 harg3 arg4 harg4 arg5 harg5 arg6 harg6 arg7 harg7 arg8 harg8 arg9 harg9 arg10 harg10
      arg11 harg11 x0 x1 x2 x3 x4 x5 x6 = block x0 x1 x2 x3 x4 x5 x6 := by
  funext y
  unfold out0_A_8
  rw [View.read_writes_junk_eq_canon]
  · exact View.canon_append_of_piecesOf (block x0 x1 x2 x3 x4 x5 x6) [] _
      (pieces c arg1 harg1 arg2 harg2 arg3 harg3 arg4 harg4 arg5 harg5 arg6 harg6 arg7 harg7 arg10 arg11 x0 x1 x2 x3 x4 x5 x6) y
      (cover0_A_8 c i arg1 harg1 arg2 harg2 arg3 harg3 arg4 harg4 arg5 harg5 arg6 harg6 arg7 harg7 arg8 harg8 arg9 harg9 arg10 harg10
        arg11 harg11 x0 x1 x2 x3 x4 x5 x6 y)

theorem pay_at (v : Vec Ideal S1536x1024 .bf16) (r : Fin 1536) (h : Fin 8) (d : Fin 128) :
    shapeCast S1536x8x128 (shapeCast S1536x1024 v shapeCasts_S1536x1024_S1536x1024) shapeCasts_S1536x1024_S1536x8x128 (ix3 r h d) = v (ix2 r (⟨128 * h.val + d.val, by omega⟩ : Fin 1024)) := by
  pointwise
  exact congrArg (fun q => v (ix2 r q)) (Fin.ext (by show h.val * 128 + d.val = 128 * h.val + d.val; omega))

theorem read_at (y : S1536x1024.Idx) :
    arg9.view.readCov (kernelRun0_A.sl.H8_48 c arg1 harg1 arg2 harg2 arg3 harg3 arg4 harg4 arg5 harg5 arg6 harg6 arg7 harg7 arg10 arg11 x0 x1
      x2 x3 x4 x5 x6) (Rect.unit (s := S1536x1024) ![0, 0] S1536x1024.size inb_S1536x1024_S1536x1024_0_0).toLoadRect y
      = block x0 x1 x2 x3 x4 x5 x6 y := by
  rw [View.readCov_eq_canon']
  have e : (Rect.unit (s := S1536x1024) ![0, 0] S1536x1024.size inb_S1536x1024_S1536x1024_0_0).toLoadRect.idx y = y := by
    funext a
    match a with
    | ⟨0, _⟩ => exact Fin.ext (by show 0 + 1 * (y 0).val = (y 0).val; omega)
    | ⟨1, _⟩ => exact Fin.ext (by show 0 + 1 * (y 1).val = (y 1).val; omega)
  refine (congrArg (View.canon _) e).trans ?_
  exact View.canon_append_of_piecesOf (block x0 x1 x2 x3 x4 x5 x6) []
    (kernelRun0_A.sl.H8_48 (F := Ideal) c arg1 harg1 arg2 harg2 arg3 harg3 arg4 harg4 arg5 harg5 arg6 harg6 arg7 harg7 arg10 arg11 x0 x1 x2 x3 x4 x5 x6)
    (pieces c arg1 harg1 arg2 harg2 arg3 harg3 arg4 harg4 arg5 harg5 arg6 harg6 arg7 harg7 arg10 arg11 x0 x1 x2 x3 x4 x5 x6) y
    (View.cover_of_tiledL (s := S1536x1024) (Val := Elt Ideal) _ ![256, 128] (by sl_kernel_rfl) y)

/-- The rotated output of one point is the block with its heads apart. -/
theorem rot_out (i : grid0.Coords) (r : Fin 1536) (h : Fin 8) (d : Fin 128) :
    out0_A_7 (F := Ideal) c i arg1 harg1 arg2 harg2 arg3 harg3 arg4 harg4 arg5 harg5 arg6 harg6 arg7 harg7 arg8 harg8 arg9 harg9 arg10 harg10
      arg11 harg11 x0 x1 x2 x3 x4 x5 x6 (ix3 r h d) = entry x0 x1 x2 x3 x4 x5 x6 r ⟨128 * h.val + d.val, by omega⟩ := by
  unfold out0_A_7
  rw [View.read_writes_junk_eq_canon]
  have e : (ix3 r h d : S1536x8x128.Idx)
      = (Rect.unit (s := S1536x8x128) ![0, 0, 0] S1536x8x128.size inb_S1536x8x128_S1536x8x128_0_0_0).emb (ix3 r h d) := by
    funext a
    match a with
    | ⟨0, _⟩ => exact Fin.ext (by show r.val = 0 + 1 * r.val; omega)
    | ⟨1, _⟩ => exact Fin.ext (by show h.val = 0 + 1 * h.val; omega)
    | ⟨2, _⟩ => exact Fin.ext (by show d.val = 0 + 1 * d.val; omega)
  rw [e]
  refine (View.canon_cons_emb (Rect.unit (s := S1536x8x128) ![0, 0, 0] S1536x8x128.size inb_S1536x8x128_S1536x8x128_0_0_0) _ [] _).trans ?_
  unfold k0_pay398
  refine (pay_at _ r h d).trans ?_
  exact read_at c arg1 harg1 arg2 harg2 arg3 harg3 arg4 harg4 arg5 harg5 arg6 harg6 arg7 harg7 arg9 arg10 arg11 x0 x1 x2 x3 x4 x5 x6 _

end Cert.ProjKIdeal.Block

end
-- ==== Proof.KArray.lean ====
/-
  The projection kernel's results after the whole grid, as functions of the arguments.
-/
module

public import proofs.«01_k».proof.Proof.Gen.ProjKIdeal.Value
public import proofs.«01_k».proof.Proof.KOut
public import proofs.«01_k».proof.Proof.Spec

@[expose] public section

set_option maxRecDepth 16384

noncomputable section

namespace Cert.ProjKIdeal.Array

open Cert.ProjKIdeal Cert.ProjKIdeal.Gen Idealize.ShloMosaic Idealize.ShloMosaic.TcCoe Idealize.SL.Sem
open Cert.Scale Cert.Rotary Cert.Spec Cert.ProjKIdeal.Block

/-- Column 3072 of the weights this projection uses. -/
abbrev base : Nat := 3072

theorem base_le : base + 3072 ≤ 21504 := by decide

/-- A block's entry is the whole result's, when the windows hold block `t` of the weights, scales and biases. -/
theorem entry_eq (a0 : Vec Ideal S1536x3072 .bf16) (a1 : Vec Ideal S3072x21504 .fp8e4m3) (a2 : Vec Ideal S96x21504 .i8)
    (a3 : Vec Ideal S21504 .f32) (a4 : Vec Ideal S128 .f32) (a5 a6 : Vec Ideal S1536x128 .f32)
    (x1 : Vec Ideal S3072x1024 .fp8e4m3) (x2 : Vec Ideal S96x1024 .i8) (x3 : Vec Ideal S1x1x1024 .f32) (x4 : Vec Ideal S1x128 .f32)
    (t : Nat) (ht : t < 3)
    (h1 : ∀ (k : Fin 3072) (q : Fin 1024), x1 (ix2 k q) = a1 (ix2 k (column base base_le ⟨1024 * t + q.val, by omega⟩)))
    (h2 : ∀ (k : Fin 96) (q : Fin 1024), x2 (ix2 k q) = a2 (ix2 k (column base base_le ⟨1024 * t + q.val, by omega⟩)))
    (h3 : ∀ q : Fin 1024, x3 (ix3 0 0 q) = a3 (ix1 (column base base_le ⟨1024 * t + q.val, by omega⟩)))
    (h4 : ∀ j : Fin 128, x4 (ix2 0 j) = a4 (ix1 j)) (i : Fin 1536) (q : Fin 1024) (h : Fin 24) (d : Fin 128)
    (hh : h.val = 8 * t + q.val / 128) (hd : d.val = q.val % 128) :
    entry a0 x1 x2 x3 x4 a5 a6 i q = headAt base base_le a0 a1 a2 a3 a4 a5 a6 i h d := by
  have e : ∀ j : Fin 128, proj a0 x1 x2 x3 i ⟨128 * (q.val / 128) + j.val, by omega⟩
      = projAt base base_le a0 a1 a2 a3 i ⟨128 * h.val + j.val, by omega⟩ := by
    intro j
    have f : (⟨1024 * t + (128 * (q.val / 128) + j.val), by omega⟩ : Fin 3072) = ⟨128 * h.val + j.val, by omega⟩ :=
      Fin.ext (by show 1024 * t + (128 * (q.val / 128) + j.val) = 128 * h.val + j.val; omega)
    unfold proj projAt
    simp only [h1, h2, h3, f]
  unfold entry headAt
  simp only [e, h4]
  exact congrArg _ (Fin.ext (by show q.val % 128 = d.val; omega))

variable (m : (ℓ : Loc nD τ sig) → Buf (Elt Ideal) ℓ) (ρ : Dev nD → PrngReg)

theorem bias_at (b : Vec Ideal S21504 .f32) (q : Fin 21504) : shapeCast S1x1x21504 b shapeCasts_S21504_S1x1x21504 (ix3 0 0 q) = b (ix1 q) := by
  pointwise

theorem norm_at (b : Vec Ideal S128 .f32) (q : Fin 128) : shapeCast S1x128 b shapeCasts_S128_S1x128 (ix2 0 q) = b (ix1 q) := by
  pointwise

/-- The bias, as the kernel's windows take it. -/
theorem bias_row (c : Dev nD) (q : Fin 21504) :
    (V m c main_v0 : Vec Ideal S1x1x21504 .f32) (ix3 0 0 q) = (m ((c : Thread nD τ).loc main_arg3) : Vec Ideal S21504 .f32) (ix1 q) := by
  have e : V m c main_v0 = (shapeCast S1x1x21504 (m ((c : Thread nD τ).loc main_arg3) : Vec Ideal S21504 .f32) shapeCasts_S21504_S1x1x21504
      : Vec Ideal S1x1x21504 .f32) := by
    show StableHlo.after hostOps0 _ (Proc.devRef .tc main_v0) = _
    after_results
    rfl
  exact (congrFun e _).trans (bias_at _ q)

/-- The heads' weights, as the kernel's window takes them. -/
theorem norm_row (c : Dev nD) (q : Fin 128) :
    (V m c main_v1 : Vec Ideal S1x128 .f32) (ix2 0 q) = (m ((c : Thread nD τ).loc main_arg4) : Vec Ideal S128 .f32) (ix1 q) := by
  have e : V m c main_v1 = (shapeCast S1x128 (m ((c : Thread nD τ).loc main_arg4) : Vec Ideal S128 .f32) shapeCasts_S128_S1x128
      : Vec Ideal S1x128 .f32) := by
    show StableHlo.after hostOps0 _ (Proc.devRef .tc main_v1) = _
    after_results
    rfl
  exact (congrFun e _).trans (norm_at _ q)

theorem points (t : Fin cfg0.N) : t.val < 3 := t.isLt

theorem iblk0_eq (c : Dev nD) (t : Fin cfg0.N) : iblk m c 0 t = V m c main_arg0 := by
  have e := (by decide +kernel : ∀ t : Fin grid0.N, win0_0.index t (0 : Fin 2) = 0 ∧ win0_0.index t (1 : Fin 2) = 0) t
  funext j
  show V m c main_arg0 (((cfg0.win 0).blk t).view.emb j) = V m c main_arg0 j
  refine congrArg (V m c main_arg0) (funext fun a => Fin.ext ?_)
  match a with
  | ⟨0, _⟩ => have := e.1; show win0_0.index t (0 : Fin 2) * 1536 + 1 * (j 0).val = (j 0).val; omega
  | ⟨1, _⟩ => have := e.2; show win0_0.index t (1 : Fin 2) * 3072 + 1 * (j 1).val = (j 1).val; omega

theorem iblk4_eq (c : Dev nD) (t : Fin cfg0.N) : iblk m c 4 t = V m c main_v1 := by
  have e := (by decide +kernel : ∀ t : Fin grid0.N, win0_4.index t (0 : Fin 2) = 0 ∧ win0_4.index t (1 : Fin 2) = 0) t
  funext j
  show V m c main_v1 (((cfg0.win 4).blk t).view.emb j) = V m c main_v1 j
  refine congrArg (V m c main_v1) (funext fun a => Fin.ext ?_)
  match a with
  | ⟨0, _⟩ => have := e.1; show win0_4.index t (0 : Fin 2) * 1 + 1 * (j 0).val = (j 0).val; omega
  | ⟨1, _⟩ => have := e.2; show win0_4.index t (1 : Fin 2) * 128 + 1 * (j 1).val = (j 1).val; omega

theorem iblk5_eq (c : Dev nD) (t : Fin cfg0.N) : iblk m c 5 t = V m c main_arg5 := by
  have e := (by decide +kernel : ∀ t : Fin grid0.N, win0_5.index t (0 : Fin 2) = 0 ∧ win0_5.index t (1 : Fin 2) = 0) t
  funext j
  show V m c main_arg5 (((cfg0.win 5).blk t).view.emb j) = V m c main_arg5 j
  refine congrArg (V m c main_arg5) (funext fun a => Fin.ext ?_)
  match a with
  | ⟨0, _⟩ => have := e.1; show win0_5.index t (0 : Fin 2) * 1536 + 1 * (j 0).val = (j 0).val; omega
  | ⟨1, _⟩ => have := e.2; show win0_5.index t (1 : Fin 2) * 128 + 1 * (j 1).val = (j 1).val; omega

theorem iblk6_eq (c : Dev nD) (t : Fin cfg0.N) : iblk m c 6 t = V m c main_arg6 := by
  have e := (by decide +kernel : ∀ t : Fin grid0.N, win0_6.index t (0 : Fin 2) = 0 ∧ win0_6.index t (1 : Fin 2) = 0) t
  funext j
  show V m c main_arg6 (((cfg0.win 6).blk t).view.emb j) = V m c main_arg6 j
  refine congrArg (V m c main_arg6) (funext fun a => Fin.ext ?_)
  match a with
  | ⟨0, _⟩ => have := e.1; show win0_6.index t (0 : Fin 2) * 1536 + 1 * (j 0).val = (j 0).val; omega
  | ⟨1, _⟩ => have := e.2; show win0_6.index t (1 : Fin 2) * 128 + 1 * (j 1).val = (j 1).val; omega

/-- Block `t` of the weights. -/
theorem iblk1_at (c : Dev nD) (t : Fin cfg0.N) (k : Fin 3072) (q : Fin 1024) :
    iblk m c 1 t (ix2 k q) = V m c main_arg1 (ix2 k (column base base_le ⟨1024 * t.val + q.val, by have := points t; omega⟩)) := by
  have e := (by decide +kernel : ∀ t : Fin grid0.N, win0_1.index t (0 : Fin 2) = 0 ∧ win0_1.index t (1 : Fin 2) * 1024 = base + 1024 * t.val) t
  show V m c main_arg1 (((cfg0.win 1).blk t).view.emb (ix2 k q)) = _
  refine congrArg (V m c main_arg1) (funext fun a => Fin.ext ?_)
  match a with
  | ⟨0, _⟩ => have := e.1; show win0_1.index t (0 : Fin 2) * 3072 + 1 * k.val = k.val; omega
  | ⟨1, _⟩ => have := e.2; show win0_1.index t (1 : Fin 2) * 1024 + 1 * q.val = base + (1024 * t.val + q.val); omega

/-- Block `t` of the scales. -/
theorem iblk2_at (c : Dev nD) (t : Fin cfg0.N) (k : Fin 96) (q : Fin 1024) :
    iblk m c 2 t (ix2 k q) = V m c main_arg2 (ix2 k (column base base_le ⟨1024 * t.val + q.val, by have := points t; omega⟩)) := by
  have e := (by decide +kernel : ∀ t : Fin grid0.N, win0_2.index t (0 : Fin 2) = 0 ∧ win0_2.index t (1 : Fin 2) * 1024 = base + 1024 * t.val) t
  show V m c main_arg2 (((cfg0.win 2).blk t).view.emb (ix2 k q)) = _
  refine congrArg (V m c main_arg2) (funext fun a => Fin.ext ?_)
  match a with
  | ⟨0, _⟩ => have := e.1; show win0_2.index t (0 : Fin 2) * 96 + 1 * k.val = k.val; omega
  | ⟨1, _⟩ => have := e.2; show win0_2.index t (1 : Fin 2) * 1024 + 1 * q.val = base + (1024 * t.val + q.val); omega

/-- Block `t` of the biases. -/
theorem iblk3_at (c : Dev nD) (t : Fin cfg0.N) (q : Fin 1024) :
    iblk m c 3 t (ix3 0 0 q) = V m c main_v0 (ix3 0 0 (column base base_le ⟨1024 * t.val + q.val, by have := points t; omega⟩)) := by
  have e := (by decide +kernel : ∀ t : Fin grid0.N, win0_3.index t (0 : Fin 3) = 0 ∧ win0_3.index t (1 : Fin 3) = 0
    ∧ win0_3.index t (2 : Fin 3) * 1024 = base + 1024 * t.val) t
  show V m c main_v0 (((cfg0.win 3).blk t).view.emb (ix3 0 0 q)) = _
  refine congrArg (V m c main_v0) (funext fun a => Fin.ext ?_)
  match a with
  | ⟨0, _⟩ => have := e.1; show win0_3.index t (0 : Fin 3) * 1 + 1 * 0 = 0; omega
  | ⟨1, _⟩ => have := e.2.1; show win0_3.index t (1 : Fin 3) * 1 + 1 * 0 = 0; omega
  | ⟨2, _⟩ => have := e.2.2; show win0_3.index t (2 : Fin 3) * 1024 + 1 * q.val = base + (1024 * t.val + q.val); omega

/-- What one point leaves at row `i` and column `q` of its block, in terms of the arguments. -/
theorem point_entry (c : Dev nD) (t : Fin cfg0.N) (i : Fin 1536) (q : Fin 1024) (h : Fin 24) (d : Fin 128)
    (hh : h.val = 8 * t.val + q.val / 128) (hd : d.val = q.val % 128) :
    entry (iblk m c 0 t) (iblk m c 1 t) (iblk m c 2 t) (iblk m c 3 t) (iblk m c 4 t) (iblk m c 5 t) (iblk m c 6 t) i q
      = headAt base base_le (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) i h d := by
  rw [iblk0_eq, iblk4_eq, iblk5_eq, iblk6_eq, V_main_arg0, V_main_arg5, V_main_arg6]
  refine entry_eq _ _ _ _ _ _ _ _ _ _ _ t.val (points t) (fun k q => ?_) (fun k q => ?_) (fun q => ?_) (fun j => norm_row m c j) i q h d hh hd
  · exact (iblk1_at m c t k q).trans (congrFun (V_main_arg1 m c) _)
  · exact (iblk2_at m c t k q).trans (congrFun (V_main_arg2 m c) _)
  · exact (iblk3_at m c t q).trans (bias_row m c _)

theorem emb7 (t : Fin cfg0.N) (i : Fin 1536) (h : Fin 8) (d : Fin 128) :
    ((cfg0.win 7).blk t).view.emb (ix3 i h d) = (ix3 i (⟨8 * t.val + h.val, by have := points t; omega⟩ : Fin 24) d : S1536x24x128.Idx) := by
  have e := (by decide +kernel : ∀ t : Fin grid0.N, win0_7.index t (0 : Fin 3) = 0 ∧ win0_7.index t (1 : Fin 3) = t.val
    ∧ win0_7.index t (2 : Fin 3) = 0) t
  refine funext fun a => Fin.ext ?_
  match a with
  | ⟨0, _⟩ => have := e.1; show win0_7.index t (0 : Fin 3) * 1536 + 1 * i.val = i.val; omega
  | ⟨1, _⟩ => have := e.2.1; show win0_7.index t (1 : Fin 3) * 8 + 1 * h.val = 8 * t.val + h.val; omega
  | ⟨2, _⟩ => have := e.2.2; show win0_7.index t (2 : Fin 3) * 128 + 1 * d.val = d.val; omega

theorem emb8 (t : Fin cfg0.N) (i : Fin 1536) (q : Fin 1024) :
    ((cfg0.win 8).blk t).view.emb (ix2 i q) = (ix2 i (⟨1024 * t.val + q.val, by have := points t; omega⟩ : Fin 3072) : S1536x3072.Idx) := by
  have e := (by decide +kernel : ∀ t : Fin grid0.N, win0_8.index t (0 : Fin 2) = 0 ∧ win0_8.index t (1 : Fin 2) = t.val) t
  refine funext fun a => Fin.ext ?_
  match a with
  | ⟨0, _⟩ => have := e.1; show win0_8.index t (0 : Fin 2) * 1536 + 1 * i.val = i.val; omega
  | ⟨1, _⟩ => have := e.2; show win0_8.index t (1 : Fin 2) * 1024 + 1 * q.val = 1024 * t.val + q.val; omega

/-- The rotated result of the arguments. -/
abbrev rotOf (c : Dev nD) : Vec Ideal S1536x24x128 .bf16 :=
  rot base base_le (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))

/-- The flat result of the arguments. -/
abbrev flatOf (c : Dev nD) : Vec Ideal S1536x3072 .bf16 :=
  flat base base_le (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))

theorem read7 (t : Fin cfg0.N) (X : S1536x8x128.Idx → EReal) (G : Vec Ideal S1536x24x128 .bf16)
    (h : ∀ (i : Fin 1536) (h : Fin 8) (d : Fin 128), X (ix3 i h d) = G (ix3 i (⟨8 * t.val + h.val, by have := points t; omega⟩ : Fin 24) d)) :
    (cfg0.win 7).cut (grid0.coords t) X = ((cfg0.win 7).blk t).view.read (Elt Ideal) G := by
  funext j
  have e : j = ix3 (j 0) (j 1) (j 2) := funext fun a => by
    match a with
    | ⟨0, _⟩ => rfl
    | ⟨1, _⟩ => rfl
    | ⟨2, _⟩ => rfl
  rw [e]
  show X (ix3 (j 0) (j 1) (j 2)) = G (((cfg0.win 7).blk t).view.emb (ix3 (j 0) (j 1) (j 2)))
  exact (h (j 0) (j 1) (j 2)).trans (congrArg G (emb7 t (j 0) (j 1) (j 2)).symm)

theorem read8 (t : Fin cfg0.N) (X : S1536x1024.Idx → EReal) (G : Vec Ideal S1536x3072 .bf16)
    (h : ∀ (i : Fin 1536) (q : Fin 1024), X (ix2 i q) = G (ix2 i (⟨1024 * t.val + q.val, by have := points t; omega⟩ : Fin 3072))) :
    (cfg0.win 8).cut (grid0.coords t) X = ((cfg0.win 8).blk t).view.read (Elt Ideal) G := by
  funext j
  have e : j = ix2 (j 0) (j 1) := funext fun a => by
    match a with
    | ⟨0, _⟩ => rfl
    | ⟨1, _⟩ => rfl
  rw [e]
  show X (ix2 (j 0) (j 1)) = G (((cfg0.win 8).blk t).view.emb (ix2 (j 0) (j 1)))
  exact (h (j 0) (j 1)).trans (congrArg G (emb8 t (j 0) (j 1)).symm)

theorem covered7 (y : S1536x24x128.Idx) : ∃ t : Fin cfg0.N, (cfg0.win 7).flush t = true ∧ y ∈ ((cfg0.win 7).blk t).view.set := by
  have h1 : (y 1).val < 24 := (y 1).isLt
  obtain ⟨t, ht⟩ : ∃ t : Fin cfg0.N, t.val = (y 1).val / 8 := ⟨⟨(y 1).val / 8, by show (y 1).val / 8 < 3; omega⟩, rfl⟩
  have e : ((cfg0.win 7).blk t).view.emb (ix3 (⟨(y 0).val, (y 0).isLt⟩ : Fin 1536) (⟨(y 1).val % 8, by omega⟩ : Fin 8)
      (⟨(y 2).val, (y 2).isLt⟩ : Fin 128)) = y := by
    rw [emb7]
    funext a
    match a with
    | ⟨0, _⟩ => rfl
    | ⟨1, _⟩ => exact Fin.ext (by show 8 * t.val + (y 1).val % 8 = (y 1).val; omega)
    | ⟨2, _⟩ => rfl
  have h := ((cfg0.win 7).blk t).view.emb_mem_set (ix3 (⟨(y 0).val, (y 0).isLt⟩ : Fin 1536) (⟨(y 1).val % 8, by omega⟩ : Fin 8)
      (⟨(y 2).val, (y 2).isLt⟩ : Fin 128))
  exact ⟨t, flush0_7 t, Eq.mp (congrArg (fun z => z ∈ ((cfg0.win 7).blk t).view.set) e) h⟩

theorem covered8 (y : S1536x3072.Idx) : ∃ t : Fin cfg0.N, (cfg0.win 8).flush t = true ∧ y ∈ ((cfg0.win 8).blk t).view.set := by
  have h1 : (y 1).val < 3072 := (y 1).isLt
  obtain ⟨t, ht⟩ : ∃ t : Fin cfg0.N, t.val = (y 1).val / 1024 := ⟨⟨(y 1).val / 1024, by show (y 1).val / 1024 < 3; omega⟩, rfl⟩
  have e : ((cfg0.win 8).blk t).view.emb (ix2 (⟨(y 0).val, (y 0).isLt⟩ : Fin 1536) (⟨(y 1).val % 1024, by omega⟩ : Fin 1024)) = y := by
    rw [emb8]
    funext a
    match a with
    | ⟨0, _⟩ => rfl
    | ⟨1, _⟩ => exact Fin.ext (by show 1024 * t.val + (y 1).val % 1024 = (y 1).val; omega)
  have h := ((cfg0.win 8).blk t).view.emb_mem_set (ix2 (⟨(y 0).val, (y 0).isLt⟩ : Fin 1536) (⟨(y 1).val % 1024, by omega⟩ : Fin 1024))
  exact ⟨t, flush0_8 t, Eq.mp (congrArg (fun z => z ∈ ((cfg0.win 8).blk t).view.set) e) h⟩

/-- The rotated result after the run, as a function of the arguments. -/
theorem final7 (c : Dev nD) : (dats m 0 c).arrAt 7 cfg0.N = rotOf m c := by
  refine (dats m 0 c).arrAt_eq_of_cover 7 (rotOf m c) (fun t _ => ?_) covered7
  rw [Value.flushed7_A]
  refine read7 t _ _ fun i h d => ?_
  rw [rot_out]
  exact point_entry m c t i _ _ d (by show 8 * t.val + h.val = 8 * t.val + (128 * h.val + d.val) / 128; omega)
    (by show d.val = (128 * h.val + d.val) % 128; omega)

/-- The flat result after the run, as a function of the arguments. -/
theorem final8 (c : Dev nD) : (dats m 0 c).arrAt 8 cfg0.N = flatOf m c := by
  refine (dats m 0 c).arrAt_eq_of_cover 8 (flatOf m c) (fun t _ => ?_) covered8
  rw [Value.flushed8_A]
  refine read8 t _ _ fun i q => ?_
  rw [flat_out]
  exact point_entry m c t i q _ _ (by show (1024 * t.val + q.val) / 128 = 8 * t.val + q.val / 128; omega)
    (by show (1024 * t.val + q.val) % 128 = q.val % 128; omega)

end Cert.ProjKIdeal.Array

end
-- ==== Proof.KRef.lean ====
/-
  What the reference computes: the projection with its heads normalised and rotated, entry by entry.
-/
module

public import proofs.«01_k».proof.Proof.Gen.RefKIdeal.Value
public import proofs.«01_k».proof.Proof.Spec

@[expose] public section

set_option maxRecDepth 16384

noncomputable section

namespace Cert.RefKIdeal.Ref

open Cert.RefKIdeal Cert.RefKIdeal.Gen Idealize.ShloMosaic Idealize.ShloMosaic.TcCoe Idealize.SL.Sem
open Cert.Scale Cert.Rotary Cert.Spec

/-- A scale's byte, unbiased and biased again and laid in the exponent's place. -/
theorem shifted (x : BitVec 8) :
    Ideal.ofBits .f32 (IntOp.shli ArithUnit.vector (IntOp.addi (IntOp.subi (BitVec.setWidth 32 x) 127#32) 127#32) 23#32) = scaleOf x := by
  unfold scaleOf
  exact congrArg (Ideal.ofBits .f32) (bias_roundtrip x)

/-- The reference's test of a column's parity. -/
theorem even_lane : ∀ d : Fin 128, IntOp.cmpi CmpIPredicate.eq
            (Scalar.select
              (IntOp.andi
                (IntOp.xori
                  (IntOp.cmpi CmpIPredicate.slt
                    (IntOp.remsi ArithUnit.vector (BitVec.ofNat 32 d.val)
                      (Scalar.select (Scalar.cmpi CmpIPredicate.eq 2#32 0#32) 1#32 2#32))
                    0#32)
                  (Scalar.cmpi CmpIPredicate.slt (Scalar.select (Scalar.cmpi CmpIPredicate.eq 2#32 0#32) 1#32 2#32)
                    0#32))
                (IntOp.cmpi CmpIPredicate.ne
                  (IntOp.remsi ArithUnit.vector (BitVec.ofNat 32 d.val)
                    (Scalar.select (Scalar.cmpi CmpIPredicate.eq 2#32 0#32) 1#32 2#32))
                  0#32))
              (IntOp.addi
                (IntOp.remsi ArithUnit.vector (BitVec.ofNat 32 d.val)
                  (Scalar.select (Scalar.cmpi CmpIPredicate.eq 2#32 0#32) 1#32 2#32))
                (Scalar.select (Scalar.cmpi CmpIPredicate.eq 2#32 0#32) 1#32 2#32))
              (IntOp.remsi ArithUnit.vector (BitVec.ofNat 32 d.val)
                (Scalar.select (Scalar.cmpi CmpIPredicate.eq 2#32 0#32) 1#32 2#32)))
            0#32 = if d.val % 2 = 0 then 1#1 else 0#1 := by decide +kernel

/-- The reference's rows before the heads are taken apart, at an index. -/
theorem normed_at (w : Vec Ideal S3072x3072 .fp8e4m3) (e : Vec Ideal S96x3072 .i8) (x : Vec Ideal S1536x3072 .bf16)
    (b : Vec Ideal S1x3072 .f32) (nw : Vec Ideal S128 .f32) (i : Fin 1536) (h : Fin 24) (d : Fin 128) :
    k0_pay3 w e x b nw (ix3 i h d)
      = headNorm (fun j => ((∑ k : Fin 3072, (x (ix2 i k) : EReal) * ((w (ix2 k ⟨128 * h.val + j.val, by omega⟩) : EReal)
            * scaleOf (e (ix2 (⟨k.val / 32, by omega⟩ : Fin 96) ⟨128 * h.val + j.val, by omega⟩))))
          + (b (ix2 0 ⟨128 * h.val + j.val, by omega⟩) : EReal) : EReal)) (fun j => nw (ix1 j)) d := by
  unfold k0_pay3
  pointwise
  simp only [shifted, Nat.mul_comm h.val 128]
  rfl

theorem rotated_at (v : FVec Ideal S1536x24x128 .f32) (cs sn : Vec Ideal S1536x128 .f32) (i : Fin 1536) (h : Fin 24) (d : Fin 128) :
    k0_pay1 v cs sn (ix3 i h d) = ((cs (ix2 i d) : EReal) * v (ix3 i h d) + (sn (ix2 i d) : EReal) * v (ix3 i h (partner d)) : EReal) := by
  unfold k0_pay1
  pointwise
  rw [even_lane d]
  refine congrArg (fun u : EReal => (cs (ix2 i d) : EReal) * v (ix3 i h d) + (sn (ix2 i d) : EReal) * u) ?_
  by_cases hd : d.val % 2 = 0
  · have e : partner d = ⟨1 + d.val, by omega⟩ := by
      unfold partner
      rw [if_pos hd]
      exact Fin.ext (by show (d.val + 1) % 128 = 1 + d.val; omega)
    rw [if_pos hd, e, dif_pos (show d.val < 127 by omega)]
    rfl
  · have e : partner d = ⟨d.val - 1, by omega⟩ := by
      unfold partner
      rw [if_neg hd]
    rw [if_neg hd, e, dif_neg (show ¬ d.val < 1 by omega)]
    rfl

/-- Column 3072 of the weights this projection uses. -/
abbrev base : Nat := 3072

theorem base_le : base + 3072 ≤ 21504 := by decide

variable (x0 : Vec Ideal S1536x3072 .bf16) (x1 : Vec Ideal S3072x21504 .fp8e4m3) (x2 : Vec Ideal S96x21504 .i8)
  (x3 : Vec Ideal S1x21504 .f32) (x4 : Vec Ideal S128 .f32) (x5 x6 : Vec Ideal S1536x128 .f32)

/-- The rotated rows as the body computes them, at an index. -/
theorem body_at (i : Fin 1536) (h : Fin 24) (d : Fin 128) :
    k0_pay1 (k0_pay4 x0 x1 x2 x3 x4 x5 x6) (View.ld x5 r0_5) (View.ld x6 r0_5) (ix3 i h d)
      = headAt base base_le x0 x1 x2 (fun y => x3 (ix2 0 (y 0))) x4 x5 x6 i h d := by
  have l0 : ∀ k, View.ld x0 r0_2 (ix2 i k) = x0 (ix2 i k) := fun k => congrArg x0 (funext fun a => by
    match a with
    | ⟨0, _⟩ => exact Fin.ext (by show 0 + 1 * i.val = i.val; omega)
    | ⟨1, _⟩ => exact Fin.ext (by show 0 + 1 * k.val = k.val; omega))
  have l1 : ∀ k q : Fin 3072, View.ld x1 r0_0 (ix2 k q) = x1 (ix2 k (column base base_le q)) := fun k q => congrArg x1 (funext fun a => by
    match a with
    | ⟨0, _⟩ => exact Fin.ext (by show 0 + 1 * k.val = k.val; omega)
    | ⟨1, _⟩ => exact Fin.ext (by show base + 1 * q.val = base + q.val; omega))
  have l2 : ∀ (k : Fin 96) (q : Fin 3072), View.ld x2 r0_1 (ix2 k q) = x2 (ix2 k (column base base_le q)) := fun k q => congrArg x2 (funext fun a => by
    match a with
    | ⟨0, _⟩ => exact Fin.ext (by show 0 + 1 * k.val = k.val; omega)
    | ⟨1, _⟩ => exact Fin.ext (by show base + 1 * q.val = base + q.val; omega))
  have l3 : ∀ q : Fin 3072, View.ld x3 r0_3 (ix2 0 q) = x3 (ix2 0 (column base base_le q)) := fun q => congrArg x3 (funext fun a => by
    match a with
    | ⟨0, _⟩ => rfl
    | ⟨1, _⟩ => exact Fin.ext (by show base + 1 * q.val = base + q.val; omega))
  have l4 : ∀ j : Fin 128, View.ld x4 r0_4 (ix1 j) = x4 (ix1 j) := fun j => congrArg x4 (funext fun a => by
    match a with
    | ⟨0, _⟩ => exact Fin.ext (by show 0 + 1 * j.val = j.val; omega))
  have l5 : ∀ (v : Vec Ideal S1536x128 .f32) (j : Fin 128), View.ld v r0_5 (ix2 i j) = v (ix2 i j) := fun v j => congrArg v (funext fun a => by
    match a with
    | ⟨0, _⟩ => exact Fin.ext (by show 0 + 1 * i.val = i.val; omega)
    | ⟨1, _⟩ => exact Fin.ext (by show 0 + 1 * j.val = j.val; omega))
  refine (rotated_at _ _ _ i h d).trans ?_
  unfold k0_pay4
  rw [normed_at, normed_at, l5, l5]
  simp only [l0, l1, l2, l3, l4]
  rfl

/-- The rotated result the body leaves. -/
theorem rot_out : out0_7 x0 x1 x2 x3 x4 x5 x6 = rot base base_le x0 x1 x2 (fun y => x3 (ix2 0 (y 0))) x4 x5 x6 := by
  funext y
  unfold out0_7
  rw [show y = ix3 (y 0) (y 1) (y 2) from funext fun a => by
    match a with
    | ⟨0, _⟩ => rfl
    | ⟨1, _⟩ => rfl
    | ⟨2, _⟩ => rfl]
  refine (congrFun (View.canon_unit_zero (funext fun a => by fin_cases a <;> rfl) _ _) _).trans ?_
  exact body_at x0 x1 x2 x3 x4 x5 x6 (y 0) (y 1) (y 2)

theorem joined_at (v : FVec Ideal S1536x24x128 .bf16) (i : Fin 1536) (q : Fin 3072) :
    shapeCast S1536x3072 v shapeCasts_S1536x24x128_S1536x3072 (ix2 i q)
      = v (ix3 i (⟨q.val / 128, by omega⟩ : Fin 24) (⟨q.val % 128, by omega⟩ : Fin 128)) := by
  pointwise

/-- The flat result the body leaves. -/
theorem flat_out : out0_8 x0 x1 x2 x3 x4 x5 x6 = flat base base_le x0 x1 x2 (fun y => x3 (ix2 0 (y 0))) x4 x5 x6 := by
  funext y
  unfold out0_8
  refine (congrFun (View.canon_unit_zero (funext fun a => by fin_cases a <;> rfl) _ _) _).trans ?_
  refine Eq.trans ?_ (body_at x0 x1 x2 x3 x4 x5 x6 (y 0) ⟨(y 1).val / 128, by have h : (y 1).val < 3072 := (y 1).isLt; omega⟩
    ⟨(y 1).val % 128, by omega⟩)
  refine (congrArg _ (show y = ix2 (y 0) (y 1) from funext fun a => by
    match a with
    | ⟨0, _⟩ => rfl
    | ⟨1, _⟩ => rfl)).trans ?_
  unfold k0_pay2
  exact joined_at _ (y 0) (y 1)

variable (m : (ℓ : Loc nD τ sig) → Buf (Elt Ideal) ℓ) (ρ : Dev nD → PrngReg)

theorem row_at (b : Vec Ideal S21504 .f32) (q : Fin 21504) : shapeCast S1x21504 b shapeCasts_S21504_S1x21504 (ix2 0 q) = b (ix1 q) := by
  pointwise

/-- The bias, as a row. -/
theorem bias_row (c : Dev nD) (q : Fin 21504) :
    (V m c main_v0 : Vec Ideal S1x21504 .f32) (ix2 0 q) = (m ((c : Thread nD τ).loc main_arg3) : Vec Ideal S21504 .f32) (ix1 q) := by
  have e : V m c main_v0 = (shapeCast S1x21504 (m ((c : Thread nD τ).loc main_arg3) : Vec Ideal S21504 .f32) shapeCasts_S21504_S1x21504
      : Vec Ideal S1x21504 .f32) := by
    show StableHlo.after hostOps0 _ (Proc.devRef .tc main_v0) = _
    after_results
    rfl
  exact (congrFun e _).trans (row_at _ q)

theorem iblk0_eq (c : Dev nD) (t : Fin cfg0.N) : iblk m c 0 t = V m c main_arg0 := by
  have e := (by decide +kernel : ∀ t : Fin grid0.N, win0_0.index t (0 : Fin 2) = 0 ∧ win0_0.index t (1 : Fin 2) = 0) t
  funext j
  show V m c main_arg0 (((cfg0.win 0).blk t).view.emb j) = V m c main_arg0 j
  refine congrArg (V m c main_arg0) (funext fun a => Fin.ext ?_)
  match a with
  | ⟨0, _⟩ => have := e.1; show win0_0.index t (0 : Fin 2) * 1536 + 1 * (j 0).val = (j 0).val; omega
  | ⟨1, _⟩ => have := e.2; show win0_0.index t (1 : Fin 2) * 3072 + 1 * (j 1).val = (j 1).val; omega

theorem iblk1_eq (c : Dev nD) (t : Fin cfg0.N) : iblk m c 1 t = V m c main_arg1 := by
  have e := (by decide +kernel : ∀ t : Fin grid0.N, win0_1.index t (0 : Fin 2) = 0 ∧ win0_1.index t (1 : Fin 2) = 0) t
  funext j
  show V m c main_arg1 (((cfg0.win 1).blk t).view.emb j) = V m c main_arg1 j
  refine congrArg (V m c main_arg1) (funext fun a => Fin.ext ?_)
  match a with
  | ⟨0, _⟩ => have := e.1; show win0_1.index t (0 : Fin 2) * 3072 + 1 * (j 0).val = (j 0).val; omega
  | ⟨1, _⟩ => have := e.2; show win0_1.index t (1 : Fin 2) * 21504 + 1 * (j 1).val = (j 1).val; omega

theorem iblk2_eq (c : Dev nD) (t : Fin cfg0.N) : iblk m c 2 t = V m c main_arg2 := by
  have e := (by decide +kernel : ∀ t : Fin grid0.N, win0_2.index t (0 : Fin 2) = 0 ∧ win0_2.index t (1 : Fin 2) = 0) t
  funext j
  show V m c main_arg2 (((cfg0.win 2).blk t).view.emb j) = V m c main_arg2 j
  refine congrArg (V m c main_arg2) (funext fun a => Fin.ext ?_)
  match a with
  | ⟨0, _⟩ => have := e.1; show win0_2.index t (0 : Fin 2) * 96 + 1 * (j 0).val = (j 0).val; omega
  | ⟨1, _⟩ => have := e.2; show win0_2.index t (1 : Fin 2) * 21504 + 1 * (j 1).val = (j 1).val; omega

theorem iblk3_eq (c : Dev nD) (t : Fin cfg0.N) : iblk m c 3 t = V m c main_v0 := by
  have e := (by decide +kernel : ∀ t : Fin grid0.N, win0_3.index t (0 : Fin 2) = 0 ∧ win0_3.index t (1 : Fin 2) = 0) t
  funext j
  show V m c main_v0 (((cfg0.win 3).blk t).view.emb j) = V m c main_v0 j
  refine congrArg (V m c main_v0) (funext fun a => Fin.ext ?_)
  match a with
  | ⟨0, _⟩ => have := e.1; show win0_3.index t (0 : Fin 2) * 1 + 1 * (j 0).val = (j 0).val; omega
  | ⟨1, _⟩ => have := e.2; show win0_3.index t (1 : Fin 2) * 21504 + 1 * (j 1).val = (j 1).val; omega

theorem iblk4_eq (c : Dev nD) (t : Fin cfg0.N) : iblk m c 4 t = V m c main_arg4 := by
  have e := (by decide +kernel : ∀ t : Fin grid0.N, win0_4.index t (0 : Fin 1) = 0) t
  funext j
  show V m c main_arg4 (((cfg0.win 4).blk t).view.emb j) = V m c main_arg4 j
  refine congrArg (V m c main_arg4) (funext fun a => Fin.ext ?_)
  match a with
  | ⟨0, _⟩ => have := e; show win0_4.index t (0 : Fin 1) * 128 + 1 * (j 0).val = (j 0).val; omega

theorem iblk5_eq (c : Dev nD) (t : Fin cfg0.N) : iblk m c 5 t = V m c main_arg5 := by
  have e := (by decide +kernel : ∀ t : Fin grid0.N, win0_5.index t (0 : Fin 2) = 0 ∧ win0_5.index t (1 : Fin 2) = 0) t
  funext j
  show V m c main_arg5 (((cfg0.win 5).blk t).view.emb j) = V m c main_arg5 j
  refine congrArg (V m c main_arg5) (funext fun a => Fin.ext ?_)
  match a with
  | ⟨0, _⟩ => have := e.1; show win0_5.index t (0 : Fin 2) * 1536 + 1 * (j 0).val = (j 0).val; omega
  | ⟨1, _⟩ => have := e.2; show win0_5.index t (1 : Fin 2) * 128 + 1 * (j 1).val = (j 1).val; omega

theorem iblk6_eq (c : Dev nD) (t : Fin cfg0.N) : iblk m c 6 t = V m c main_arg6 := by
  have e := (by decide +kernel : ∀ t : Fin grid0.N, win0_6.index t (0 : Fin 2) = 0 ∧ win0_6.index t (1 : Fin 2) = 0) t
  funext j
  show V m c main_arg6 (((cfg0.win 6).blk t).view.emb j) = V m c main_arg6 j
  refine congrArg (V m c main_arg6) (funext fun a => Fin.ext ?_)
  match a with
  | ⟨0, _⟩ => have := e.1; show win0_6.index t (0 : Fin 2) * 1536 + 1 * (j 0).val = (j 0).val; omega
  | ⟨1, _⟩ => have := e.2; show win0_6.index t (1 : Fin 2) * 128 + 1 * (j 1).val = (j 1).val; omega

theorem emb7 (t : Fin cfg0.N) (j : S1536x24x128.Idx) : ((cfg0.win 7).blk t).view.emb j = j := by
  have e := (by decide +kernel : ∀ t : Fin grid0.N, win0_7.index t (0 : Fin 3) = 0 ∧ win0_7.index t (1 : Fin 3) = 0 ∧ win0_7.index t (2 : Fin 3) = 0) t
  funext a
  apply Fin.ext
  match a with
  | ⟨0, _⟩ => have := e.1; show win0_7.index t (0 : Fin 3) * 1536 + 1 * (j 0).val = (j 0).val; omega
  | ⟨1, _⟩ => have := e.2.1; show win0_7.index t (1 : Fin 3) * 24 + 1 * (j 1).val = (j 1).val; omega
  | ⟨2, _⟩ => have := e.2.2; show win0_7.index t (2 : Fin 3) * 128 + 1 * (j 2).val = (j 2).val; omega

theorem cut7 (t : Fin cfg0.N) (X : Vec Ideal S1536x24x128 .bf16) :
    (cfg0.win 7).cut (grid0.coords t) X = ((cfg0.win 7).blk t).view.read (Elt Ideal) X := by
  funext j
  show X j = X (((cfg0.win 7).blk t).view.emb j)
  rw [emb7]

/-- The rotated result after the run, as a function of the arguments. -/
theorem final7 (c : Dev nD) : (dats m 0 c).arrAt 7 cfg0.N
    = rot base base_le (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine ((dats m 0 c).arrAt_eq_of_cover 7 (out0_7 (V m c main_arg0) (V m c main_arg1) (V m c main_arg2) (V m c main_v0) (V m c main_arg4)
    (V m c main_arg5) (V m c main_arg6)) (fun t _ => ?_) (fun i => ⟨(⟨0, by decide⟩ : Fin cfg0.N), flush0_7 _, ?_⟩)).trans ?_
  · rw [Value.flushed7, iblk0_eq, iblk1_eq, iblk2_eq, iblk3_eq, iblk4_eq, iblk5_eq, iblk6_eq]
    exact cut7 t _
  · have h := ((cfg0.win 7).blk (⟨0, by decide⟩ : Fin cfg0.N)).view.emb_mem_set i
    rwa [emb7] at h
  · rw [rot_out, V_main_arg0, V_main_arg1, V_main_arg2, V_main_arg4, V_main_arg5, V_main_arg6]
    refine congrArg (fun b => rot base base_le _ _ _ b _ _ _) (funext fun y => ?_)
    refine (bias_row m c (y 0)).trans (congrArg _ (funext fun a => ?_))
    match a with
    | ⟨0, _⟩ => rfl

theorem emb8 (t : Fin cfg0.N) (j : S1536x3072.Idx) : ((cfg0.win 8).blk t).view.emb j = j := by
  have e := (by decide +kernel : ∀ t : Fin grid0.N, win0_8.index t (0 : Fin 2) = 0 ∧ win0_8.index t (1 : Fin 2) = 0) t
  funext a
  apply Fin.ext
  match a with
  | ⟨0, _⟩ => have := e.1; show win0_8.index t (0 : Fin 2) * 1536 + 1 * (j 0).val = (j 0).val; omega
  | ⟨1, _⟩ => have := e.2; show win0_8.index t (1 : Fin 2) * 3072 + 1 * (j 1).val = (j 1).val; omega

theorem cut8 (t : Fin cfg0.N) (X : Vec Ideal S1536x3072 .bf16) :
    (cfg0.win 8).cut (grid0.coords t) X = ((cfg0.win 8).blk t).view.read (Elt Ideal) X := by
  funext j
  show X j = X (((cfg0.win 8).blk t).view.emb j)
  rw [emb8]

/-- The flat result after the run, as a function of the arguments. -/
theorem final8 (c : Dev nD) : (dats m 0 c).arrAt 8 cfg0.N
    = flat base base_le (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine ((dats m 0 c).arrAt_eq_of_cover 8 (out0_8 (V m c main_arg0) (V m c main_arg1) (V m c main_arg2) (V m c main_v0) (V m c main_arg4)
    (V m c main_arg5) (V m c main_arg6)) (fun t _ => ?_) (fun i => ⟨(⟨0, by decide⟩ : Fin cfg0.N), flush0_8 _, ?_⟩)).trans ?_
  · rw [Value.flushed8, iblk0_eq, iblk1_eq, iblk2_eq, iblk3_eq, iblk4_eq, iblk5_eq, iblk6_eq]
    exact cut8 t _
  · have h := ((cfg0.win 8).blk (⟨0, by decide⟩ : Fin cfg0.N)).view.emb_mem_set i
    rwa [emb8] at h
  · rw [flat_out, V_main_arg0, V_main_arg1, V_main_arg2, V_main_arg4, V_main_arg5, V_main_arg6]
    refine congrArg (fun b => flat base base_le _ _ _ b _ _ _) (funext fun y => ?_)
    refine (bias_row m c (y 0)).trans (congrArg _ (funext fun a => ?_))
    match a with
    | ⟨0, _⟩ => rfl

end Cert.RefKIdeal.Ref

end
-- ==== Proof.KEq.lean ====
/-
  The projection kernel and its reference end with equal results.
-/
module

public import proofs.«01_k».proof.Defs
public import proofs.«01_k».proof.Proof.KArray
public import proofs.«01_k».proof.Proof.KRef

@[expose] public section

set_option maxRecDepth 16384

noncomputable section

namespace Cert.ProjKIdeal.Equal

open Idealize.ShloMosaic Idealize.ShloMosaic.TcCoe Idealize.SL.Sem Cert.Spec

/-- From memories that agree on the arguments, both end with the rotated heads and the flat result the
    arguments determine. -/
theorem algebraic : Cert.algebraic_ProjKIdeal_RefKIdeal (hProjKIdeal := Cert.ProjKIdeal.Gen.facts) (hRefKIdeal := Cert.RefKIdeal.Gen.facts) := by
  intro m g m' g' _ hm
  have k7 := Cert.ProjKIdeal.Array.final7 m
  have k8 := Cert.ProjKIdeal.Array.final8 m
  have r7 : ∀ c, (Cert.RefKIdeal.Gen.dats m' 0 c).arrAt 7 Cert.RefKIdeal.cfg0.N = Cert.ProjKIdeal.Array.rotOf m c := fun c => by
    obtain ⟨h0, h1, h2, h3, h4, h5, h6⟩ := hm c
    refine (Cert.RefKIdeal.Ref.final7 m' c).trans ?_
    rw [h0, h1, h2, h3, h4, h5, h6]
  have r8 : ∀ c, (Cert.RefKIdeal.Gen.dats m' 0 c).arrAt 8 Cert.RefKIdeal.cfg0.N = Cert.ProjKIdeal.Array.flatOf m c := fun c => by
    obtain ⟨h0, h1, h2, h3, h4, h5, h6⟩ := hm c
    refine (Cert.RefKIdeal.Ref.final8 m' c).trans ?_
    rw [h0, h1, h2, h3, h4, h5, h6]
  refine ⟨fun c => Cert.ProjKIdeal.Array.rotOf m c, fun c => Cert.ProjKIdeal.Array.flatOf m c, ?_, ?_⟩
  · refine (θ_run _ _ _).mono ?_ (Cert.ProjKIdeal.Value.run_blocks m g)
    exact fun r h c => ⟨(h c).1.trans (k7 c), (h c).2.1.trans (k8 c), (h c).2.2⟩
  · refine (θ_run _ _ _).mono ?_ (Cert.RefKIdeal.Value.run_blocks m' g')
    exact fun r h c => ⟨(h c).1.trans (r7 c), (h c).2.1.trans (r8 c), (h c).2.2⟩

end Cert.ProjKIdeal.Equal

end
-- ==== Proof.VWeights.lean ====
/-
  What the v projection's scratch of widened weights holds when it is read: each weight of the point's block times its scale.
-/
module

public import proofs.«01_k».proof.Proof.Gen.ProjVIdeal.Frame
public import proofs.«01_k».proof.Proof.Scale
public import Idealize.ShloMosaic.Lib.Pipeline.ReadBack
public import Idealize.ShloMosaic.Lib.WholeRead

@[expose] public section

set_option maxRecDepth 16384

noncomputable section

namespace Cert.ProjVIdeal.Weights

open Cert.ProjVIdeal Cert.ProjVIdeal.Gen Idealize.ShloMosaic Idealize.ShloMosaic.TcCoe Idealize.SL.Sem
open Cert.Scale

/-- The words of a tile of scales: each byte laid twice. -/
def words (v1 : Vec Ideal S96x512 .i8) : IVec S96x512 32 :=
  shapeCast S96x512
    (ori (shli (extui 32 v1 natLt_8_32) (broadcast S96x512 7#32)) (shli (extui 32 v1 natLt_8_32) (broadcast S96x512 23#32)))
    shapeCasts_S96x512_S96x512

theorem words_at (v1 : Vec Ideal S96x512 .i8) (b : Fin 96) (c : Fin 512) : words v1 (ix2 b c) = wordOf (v1 (ix2 b c)) := by
  unfold words
  pointwise
  rfl

/-- 32 rows of weights times one row of scales. -/
def wide (e : Vec Ideal S1x512 .i32) (w : Vec Ideal S32x512 .fp8e4m3) : Vec Ideal S32x512 .bf16 :=
  shapeCast S32x512
    (mulf (F := Ideal) (extf .bf16 w bitsLt_fp8e4m3_bf16)
      (concatenate S32x512 0
        [⟨S16x512, bitcastToFloat .bf16 (bitcast S16x512 16 (broadcastTo S8x512 (shapeCast S1x512 e shapeCasts_S1x512_S1x512)
            broadcasts_S1x512_S8x512) bitcasts_S8x512_w32_S16x512_w16)⟩,
         ⟨S16x512, bitcastToFloat .bf16 (bitcast S16x512 16 (broadcastTo S8x512 (shapeCast S1x512 e shapeCasts_S1x512_S1x512)
            broadcasts_S1x512_S8x512) bitcasts_S8x512_w32_S16x512_w16)⟩]
        concatenates_S16x512_S16x512_S32x512_d0))
    shapeCasts_S32x512_S32x512

/-- The doubled words of one row, read as bfloat16: every row of the tile is the row of scales. -/
theorem scaleTile_at (e : Vec Ideal S1x512 .i32) (x : Fin 512 → BitVec 8) (he : ∀ c : Fin 512, e (ix2 0 c) = wordOf (x c))
    (r : Fin 16) (c : Fin 512) :
    bitcastToFloat (F := Ideal) .bf16 (bitcast S16x512 16 (broadcastTo S8x512 (shapeCast S1x512 e shapeCasts_S1x512_S1x512)
              broadcasts_S1x512_S8x512) bitcasts_S8x512_w32_S16x512_w16) (ix2 r c) = scaleOf (x c) := by
  show Ideal.ofBits .bf16 (bitcast S16x512 16 _ bitcasts_S8x512_w32_S16x512_w16 (ix2 r c)) = _
  rw [bitcast_32_16]
  rw [show (broadcastTo S8x512 (shapeCast S1x512 e shapeCasts_S1x512_S1x512) broadcasts_S1x512_S8x512
      ((bitcasts_S8x512_w32_S16x512_w16).srcIdx (ix2 r c) (S16x512.row (ix2 r c) / 2) _)) = wordOf (x c) from by
    rw [← he c]
    pointwise
    rfl]
  exact half_eq_scaleOf _ _ (Nat.mod_lt _ (by decide))

theorem wide_at (e : Vec Ideal S1x512 .i32) (w : Vec Ideal S32x512 .fp8e4m3) (x : Fin 512 → BitVec 8)
    (he : ∀ c : Fin 512, e (ix2 0 c) = wordOf (x c)) (r : Fin 32) (c : Fin 512) :
    wide e w (ix2 r c) = (show EReal from w (ix2 r c)) * scaleOf (x c) := by
  unfold wide
  have h := scaleTile_at e x he
  generalize bitcastToFloat (F := Ideal) .bf16 (bitcast S16x512 16 (broadcastTo S8x512 (shapeCast S1x512 e shapeCasts_S1x512_S1x512)
              broadcasts_S1x512_S8x512) bitcasts_S8x512_w32_S16x512_w16) = s at h ⊢
  pointwise
  split_ifs with hr
  · exact congrArg _ (h ⟨r, hr⟩ c)
  all_goals exact congrArg _ (h ⟨r - 16, by omega⟩ c)

/-- The widened weight of row `k` and column `q` of a block of 512 columns. -/
def weight (x1 : Vec Ideal S3072x512 .fp8e4m3) (x2 : Vec Ideal S96x512 .i8) (k : Fin 3072) (q : Fin 512) : EReal :=
  (show EReal from x1 (ix2 k q)) * scaleOf (x2 (ix2 ⟨k.val / 32, by omega⟩ q))

/-- The widened weights of a block of 512 columns. -/
def weights (x1 : Vec Ideal S3072x512 .fp8e4m3) (x2 : Vec Ideal S96x512 .i8) (y : S3072x512.Idx) : EReal :=
  weight x1 x2 (y 0) (y 1)

theorem row_inb (b : Nat) (hb : b < 96) : ∀ a, (![b, 0] : Fin 2 → Nat) a + S1x512.size a ≤ S96x512.size a
  | ⟨0, _⟩ => by show b + 1 ≤ 96; omega
  | ⟨1, _⟩ => by show 0 + 512 ≤ 512; omega

theorem rows_inb (b o : Nat) (hb : b < 96) (ho : o = 32 * b) :
    ∀ a, (![o, 0] : Fin 2 → Nat) a + S32x512.size a ≤ S3072x512.size a
  | ⟨0, _⟩ => by show o + 32 ≤ 3072; omega
  | ⟨1, _⟩ => by show 0 + 512 ≤ 512; omega

theorem all_inb : ∀ a, (![0, 0] : Fin 2 → Nat) a + S96x512.size a ≤ S96x512.size a
  | ⟨0, _⟩ => by show 0 + 96 ≤ 96; omega
  | ⟨1, _⟩ => by show 0 + 512 ≤ 512; omega

/-- Row `b` of the scales scratch, loaded after the whole of it was stored: the stored words' row. -/
theorem row_at (v : View sig .tc .vmem S96x512 .i32) (b : Nat) (hb : b < 96) (P : IVec S96x512 32) (c : Fin 512) :
    (v.readCov (Val := Elt Ideal) [⟨Rect.unit (s := S96x512) ![0, 0] S96x512.size all_inb, P⟩]
        (Rect.unit (s := S96x512) ![b, 0] S1x512.size (row_inb b hb)).toLoadRect : IVec S1x512 32) (ix2 0 c)
      = P (ix2 ⟨b, hb⟩ c) := by
  rw [View.readCov_eq_canon']
  have e : (Rect.unit (s := S96x512) ![b, 0] S1x512.size (row_inb b hb)).toLoadRect.idx (ix2 0 c)
      = (Rect.unit (s := S96x512) ![0, 0] S96x512.size all_inb).emb (ix2 ⟨b, hb⟩ c) := by
    funext a
    match a with
    | ⟨0, _⟩ => exact Fin.ext (by show b + 1 * 0 = 0 + 1 * b; omega)
    | ⟨1, _⟩ => exact Fin.ext (by show 0 + 1 * c.val = 0 + 1 * c.val; omega)
  refine (congrArg (View.canon _) e).trans ?_
  exact View.canon_cons_emb (Val := Elt Ideal) (e := .i32) (Rect.unit (s := S96x512) ![0, 0] S96x512.size all_inb) P [] (ix2 ⟨b, hb⟩ c)

/-- What one store of 32 rows of widened weights holds: rows `32 b …`. -/
theorem piece (arg2 : Memref sig .tc .vmem S3072x512 .fp8e4m3) (harg2 : arg2.IsWhole)
    (arg3 : Memref sig .tc .vmem S96x512 .i8) (harg3 : arg3.IsWhole) (arg7 : Memref sig .tc .vmem S96x512 .i32)
    (x1 : Vec Ideal S3072x512 .fp8e4m3) (x2 : Vec Ideal S96x512 .i8) (b o : Nat) (hb : b < 96) (ho : o = 32 * b) (x : S32x512.Idx) :
    wide (arg7.view.readCov (Val := Elt Ideal) [⟨Rect.unit (s := S96x512) ![0, 0] S96x512.size all_inb,
          words (View.readAt (Elt Ideal) arg3.view (Rect.unit (s := S96x512) ![0, 0] S96x512.size all_inb).toLoadRect (harg3.unread x2))⟩]
        (Rect.unit (s := S96x512) ![b, 0] S1x512.size (row_inb b hb)).toLoadRect)
      (View.readAt (Elt Ideal) arg2.view (Rect.unit (s := S3072x512) ![o, 0] S32x512.size (rows_inb b o hb ho)).toLoadRect (harg2.unread x1)) x
      = weights x1 x2 ((Rect.unit (s := S3072x512) ![o, 0] S32x512.size (rows_inb b o hb ho)).emb x) := by
  have hx0 : (x 0).val < 32 := (x 0).isLt
  have hx1 : (x 1).val < 512 := (x 1).isLt
  have hx : x = ix2 (⟨(x 0).val, hx0⟩ : Fin 32) (⟨(x 1).val, hx1⟩ : Fin 512) := by
    funext a
    match a with
    | ⟨0, _⟩ => rfl
    | ⟨1, _⟩ => rfl
  rw [hx]
  refine (wide_at _ _ (fun c : Fin 512 => x2 (ix2 (⟨b, hb⟩ : Fin 96) c))
    (fun c => (row_at arg7.view b hb _ c).trans
      ((words_at _ ⟨b, hb⟩ c).trans (congrArg wordOf ((harg3.readAt_unread x2 _ _).trans (congrArg x2 ?_))))) _ _).trans ?_
  · funext a
    match a with
    | ⟨0, _⟩ => exact Fin.ext (by show 0 + 1 * b = b; omega)
    | ⟨1, _⟩ => exact Fin.ext (by show 0 + 1 * c.val = c.val; omega)
  · refine congrArg₂ (fun u v : EReal => u * v) ((harg2.readAt_unread x1 _ _).trans (congrArg x1 ?_)) (congrArg (fun i => scaleOf (x2 i)) ?_)
    · funext a
      match a with
      | ⟨0, _⟩ => rfl
      | ⟨1, _⟩ => rfl
    · funext a
      match a with
      | ⟨0, _⟩ => exact Fin.ext (by show b = (o + 1 * (x 0).val) / 32; omega)
      | ⟨1, _⟩ => exact Fin.ext (by show (x 1).val = 0 + 1 * (x 1).val; omega)

end Cert.ProjVIdeal.Weights

end
-- ==== Proof.VStores.lean ====
/-
  Every store of widened weights of the v projection, and the whole of what its scratch holds when it is read.
-/
module

public import proofs.«01_k».proof.Proof.VWeights

@[expose] public section

set_option maxRecDepth 16384

noncomputable section

namespace Cert.ProjVIdeal.Weights

open Cert.ProjVIdeal Cert.ProjVIdeal.Gen Idealize.ShloMosaic Idealize.ShloMosaic.TcCoe Idealize.SL.Sem
open Cert.Scale

variable (c : Dev nD) (arg2 : Memref sig .tc .vmem S3072x512 .fp8e4m3) (harg2 : arg2.IsWhole)
  (arg3 : Memref sig .tc .vmem S96x512 .i8) (harg3 : arg3.IsWhole)
  (arg6 : Memref sig .tc .vmem S3072x512 .bf16) (arg7 : Memref sig .tc .vmem S96x512 .i32)
  (x1 : Vec Ideal S3072x512 .fp8e4m3) (x2 : Vec Ideal S96x512 .i8)

set_option maxHeartbeats 8000000 in
/-- The stores all hold the widened weights. -/
theorem pieces : View.PiecesOf (weights x1 x2) (kernelRun0_A.sl.HS0_96 (F := Ideal) c arg2 harg2 arg3 harg3 arg7 x1 x2) := by
  unfold kernelRun0_A.sl.HS0_96
  refine And.intro (fun x => piece arg2 harg2 arg3 harg3 arg7 x1 x2 95 3040 (by decide) rfl x) ?_
  refine And.intro (fun x => piece arg2 harg2 arg3 harg3 arg7 x1 x2 94 3008 (by decide) rfl x) ?_
  refine And.intro (fun x => piece arg2 harg2 arg3 harg3 arg7 x1 x2 93 2976 (by decide) rfl x) ?_
  refine And.intro (fun x => piece arg2 harg2 arg3 harg3 arg7 x1 x2 92 2944 (by decide) rfl x) ?_
  refine And.intro (fun x => piece arg2 harg2 arg3 harg3 arg7 x1 x2 91 2912 (by decide) rfl x) ?_
  refine And.intro (fun x => piece arg2 harg2 arg3 harg3 arg7 x1 x2 90 2880 (by decide) rfl x) ?_
  refine And.intro (fun x => piece arg2 harg2 arg3 harg3 arg7 x1 x2 89 2848 (by decide) rfl x) ?_
  refine And.intro (fun x => piece arg2 harg2 arg3 harg3 arg7 x1 x2 88 2816 (by decide) rfl x) ?_
  refine And.intro (fun x => piece arg2 harg2 arg3 harg3 arg7 x1 x2 87 2784 (by decide) rfl x) ?_
  refine And.intro (fun x => piece arg2 harg2 arg3 harg3 arg7 x1 x2 86 2752 (by decide) rfl x) ?_
  refine And.intro (fun x => piece arg2 harg2 arg3 harg3 arg7 x1 x2 85 2720 (by decide) rfl x) ?_
  refine And.intro (fun x => piece arg2 harg2 arg3 harg3 arg7 x1 x2 84 2688 (by decide) rfl x) ?_
  refine And.intro (fun x => piece arg2 harg2 arg3 harg3 arg7 x1 x2 83 2656 (by decide) rfl x) ?_
  refine And.intro (fun x => piece arg2 harg2 arg3 harg3 arg7 x1 x2 82 2624 (by decide) rfl x) ?_
  refine And.intro (fun x => piece arg2 harg2 arg3 harg3 arg7 x1 x2 81 2592 (by decide) rfl x) ?_
  refine And.intro (fun x => piece arg2 harg2 arg3 harg3 arg7 x1 x2 80 2560 (by decide) rfl x) ?_
  refine And.intro (fun x => piece arg2 harg2 arg3 harg3 arg7 x1 x2 79 2528 (by decide) rfl x) ?_
  refine And.intro (fun x => piece arg2 harg2 arg3 harg3 arg7 x1 x2 78 2496 (by decide) rfl x) ?_
  refine And.intro (fun x => piece arg2 harg2 arg3 harg3 arg7 x1 x2 77 2464 (by decide) rfl x) ?_
  refine And.intro (fun x => piece arg2 harg2 arg3 harg3 arg7 x1 x2 76 2432 (by decide) rfl x) ?_
  refine And.intro (fun x => piece arg2 harg2 arg3 harg3 arg7 x1 x2 75 2400 (by decide) rfl x) ?_
  refine And.intro (fun x => piece arg2 harg2 arg3 harg3 arg7 x1 x2 74 2368 (by decide) rfl x) ?_
  refine And.intro (fun x => piece arg2 harg2 arg3 harg3 arg7 x1 x2 73 2336 (by decide) rfl x) ?_
  refine And.intro (fun x => piece arg2 harg2 arg3 harg3 arg7 x1 x2 72 2304 (by decide) rfl x) ?_
  refine And.intro (fun x => piece arg2 harg2 arg3 harg3 arg7 x1 x2 71 2272 (by decide) rfl x) ?_
  refine And.intro (fun x => piece arg2 harg2 arg3 harg3 arg7 x1 x2 70 2240 (by decide) rfl x) ?_
  refine And.intro (fun x => piece arg2 harg2 arg3 harg3 arg7 x1 x2 69 2208 (by decide) rfl x) ?_
  refine And.intro (fun x => piece arg2 harg2 arg3 harg3 arg7 x1 x2 68 2176 (by decide) rfl x) ?_
  refine And.intro (fun x => piece arg2 harg2 arg3 harg3 arg7 x1 x2 67 2144 (by decide) rfl x) ?_
  refine And.intro (fun x => piece arg2 harg2 arg3 harg3 arg7 x1 x2 66 2112 (by decide) rfl x) ?_
  refine And.intro (fun x => piece arg2 harg2 arg3 harg3 arg7 x1 x2 65 2080 (by decide) rfl x) ?_
  refine And.intro (fun x => piece arg2 harg2 arg3 harg3 arg7 x1 x2 64 2048 (by decide) rfl x) ?_
  refine And.intro (fun x => piece arg2 harg2 arg3 harg3 arg7 x1 x2 63 2016 (by decide) rfl x) ?_
  refine And.intro (fun x => piece arg2 harg2 arg3 harg3 arg7 x1 x2 62 1984 (by decide) rfl x) ?_
  refine And.intro (fun x => piece arg2 harg2 arg3 harg3 arg7 x1 x2 61 1952 (by decide) rfl x) ?_
  refine And.intro (fun x => piece arg2 harg2 arg3 harg3 arg7 x1 x2 60 1920 (by decide) rfl x) ?_
  refine And.intro (fun x => piece arg2 harg2 arg3 harg3 arg7 x1 x2 59 1888 (by decide) rfl x) ?_
  refine And.intro (fun x => piece arg2 harg2 arg3 harg3 arg7 x1 x2 58 1856 (by decide) rfl x) ?_
  refine And.intro (fun x => piece arg2 harg2 arg3 harg3 arg7 x1 x2 57 1824 (by decide) rfl x) ?_
  refine And.intro (fun x => piece arg2 harg2 arg3 harg3 arg7 x1 x2 56 1792 (by decide) rfl x) ?_
  refine And.intro (fun x => piece arg2 harg2 arg3 harg3 arg7 x1 x2 55 1760 (by decide) rfl x) ?_
  refine And.intro (fun x => piece arg2 harg2 arg3 harg3 arg7 x1 x2 54 1728 (by decide) rfl x) ?_
  refine And.intro (fun x => piece arg2 harg2 arg3 harg3 arg7 x1 x2 53 1696 (by decide) rfl x) ?_
  refine And.intro (fun x => piece arg2 harg2 arg3 harg3 arg7 x1 x2 52 1664 (by decide) rfl x) ?_
  refine And.intro (fun x => piece arg2 harg2 arg3 harg3 arg7 x1 x2 51 1632 (by decide) rfl x) ?_
  refine And.intro (fun x => piece arg2 harg2 arg3 harg3 arg7 x1 x2 50 1600 (by decide) rfl x) ?_
  refine And.intro (fun x => piece arg2 harg2 arg3 harg3 arg7 x1 x2 49 1568 (by decide) rfl x) ?_
  refine And.intro (fun x => piece arg2 harg2 arg3 harg3 arg7 x1 x2 48 1536 (by decide) rfl x) ?_
  refine And.intro (fun x => piece arg2 harg2 arg3 harg3 arg7 x1 x2 47 1504 (by decide) rfl x) ?_
  refine And.intro (fun x => piece arg2 harg2 arg3 harg3 arg7 x1 x2 46 1472 (by decide) rfl x) ?_
  refine And.intro (fun x => piece arg2 harg2 arg3 harg3 arg7 x1 x2 45 1440 (by decide) rfl x) ?_
  refine And.intro (fun x => piece arg2 harg2 arg3 harg3 arg7 x1 x2 44 1408 (by decide) rfl x) ?_
  refine And.intro (fun x => piece arg2 harg2 arg3 harg3 arg7 x1 x2 43 1376 (by decide) rfl x) ?_
  refine And.intro (fun x => piece arg2 harg2 arg3 harg3 arg7 x1 x2 42 1344 (by decide) rfl x) ?_
  refine And.intro (fun x => piece arg2 harg2 arg3 harg3 arg7 x1 x2 41 1312 (by decide) rfl x) ?_
  refine And.intro (fun x => piece arg2 harg2 arg3 harg3 arg7 x1 x2 40 1280 (by decide) rfl x) ?_
  refine And.intro (fun x => piece arg2 harg2 arg3 harg3 arg7 x1 x2 39 1248 (by decide) rfl x) ?_
  refine And.intro (fun x => piece arg2 harg2 arg3 harg3 arg7 x1 x2 38 1216 (by decide) rfl x) ?_
  refine And.intro (fun x => piece arg2 harg2 arg3 harg3 arg7 x1 x2 37 1184 (by decide) rfl x) ?_
  refine And.intro (fun x => piece arg2 harg2 arg3 harg3 arg7 x1 x2 36 1152 (by decide) rfl x) ?_
  refine And.intro (fun x => piece arg2 harg2 arg3 harg3 arg7 x1 x2 35 1120 (by decide) rfl x) ?_
  refine And.intro (fun x => piece arg2 harg2 arg3 harg3 arg7 x1 x2 34 1088 (by decide) rfl x) ?_
  refine And.intro (fun x => piece arg2 harg2 arg3 harg3 arg7 x1 x2 33 1056 (by decide) rfl x) ?_
  refine And.intro (fun x => piece arg2 harg2 arg3 harg3 arg7 x1 x2 32 1024 (by decide) rfl x) ?_
  refine And.intro (fun x => piece arg2 harg2 arg3 harg3 arg7 x1 x2 31 992 (by decide) rfl x) ?_
  refine And.intro (fun x => piece arg2 harg2 arg3 harg3 arg7 x1 x2 30 960 (by decide) rfl x) ?_
  refine And.intro (fun x => piece arg2 harg2 arg3 harg3 arg7 x1 x2 29 928 (by decide) rfl x) ?_
  refine And.intro (fun x => piece arg2 harg2 arg3 harg3 arg7 x1 x2 28 896 (by decide) rfl x) ?_
  refine And.intro (fun x => piece arg2 harg2 arg3 harg3 arg7 x1 x2 27 864 (by decide) rfl x) ?_
  refine And.intro (fun x => piece arg2 harg2 arg3 harg3 arg7 x1 x2 26 832 (by decide) rfl x) ?_
  refine And.intro (fun x => piece arg2 harg2 arg3 harg3 arg7 x1 x2 25 800 (by decide) rfl x) ?_
  refine And.intro (fun x => piece arg2 harg2 arg3 harg3 arg7 x1 x2 24 768 (by decide) rfl x) ?_
  refine And.intro (fun x => piece arg2 harg2 arg3 harg3 arg7 x1 x2 23 736 (by decide) rfl x) ?_
  refine And.intro (fun x => piece arg2 harg2 arg3 harg3 arg7 x1 x2 22 704 (by decide) rfl x) ?_
  refine And.intro (fun x => piece arg2 harg2 arg3 harg3 arg7 x1 x2 21 672 (by decide) rfl x) ?_
  refine And.intro (fun x => piece arg2 harg2 arg3 harg3 arg7 x1 x2 20 640 (by decide) rfl x) ?_
  refine And.intro (fun x => piece arg2 harg2 arg3 harg3 arg7 x1 x2 19 608 (by decide) rfl x) ?_
  refine And.intro (fun x => piece arg2 harg2 arg3 harg3 arg7 x1 x2 18 576 (by decide) rfl x) ?_
  refine And.intro (fun x => piece arg2 harg2 arg3 harg3 arg7 x1 x2 17 544 (by decide) rfl x) ?_
  refine And.intro (fun x => piece arg2 harg2 arg3 harg3 arg7 x1 x2 16 512 (by decide) rfl x) ?_
  refine And.intro (fun x => piece arg2 harg2 arg3 harg3 arg7 x1 x2 15 480 (by decide) rfl x) ?_
  refine And.intro (fun x => piece arg2 harg2 arg3 harg3 arg7 x1 x2 14 448 (by decide) rfl x) ?_
  refine And.intro (fun x => piece arg2 harg2 arg3 harg3 arg7 x1 x2 13 416 (by decide) rfl x) ?_
  refine And.intro (fun x => piece arg2 harg2 arg3 harg3 arg7 x1 x2 12 384 (by decide) rfl x) ?_
  refine And.intro (fun x => piece arg2 harg2 arg3 harg3 arg7 x1 x2 11 352 (by decide) rfl x) ?_
  refine And.intro (fun x => piece arg2 harg2 arg3 harg3 arg7 x1 x2 10 320 (by decide) rfl x) ?_
  refine And.intro (fun x => piece arg2 harg2 arg3 harg3 arg7 x1 x2 9 288 (by decide) rfl x) ?_
  refine And.intro (fun x => piece arg2 harg2 arg3 harg3 arg7 x1 x2 8 256 (by decide) rfl x) ?_
  refine And.intro (fun x => piece arg2 harg2 arg3 harg3 arg7 x1 x2 7 224 (by decide) rfl x) ?_
  refine And.intro (fun x => piece arg2 harg2 arg3 harg3 arg7 x1 x2 6 192 (by decide) rfl x) ?_
  refine And.intro (fun x => piece arg2 harg2 arg3 harg3 arg7 x1 x2 5 160 (by decide) rfl x) ?_
  refine And.intro (fun x => piece arg2 harg2 arg3 harg3 arg7 x1 x2 4 128 (by decide) rfl x) ?_
  refine And.intro (fun x => piece arg2 harg2 arg3 harg3 arg7 x1 x2 3 96 (by decide) rfl x) ?_
  refine And.intro (fun x => piece arg2 harg2 arg3 harg3 arg7 x1 x2 2 64 (by decide) rfl x) ?_
  refine And.intro (fun x => piece arg2 harg2 arg3 harg3 arg7 x1 x2 1 32 (by decide) rfl x) ?_
  refine And.intro (fun x => piece arg2 harg2 arg3 harg3 arg7 x1 x2 0 0 (by decide) rfl x) ?_
  exact True.intro

set_option maxHeartbeats 8000000 in
/-- Every row and column is in one of the stores. -/
theorem cover (y : S3072x512.Idx) : ∃ p ∈ kernelRun0_A.sl.HS0_96 (F := Ideal) c arg2 harg2 arg3 harg3 arg7 x1 x2, y ∈ p.1.set :=
  View.cover_of_tiledL _ ![32, 512] (by sl_kernel_rfl) y

/-- The widened weights, as the products read them. -/
def scratch : Vec Ideal S3072x512 .bf16 :=
  arg6.view.readCov (kernelRun0_A.sl.HS0_96 (F := Ideal) c arg2 harg2 arg3 harg3 arg7 x1 x2)
    (Rect.unit (s := S3072x512) ![0, 0] S3072x512.size inb_S3072x512_S3072x512_0_0).toLoadRect

theorem scratch_at (k : Fin 3072) (q : Fin 512) :
    scratch c arg2 harg2 arg3 harg3 arg6 arg7 x1 x2 (ix2 k q) = weight x1 x2 k q := by
  unfold scratch
  rw [View.readCov_eq_canon']
  have e : (Rect.unit (s := S3072x512) ![0, 0] S3072x512.size inb_S3072x512_S3072x512_0_0).toLoadRect.idx (ix2 k q) = ix2 k q := by
    funext a
    match a with
    | ⟨0, _⟩ => exact Fin.ext (by show 0 + 1 * k.val = k.val; omega)
    | ⟨1, _⟩ => exact Fin.ext (by show 0 + 1 * q.val = q.val; omega)
  refine (congrArg (View.canon _) e).trans ?_
  exact View.canon_append_of_piecesOf (weights x1 x2) [] _ (pieces c arg2 harg2 arg3 harg3 arg7 x1 x2) _
    (cover c arg2 harg2 arg3 harg3 arg7 x1 x2 _)

end Cert.ProjVIdeal.Weights

end
-- ==== Proof.VBlock.lean ====
/-
  One grid point of the v projection: what its block of 512 columns holds, as a function of the windows' contents.
-/
module

public import proofs.«01_k».proof.Proof.VStores

@[expose] public section

set_option maxRecDepth 16384

noncomputable section

namespace Cert.ProjVIdeal.Block

open Cert.ProjVIdeal Cert.ProjVIdeal.Gen Idealize.ShloMosaic Idealize.ShloMosaic.TcCoe Idealize.SL.Sem
open Cert.Scale Cert.ProjVIdeal.Weights

/-- A tile of the block: 256 rows times the widened weights, plus the bias. -/
def tile (a : Vec Ideal S256x3072 .bf16) (w : Vec Ideal S3072x512 .bf16) (b : Vec Ideal S1x1x512 .f32) : FVec Ideal S256x512 .bf16 :=
  have z : FVec Ideal S256x512 .f32 := constant S256x512 .f32 0x00000000#32
  have d : FVec Ideal S256x512 .f32 := matmul (φ₁ := .bf16) (φ₂ := .bf16) dot_S256x3072_S3072x512_S256x512_1_0_0_1_n_n none a w z
  have b' : FVec Ideal S1x512 .f32 := shapeCast S1x512 b shapeCasts_S1x1x512_S1x512
  have e : FVec Ideal S256x512 .f32 := broadcastTo S256x512 b' broadcasts_S1x512_S256x512
  have f : FVec Ideal S256x512 .f32 := addf d e
  truncf .bf16 f bitsLt_bf16_f32

theorem tile_at (a : Vec Ideal S256x3072 .bf16) (w : Vec Ideal S3072x512 .bf16) (b : Vec Ideal S1x1x512 .f32) (r : Fin 256) (q : Fin 512) :
    tile a w b (ix2 r q) = ((∑ k : Fin 3072, (a (ix2 r k) : EReal) * w (ix2 k q)) + b (ix3 0 0 q) : EReal) := by
  unfold tile
  pointwise

theorem a_inb (r : Nat) (hr : r + 256 ≤ 1536) : ∀ a, (![r, 0] : Fin 2 → Nat) a + S256x3072.size a ≤ S1536x3072.size a
  | ⟨0, _⟩ => hr
  | ⟨1, _⟩ => by show 0 + 3072 ≤ 3072; omega

theorem b_inb : ∀ a, (![0, 0, 0] : Fin 3 → Nat) a + S1x1x512.size a ≤ S1x1x512.size a
  | ⟨0, _⟩ => by show 0 + 1 ≤ 1; omega
  | ⟨1, _⟩ => by show 0 + 1 ≤ 1; omega
  | ⟨2, _⟩ => by show 0 + 512 ≤ 512; omega

theorem o_inb (r : Nat) (hr : r + 256 ≤ 1536) : ∀ a, (![r, 0] : Fin 2 → Nat) a + S256x512.size a ≤ S1536x512.size a
  | ⟨0, _⟩ => hr
  | ⟨1, _⟩ => by show 0 + 512 ≤ 512; omega

variable (c : Dev nD) (i : grid0.Coords)
  (arg1 : Memref sig .tc .vmem S1536x3072 .bf16) (harg1 : arg1.IsWhole) (arg2 : Memref sig .tc .vmem S3072x512 .fp8e4m3) (harg2 : arg2.IsWhole)
  (arg3 : Memref sig .tc .vmem S96x512 .i8) (harg3 : arg3.IsWhole) (arg4 : Memref sig .tc .vmem S1x1x512 .f32) (harg4 : arg4.IsWhole)
  (arg5 : Memref sig .tc .vmem S1536x512 .bf16) (harg5 : arg5.IsWhole) (arg6 : Memref sig .tc .vmem S3072x512 .bf16) (harg6 : arg6.IsWhole)
  (arg7 : Memref sig .tc .vmem S96x512 .i32) (harg7 : arg7.IsWhole)
  (x0 : Vec Ideal S1536x3072 .bf16) (x1 : Vec Ideal S3072x512 .fp8e4m3) (x2 : Vec Ideal S96x512 .i8) (x3 : Vec Ideal S1x1x512 .f32)

/-- Entry `(i, q)` of the block: the row of activations times the column of widened weights, plus the bias. -/
def entry (i : Fin 1536) (q : Fin 512) : EReal :=
  (∑ k : Fin 3072, (x0 (ix2 i k) : EReal) * ((x1 (ix2 k q) : EReal) * scaleOf (x2 (ix2 (⟨k.val / 32, by omega⟩ : Fin 96) q))))
    + (x3 (ix3 0 0 q) : EReal)

/-- The block of 512 columns. -/
def block (y : S1536x512.Idx) : EReal := entry x0 x1 x2 x3 (y 0) (y 1)

/-- What one store of 256 rows holds. -/
theorem out_piece (o : Nat) (ho : o + 256 ≤ 1536) (x : S256x512.Idx) :
    tile (View.readAt (Elt Ideal) arg1.view (Rect.unit (s := S1536x3072) ![o, 0] S256x3072.size (a_inb o ho)).toLoadRect (harg1.unread x0))
        (scratch c arg2 harg2 arg3 harg3 arg6 arg7 x1 x2)
        (View.readAt (Elt Ideal) arg4.view (Rect.unit (s := S1x1x512) ![0, 0, 0] S1x1x512.size b_inb).toLoadRect (harg4.unread x3)) x
      = block x0 x1 x2 x3 ((Rect.unit (s := S1536x512) ![o, 0] S256x512.size (o_inb o ho)).emb x) := by
  have hx0 : (x 0).val < 256 := (x 0).isLt
  have hx1 : (x 1).val < 512 := (x 1).isLt
  have hx : x = ix2 (⟨(x 0).val, hx0⟩ : Fin 256) (⟨(x 1).val, hx1⟩ : Fin 512) := by
    funext a
    match a with
    | ⟨0, _⟩ => rfl
    | ⟨1, _⟩ => rfl
  have hy : (Rect.unit (s := S1536x512) ![o, 0] S256x512.size (o_inb o ho)).emb x
      = ix2 (⟨o + (x 0).val, by omega⟩ : Fin 1536) (⟨(x 1).val, hx1⟩ : Fin 512) := by
    funext a
    match a with
    | ⟨0, _⟩ => exact Fin.ext (by show o + 1 * (x 0).val = o + (x 0).val; omega)
    | ⟨1, _⟩ => exact Fin.ext (by show 0 + 1 * (x 1).val = (x 1).val; omega)
  refine (congrArg _ hx).trans ((tile_at _ _ _ _ _).trans (Eq.trans ?_ (congrArg (block x0 x1 x2 x3) hy.symm)))
  refine congrArg₂ (fun u v : EReal => u + v) (Finset.sum_congr rfl fun k _ => congrArg₂ (fun u v : EReal => u * v) ?_ ?_) ?_
  · refine (harg1.readAt_unread x0 _ _).trans (congrArg x0 ?_)
    funext a
    match a with
    | ⟨0, _⟩ => exact Fin.ext (by show o + 1 * (x 0).val = o + (x 0).val; omega)
    | ⟨1, _⟩ => exact Fin.ext (by show 0 + 1 * k.val = k.val; omega)
  · exact scratch_at c arg2 harg2 arg3 harg3 arg6 arg7 x1 x2 k _
  · refine (harg4.readAt_unread x3 _ _).trans (congrArg x3 ?_)
    funext a
    match a with
    | ⟨0, _⟩ => rfl
    | ⟨1, _⟩ => rfl
    | ⟨2, _⟩ => exact Fin.ext (by show 0 + 1 * (x 1).val = (x 1).val; omega)

/-- The store of rows `o …` of the block. -/
def outPiece (o : Nat) (ho : o + 256 ≤ 1536) : View.Piece (Elt Ideal) S1536x512 .bf16 :=
  ⟨Rect.unit (s := S1536x512) ![o, 0] S256x512.size (o_inb o ho),
    tile (View.readAt (Elt Ideal) arg1.view (Rect.unit (s := S1536x3072) ![o, 0] S256x3072.size (a_inb o ho)).toLoadRect (harg1.unread x0))
      (scratch c arg2 harg2 arg3 harg3 arg6 arg7 x1 x2)
      (View.readAt (Elt Ideal) arg4.view (Rect.unit (s := S1x1x512) ![0, 0, 0] S1x1x512.size b_inb).toLoadRect (harg4.unread x3))⟩

/-- The stores of the block, last first. -/
def outStores : List (View.Piece (Elt Ideal) S1536x512 .bf16) :=
  [outPiece c arg1 harg1 arg2 harg2 arg3 harg3 arg4 harg4 arg6 arg7 x0 x1 x2 x3 1280 (by decide),
   outPiece c arg1 harg1 arg2 harg2 arg3 harg3 arg4 harg4 arg6 arg7 x0 x1 x2 x3 1024 (by decide),
   outPiece c arg1 harg1 arg2 harg2 arg3 harg3 arg4 harg4 arg6 arg7 x0 x1 x2 x3 768 (by decide),
   outPiece c arg1 harg1 arg2 harg2 arg3 harg3 arg4 harg4 arg6 arg7 x0 x1 x2 x3 512 (by decide),
   outPiece c arg1 harg1 arg2 harg2 arg3 harg3 arg4 harg4 arg6 arg7 x0 x1 x2 x3 256 (by decide),
   outPiece c arg1 harg1 arg2 harg2 arg3 harg3 arg4 harg4 arg6 arg7 x0 x1 x2 x3 0 (by decide)]

set_option maxHeartbeats 8000000 in
theorem outStores_eq :
    (kernelRun0_A (F := Ideal) c i arg1 harg1 arg2 harg2 arg3 harg3 arg4 harg4 arg5 harg5 arg6 harg6 arg7 harg7 x0 x1 x2 x3).1
      = outStores c arg1 harg1 arg2 harg2 arg3 harg3 arg4 harg4 arg6 arg7 x0 x1 x2 x3 := by
  sl_kernel_rfl

theorem outStores_pieces :
    View.PiecesOf (Val := Elt Ideal) (e := .bf16) (block x0 x1 x2 x3) (outStores c arg1 harg1 arg2 harg2 arg3 harg3 arg4 harg4 arg6 arg7 x0 x1 x2 x3) := by
  have P := out_piece c arg1 harg1 arg2 harg2 arg3 harg3 arg4 harg4 arg6 arg7 x0 x1 x2 x3
  unfold outStores
  exact ⟨P 1280 (by decide), P 1024 (by decide), P 768 (by decide), P 512 (by decide), P 256 (by decide), P 0 (by decide), trivial⟩

/-- The output of one point is the block. -/
theorem out_block :
    out0_A_4 (F := Ideal) c i arg1 harg1 arg2 harg2 arg3 harg3 arg4 harg4 arg5 harg5 arg6 harg6 arg7 harg7 x0 x1 x2 x3 = block x0 x1 x2 x3 := by
  have C := cover0_A_4 (F := Ideal) c i arg1 harg1 arg2 harg2 arg3 harg3 arg4 harg4 arg5 harg5 arg6 harg6 arg7 harg7 x0 x1 x2 x3
  funext y
  unfold out0_A_4
  rw [View.read_writes_junk_eq_canon]
  rw [outStores_eq]
  refine View.canon_append_of_piecesOf (Val := Elt Ideal) (e := .bf16) (block x0 x1 x2 x3) [] _
    (outStores_pieces c arg1 harg1 arg2 harg2 arg3 harg3 arg4 harg4 arg6 arg7 x0 x1 x2 x3) y ?_
  have h := C y
  rwa [outStores_eq] at h

end Cert.ProjVIdeal.Block

end
-- ==== Proof.VArray.lean ====
/-
  The v projection's result after the whole grid, as a function of the arguments.
-/
module

public import proofs.«01_k».proof.Proof.Gen.ProjVIdeal.Value
public import proofs.«01_k».proof.Proof.VBlock
public import proofs.«01_k».proof.Proof.Spec

@[expose] public section

set_option maxRecDepth 16384

noncomputable section

namespace Cert.ProjVIdeal.Array

open Cert.ProjVIdeal Cert.ProjVIdeal.Gen Idealize.ShloMosaic Idealize.ShloMosaic.TcCoe Idealize.SL.Sem
open Cert.Scale Cert.Spec Cert.ProjVIdeal.Block

/-- The first of the weights' columns this projection uses. -/
abbrev base : Nat := 6144

theorem base_le : base + 3072 ≤ 21504 := by decide

/-- A block's entry is the whole result's, when the windows hold block `t` of the weights, scales and biases. -/
theorem entry_eq (a0 : Vec Ideal S1536x3072 .bf16) (a1 : Vec Ideal S3072x21504 .fp8e4m3) (a2 : Vec Ideal S96x21504 .i8)
    (a3 : Vec Ideal S21504 .f32) (x1 : Vec Ideal S3072x512 .fp8e4m3) (x2 : Vec Ideal S96x512 .i8) (x3 : Vec Ideal S1x1x512 .f32)
    (t : Nat) (ht : t < 6)
    (h1 : ∀ (k : Fin 3072) (q : Fin 512), x1 (ix2 k q) = a1 (ix2 k (column base base_le ⟨512 * t + q.val, by omega⟩)))
    (h2 : ∀ (k : Fin 96) (q : Fin 512), x2 (ix2 k q) = a2 (ix2 k (column base base_le ⟨512 * t + q.val, by omega⟩)))
    (h3 : ∀ q : Fin 512, x3 (ix3 0 0 q) = a3 (ix1 (column base base_le ⟨512 * t + q.val, by omega⟩))) (i : Fin 1536) (q : Fin 512) :
    entry a0 x1 x2 x3 i q = projAt base base_le a0 a1 a2 a3 i ⟨512 * t + q.val, by omega⟩ := by
  unfold entry projAt
  simp only [h1, h2, h3]

variable (m : (ℓ : Loc nD τ sig) → Buf (Elt Ideal) ℓ) (ρ : Dev nD → PrngReg)

theorem bias_at (b : Vec Ideal S21504 .f32) (q : Fin 21504) : shapeCast S1x1x21504 b shapeCasts_S21504_S1x1x21504 (ix3 0 0 q) = b (ix1 q) := by
  pointwise

/-- The bias, as the kernel's windows take it. -/
theorem bias_row (c : Dev nD) (q : Fin 21504) :
    (V m c main_v0 : Vec Ideal S1x1x21504 .f32) (ix3 0 0 q) = (m ((c : Thread nD τ).loc main_arg3) : Vec Ideal S21504 .f32) (ix1 q) := by
  have e : V m c main_v0 = (shapeCast S1x1x21504 (m ((c : Thread nD τ).loc main_arg3) : Vec Ideal S21504 .f32) shapeCasts_S21504_S1x1x21504
      : Vec Ideal S1x1x21504 .f32) := by
    show StableHlo.after hostOps0 _ (Proc.devRef .tc main_v0) = _
    after_results
    rfl
  exact (congrFun e _).trans (bias_at _ q)

theorem points (t : Fin cfg0.N) : t.val < 6 := t.isLt

theorem iblk0_eq (c : Dev nD) (t : Fin cfg0.N) : iblk m c 0 t = V m c main_arg0 := by
  have e := (by decide +kernel : ∀ t : Fin grid0.N, win0_0.index t (0 : Fin 2) = 0 ∧ win0_0.index t (1 : Fin 2) = 0) t
  funext j
  show V m c main_arg0 (((cfg0.win 0).blk t).view.emb j) = V m c main_arg0 j
  refine congrArg (V m c main_arg0) (funext fun a => Fin.ext ?_)
  match a with
  | ⟨0, _⟩ => have := e.1; show win0_0.index t (0 : Fin 2) * 1536 + 1 * (j 0).val = (j 0).val; omega
  | ⟨1, _⟩ => have := e.2; show win0_0.index t (1 : Fin 2) * 3072 + 1 * (j 1).val = (j 1).val; omega

/-- Block `t` of the weights. -/
theorem iblk1_at (c : Dev nD) (t : Fin cfg0.N) (k : Fin 3072) (q : Fin 512) :
    iblk m c 1 t (ix2 k q) = V m c main_arg1 (ix2 k (column base base_le ⟨512 * t.val + q.val, by have := points t; omega⟩)) := by
  have e := (by decide +kernel : ∀ t : Fin grid0.N, win0_1.index t (0 : Fin 2) = 0 ∧ win0_1.index t (1 : Fin 2) * 512 = base + 512 * t.val) t
  show V m c main_arg1 (((cfg0.win 1).blk t).view.emb (ix2 k q)) = _
  refine congrArg (V m c main_arg1) (funext fun a => Fin.ext ?_)
  match a with
  | ⟨0, _⟩ => have := e.1; show win0_1.index t (0 : Fin 2) * 3072 + 1 * k.val = k.val; omega
  | ⟨1, _⟩ => have := e.2; show win0_1.index t (1 : Fin 2) * 512 + 1 * q.val = base + (512 * t.val + q.val); omega

/-- Block `t` of the scales. -/
theorem iblk2_at (c : Dev nD) (t : Fin cfg0.N) (k : Fin 96) (q : Fin 512) :
    iblk m c 2 t (ix2 k q) = V m c main_arg2 (ix2 k (column base base_le ⟨512 * t.val + q.val, by have := points t; omega⟩)) := by
  have e := (by decide +kernel : ∀ t : Fin grid0.N, win0_2.index t (0 : Fin 2) = 0 ∧ win0_2.index t (1 : Fin 2) * 512 = base + 512 * t.val) t
  show V m c main_arg2 (((cfg0.win 2).blk t).view.emb (ix2 k q)) = _
  refine congrArg (V m c main_arg2) (funext fun a => Fin.ext ?_)
  match a with
  | ⟨0, _⟩ => have := e.1; show win0_2.index t (0 : Fin 2) * 96 + 1 * k.val = k.val; omega
  | ⟨1, _⟩ => have := e.2; show win0_2.index t (1 : Fin 2) * 512 + 1 * q.val = base + (512 * t.val + q.val); omega

/-- Block `t` of the biases. -/
theorem iblk3_at (c : Dev nD) (t : Fin cfg0.N) (q : Fin 512) :
    iblk m c 3 t (ix3 0 0 q) = V m c main_v0 (ix3 0 0 (column base base_le ⟨512 * t.val + q.val, by have := points t; omega⟩)) := by
  have e := (by decide +kernel : ∀ t : Fin grid0.N, win0_3.index t (0 : Fin 3) = 0 ∧ win0_3.index t (1 : Fin 3) = 0
    ∧ win0_3.index t (2 : Fin 3) * 512 = base + 512 * t.val) t
  show V m c main_v0 (((cfg0.win 3).blk t).view.emb (ix3 0 0 q)) = _
  refine congrArg (V m c main_v0) (funext fun a => Fin.ext ?_)
  match a with
  | ⟨0, _⟩ => have := e.1; show win0_3.index t (0 : Fin 3) * 1 + 1 * 0 = 0; omega
  | ⟨1, _⟩ => have := e.2.1; show win0_3.index t (1 : Fin 3) * 1 + 1 * 0 = 0; omega
  | ⟨2, _⟩ => have := e.2.2; show win0_3.index t (2 : Fin 3) * 512 + 1 * q.val = base + (512 * t.val + q.val); omega

/-- What one point leaves at row `i` and column `q` of its block, in terms of the arguments. -/
theorem point_entry (c : Dev nD) (t : Fin cfg0.N) (i : Fin 1536) (q : Fin 512) :
    entry (iblk m c 0 t) (iblk m c 1 t) (iblk m c 2 t) (iblk m c 3 t) i q
      = projAt base base_le (m ((c : Thread nD τ).loc main_arg0)) (m ((c : Thread nD τ).loc main_arg1)) (m ((c : Thread nD τ).loc main_arg2))
        (m ((c : Thread nD τ).loc main_arg3)) i ⟨512 * t.val + q.val, by have := points t; omega⟩ := by
  rw [iblk0_eq, V_main_arg0]
  refine entry_eq _ _ _ _ _ _ _ t.val (points t) (fun k q => ?_) (fun k q => ?_) (fun q => ?_) i q
  · exact (iblk1_at m c t k q).trans (congrFun (V_main_arg1 m c) _)
  · exact (iblk2_at m c t k q).trans (congrFun (V_main_arg2 m c) _)
  · exact (iblk3_at m c t q).trans (bias_row m c _)

theorem emb4 (t : Fin cfg0.N) (i : Fin 1536) (q : Fin 512) :
    ((cfg0.win 4).blk t).view.emb (ix2 i q) = (ix2 i (⟨512 * t.val + q.val, by have := points t; omega⟩ : Fin 3072) : S1536x3072.Idx) := by
  have e := (by decide +kernel : ∀ t : Fin grid0.N, win0_4.index t (0 : Fin 2) = 0 ∧ win0_4.index t (1 : Fin 2) = t.val) t
  refine funext fun a => Fin.ext ?_
  match a with
  | ⟨0, _⟩ => have := e.1; show win0_4.index t (0 : Fin 2) * 1536 + 1 * i.val = i.val; omega
  | ⟨1, _⟩ => have := e.2; show win0_4.index t (1 : Fin 2) * 512 + 1 * q.val = 512 * t.val + q.val; omega

/-- The projection of the arguments. -/
abbrev projOf (c : Dev nD) : Vec Ideal S1536x3072 .bf16 := fun y =>
  projAt base base_le (m ((c : Thread nD τ).loc main_arg0)) (m ((c : Thread nD τ).loc main_arg1)) (m ((c : Thread nD τ).loc main_arg2))
    (m ((c : Thread nD τ).loc main_arg3)) (y 0) (y 1)

theorem read4 (t : Fin cfg0.N) (X : S1536x512.Idx → EReal) (G : Vec Ideal S1536x3072 .bf16)
    (h : ∀ (i : Fin 1536) (q : Fin 512), X (ix2 i q) = G (ix2 i (⟨512 * t.val + q.val, by have := points t; omega⟩ : Fin 3072))) :
    (cfg0.win 4).cut (grid0.coords t) X = ((cfg0.win 4).blk t).view.read (Elt Ideal) G := by
  funext j
  have e : j = ix2 (j 0) (j 1) := funext fun a => by
    match a with
    | ⟨0, _⟩ => rfl
    | ⟨1, _⟩ => rfl
  rw [e]
  show X (ix2 (j 0) (j 1)) = G (((cfg0.win 4).blk t).view.emb (ix2 (j 0) (j 1)))
  exact (h (j 0) (j 1)).trans (congrArg G (emb4 t (j 0) (j 1)).symm)

theorem covered4 (y : S1536x3072.Idx) : ∃ t : Fin cfg0.N, (cfg0.win 4).flush t = true ∧ y ∈ ((cfg0.win 4).blk t).view.set := by
  have h1 : (y 1).val < 3072 := (y 1).isLt
  obtain ⟨t, ht⟩ : ∃ t : Fin cfg0.N, t.val = (y 1).val / 512 := ⟨⟨(y 1).val / 512, by show (y 1).val / 512 < 6; omega⟩, rfl⟩
  have e : ((cfg0.win 4).blk t).view.emb (ix2 (⟨(y 0).val, (y 0).isLt⟩ : Fin 1536) (⟨(y 1).val % 512, by omega⟩ : Fin 512)) = y := by
    rw [emb4]
    funext a
    match a with
    | ⟨0, _⟩ => rfl
    | ⟨1, _⟩ => exact Fin.ext (by show 512 * t.val + (y 1).val % 512 = (y 1).val; omega)
  have h := ((cfg0.win 4).blk t).view.emb_mem_set (ix2 (⟨(y 0).val, (y 0).isLt⟩ : Fin 1536) (⟨(y 1).val % 512, by omega⟩ : Fin 512))
  exact ⟨t, flush0_4 t, Eq.mp (congrArg (fun z => z ∈ ((cfg0.win 4).blk t).view.set) e) h⟩

/-- The result after the run, as a function of the arguments. -/
theorem final4 (c : Dev nD) : (dats m 0 c).arrAt 4 cfg0.N = projOf m c := by
  refine (dats m 0 c).arrAt_eq_of_cover 4 (projOf m c) (fun t _ => ?_) covered4
  rw [Value.flushed4_A]
  refine read4 t _ _ fun i q => ?_
  rw [out_block]
  exact point_entry m c t i q

end Cert.ProjVIdeal.Array

end
-- ==== Proof.VRef.lean ====
/-
  What the v projection's reference computes: the projection, entry by entry.
-/
module

public import proofs.«01_k».proof.Proof.Gen.RefVIdeal.Value
public import proofs.«01_k».proof.Proof.Spec

@[expose] public section

set_option maxRecDepth 16384

noncomputable section

namespace Cert.RefVIdeal.Ref

open Cert.RefVIdeal Cert.RefVIdeal.Gen Idealize.ShloMosaic Idealize.ShloMosaic.TcCoe Idealize.SL.Sem
open Cert.Scale Cert.Spec

/-- A scale's byte, unbiased and biased again and laid in the exponent's place. -/
theorem shifted (x : BitVec 8) :
    Ideal.ofBits .f32 (IntOp.shli ArithUnit.vector (IntOp.addi (IntOp.subi (BitVec.setWidth 32 x) 127#32) 127#32) 23#32) = scaleOf x := by
  unfold scaleOf
  exact congrArg (Ideal.ofBits .f32) (bias_roundtrip x)

/-- The body's projection at an index. -/
theorem pay_at (w : Vec Ideal S3072x3072 .fp8e4m3) (e : Vec Ideal S96x3072 .i8) (x : Vec Ideal S1536x3072 .bf16)
    (b : Vec Ideal S1x3072 .f32) (i : Fin 1536) (q : Fin 3072) :
    k0_pay1 w e x b (ix2 i q)
      = ((∑ k : Fin 3072, (x (ix2 i k) : EReal) * ((w (ix2 k q) : EReal) * scaleOf (e (ix2 (⟨k.val / 32, by omega⟩ : Fin 96) q))))
          + (b (ix2 0 q) : EReal) : EReal) := by
  have ea : ∀ k : Fin 3072, (⟨k.val / 32 * 32 + k.val % 32, by omega⟩ : Fin 3072) = k := fun k =>
    Fin.ext (by show k.val / 32 * 32 + k.val % 32 = k.val; omega)
  unfold k0_pay1
  pointwise
  simp only [shifted, ea]

/-- The first of the weights' columns this projection uses. -/
abbrev base : Nat := 6144

theorem base_le : base + 3072 ≤ 21504 := by decide

variable (x0 : Vec Ideal S1536x3072 .bf16) (x1 : Vec Ideal S3072x21504 .fp8e4m3) (x2 : Vec Ideal S96x21504 .i8)
  (x3 : Vec Ideal S1x21504 .f32)

/-- The projection as the body computes it, at an index. -/
theorem body_at (i : Fin 1536) (q : Fin 3072) :
    k0_pay1 (View.ld x1 r0_0) (View.ld x2 r0_1) (View.ld x0 r0_2) (View.ld x3 r0_3) (ix2 i q)
      = projAt base base_le x0 x1 x2 (fun y => x3 (ix2 0 (y 0))) i q := by
  have l0 : ∀ k, View.ld x0 r0_2 (ix2 i k) = x0 (ix2 i k) := fun k => congrArg x0 (funext fun a => by
    match a with
    | ⟨0, _⟩ => exact Fin.ext (by show 0 + 1 * i.val = i.val; omega)
    | ⟨1, _⟩ => exact Fin.ext (by show 0 + 1 * k.val = k.val; omega))
  have l1 : ∀ k q : Fin 3072, View.ld x1 r0_0 (ix2 k q) = x1 (ix2 k (column base base_le q)) := fun k q => congrArg x1 (funext fun a => by
    match a with
    | ⟨0, _⟩ => exact Fin.ext (by show 0 + 1 * k.val = k.val; omega)
    | ⟨1, _⟩ => exact Fin.ext (by show base + 1 * q.val = base + q.val; omega))
  have l2 : ∀ (k : Fin 96) (q : Fin 3072), View.ld x2 r0_1 (ix2 k q) = x2 (ix2 k (column base base_le q)) := fun k q => congrArg x2 (funext fun a => by
    match a with
    | ⟨0, _⟩ => exact Fin.ext (by show 0 + 1 * k.val = k.val; omega)
    | ⟨1, _⟩ => exact Fin.ext (by show base + 1 * q.val = base + q.val; omega))
  have l3 : ∀ q : Fin 3072, View.ld x3 r0_3 (ix2 0 q) = x3 (ix2 0 (column base base_le q)) := fun q => congrArg x3 (funext fun a => by
    match a with
    | ⟨0, _⟩ => rfl
    | ⟨1, _⟩ => exact Fin.ext (by show base + 1 * q.val = base + q.val; omega))
  rw [pay_at]
  unfold projAt
  simp only [l0, l1, l2, l3]
  rfl

/-- The result the body leaves. -/
theorem body_out : out0_4 x0 x1 x2 x3 = fun y => projAt base base_le x0 x1 x2 (fun y => x3 (ix2 0 (y 0))) (y 0) (y 1) := by
  funext y
  unfold out0_4
  rw [show y = ix2 (y 0) (y 1) from funext fun a => by
    match a with
    | ⟨0, _⟩ => rfl
    | ⟨1, _⟩ => rfl]
  refine (congrFun (View.canon_unit_zero (funext fun a => by fin_cases a <;> rfl) _ _) _).trans ?_
  exact body_at x0 x1 x2 x3 (y 0) (y 1)

variable (m : (ℓ : Loc nD τ sig) → Buf (Elt Ideal) ℓ) (ρ : Dev nD → PrngReg)

theorem row_at (b : Vec Ideal S21504 .f32) (q : Fin 21504) : shapeCast S1x21504 b shapeCasts_S21504_S1x21504 (ix2 0 q) = b (ix1 q) := by
  pointwise

/-- The bias, as a row. -/
theorem bias_row (c : Dev nD) (q : Fin 21504) :
    (V m c main_v0 : Vec Ideal S1x21504 .f32) (ix2 0 q) = (m ((c : Thread nD τ).loc main_arg3) : Vec Ideal S21504 .f32) (ix1 q) := by
  have e : V m c main_v0 = (shapeCast S1x21504 (m ((c : Thread nD τ).loc main_arg3) : Vec Ideal S21504 .f32) shapeCasts_S21504_S1x21504
      : Vec Ideal S1x21504 .f32) := by
    show StableHlo.after hostOps0 _ (Proc.devRef .tc main_v0) = _
    after_results
    rfl
  exact (congrFun e _).trans (row_at _ q)

theorem iblk0_eq (c : Dev nD) (t : Fin cfg0.N) : iblk m c 0 t = V m c main_arg0 := by
  have e := (by decide +kernel : ∀ t : Fin grid0.N, win0_0.index t (0 : Fin 2) = 0 ∧ win0_0.index t (1 : Fin 2) = 0) t
  funext j
  show V m c main_arg0 (((cfg0.win 0).blk t).view.emb j) = V m c main_arg0 j
  refine congrArg (V m c main_arg0) (funext fun a => Fin.ext ?_)
  match a with
  | ⟨0, _⟩ => have := e.1; show win0_0.index t (0 : Fin 2) * 1536 + 1 * (j 0).val = (j 0).val; omega
  | ⟨1, _⟩ => have := e.2; show win0_0.index t (1 : Fin 2) * 3072 + 1 * (j 1).val = (j 1).val; omega

theorem iblk1_eq (c : Dev nD) (t : Fin cfg0.N) : iblk m c 1 t = V m c main_arg1 := by
  have e := (by decide +kernel : ∀ t : Fin grid0.N, win0_1.index t (0 : Fin 2) = 0 ∧ win0_1.index t (1 : Fin 2) = 0) t
  funext j
  show V m c main_arg1 (((cfg0.win 1).blk t).view.emb j) = V m c main_arg1 j
  refine congrArg (V m c main_arg1) (funext fun a => Fin.ext ?_)
  match a with
  | ⟨0, _⟩ => have := e.1; show win0_1.index t (0 : Fin 2) * 3072 + 1 * (j 0).val = (j 0).val; omega
  | ⟨1, _⟩ => have := e.2; show win0_1.index t (1 : Fin 2) * 21504 + 1 * (j 1).val = (j 1).val; omega

theorem iblk2_eq (c : Dev nD) (t : Fin cfg0.N) : iblk m c 2 t = V m c main_arg2 := by
  have e := (by decide +kernel : ∀ t : Fin grid0.N, win0_2.index t (0 : Fin 2) = 0 ∧ win0_2.index t (1 : Fin 2) = 0) t
  funext j
  show V m c main_arg2 (((cfg0.win 2).blk t).view.emb j) = V m c main_arg2 j
  refine congrArg (V m c main_arg2) (funext fun a => Fin.ext ?_)
  match a with
  | ⟨0, _⟩ => have := e.1; show win0_2.index t (0 : Fin 2) * 96 + 1 * (j 0).val = (j 0).val; omega
  | ⟨1, _⟩ => have := e.2; show win0_2.index t (1 : Fin 2) * 21504 + 1 * (j 1).val = (j 1).val; omega

theorem iblk3_eq (c : Dev nD) (t : Fin cfg0.N) : iblk m c 3 t = V m c main_v0 := by
  have e := (by decide +kernel : ∀ t : Fin grid0.N, win0_3.index t (0 : Fin 2) = 0 ∧ win0_3.index t (1 : Fin 2) = 0) t
  funext j
  show V m c main_v0 (((cfg0.win 3).blk t).view.emb j) = V m c main_v0 j
  refine congrArg (V m c main_v0) (funext fun a => Fin.ext ?_)
  match a with
  | ⟨0, _⟩ => have := e.1; show win0_3.index t (0 : Fin 2) * 1 + 1 * (j 0).val = (j 0).val; omega
  | ⟨1, _⟩ => have := e.2; show win0_3.index t (1 : Fin 2) * 21504 + 1 * (j 1).val = (j 1).val; omega

theorem emb4 (t : Fin cfg0.N) (j : S1536x3072.Idx) : ((cfg0.win 4).blk t).view.emb j = j := by
  have e := (by decide +kernel : ∀ t : Fin grid0.N, win0_4.index t (0 : Fin 2) = 0 ∧ win0_4.index t (1 : Fin 2) = 0) t
  funext a
  apply Fin.ext
  match a with
  | ⟨0, _⟩ => have := e.1; show win0_4.index t (0 : Fin 2) * 1536 + 1 * (j 0).val = (j 0).val; omega
  | ⟨1, _⟩ => have := e.2; show win0_4.index t (1 : Fin 2) * 3072 + 1 * (j 1).val = (j 1).val; omega

theorem cut4 (t : Fin cfg0.N) (X : Vec Ideal S1536x3072 .bf16) :
    (cfg0.win 4).cut (grid0.coords t) X = ((cfg0.win 4).blk t).view.read (Elt Ideal) X := by
  funext j
  show X j = X (((cfg0.win 4).blk t).view.emb j)
  rw [emb4]

/-- The result after the run, as a function of the arguments. -/
theorem final4 (c : Dev nD) : (dats m 0 c).arrAt 4 cfg0.N
    = fun y => projAt base base_le (m ((c : Thread nD τ).loc main_arg0)) (m ((c : Thread nD τ).loc main_arg1)) (m ((c : Thread nD τ).loc main_arg2))
        (m ((c : Thread nD τ).loc main_arg3)) (y 0) (y 1) := by
  refine ((dats m 0 c).arrAt_eq_of_cover 4 (out0_4 (V m c main_arg0) (V m c main_arg1) (V m c main_arg2) (V m c main_v0))
    (fun t _ => ?_) (fun i => ⟨(⟨0, by decide⟩ : Fin cfg0.N), flush0_4 _, ?_⟩)).trans ?_
  · rw [Value.flushed4, iblk0_eq, iblk1_eq, iblk2_eq, iblk3_eq]
    exact cut4 t _
  · have h := ((cfg0.win 4).blk (⟨0, by decide⟩ : Fin cfg0.N)).view.emb_mem_set i
    rwa [emb4] at h
  · rw [body_out, V_main_arg0, V_main_arg1, V_main_arg2]
    refine congrArg (fun b => fun y : S1536x3072.Idx => projAt base base_le _ _ _ b (y 0) (y 1)) (funext fun y => ?_)
    refine (bias_row m c (y 0)).trans (congrArg _ (funext fun a => ?_))
    match a with
    | ⟨0, _⟩ => rfl

end Cert.RefVIdeal.Ref

end
-- ==== Proof.VEq.lean ====
/-
  The v projection's kernel and its reference end with equal results.
-/
module

public import proofs.«01_k».proof.Defs
public import proofs.«01_k».proof.Proof.VArray
public import proofs.«01_k».proof.Proof.VRef

@[expose] public section

set_option maxRecDepth 16384

noncomputable section

namespace Cert.ProjVIdeal.Equal

open Idealize.ShloMosaic Idealize.ShloMosaic.TcCoe Idealize.SL.Sem Cert.Spec

/-- From memories that agree on the arguments, both end with the projection the arguments determine. -/
theorem algebraic : Cert.algebraic_ProjVIdeal_RefVIdeal (hProjVIdeal := Cert.ProjVIdeal.Gen.facts) (hRefVIdeal := Cert.RefVIdeal.Gen.facts) := by
  intro m g m' g' _ hm
  have k4 := Cert.ProjVIdeal.Array.final4 m
  have r4 : ∀ c, (Cert.RefVIdeal.Gen.dats m' 0 c).arrAt 4 Cert.RefVIdeal.cfg0.N = Cert.ProjVIdeal.Array.projOf m c := fun c => by
    obtain ⟨h0, h1, h2, h3⟩ := hm c
    refine (Cert.RefVIdeal.Ref.final4 m' c).trans ?_
    rw [h0, h1, h2, h3]
    rfl
  refine ⟨fun c => Cert.ProjVIdeal.Array.projOf m c, ?_, ?_⟩
  · refine (θ_run _ _ _).mono ?_ (Cert.ProjVIdeal.Value.run_blocks m g)
    exact fun r h c => ⟨(h c).1.trans (k4 c), (h c).2⟩
  · refine (θ_run _ _ _).mono ?_ (Cert.RefVIdeal.Value.run_blocks m' g')
    exact fun r h c => ⟨(h c).1.trans (r4 c), (h c).2⟩

end Cert.ProjVIdeal.Equal

end
-- ==== Proof.PRunA.lean ====
/-
  The kernel body of the output projection, run at a grid point of the first round: the running sum of the tile is set to the attention's product.
-/
module

public import proofs.«01_k».proof.Proof.Gen.Out.Skeleton
public import proofs.«01_k».proof.Proof.Gen.Out.Frame

@[expose] public section

set_option maxRecDepth 16384

noncomputable section

namespace Cert.Out.Run

open Cert.Out.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 9216000 in set_option sl_exec.squeezeSlice true in
/-- What the body stores at such a point, as pieces (last first), with the proof that it runs to its end and leaves
    these pieces written: the inputs as they were, the running sum and the output block over what they held. -/
noncomputable def runA (c : Dev nD) (i : grid0.Coords) (hc1 : k0_cond1 i = 1#1) (hc2 : ¬ k0_cond2 i = 1#1) (hc3 : ¬ k0_cond3 i = 1#1) (arg2 : Memref sig .tc .vmem S1536x3072 .bf16) (harg2 : arg2.IsWhole) (arg3 : Memref sig .tc .vmem S1536x3072 .bf16) (harg3 : arg3.IsWhole) (arg4 : Memref sig .tc .vmem S3072x512 .fp8e4m3) (harg4 : arg4.IsWhole) (arg5 : Memref sig .tc .vmem S96x512 .i8) (harg5 : arg5.IsWhole) (arg6 : Memref sig .tc .vmem S1536x512 .bf16) (harg6 : arg6.IsWhole) (arg7 : Memref sig .tc .vmem S2x1x512 .f32) (harg7 : arg7.IsWhole) (arg8 : Memref sig .tc .vmem S1x1x512 .f32) (harg8 : arg8.IsWhole) (arg9 : Memref sig .tc .vmem S1536x512 .bf16) (harg9 : arg9.IsWhole) (arg10 : Memref sig .tc .vmem S6x1536x512 .f32) (harg10 : arg10.IsWhole) (arg11 : Memref sig .tc .vmem S3072x512 .bf16) (harg11 : arg11.IsWhole) (arg12 : Memref sig .tc .vmem S96x512 .i32) (harg12 : arg12.IsWhole)
    (x0 : Vec F S1536x3072 .bf16) (x1 : Vec F S1536x3072 .bf16) (x2 : Vec F S3072x512 .fp8e4m3) (x3 : Vec F S96x512 .i8) (x4 : Vec F S1536x512 .bf16) (x5 : Vec F S2x1x512 .f32) (x6 : Vec F S1x1x512 .f32) (d9 : Vec F S1536x512 .bf16) (d10 : Vec F S6x1536x512 .f32) :
    Σ' (L10 : List (View.Piece (Elt F) S6x1536x512 .f32)), Σ' (LW : List (View.Piece (Elt F) S3072x512 .bf16)), { LE : List (View.Piece (Elt F) S96x512 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d9 ∗ owns (c : Thread nD τ) arg10 fullShare d10 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d9 ∗ (arg10.view.loc (c : Thread nD τ) ↦[arg10.view.set]{fullShare} arg10.view.writes (Elt F) (harg10.unread d10) L10) ∗ (∃ f, arg11.view.loc (c : Thread nD τ) ↦[arg11.view.set]{fullShare} arg11.view.writes (Elt F) f LW) ∗ (∃ f, arg12.view.loc (c : Thread nD τ) ↦[arg12.view.set]{fullShare} arg12.view.writes (Elt F) f LE)) -∗ K ⟨⟩))
          ⊢ wp frame (wpE (defs₀ (F := F)) Variants.none c none) E (cc0_out i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_out_eq_skeleton]; unfold cc0_out_skel
    simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton, k0_part29_eq_skeleton,
      k0_part30_eq_skeleton, k0_part31_eq_skeleton, k0_part32_eq_skeleton, k0_part33_eq_skeleton,
      k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact hf7
      iexact H7
    isplitl [H8]; · iexact H8
    isplitl [HS1]; · iexists _; iexact HS1
    iexists _; iexact HS2

end Cert.Out.Run

end
-- ==== Proof.PRunB.lean ====
/-
  The kernel body of the output projection, run at a grid point of a middle round: one more product is added to the running sum of the tile.
-/
module

public import proofs.«01_k».proof.Proof.PRunA

@[expose] public section

set_option maxRecDepth 16384

noncomputable section

namespace Cert.Out.Run

open Cert.Out.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 9216000 in set_option sl_exec.squeezeSlice true in
/-- What the body stores at such a point, as pieces (last first), with the proof that it runs to its end and leaves
    these pieces written: the inputs as they were, the running sum and the output block over what they held. -/
noncomputable def runB (c : Dev nD) (i : grid0.Coords) (hc1 : ¬ k0_cond1 i = 1#1) (hc2 : k0_cond2 i = 1#1) (hc3 : ¬ k0_cond3 i = 1#1) (arg2 : Memref sig .tc .vmem S1536x3072 .bf16) (harg2 : arg2.IsWhole) (arg3 : Memref sig .tc .vmem S1536x3072 .bf16) (harg3 : arg3.IsWhole) (arg4 : Memref sig .tc .vmem S3072x512 .fp8e4m3) (harg4 : arg4.IsWhole) (arg5 : Memref sig .tc .vmem S96x512 .i8) (harg5 : arg5.IsWhole) (arg6 : Memref sig .tc .vmem S1536x512 .bf16) (harg6 : arg6.IsWhole) (arg7 : Memref sig .tc .vmem S2x1x512 .f32) (harg7 : arg7.IsWhole) (arg8 : Memref sig .tc .vmem S1x1x512 .f32) (harg8 : arg8.IsWhole) (arg9 : Memref sig .tc .vmem S1536x512 .bf16) (harg9 : arg9.IsWhole) (arg10 : Memref sig .tc .vmem S6x1536x512 .f32) (harg10 : arg10.IsWhole) (arg11 : Memref sig .tc .vmem S3072x512 .bf16) (harg11 : arg11.IsWhole) (arg12 : Memref sig .tc .vmem S96x512 .i32) (harg12 : arg12.IsWhole)
    (x0 : Vec F S1536x3072 .bf16) (x1 : Vec F S1536x3072 .bf16) (x2 : Vec F S3072x512 .fp8e4m3) (x3 : Vec F S96x512 .i8) (x4 : Vec F S1536x512 .bf16) (x5 : Vec F S2x1x512 .f32) (x6 : Vec F S1x1x512 .f32) (d9 : Vec F S1536x512 .bf16) (d10 : Vec F S6x1536x512 .f32) :
    Σ' (L10 : List (View.Piece (Elt F) S6x1536x512 .f32)), Σ' (LW : List (View.Piece (Elt F) S3072x512 .bf16)), { LE : List (View.Piece (Elt F) S96x512 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d9 ∗ owns (c : Thread nD τ) arg10 fullShare d10 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d9 ∗ (arg10.view.loc (c : Thread nD τ) ↦[arg10.view.set]{fullShare} arg10.view.writes (Elt F) (harg10.unread d10) L10) ∗ (∃ f, arg11.view.loc (c : Thread nD τ) ↦[arg11.view.set]{fullShare} arg11.view.writes (Elt F) f LW) ∗ (∃ f, arg12.view.loc (c : Thread nD τ) ↦[arg12.view.set]{fullShare} arg12.view.writes (Elt F) f LE)) -∗ K ⟨⟩))
          ⊢ wp frame (wpE (defs₀ (F := F)) Variants.none c none) E (cc0_out i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_out_eq_skeleton]; unfold cc0_out_skel
    simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton, k0_part29_eq_skeleton,
      k0_part30_eq_skeleton, k0_part31_eq_skeleton, k0_part32_eq_skeleton, k0_part33_eq_skeleton,
      k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact hf7
      iexact H7
    isplitl [H8]; · iexact H8
    isplitl [HS1]; · iexists _; iexact HS1
    iexists _; iexact HS2

end Cert.Out.Run

end
-- ==== Proof.PRunC.lean ====
/-
  The kernel body of the output projection, run at a grid point of the last round: the last product is added to the running sum and the output block is stored.
-/
module

public import proofs.«01_k».proof.Proof.PRunB

@[expose] public section

set_option maxRecDepth 16384

noncomputable section

namespace Cert.Out.Run

open Cert.Out.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 9216000 in set_option sl_exec.squeezeSlice true in
/-- What the body stores at such a point, as pieces (last first), with the proof that it runs to its end and leaves
    these pieces written: the inputs as they were, the running sum and the output block over what they held. -/
noncomputable def runC (c : Dev nD) (i : grid0.Coords) (hc1 : ¬ k0_cond1 i = 1#1) (hc2 : k0_cond2 i = 1#1) (hc3 : k0_cond3 i = 1#1) (arg2 : Memref sig .tc .vmem S1536x3072 .bf16) (harg2 : arg2.IsWhole) (arg3 : Memref sig .tc .vmem S1536x3072 .bf16) (harg3 : arg3.IsWhole) (arg4 : Memref sig .tc .vmem S3072x512 .fp8e4m3) (harg4 : arg4.IsWhole) (arg5 : Memref sig .tc .vmem S96x512 .i8) (harg5 : arg5.IsWhole) (arg6 : Memref sig .tc .vmem S1536x512 .bf16) (harg6 : arg6.IsWhole) (arg7 : Memref sig .tc .vmem S2x1x512 .f32) (harg7 : arg7.IsWhole) (arg8 : Memref sig .tc .vmem S1x1x512 .f32) (harg8 : arg8.IsWhole) (arg9 : Memref sig .tc .vmem S1536x512 .bf16) (harg9 : arg9.IsWhole) (arg10 : Memref sig .tc .vmem S6x1536x512 .f32) (harg10 : arg10.IsWhole) (arg11 : Memref sig .tc .vmem S3072x512 .bf16) (harg11 : arg11.IsWhole) (arg12 : Memref sig .tc .vmem S96x512 .i32) (harg12 : arg12.IsWhole)
    (x0 : Vec F S1536x3072 .bf16) (x1 : Vec F S1536x3072 .bf16) (x2 : Vec F S3072x512 .fp8e4m3) (x3 : Vec F S96x512 .i8) (x4 : Vec F S1536x512 .bf16) (x5 : Vec F S2x1x512 .f32) (x6 : Vec F S1x1x512 .f32) (d9 : Vec F S1536x512 .bf16) (d10 : Vec F S6x1536x512 .f32) :
    Σ' (L10 : List (View.Piece (Elt F) S6x1536x512 .f32)), Σ' (L9 : List (View.Piece (Elt F) S1536x512 .bf16)), Σ' (LW : List (View.Piece (Elt F) S3072x512 .bf16)), { LE : List (View.Piece (Elt F) S96x512 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d9 ∗ owns (c : Thread nD τ) arg10 fullShare d10 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt F) (harg9.unread d9) L9) ∗ (arg10.view.loc (c : Thread nD τ) ↦[arg10.view.set]{fullShare} arg10.view.writes (Elt F) (harg10.unread d10) L10) ∗ (∃ f, arg11.view.loc (c : Thread nD τ) ↦[arg11.view.set]{fullShare} arg11.view.writes (Elt F) f LW) ∗ (∃ f, arg12.view.loc (c : Thread nD τ) ↦[arg12.view.set]{fullShare} arg12.view.writes (Elt F) f LE)) -∗ K ⟨⟩))
          ⊢ wp frame (wpE (defs₀ (F := F)) Variants.none c none) E (cc0_out i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_out_eq_skeleton]; unfold cc0_out_skel
    simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton, k0_part29_eq_skeleton,
      k0_part30_eq_skeleton, k0_part31_eq_skeleton, k0_part32_eq_skeleton, k0_part33_eq_skeleton,
      k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    isplitl [HS1]; · iexists _; iexact HS1
    iexists _; iexact HS2

end Cert.Out.Run

end
-- ==== Proof.PFrame.lean ====
/-
  The output projection on bits: it runs to its end, leaves its arguments as they were and every semaphore at zero.
-/
module

public import proofs.«01_k».proof.Proof.PRunC
public import Idealize.ShloMosaic.Lib.Claim

@[expose] public section

set_option maxRecDepth 16384

noncomputable section

namespace Cert.Out.Run

open Cert.Out.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S1536x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3072x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S96x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1536x512 .bf16 := win0_7.stage (cfg0.slots t 7)
abbrev hs0_7 (t : Fin cfg0.N) : (ms0_7 t).IsWhole := hstage0_7 ((cfg0.slots t 7).cast nbuf0_7)
/-- The scratch operands: the running sums, the widened weights, the words of the scales. -/
abbrev scM0_0 : Memref sig .tc .vmem S6x1536x512 .f32 := Memref.whole cc0_scratch0
abbrev scM0_1 : Memref sig .tc .vmem S3072x512 .bf16 := Memref.whole cc0_scratch1
abbrev scM0_2 : Memref sig .tc .vmem S96x512 .i32 := Memref.whole cc0_scratch2

/-- What the launch hands the body beside the windows: the scratch operands at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- Every point is of the first round, of a round between, or of the last. -/
theorem rounds : ∀ t : Fin cfg0.N,
    (k0_cond1 (grid0.coords t) = 1#1 ∧ ¬ k0_cond2 (grid0.coords t) = 1#1 ∧ ¬ k0_cond3 (grid0.coords t) = 1#1)
    ∨ (¬ k0_cond1 (grid0.coords t) = 1#1 ∧ k0_cond2 (grid0.coords t) = 1#1 ∧ ¬ k0_cond3 (grid0.coords t) = 1#1)
    ∨ (¬ k0_cond1 (grid0.coords t) = 1#1 ∧ k0_cond2 (grid0.coords t) = 1#1 ∧ k0_cond3 (grid0.coords t) = 1#1) := by
  decide +kernel

/-- The proof data: the inputs' buffers hold their blocks; nothing is said of the output's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The output's window. -/
abbrev fgt : Fin cfg0.W → Bool := fun | 0 => false | 1 => false | 2 => false | 3 => false | 4 => false | 5 => false | 6 => false | 7 => true

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ X, owns (c : Thread nD τ) (ms0_7 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, owns (c : Thread nD τ) (ms0_7 t) fullShare X))

set_option maxHeartbeats 1600000 in
/-- The body at any point: the inputs' memrefs hold their blocks, so the run of the point's round applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨⟨%s0, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rcases rounds t with ⟨h1, h2, h3⟩ | ⟨h1, h2, h3⟩ | ⟨h1, h2, h3⟩
  · iapply ((runA c (grid0.coords t) h1 h2 h3 (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) d7 s0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, HS0, ⟨%fT1, HS1⟩, ⟨%fT2, HS2⟩⟩
    isplitl [HS0 HS1 HS2 Hg]
    · isplitl [HS0 HS1 HS2]
      · isplitl [HS0]
        · iexists _; unfold owns; iexists _; isplitr
          swap; · iexact HS0
          ipureintro; rfl
        isplitl [HS1]
        · iexists _; unfold owns; iexists _; isplitr
          swap; · iexact HS1
          ipureintro; rfl
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · iapply ((runB c (grid0.coords t) h1 h2 h3 (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) d7 s0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, HS0, ⟨%fT1, HS1⟩, ⟨%fT2, HS2⟩⟩
    isplitl [HS0 HS1 HS2 Hg]
    · isplitl [HS0 HS1 HS2]
      · isplitl [HS0]
        · iexists _; unfold owns; iexists _; isplitr
          swap; · iexact HS0
          ipureintro; rfl
        isplitl [HS1]
        · iexists _; unfold owns; iexists _; isplitr
          swap; · iexact HS1
          ipureintro; rfl
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · iapply ((runC c (grid0.coords t) h1 h2 h3 (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) d7 s0).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, HS0, ⟨%fT1, HS1⟩, ⟨%fT2, HS2⟩⟩
    isplitl [HS0 HS1 HS2 Hg]
    · isplitl [HS0 HS1 HS2]
      · isplitl [HS0]
        · iexists _; unfold owns; iexists _; isplitr
          swap; · iexact HS0
          ipureintro; rfl
        isplitl [HS1]
        · iexists _; unfold owns; iexists _; isplitr
          swap; · iexact HS1
          ipureintro; rfl
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; unfold owns; iexists _; isplitr
    swap; · iexact H7
    ipureintro; rfl

theorem defs₀_row (t : Fin cfg0.N) :
    defs₀ (F := F) .tc cfg0.body (cfg0.bodyArgs t (cfg0.slots t)) = bodyAt0 t := by
  unfold defs₀; rw [Defs.onTc_tc]

/-- The body's triple at every point, the output's window unsaid. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch: every execution ends, the inputs' arrays and every other buffer as the region found them, every counter zero. -/
theorem run_main : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every execution ends, with the arguments as they were and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run_main m ρ)

end Cert.Out.Run

end
-- ==== Proof.ORunA.lean ====
/-
  The kernel body of the output projection, run at a grid point of the first round: the running sum of the tile is set to the attention's product.
-/
module

public import proofs.«01_k».proof.Proof.Gen.OutIdeal.Skeleton
public import proofs.«01_k».proof.Proof.Gen.OutIdeal.Frame

@[expose] public section

set_option maxRecDepth 16384

noncomputable section

namespace Cert.OutIdeal.Run

open Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 9216000 in set_option sl_exec.squeezeSlice true in
/-- What the body stores at such a point, as pieces (last first), with the proof that it runs to its end and leaves
    these pieces written: the inputs as they were, the running sum and the output block over what they held. -/
noncomputable def runA (c : Dev nD) (i : grid0.Coords) (hc1 : k0_cond1 i = 1#1) (hc2 : ¬ k0_cond2 i = 1#1) (hc3 : ¬ k0_cond3 i = 1#1) (arg2 : Memref sig .tc .vmem S1536x3072 .bf16) (harg2 : arg2.IsWhole) (arg3 : Memref sig .tc .vmem S1536x3072 .bf16) (harg3 : arg3.IsWhole) (arg4 : Memref sig .tc .vmem S3072x512 .fp8e4m3) (harg4 : arg4.IsWhole) (arg5 : Memref sig .tc .vmem S96x512 .i8) (harg5 : arg5.IsWhole) (arg6 : Memref sig .tc .vmem S1536x512 .bf16) (harg6 : arg6.IsWhole) (arg7 : Memref sig .tc .vmem S2x1x512 .f32) (harg7 : arg7.IsWhole) (arg8 : Memref sig .tc .vmem S1x1x512 .f32) (harg8 : arg8.IsWhole) (arg9 : Memref sig .tc .vmem S1536x512 .bf16) (harg9 : arg9.IsWhole) (arg10 : Memref sig .tc .vmem S6x1536x512 .f32) (harg10 : arg10.IsWhole) (arg11 : Memref sig .tc .vmem S3072x512 .bf16) (harg11 : arg11.IsWhole) (arg12 : Memref sig .tc .vmem S96x512 .i32) (harg12 : arg12.IsWhole)
    (x0 : Vec F S1536x3072 .bf16) (x1 : Vec F S1536x3072 .bf16) (x2 : Vec F S3072x512 .fp8e4m3) (x3 : Vec F S96x512 .i8) (x4 : Vec F S1536x512 .bf16) (x5 : Vec F S2x1x512 .f32) (x6 : Vec F S1x1x512 .f32) (d9 : Vec F S1536x512 .bf16) (d10 : Vec F S6x1536x512 .f32) :
    Σ' (L10 : List (View.Piece (Elt F) S6x1536x512 .f32)), Σ' (LW : List (View.Piece (Elt F) S3072x512 .bf16)), { LE : List (View.Piece (Elt F) S96x512 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d9 ∗ owns (c : Thread nD τ) arg10 fullShare d10 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d9 ∗ (arg10.view.loc (c : Thread nD τ) ↦[arg10.view.set]{fullShare} arg10.view.writes (Elt F) (harg10.unread d10) L10) ∗ (∃ f, arg11.view.loc (c : Thread nD τ) ↦[arg11.view.set]{fullShare} arg11.view.writes (Elt F) f LW) ∗ (∃ f, arg12.view.loc (c : Thread nD τ) ↦[arg12.view.set]{fullShare} arg12.view.writes (Elt F) f LE)) -∗ K ⟨⟩))
          ⊢ wp frame (wpE (defs₀ (F := F)) Variants.none c none) E (cc0_out i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_out_eq_skeleton]; unfold cc0_out_skel
    simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton, k0_part29_eq_skeleton,
      k0_part30_eq_skeleton, k0_part31_eq_skeleton, k0_part32_eq_skeleton, k0_part33_eq_skeleton,
      k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact hf7
      iexact H7
    isplitl [H8]; · iexact H8
    isplitl [HS1]; · iexists _; iexact HS1
    iexists _; iexact HS2

end Cert.OutIdeal.Run

end
-- ==== Proof.ORunB.lean ====
/-
  The kernel body of the output projection, run at a grid point of a middle round: one more product is added to the running sum of the tile.
-/
module

public import proofs.«01_k».proof.Proof.ORunA

@[expose] public section

set_option maxRecDepth 16384

noncomputable section

namespace Cert.OutIdeal.Run

open Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 9216000 in set_option sl_exec.squeezeSlice true in
/-- What the body stores at such a point, as pieces (last first), with the proof that it runs to its end and leaves
    these pieces written: the inputs as they were, the running sum and the output block over what they held. -/
noncomputable def runB (c : Dev nD) (i : grid0.Coords) (hc1 : ¬ k0_cond1 i = 1#1) (hc2 : k0_cond2 i = 1#1) (hc3 : ¬ k0_cond3 i = 1#1) (arg2 : Memref sig .tc .vmem S1536x3072 .bf16) (harg2 : arg2.IsWhole) (arg3 : Memref sig .tc .vmem S1536x3072 .bf16) (harg3 : arg3.IsWhole) (arg4 : Memref sig .tc .vmem S3072x512 .fp8e4m3) (harg4 : arg4.IsWhole) (arg5 : Memref sig .tc .vmem S96x512 .i8) (harg5 : arg5.IsWhole) (arg6 : Memref sig .tc .vmem S1536x512 .bf16) (harg6 : arg6.IsWhole) (arg7 : Memref sig .tc .vmem S2x1x512 .f32) (harg7 : arg7.IsWhole) (arg8 : Memref sig .tc .vmem S1x1x512 .f32) (harg8 : arg8.IsWhole) (arg9 : Memref sig .tc .vmem S1536x512 .bf16) (harg9 : arg9.IsWhole) (arg10 : Memref sig .tc .vmem S6x1536x512 .f32) (harg10 : arg10.IsWhole) (arg11 : Memref sig .tc .vmem S3072x512 .bf16) (harg11 : arg11.IsWhole) (arg12 : Memref sig .tc .vmem S96x512 .i32) (harg12 : arg12.IsWhole)
    (x0 : Vec F S1536x3072 .bf16) (x1 : Vec F S1536x3072 .bf16) (x2 : Vec F S3072x512 .fp8e4m3) (x3 : Vec F S96x512 .i8) (x4 : Vec F S1536x512 .bf16) (x5 : Vec F S2x1x512 .f32) (x6 : Vec F S1x1x512 .f32) (d9 : Vec F S1536x512 .bf16) (d10 : Vec F S6x1536x512 .f32) :
    Σ' (L10 : List (View.Piece (Elt F) S6x1536x512 .f32)), Σ' (LW : List (View.Piece (Elt F) S3072x512 .bf16)), { LE : List (View.Piece (Elt F) S96x512 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d9 ∗ owns (c : Thread nD τ) arg10 fullShare d10 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d9 ∗ (arg10.view.loc (c : Thread nD τ) ↦[arg10.view.set]{fullShare} arg10.view.writes (Elt F) (harg10.unread d10) L10) ∗ (∃ f, arg11.view.loc (c : Thread nD τ) ↦[arg11.view.set]{fullShare} arg11.view.writes (Elt F) f LW) ∗ (∃ f, arg12.view.loc (c : Thread nD τ) ↦[arg12.view.set]{fullShare} arg12.view.writes (Elt F) f LE)) -∗ K ⟨⟩))
          ⊢ wp frame (wpE (defs₀ (F := F)) Variants.none c none) E (cc0_out i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_out_eq_skeleton]; unfold cc0_out_skel
    simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton, k0_part29_eq_skeleton,
      k0_part30_eq_skeleton, k0_part31_eq_skeleton, k0_part32_eq_skeleton, k0_part33_eq_skeleton,
      k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact hf7
      iexact H7
    isplitl [H8]; · iexact H8
    isplitl [HS1]; · iexists _; iexact HS1
    iexists _; iexact HS2

end Cert.OutIdeal.Run

end
-- ==== Proof.ORunC.lean ====
/-
  The kernel body of the output projection, run at a grid point of the last round: the last product is added to the running sum and the output block is stored.
-/
module

public import proofs.«01_k».proof.Proof.ORunB

@[expose] public section

set_option maxRecDepth 16384

noncomputable section

namespace Cert.OutIdeal.Run

open Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 9216000 in set_option sl_exec.squeezeSlice true in
/-- What the body stores at such a point, as pieces (last first), with the proof that it runs to its end and leaves
    these pieces written: the inputs as they were, the running sum and the output block over what they held. -/
noncomputable def runC (c : Dev nD) (i : grid0.Coords) (hc1 : ¬ k0_cond1 i = 1#1) (hc2 : k0_cond2 i = 1#1) (hc3 : k0_cond3 i = 1#1) (arg2 : Memref sig .tc .vmem S1536x3072 .bf16) (harg2 : arg2.IsWhole) (arg3 : Memref sig .tc .vmem S1536x3072 .bf16) (harg3 : arg3.IsWhole) (arg4 : Memref sig .tc .vmem S3072x512 .fp8e4m3) (harg4 : arg4.IsWhole) (arg5 : Memref sig .tc .vmem S96x512 .i8) (harg5 : arg5.IsWhole) (arg6 : Memref sig .tc .vmem S1536x512 .bf16) (harg6 : arg6.IsWhole) (arg7 : Memref sig .tc .vmem S2x1x512 .f32) (harg7 : arg7.IsWhole) (arg8 : Memref sig .tc .vmem S1x1x512 .f32) (harg8 : arg8.IsWhole) (arg9 : Memref sig .tc .vmem S1536x512 .bf16) (harg9 : arg9.IsWhole) (arg10 : Memref sig .tc .vmem S6x1536x512 .f32) (harg10 : arg10.IsWhole) (arg11 : Memref sig .tc .vmem S3072x512 .bf16) (harg11 : arg11.IsWhole) (arg12 : Memref sig .tc .vmem S96x512 .i32) (harg12 : arg12.IsWhole)
    (x0 : Vec F S1536x3072 .bf16) (x1 : Vec F S1536x3072 .bf16) (x2 : Vec F S3072x512 .fp8e4m3) (x3 : Vec F S96x512 .i8) (x4 : Vec F S1536x512 .bf16) (x5 : Vec F S2x1x512 .f32) (x6 : Vec F S1x1x512 .f32) (d9 : Vec F S1536x512 .bf16) (d10 : Vec F S6x1536x512 .f32) :
    Σ' (L10 : List (View.Piece (Elt F) S6x1536x512 .f32)), Σ' (L9 : List (View.Piece (Elt F) S1536x512 .bf16)), Σ' (LW : List (View.Piece (Elt F) S3072x512 .bf16)), { LE : List (View.Piece (Elt F) S96x512 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d9 ∗ owns (c : Thread nD τ) arg10 fullShare d10 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt F) (harg9.unread d9) L9) ∗ (arg10.view.loc (c : Thread nD τ) ↦[arg10.view.set]{fullShare} arg10.view.writes (Elt F) (harg10.unread d10) L10) ∗ (∃ f, arg11.view.loc (c : Thread nD τ) ↦[arg11.view.set]{fullShare} arg11.view.writes (Elt F) f LW) ∗ (∃ f, arg12.view.loc (c : Thread nD τ) ↦[arg12.view.set]{fullShare} arg12.view.writes (Elt F) f LE)) -∗ K ⟨⟩))
          ⊢ wp frame (wpE (defs₀ (F := F)) Variants.none c none) E (cc0_out i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_out_eq_skeleton]; unfold cc0_out_skel
    simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton, k0_part29_eq_skeleton,
      k0_part30_eq_skeleton, k0_part31_eq_skeleton, k0_part32_eq_skeleton, k0_part33_eq_skeleton,
      k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    isplitl [HS1]; · iexists _; iexact HS1
    iexists _; iexact HS2

end Cert.OutIdeal.Run

end
-- ==== Proof.OWeights.lean ====
/-
  What the output projection's scratch of widened weights holds when it is read: each weight of the point's block times its scale.
-/
module

public import proofs.«01_k».proof.Proof.ORunC
public import proofs.«01_k».proof.Proof.Scale
public import Idealize.ShloMosaic.Lib.Pipeline.ReadBack
public import Idealize.ShloMosaic.Lib.WholeRead

@[expose] public section

set_option maxRecDepth 16384

noncomputable section

namespace Cert.OutIdeal.Weights

open Cert.OutIdeal Cert.OutIdeal.Gen Idealize.ShloMosaic Idealize.ShloMosaic.TcCoe Idealize.SL.Sem
open Cert.Scale

/-- The words of a tile of scales: each byte laid twice. -/
def words (v1 : Vec Ideal S96x512 .i8) : IVec S96x512 32 :=
  shapeCast S96x512
    (ori (shli (extui 32 v1 natLt_8_32) (broadcast S96x512 7#32)) (shli (extui 32 v1 natLt_8_32) (broadcast S96x512 23#32)))
    shapeCasts_S96x512_S96x512

theorem words_at (v1 : Vec Ideal S96x512 .i8) (b : Fin 96) (c : Fin 512) : words v1 (ix2 b c) = wordOf (v1 (ix2 b c)) := by
  unfold words
  pointwise
  rfl

/-- 32 rows of weights times one row of scales. -/
def wide (e : Vec Ideal S1x512 .i32) (w : Vec Ideal S32x512 .fp8e4m3) : Vec Ideal S32x512 .bf16 :=
  shapeCast S32x512
    (mulf (F := Ideal) (extf .bf16 w bitsLt_fp8e4m3_bf16)
      (concatenate S32x512 0
        [⟨S16x512, bitcastToFloat .bf16 (bitcast S16x512 16 (broadcastTo S8x512 (shapeCast S1x512 e shapeCasts_S1x512_S1x512)
            broadcasts_S1x512_S8x512) bitcasts_S8x512_w32_S16x512_w16)⟩,
         ⟨S16x512, bitcastToFloat .bf16 (bitcast S16x512 16 (broadcastTo S8x512 (shapeCast S1x512 e shapeCasts_S1x512_S1x512)
            broadcasts_S1x512_S8x512) bitcasts_S8x512_w32_S16x512_w16)⟩]
        concatenates_S16x512_S16x512_S32x512_d0))
    shapeCasts_S32x512_S32x512

/-- The doubled words of one row, read as bfloat16: every row of the tile is the row of scales. -/
theorem scaleTile_at (e : Vec Ideal S1x512 .i32) (x : Fin 512 → BitVec 8) (he : ∀ c : Fin 512, e (ix2 0 c) = wordOf (x c))
    (r : Fin 16) (c : Fin 512) :
    bitcastToFloat (F := Ideal) .bf16 (bitcast S16x512 16 (broadcastTo S8x512 (shapeCast S1x512 e shapeCasts_S1x512_S1x512)
              broadcasts_S1x512_S8x512) bitcasts_S8x512_w32_S16x512_w16) (ix2 r c) = scaleOf (x c) := by
  show Ideal.ofBits .bf16 (bitcast S16x512 16 _ bitcasts_S8x512_w32_S16x512_w16 (ix2 r c)) = _
  rw [bitcast_32_16]
  rw [show (broadcastTo S8x512 (shapeCast S1x512 e shapeCasts_S1x512_S1x512) broadcasts_S1x512_S8x512
      ((bitcasts_S8x512_w32_S16x512_w16).srcIdx (ix2 r c) (S16x512.row (ix2 r c) / 2) _)) = wordOf (x c) from by
    rw [← he c]
    pointwise
    rfl]
  exact half_eq_scaleOf _ _ (Nat.mod_lt _ (by decide))

theorem wide_at (e : Vec Ideal S1x512 .i32) (w : Vec Ideal S32x512 .fp8e4m3) (x : Fin 512 → BitVec 8)
    (he : ∀ c : Fin 512, e (ix2 0 c) = wordOf (x c)) (r : Fin 32) (c : Fin 512) :
    wide e w (ix2 r c) = (show EReal from w (ix2 r c)) * scaleOf (x c) := by
  unfold wide
  have h := scaleTile_at e x he
  generalize bitcastToFloat (F := Ideal) .bf16 (bitcast S16x512 16 (broadcastTo S8x512 (shapeCast S1x512 e shapeCasts_S1x512_S1x512)
              broadcasts_S1x512_S8x512) bitcasts_S8x512_w32_S16x512_w16) = s at h ⊢
  pointwise
  split_ifs with hr
  · exact congrArg _ (h ⟨r, hr⟩ c)
  all_goals exact congrArg _ (h ⟨r - 16, by omega⟩ c)

/-- The widened weight of row `k` and column `q` of a block of 512 columns. -/
def weight (x2 : Vec Ideal S3072x512 .fp8e4m3) (x3 : Vec Ideal S96x512 .i8) (k : Fin 3072) (q : Fin 512) : EReal :=
  (show EReal from x2 (ix2 k q)) * scaleOf (x3 (ix2 ⟨k.val / 32, by omega⟩ q))

/-- The widened weights of a block of 512 columns. -/
def weights (x2 : Vec Ideal S3072x512 .fp8e4m3) (x3 : Vec Ideal S96x512 .i8) (y : S3072x512.Idx) : EReal :=
  weight x2 x3 (y 0) (y 1)

theorem row_inb (b : Nat) (hb : b < 96) : ∀ a, (![b, 0] : Fin 2 → Nat) a + S1x512.size a ≤ S96x512.size a
  | ⟨0, _⟩ => by show b + 1 ≤ 96; omega
  | ⟨1, _⟩ => by show 0 + 512 ≤ 512; omega

theorem rows_inb (b o : Nat) (hb : b < 96) (ho : o = 32 * b) :
    ∀ a, (![o, 0] : Fin 2 → Nat) a + S32x512.size a ≤ S3072x512.size a
  | ⟨0, _⟩ => by show o + 32 ≤ 3072; omega
  | ⟨1, _⟩ => by show 0 + 512 ≤ 512; omega

theorem all_inb : ∀ a, (![0, 0] : Fin 2 → Nat) a + S96x512.size a ≤ S96x512.size a
  | ⟨0, _⟩ => by show 0 + 96 ≤ 96; omega
  | ⟨1, _⟩ => by show 0 + 512 ≤ 512; omega

/-- Row `b` of the scales scratch, loaded after the whole of it was stored: the stored words' row. -/
theorem row_at (v : View sig .tc .vmem S96x512 .i32) (b : Nat) (hb : b < 96) (P : IVec S96x512 32) (c : Fin 512) :
    (v.readCov (Val := Elt Ideal) [⟨Rect.unit (s := S96x512) ![0, 0] S96x512.size all_inb, P⟩]
        (Rect.unit (s := S96x512) ![b, 0] S1x512.size (row_inb b hb)).toLoadRect : IVec S1x512 32) (ix2 0 c)
      = P (ix2 ⟨b, hb⟩ c) := by
  rw [View.readCov_eq_canon']
  have e : (Rect.unit (s := S96x512) ![b, 0] S1x512.size (row_inb b hb)).toLoadRect.idx (ix2 0 c)
      = (Rect.unit (s := S96x512) ![0, 0] S96x512.size all_inb).emb (ix2 ⟨b, hb⟩ c) := by
    funext a
    match a with
    | ⟨0, _⟩ => exact Fin.ext (by show b + 1 * 0 = 0 + 1 * b; omega)
    | ⟨1, _⟩ => exact Fin.ext (by show 0 + 1 * c.val = 0 + 1 * c.val; omega)
  refine (congrArg (View.canon _) e).trans ?_
  exact View.canon_cons_emb (Val := Elt Ideal) (e := .i32) (Rect.unit (s := S96x512) ![0, 0] S96x512.size all_inb) P [] (ix2 ⟨b, hb⟩ c)

/-- What one store of 32 rows of widened weights holds: rows `32 b …`. -/
theorem piece (arg4 : Memref sig .tc .vmem S3072x512 .fp8e4m3) (harg4 : arg4.IsWhole)
    (arg5 : Memref sig .tc .vmem S96x512 .i8) (harg5 : arg5.IsWhole) (arg12 : Memref sig .tc .vmem S96x512 .i32)
    (x2 : Vec Ideal S3072x512 .fp8e4m3) (x3 : Vec Ideal S96x512 .i8) (b o : Nat) (hb : b < 96) (ho : o = 32 * b) (x : S32x512.Idx) :
    wide (arg12.view.readCov (Val := Elt Ideal) [⟨Rect.unit (s := S96x512) ![0, 0] S96x512.size all_inb,
          words (View.readAt (Elt Ideal) arg5.view (Rect.unit (s := S96x512) ![0, 0] S96x512.size all_inb).toLoadRect (harg5.unread x3))⟩]
        (Rect.unit (s := S96x512) ![b, 0] S1x512.size (row_inb b hb)).toLoadRect)
      (View.readAt (Elt Ideal) arg4.view (Rect.unit (s := S3072x512) ![o, 0] S32x512.size (rows_inb b o hb ho)).toLoadRect (harg4.unread x2)) x
      = weights x2 x3 ((Rect.unit (s := S3072x512) ![o, 0] S32x512.size (rows_inb b o hb ho)).emb x) := by
  have hx0 : (x 0).val < 32 := (x 0).isLt
  have hx1 : (x 1).val < 512 := (x 1).isLt
  have hx : x = ix2 (⟨(x 0).val, hx0⟩ : Fin 32) (⟨(x 1).val, hx1⟩ : Fin 512) := by
    funext a
    match a with
    | ⟨0, _⟩ => rfl
    | ⟨1, _⟩ => rfl
  rw [hx]
  refine (wide_at _ _ (fun c : Fin 512 => x3 (ix2 (⟨b, hb⟩ : Fin 96) c))
    (fun c => (row_at arg12.view b hb _ c).trans
      ((words_at _ ⟨b, hb⟩ c).trans (congrArg wordOf ((harg5.readAt_unread x3 _ _).trans (congrArg x3 ?_))))) _ _).trans ?_
  · funext a
    match a with
    | ⟨0, _⟩ => exact Fin.ext (by show 0 + 1 * b = b; omega)
    | ⟨1, _⟩ => exact Fin.ext (by show 0 + 1 * c.val = c.val; omega)
  · refine congrArg₂ (fun u v : EReal => u * v) ((harg4.readAt_unread x2 _ _).trans (congrArg x2 ?_)) (congrArg (fun i => scaleOf (x3 i)) ?_)
    · funext a
      match a with
      | ⟨0, _⟩ => rfl
      | ⟨1, _⟩ => rfl
    · funext a
      match a with
      | ⟨0, _⟩ => exact Fin.ext (by show b = (o + 1 * (x 0).val) / 32; omega)
      | ⟨1, _⟩ => exact Fin.ext (by show (x 1).val = 0 + 1 * (x 1).val; omega)

end Cert.OutIdeal.Weights

end
-- ==== Proof.OStores.lean ====
/-
  Every store of widened weights of the output projection, and the whole of what its scratch holds when it is read.
-/
module

public import proofs.«01_k».proof.Proof.OWeights

@[expose] public section

set_option maxRecDepth 16384

noncomputable section

namespace Cert.OutIdeal.Weights

open Cert.OutIdeal Cert.OutIdeal.Gen Cert.OutIdeal.Run Idealize.ShloMosaic Idealize.ShloMosaic.TcCoe Idealize.SL.Sem
open Cert.Scale

variable (c : Dev nD) (arg4 : Memref sig .tc .vmem S3072x512 .fp8e4m3) (harg4 : arg4.IsWhole)
  (arg5 : Memref sig .tc .vmem S96x512 .i8) (harg5 : arg5.IsWhole)
  (arg11 : Memref sig .tc .vmem S3072x512 .bf16) (arg12 : Memref sig .tc .vmem S96x512 .i32)
  (x2 : Vec Ideal S3072x512 .fp8e4m3) (x3 : Vec Ideal S96x512 .i8)

set_option maxHeartbeats 8000000 in
/-- The stores all hold the widened weights. -/
theorem pieces : View.PiecesOf (weights x2 x3) (runA.sl.HS1_96 (F := Ideal) c arg4 harg4 arg5 harg5 arg12 x2 x3) := by
  unfold runA.sl.HS1_96
  refine And.intro (fun x => piece arg4 harg4 arg5 harg5 arg12 x2 x3 95 3040 (by decide) rfl x) ?_
  refine And.intro (fun x => piece arg4 harg4 arg5 harg5 arg12 x2 x3 94 3008 (by decide) rfl x) ?_
  refine And.intro (fun x => piece arg4 harg4 arg5 harg5 arg12 x2 x3 93 2976 (by decide) rfl x) ?_
  refine And.intro (fun x => piece arg4 harg4 arg5 harg5 arg12 x2 x3 92 2944 (by decide) rfl x) ?_
  refine And.intro (fun x => piece arg4 harg4 arg5 harg5 arg12 x2 x3 91 2912 (by decide) rfl x) ?_
  refine And.intro (fun x => piece arg4 harg4 arg5 harg5 arg12 x2 x3 90 2880 (by decide) rfl x) ?_
  refine And.intro (fun x => piece arg4 harg4 arg5 harg5 arg12 x2 x3 89 2848 (by decide) rfl x) ?_
  refine And.intro (fun x => piece arg4 harg4 arg5 harg5 arg12 x2 x3 88 2816 (by decide) rfl x) ?_
  refine And.intro (fun x => piece arg4 harg4 arg5 harg5 arg12 x2 x3 87 2784 (by decide) rfl x) ?_
  refine And.intro (fun x => piece arg4 harg4 arg5 harg5 arg12 x2 x3 86 2752 (by decide) rfl x) ?_
  refine And.intro (fun x => piece arg4 harg4 arg5 harg5 arg12 x2 x3 85 2720 (by decide) rfl x) ?_
  refine And.intro (fun x => piece arg4 harg4 arg5 harg5 arg12 x2 x3 84 2688 (by decide) rfl x) ?_
  refine And.intro (fun x => piece arg4 harg4 arg5 harg5 arg12 x2 x3 83 2656 (by decide) rfl x) ?_
  refine And.intro (fun x => piece arg4 harg4 arg5 harg5 arg12 x2 x3 82 2624 (by decide) rfl x) ?_
  refine And.intro (fun x => piece arg4 harg4 arg5 harg5 arg12 x2 x3 81 2592 (by decide) rfl x) ?_
  refine And.intro (fun x => piece arg4 harg4 arg5 harg5 arg12 x2 x3 80 2560 (by decide) rfl x) ?_
  refine And.intro (fun x => piece arg4 harg4 arg5 harg5 arg12 x2 x3 79 2528 (by decide) rfl x) ?_
  refine And.intro (fun x => piece arg4 harg4 arg5 harg5 arg12 x2 x3 78 2496 (by decide) rfl x) ?_
  refine And.intro (fun x => piece arg4 harg4 arg5 harg5 arg12 x2 x3 77 2464 (by decide) rfl x) ?_
  refine And.intro (fun x => piece arg4 harg4 arg5 harg5 arg12 x2 x3 76 2432 (by decide) rfl x) ?_
  refine And.intro (fun x => piece arg4 harg4 arg5 harg5 arg12 x2 x3 75 2400 (by decide) rfl x) ?_
  refine And.intro (fun x => piece arg4 harg4 arg5 harg5 arg12 x2 x3 74 2368 (by decide) rfl x) ?_
  refine And.intro (fun x => piece arg4 harg4 arg5 harg5 arg12 x2 x3 73 2336 (by decide) rfl x) ?_
  refine And.intro (fun x => piece arg4 harg4 arg5 harg5 arg12 x2 x3 72 2304 (by decide) rfl x) ?_
  refine And.intro (fun x => piece arg4 harg4 arg5 harg5 arg12 x2 x3 71 2272 (by decide) rfl x) ?_
  refine And.intro (fun x => piece arg4 harg4 arg5 harg5 arg12 x2 x3 70 2240 (by decide) rfl x) ?_
  refine And.intro (fun x => piece arg4 harg4 arg5 harg5 arg12 x2 x3 69 2208 (by decide) rfl x) ?_
  refine And.intro (fun x => piece arg4 harg4 arg5 harg5 arg12 x2 x3 68 2176 (by decide) rfl x) ?_
  refine And.intro (fun x => piece arg4 harg4 arg5 harg5 arg12 x2 x3 67 2144 (by decide) rfl x) ?_
  refine And.intro (fun x => piece arg4 harg4 arg5 harg5 arg12 x2 x3 66 2112 (by decide) rfl x) ?_
  refine And.intro (fun x => piece arg4 harg4 arg5 harg5 arg12 x2 x3 65 2080 (by decide) rfl x) ?_
  refine And.intro (fun x => piece arg4 harg4 arg5 harg5 arg12 x2 x3 64 2048 (by decide) rfl x) ?_
  refine And.intro (fun x => piece arg4 harg4 arg5 harg5 arg12 x2 x3 63 2016 (by decide) rfl x) ?_
  refine And.intro (fun x => piece arg4 harg4 arg5 harg5 arg12 x2 x3 62 1984 (by decide) rfl x) ?_
  refine And.intro (fun x => piece arg4 harg4 arg5 harg5 arg12 x2 x3 61 1952 (by decide) rfl x) ?_
  refine And.intro (fun x => piece arg4 harg4 arg5 harg5 arg12 x2 x3 60 1920 (by decide) rfl x) ?_
  refine And.intro (fun x => piece arg4 harg4 arg5 harg5 arg12 x2 x3 59 1888 (by decide) rfl x) ?_
  refine And.intro (fun x => piece arg4 harg4 arg5 harg5 arg12 x2 x3 58 1856 (by decide) rfl x) ?_
  refine And.intro (fun x => piece arg4 harg4 arg5 harg5 arg12 x2 x3 57 1824 (by decide) rfl x) ?_
  refine And.intro (fun x => piece arg4 harg4 arg5 harg5 arg12 x2 x3 56 1792 (by decide) rfl x) ?_
  refine And.intro (fun x => piece arg4 harg4 arg5 harg5 arg12 x2 x3 55 1760 (by decide) rfl x) ?_
  refine And.intro (fun x => piece arg4 harg4 arg5 harg5 arg12 x2 x3 54 1728 (by decide) rfl x) ?_
  refine And.intro (fun x => piece arg4 harg4 arg5 harg5 arg12 x2 x3 53 1696 (by decide) rfl x) ?_
  refine And.intro (fun x => piece arg4 harg4 arg5 harg5 arg12 x2 x3 52 1664 (by decide) rfl x) ?_
  refine And.intro (fun x => piece arg4 harg4 arg5 harg5 arg12 x2 x3 51 1632 (by decide) rfl x) ?_
  refine And.intro (fun x => piece arg4 harg4 arg5 harg5 arg12 x2 x3 50 1600 (by decide) rfl x) ?_
  refine And.intro (fun x => piece arg4 harg4 arg5 harg5 arg12 x2 x3 49 1568 (by decide) rfl x) ?_
  refine And.intro (fun x => piece arg4 harg4 arg5 harg5 arg12 x2 x3 48 1536 (by decide) rfl x) ?_
  refine And.intro (fun x => piece arg4 harg4 arg5 harg5 arg12 x2 x3 47 1504 (by decide) rfl x) ?_
  refine And.intro (fun x => piece arg4 harg4 arg5 harg5 arg12 x2 x3 46 1472 (by decide) rfl x) ?_
  refine And.intro (fun x => piece arg4 harg4 arg5 harg5 arg12 x2 x3 45 1440 (by decide) rfl x) ?_
  refine And.intro (fun x => piece arg4 harg4 arg5 harg5 arg12 x2 x3 44 1408 (by decide) rfl x) ?_
  refine And.intro (fun x => piece arg4 harg4 arg5 harg5 arg12 x2 x3 43 1376 (by decide) rfl x) ?_
  refine And.intro (fun x => piece arg4 harg4 arg5 harg5 arg12 x2 x3 42 1344 (by decide) rfl x) ?_
  refine And.intro (fun x => piece arg4 harg4 arg5 harg5 arg12 x2 x3 41 1312 (by decide) rfl x) ?_
  refine And.intro (fun x => piece arg4 harg4 arg5 harg5 arg12 x2 x3 40 1280 (by decide) rfl x) ?_
  refine And.intro (fun x => piece arg4 harg4 arg5 harg5 arg12 x2 x3 39 1248 (by decide) rfl x) ?_
  refine And.intro (fun x => piece arg4 harg4 arg5 harg5 arg12 x2 x3 38 1216 (by decide) rfl x) ?_
  refine And.intro (fun x => piece arg4 harg4 arg5 harg5 arg12 x2 x3 37 1184 (by decide) rfl x) ?_
  refine And.intro (fun x => piece arg4 harg4 arg5 harg5 arg12 x2 x3 36 1152 (by decide) rfl x) ?_
  refine And.intro (fun x => piece arg4 harg4 arg5 harg5 arg12 x2 x3 35 1120 (by decide) rfl x) ?_
  refine And.intro (fun x => piece arg4 harg4 arg5 harg5 arg12 x2 x3 34 1088 (by decide) rfl x) ?_
  refine And.intro (fun x => piece arg4 harg4 arg5 harg5 arg12 x2 x3 33 1056 (by decide) rfl x) ?_
  refine And.intro (fun x => piece arg4 harg4 arg5 harg5 arg12 x2 x3 32 1024 (by decide) rfl x) ?_
  refine And.intro (fun x => piece arg4 harg4 arg5 harg5 arg12 x2 x3 31 992 (by decide) rfl x) ?_
  refine And.intro (fun x => piece arg4 harg4 arg5 harg5 arg12 x2 x3 30 960 (by decide) rfl x) ?_
  refine And.intro (fun x => piece arg4 harg4 arg5 harg5 arg12 x2 x3 29 928 (by decide) rfl x) ?_
  refine And.intro (fun x => piece arg4 harg4 arg5 harg5 arg12 x2 x3 28 896 (by decide) rfl x) ?_
  refine And.intro (fun x => piece arg4 harg4 arg5 harg5 arg12 x2 x3 27 864 (by decide) rfl x) ?_
  refine And.intro (fun x => piece arg4 harg4 arg5 harg5 arg12 x2 x3 26 832 (by decide) rfl x) ?_
  refine And.intro (fun x => piece arg4 harg4 arg5 harg5 arg12 x2 x3 25 800 (by decide) rfl x) ?_
  refine And.intro (fun x => piece arg4 harg4 arg5 harg5 arg12 x2 x3 24 768 (by decide) rfl x) ?_
  refine And.intro (fun x => piece arg4 harg4 arg5 harg5 arg12 x2 x3 23 736 (by decide) rfl x) ?_
  refine And.intro (fun x => piece arg4 harg4 arg5 harg5 arg12 x2 x3 22 704 (by decide) rfl x) ?_
  refine And.intro (fun x => piece arg4 harg4 arg5 harg5 arg12 x2 x3 21 672 (by decide) rfl x) ?_
  refine And.intro (fun x => piece arg4 harg4 arg5 harg5 arg12 x2 x3 20 640 (by decide) rfl x) ?_
  refine And.intro (fun x => piece arg4 harg4 arg5 harg5 arg12 x2 x3 19 608 (by decide) rfl x) ?_
  refine And.intro (fun x => piece arg4 harg4 arg5 harg5 arg12 x2 x3 18 576 (by decide) rfl x) ?_
  refine And.intro (fun x => piece arg4 harg4 arg5 harg5 arg12 x2 x3 17 544 (by decide) rfl x) ?_
  refine And.intro (fun x => piece arg4 harg4 arg5 harg5 arg12 x2 x3 16 512 (by decide) rfl x) ?_
  refine And.intro (fun x => piece arg4 harg4 arg5 harg5 arg12 x2 x3 15 480 (by decide) rfl x) ?_
  refine And.intro (fun x => piece arg4 harg4 arg5 harg5 arg12 x2 x3 14 448 (by decide) rfl x) ?_
  refine And.intro (fun x => piece arg4 harg4 arg5 harg5 arg12 x2 x3 13 416 (by decide) rfl x) ?_
  refine And.intro (fun x => piece arg4 harg4 arg5 harg5 arg12 x2 x3 12 384 (by decide) rfl x) ?_
  refine And.intro (fun x => piece arg4 harg4 arg5 harg5 arg12 x2 x3 11 352 (by decide) rfl x) ?_
  refine And.intro (fun x => piece arg4 harg4 arg5 harg5 arg12 x2 x3 10 320 (by decide) rfl x) ?_
  refine And.intro (fun x => piece arg4 harg4 arg5 harg5 arg12 x2 x3 9 288 (by decide) rfl x) ?_
  refine And.intro (fun x => piece arg4 harg4 arg5 harg5 arg12 x2 x3 8 256 (by decide) rfl x) ?_
  refine And.intro (fun x => piece arg4 harg4 arg5 harg5 arg12 x2 x3 7 224 (by decide) rfl x) ?_
  refine And.intro (fun x => piece arg4 harg4 arg5 harg5 arg12 x2 x3 6 192 (by decide) rfl x) ?_
  refine And.intro (fun x => piece arg4 harg4 arg5 harg5 arg12 x2 x3 5 160 (by decide) rfl x) ?_
  refine And.intro (fun x => piece arg4 harg4 arg5 harg5 arg12 x2 x3 4 128 (by decide) rfl x) ?_
  refine And.intro (fun x => piece arg4 harg4 arg5 harg5 arg12 x2 x3 3 96 (by decide) rfl x) ?_
  refine And.intro (fun x => piece arg4 harg4 arg5 harg5 arg12 x2 x3 2 64 (by decide) rfl x) ?_
  refine And.intro (fun x => piece arg4 harg4 arg5 harg5 arg12 x2 x3 1 32 (by decide) rfl x) ?_
  refine And.intro (fun x => piece arg4 harg4 arg5 harg5 arg12 x2 x3 0 0 (by decide) rfl x) ?_
  exact True.intro

set_option maxHeartbeats 8000000 in
/-- Every row and column is in one of the stores. -/
theorem cover (y : S3072x512.Idx) : ∃ p ∈ runA.sl.HS1_96 (F := Ideal) c arg4 harg4 arg5 harg5 arg12 x2 x3, y ∈ p.1.set :=
  View.cover_of_tiledL _ ![32, 512] (by sl_kernel_rfl) y

/-- The widened weights, as the products read them. -/
def scratch : Vec Ideal S3072x512 .bf16 :=
  arg11.view.readCov (runA.sl.HS1_96 (F := Ideal) c arg4 harg4 arg5 harg5 arg12 x2 x3)
    (Rect.unit (s := S3072x512) ![0, 0] S3072x512.size inb_S3072x512_S3072x512_0_0).toLoadRect

theorem scratch_at (k : Fin 3072) (q : Fin 512) :
    scratch c arg4 harg4 arg5 harg5 arg11 arg12 x2 x3 (ix2 k q) = weight x2 x3 k q := by
  unfold scratch
  rw [View.readCov_eq_canon']
  have e : (Rect.unit (s := S3072x512) ![0, 0] S3072x512.size inb_S3072x512_S3072x512_0_0).toLoadRect.idx (ix2 k q) = ix2 k q := by
    funext a
    match a with
    | ⟨0, _⟩ => exact Fin.ext (by show 0 + 1 * k.val = k.val; omega)
    | ⟨1, _⟩ => exact Fin.ext (by show 0 + 1 * q.val = q.val; omega)
  refine (congrArg (View.canon _) e).trans ?_
  exact View.canon_append_of_piecesOf (weights x2 x3) [] _ (pieces c arg4 harg4 arg5 harg5 arg12 x2 x3) _
    (cover c arg4 harg4 arg5 harg5 arg12 x2 x3 _)

theorem scratchA : runA.sl.v1076 (F := Ideal) c arg4 harg4 arg5 harg5 arg11 arg12 x2 x3 = scratch c arg4 harg4 arg5 harg5 arg11 arg12 x2 x3 := rfl

theorem scratchA' : runA.sl.v1104 (F := Ideal) c arg4 harg4 arg5 harg5 arg11 arg12 x2 x3 = scratch c arg4 harg4 arg5 harg5 arg11 arg12 x2 x3 := rfl

set_option maxHeartbeats 8000000 in
/-- The same stores in the later rounds. -/
theorem storesB : runB.sl.HS1_96 (F := Ideal) c arg4 harg4 arg5 harg5 arg12 x2 x3 = runA.sl.HS1_96 c arg4 harg4 arg5 harg5 arg12 x2 x3 := by
  sl_kernel_rfl

theorem scratchB : runB.sl.v1079 (F := Ideal) c arg4 harg4 arg5 harg5 arg11 arg12 x2 x3 = scratch c arg4 harg4 arg5 harg5 arg11 arg12 x2 x3 :=
  congrArg (fun L => arg11.view.readCov L (Rect.unit (s := S3072x512) ![0, 0] S3072x512.size inb_S3072x512_S3072x512_0_0).toLoadRect)
    (storesB c arg4 harg4 arg5 harg5 arg12 x2 x3)

set_option maxHeartbeats 8000000 in
/-- The same stores in the last round. -/
theorem storesC : runC.sl.HS1_96 (F := Ideal) c arg4 harg4 arg5 harg5 arg12 x2 x3 = runA.sl.HS1_96 c arg4 harg4 arg5 harg5 arg12 x2 x3 := by
  sl_kernel_rfl

theorem scratchC : runC.sl.v1079 (F := Ideal) c arg4 harg4 arg5 harg5 arg11 arg12 x2 x3 = scratch c arg4 harg4 arg5 harg5 arg11 arg12 x2 x3 :=
  congrArg (fun L => arg11.view.readCov L (Rect.unit (s := S3072x512) ![0, 0] S3072x512.size inb_S3072x512_S3072x512_0_0).toLoadRect)
    (storesC c arg4 harg4 arg5 harg5 arg12 x2 x3)

end Cert.OutIdeal.Weights

end
-- ==== Proof.OTiles.lean ====
/-
  The tiles the output projection computes, read at an index, and the running sums after the stores of one grid point.
-/
module

public import proofs.«01_k».proof.Proof.OStores

@[expose] public section

set_option maxRecDepth 16384

noncomputable section

namespace Cert.OutIdeal.Block

open Cert.OutIdeal Cert.OutIdeal.Gen Cert.OutIdeal.Run Idealize.ShloMosaic Idealize.ShloMosaic.TcCoe Idealize.SL.Sem
open Cert.Scale Cert.OutIdeal.Weights

/-- A tile of the first round: 256 rows times the widened weights. -/
def firstTile (a : Vec Ideal S256x3072 .bf16) (w : Vec Ideal S3072x512 .bf16) : FVec Ideal S1x256x512 .f32 :=
  have z : FVec Ideal S256x512 .f32 := constant S256x512 .f32 0x00000000#32
  have d : FVec Ideal S256x512 .f32 := matmul (φ₁ := .bf16) (φ₂ := .bf16) dot_S256x3072_S3072x512_S256x512_1_0_0_1_n_n none a w z
  shapeCast S1x256x512 d shapeCasts_S256x512_S1x256x512

theorem firstTile_at (a : Vec Ideal S256x3072 .bf16) (w : Vec Ideal S3072x512 .bf16) (r : Fin 256) (q : Fin 512) :
    firstTile a w (ix3 0 r q) = (∑ k : Fin 3072, (a (ix2 r k) : EReal) * w (ix2 k q) : EReal) := by
  unfold firstTile
  pointwise

/-- A tile of a later round: the running sum plus 256 rows times the widened weights. -/
def nextTile (s : Vec Ideal S1x256x512 .f32) (a : Vec Ideal S256x3072 .bf16) (w : Vec Ideal S3072x512 .bf16) : FVec Ideal S1x256x512 .f32 :=
  have s' : FVec Ideal S256x512 .f32 := shapeCast S256x512 s shapeCasts_S1x256x512_S256x512
  have z : FVec Ideal S256x512 .f32 := constant S256x512 .f32 0x00000000#32
  have d : FVec Ideal S256x512 .f32 := matmul (φ₁ := .bf16) (φ₂ := .bf16) dot_S256x3072_S3072x512_S256x512_1_0_0_1_n_n none a w z
  have e : FVec Ideal S256x512 .f32 := addf s' d
  shapeCast S1x256x512 e shapeCasts_S256x512_S1x256x512

theorem nextTile_at (s : Vec Ideal S1x256x512 .f32) (a : Vec Ideal S256x3072 .bf16) (w : Vec Ideal S3072x512 .bf16) (r : Fin 256) (q : Fin 512) :
    nextTile s a w (ix3 0 r q) = ((s (ix3 0 r q) : EReal) + ∑ k : Fin 3072, (a (ix2 r k) : EReal) * w (ix2 k q) : EReal) := by
  unfold nextTile
  pointwise

/-- A tile of the output: the residual plus the gate times the sum and the bias. -/
def outTile (s : Vec Ideal S1x256x512 .f32) (b g : Vec Ideal S1x1x512 .f32) (x : Vec Ideal S256x512 .bf16) : FVec Ideal S256x512 .bf16 :=
  have s' : FVec Ideal S256x512 .f32 := shapeCast S256x512 s shapeCasts_S1x256x512_S256x512
  have b' : FVec Ideal S1x512 .f32 := shapeCast S1x512 b shapeCasts_S1x1x512_S1x512
  have b'' : FVec Ideal S256x512 .f32 := broadcastTo S256x512 b' broadcasts_S1x512_S256x512
  have y : FVec Ideal S256x512 .f32 := addf s' b''
  have g' : FVec Ideal S1x512 .f32 := shapeCast S1x512 g shapeCasts_S1x1x512_S1x512
  have x' : FVec Ideal S256x512 .f32 := extf .f32 x bitsLt_bf16_f32
  have g'' : FVec Ideal S256x512 .f32 := broadcastTo S256x512 g' broadcasts_S1x512_S256x512
  have u : FVec Ideal S256x512 .f32 := mulf g'' y
  have v : FVec Ideal S256x512 .f32 := addf x' u
  truncf .bf16 v bitsLt_bf16_f32

theorem outTile_at (s : Vec Ideal S1x256x512 .f32) (b g : Vec Ideal S1x1x512 .f32) (x : Vec Ideal S256x512 .bf16) (r : Fin 256) (q : Fin 512) :
    outTile s b g x (ix2 r q)
      = ((x (ix2 r q) : EReal) + (g (ix3 0 0 q) : EReal) * ((s (ix3 0 r q) : EReal) + (b (ix3 0 0 q) : EReal)) : EReal) := by
  unfold outTile
  pointwise

/-- Entry `(r, q)` of the product of 3072 columns with a block of widened weights. -/
def prod (a : Vec Ideal S1536x3072 .bf16) (x2 : Vec Ideal S3072x512 .fp8e4m3) (x3 : Vec Ideal S96x512 .i8) (r : Fin 1536) (q : Fin 512) : EReal :=
  ∑ k : Fin 3072, (a (ix2 r k) : EReal) * weight x2 x3 k q

theorem rows_inb (n o : Nat) (hn : n < 6) (ho : o + 256 ≤ 1536) : ∀ a, (![n, o, 0] : Fin 3 → Nat) a + S1x256x512.size a ≤ S6x1536x512.size a
  | ⟨0, _⟩ => by show n + 1 ≤ 6; omega
  | ⟨1, _⟩ => ho
  | ⟨2, _⟩ => by show 0 + 512 ≤ 512; omega

/-- The stores of one tile of running sums: six blocks of 256 rows of tile `n`, last first. -/
def rows (n : Nat) (hn : n < 6) (P0 P1 P2 P3 P4 P5 : Vec Ideal S1x256x512 .f32) : List (View.Piece (Elt Ideal) S6x1536x512 .f32) :=
  [⟨Rect.unit (s := S6x1536x512) ![n, 1280, 0] S1x256x512.size (rows_inb n 1280 hn (by decide)), P5⟩,
   ⟨Rect.unit (s := S6x1536x512) ![n, 1024, 0] S1x256x512.size (rows_inb n 1024 hn (by decide)), P4⟩,
   ⟨Rect.unit (s := S6x1536x512) ![n, 768, 0] S1x256x512.size (rows_inb n 768 hn (by decide)), P3⟩,
   ⟨Rect.unit (s := S6x1536x512) ![n, 512, 0] S1x256x512.size (rows_inb n 512 hn (by decide)), P2⟩,
   ⟨Rect.unit (s := S6x1536x512) ![n, 256, 0] S1x256x512.size (rows_inb n 256 hn (by decide)), P1⟩,
   ⟨Rect.unit (s := S6x1536x512) ![n, 0, 0] S1x256x512.size (rows_inb n 0 hn (by decide)), P0⟩]

section
variable (n : Nat) (hn : n < 6) (P0 P1 P2 P3 P4 P5 : Vec Ideal S1x256x512 .f32)

theorem mem_block (o : Nat) (ho : o + 256 ≤ 1536) (y : S6x1536x512.Idx) (h0 : (y 0).val = n) (h1 : o ≤ (y 1).val) (h2 : (y 1).val < o + 256) :
    y ∈ (Rect.unit (s := S6x1536x512) ![n, o, 0] S1x256x512.size (rows_inb n o hn ho)).set :=
  Rect.mem_set_unit.mpr fun a => by
    have h3 : (y 2).val < 512 := (y 2).isLt
    match a with
    | ⟨0, _⟩ => exact ⟨by show n ≤ (y 0).val; omega, by show (y 0).val < n + 1; omega⟩
    | ⟨1, _⟩ => exact ⟨h1, h2⟩
    | ⟨2, _⟩ => exact ⟨Nat.zero_le _, by show (y 2).val < 0 + 512; omega⟩

/-- The stores cover tile `n`, -/
theorem rows_cover (y : S6x1536x512.Idx) (h : (y 0).val = n) : ∃ p ∈ rows n hn P0 P1 P2 P3 P4 P5, y ∈ p.1.set := by
  have h1 : (y 1).val < 1536 := (y 1).isLt
  unfold rows
  by_cases h5 : 1280 ≤ (y 1).val
  · exact ⟨_, .head _, mem_block n hn 1280 (by decide) y h h5 (by omega)⟩
  by_cases h4 : 1024 ≤ (y 1).val
  · exact ⟨_, .tail _ (.head _), mem_block n hn 1024 (by decide) y h h4 (by omega)⟩
  by_cases h3 : 768 ≤ (y 1).val
  · exact ⟨_, .tail _ (.tail _ (.head _)), mem_block n hn 768 (by decide) y h h3 (by omega)⟩
  by_cases h2 : 512 ≤ (y 1).val
  · exact ⟨_, .tail _ (.tail _ (.tail _ (.head _))), mem_block n hn 512 (by decide) y h h2 (by omega)⟩
  by_cases h2 : 256 ≤ (y 1).val
  · exact ⟨_, .tail _ (.tail _ (.tail _ (.tail _ (.head _)))), mem_block n hn 256 (by decide) y h h2 (by omega)⟩
  · exact ⟨_, .tail _ (.tail _ (.tail _ (.tail _ (.tail _ (.head _))))), mem_block n hn 0 (by decide) y h (by omega) (by omega)⟩

theorem not_mem_block (o : Nat) (ho : o + 256 ≤ 1536) (y : S6x1536x512.Idx) (h0 : (y 0).val ≠ n) :
    y ∉ (Rect.unit (s := S6x1536x512) ![n, o, 0] S1x256x512.size (rows_inb n o hn ho)).set := fun h => by
  have h := Rect.mem_set_unit.mp h 0
  have ha : n ≤ (y 0).val := h.1
  have hb : (y 0).val < n + 1 := h.2
  omega

/-- and nothing else. -/
theorem rows_others (y : S6x1536x512.Idx) (h : (y 0).val ≠ n) : ∀ p ∈ rows n hn P0 P1 P2 P3 P4 P5, y ∉ p.1.set := by
  intro p hp
  unfold rows at hp
  simp only [List.mem_cons, List.not_mem_nil, or_false] at hp
  rcases hp with rfl | rfl | rfl | rfl | rfl | rfl <;> exact not_mem_block n hn _ (by decide) y h

variable (G : S6x1536x512.Idx → EReal)

/-- What a block of 256 rows of tile `n` should hold, for contents `G`. -/
def Holds (o : Nat) (ho : o + 256 ≤ 1536) (P : Vec Ideal S1x256x512 .f32) : Prop :=
  ∀ (r : Fin 256) (q : Fin 512), (P (ix3 0 r q) : EReal) = G (ix3 ⟨n, hn⟩ ⟨o + r.val, by omega⟩ q)

theorem Holds.emb {n hn G} {o : Nat} {ho : o + 256 ≤ 1536} {P : Vec Ideal S1x256x512 .f32} (h : Holds n hn G o ho P) (x : S1x256x512.Idx) :
    P x = G ((Rect.unit (s := S6x1536x512) ![n, o, 0] S1x256x512.size (rows_inb n o hn ho)).emb x) := by
  have hx0 : (x 0).val < 1 := (x 0).isLt
  have hx : x = ix3 0 (⟨(x 1).val, (x 1).isLt⟩ : Fin 256) (⟨(x 2).val, (x 2).isLt⟩ : Fin 512) := by
    funext a
    match a with
    | ⟨0, _⟩ => exact Fin.ext (by show (x 0).val = 0; omega)
    | ⟨1, _⟩ => rfl
    | ⟨2, _⟩ => rfl
  refine ((congrArg P hx).trans (h _ _)).trans (congrArg G ?_)
  funext a
  match a with
  | ⟨0, _⟩ => exact Fin.ext (by show n = n + 1 * (x 0).val; omega)
  | ⟨1, _⟩ => exact Fin.ext (by show o + (x 1).val = o + 1 * (x 1).val; omega)
  | ⟨2, _⟩ => exact Fin.ext (by show (x 2).val = 0 + 1 * (x 2).val; omega)

variable {P0 P1 P2 P3 P4 P5} {G}

theorem rows_pieces (h0 : Holds n hn G 0 (by decide) P0) (h1 : Holds n hn G 256 (by decide) P1) (h2 : Holds n hn G 512 (by decide) P2)
    (h3 : Holds n hn G 768 (by decide) P3) (h4 : Holds n hn G 1024 (by decide) P4) (h5 : Holds n hn G 1280 (by decide) P5) :
    View.PiecesOf (Val := Elt Ideal) (e := .f32) G (rows n hn P0 P1 P2 P3 P4 P5) :=
  ⟨h5.emb, h4.emb, h3.emb, h2.emb, h1.emb, h0.emb, trivial⟩

/-- The running sums after the stores: `G` in tile `n`, what they were elsewhere. -/
theorem rows_read (v : View sig .tc .vmem S6x1536x512 .f32) (f : v.ty.Contents (Elt Ideal))
    (h0 : Holds n hn G 0 (by decide) P0) (h1 : Holds n hn G 256 (by decide) P1) (h2 : Holds n hn G 512 (by decide) P2)
    (h3 : Holds n hn G 768 (by decide) P3) (h4 : Holds n hn G 1024 (by decide) P4) (h5 : Holds n hn G 1280 (by decide) P5)
    (y : S6x1536x512.Idx) :
    v.read (Elt Ideal) (v.writes (Elt Ideal) f (rows n hn P0 P1 P2 P3 P4 P5)) y = if (y 0).val = n then G y else v.read (Elt Ideal) f y := by
  split_ifs with h
  · rw [View.read_writes_apply_eq_canon v f y _ (rows_cover n hn P0 P1 P2 P3 P4 P5 y h)]
    exact View.canon_append_of_piecesOf (Val := Elt Ideal) (e := .f32) G [] _ (rows_pieces n hn h0 h1 h2 h3 h4 h5) y (rows_cover n hn P0 P1 P2 P3 P4 P5 y h)
  · exact View.read_writes_apply_of_forall_not_mem v f y _ (rows_others n hn P0 P1 P2 P3 P4 P5 y h)

/-- A block of 256 rows of the tile, loaded after the stores: `G` there. -/
theorem rows_load (v : View sig .tc .vmem S6x1536x512 .f32)
    (h0 : Holds n hn G 0 (by decide) P0) (h1 : Holds n hn G 256 (by decide) P1) (h2 : Holds n hn G 512 (by decide) P2)
    (h3 : Holds n hn G 768 (by decide) P3) (h4 : Holds n hn G 1024 (by decide) P4) (h5 : Holds n hn G 1280 (by decide) P5)
    (o : Nat) (ho : o + 256 ≤ 1536) :
    Holds n hn G o ho (v.readCov (Val := Elt Ideal) (rows n hn P0 P1 P2 P3 P4 P5)
      (Rect.unit (s := S6x1536x512) ![n, o, 0] S1x256x512.size (rows_inb n o hn ho)).toLoadRect) := fun r q => by
  rw [View.readCov_eq_canon']
  have e : (Rect.unit (s := S6x1536x512) ![n, o, 0] S1x256x512.size (rows_inb n o hn ho)).toLoadRect.idx (ix3 0 r q)
      = ix3 ⟨n, hn⟩ ⟨o + r.val, by omega⟩ q := by
    funext a
    match a with
    | ⟨0, _⟩ => exact Fin.ext (by show n + 1 * 0 = n; omega)
    | ⟨1, _⟩ => exact Fin.ext (by show o + 1 * r.val = o + r.val; omega)
    | ⟨2, _⟩ => exact Fin.ext (by show 0 + 1 * q.val = q.val; omega)
  refine (congrArg (View.canon _) e).trans ?_
  exact View.canon_append_of_piecesOf (Val := Elt Ideal) (e := .f32) G [] _ (rows_pieces n hn h0 h1 h2 h3 h4 h5) _
    (rows_cover n hn P0 P1 P2 P3 P4 P5 _ rfl)

end

end Cert.OutIdeal.Block

end
-- ==== Proof.OBlock.lean ====
/-
  The running sums and the output block after one grid point of the output projection, as functions of what the point found.
-/
module

public import proofs.«01_k».proof.Proof.OTiles

@[expose] public section

set_option maxRecDepth 16384

noncomputable section

namespace Cert.OutIdeal.Block

open Cert.OutIdeal Cert.OutIdeal.Gen Cert.OutIdeal.Run Idealize.ShloMosaic Idealize.ShloMosaic.TcCoe Idealize.SL.Sem
open Cert.Scale Cert.OutIdeal.Weights

/-- The tile of running sums a point works on, as the body computes it, -/
def tile (i : grid0.Coords) : Nat := (Scalar.indexCast (BitVec.ofNat 32 (i 1).val)).toNat

/-- is its second coordinate. -/
theorem tile_eq (i : grid0.Coords) : tile i = (i 1).val := by
  have h : (i 1).val < 6 := (i 1).isLt
  show (BitVec.ofNat 32 (i 1).val).toNat = (i 1).val
  rw [BitVec.toNat_ofNat]
  omega

theorem tile_lt (i : grid0.Coords) : tile i < 6 := by
  have h : (i 1).val < 6 := (i 1).isLt
  rw [tile_eq]
  exact h

theorem a_inb (r : Nat) (hr : r + 256 ≤ 1536) : ∀ a, (![r, 0] : Fin 2 → Nat) a + S256x3072.size a ≤ S1536x3072.size a
  | ⟨0, _⟩ => hr
  | ⟨1, _⟩ => by show 0 + 3072 ≤ 3072; omega

theorem x_inb (r : Nat) (hr : r + 256 ≤ 1536) : ∀ a, (![r, 0] : Fin 2 → Nat) a + S256x512.size a ≤ S1536x512.size a
  | ⟨0, _⟩ => hr
  | ⟨1, _⟩ => by show 0 + 512 ≤ 512; omega

theorem b_inb : ∀ a, (![0, 0, 0] : Fin 3 → Nat) a + S1x1x512.size a ≤ S1x1x512.size a
  | ⟨0, _⟩ => by show 0 + 1 ≤ 1; omega
  | ⟨1, _⟩ => by show 0 + 1 ≤ 1; omega
  | ⟨2, _⟩ => by show 0 + 512 ≤ 512; omega

theorem g_inb (h : Nat) (hh : h < 2) : ∀ a, (![h, 0, 0] : Fin 3 → Nat) a + S1x1x512.size a ≤ S2x1x512.size a
  | ⟨0, _⟩ => by show h + 1 ≤ 2; omega
  | ⟨1, _⟩ => by show 0 + 1 ≤ 1; omega
  | ⟨2, _⟩ => by show 0 + 512 ≤ 512; omega

variable (c : Dev nD) (i : grid0.Coords)
  (arg2 : Memref sig .tc .vmem S1536x3072 .bf16) (harg2 : arg2.IsWhole) (arg3 : Memref sig .tc .vmem S1536x3072 .bf16) (harg3 : arg3.IsWhole)
  (arg4 : Memref sig .tc .vmem S3072x512 .fp8e4m3) (harg4 : arg4.IsWhole) (arg5 : Memref sig .tc .vmem S96x512 .i8) (harg5 : arg5.IsWhole)
  (arg6 : Memref sig .tc .vmem S1536x512 .bf16) (harg6 : arg6.IsWhole) (arg7 : Memref sig .tc .vmem S2x1x512 .f32) (harg7 : arg7.IsWhole)
  (arg8 : Memref sig .tc .vmem S1x1x512 .f32) (harg8 : arg8.IsWhole) (arg9 : Memref sig .tc .vmem S1536x512 .bf16) (harg9 : arg9.IsWhole)
  (arg10 : Memref sig .tc .vmem S6x1536x512 .f32) (harg10 : arg10.IsWhole) (arg11 : Memref sig .tc .vmem S3072x512 .bf16) (harg11 : arg11.IsWhole)
  (arg12 : Memref sig .tc .vmem S96x512 .i32) (harg12 : arg12.IsWhole)
  (x0 x1 : Vec Ideal S1536x3072 .bf16) (x2 : Vec Ideal S3072x512 .fp8e4m3) (x3 : Vec Ideal S96x512 .i8) (x4 : Vec Ideal S1536x512 .bf16)
  (x5 : Vec Ideal S2x1x512 .f32) (x6 : Vec Ideal S1x1x512 .f32) (d9 : Vec Ideal S1536x512 .bf16) (d10 : Vec Ideal S6x1536x512 .f32)

/-- The running sums of the first round, -/
def firstSum (y : S6x1536x512.Idx) : EReal := prod x0 x2 x3 (y 1) (y 2)

/-- and of a later one, over the sums the point found. -/
def nextSum (y : S6x1536x512.Idx) : EReal := (d10 y : EReal) + prod x1 x2 x3 (y 1) (y 2)

/-- The block of the output, from the final sums. -/
def outBlock (s : Fin 1536 → Fin 512 → EReal) (y : S1536x512.Idx) : EReal :=
  (x4 y : EReal) + (x5 (ix3 ⟨(y 0).val / 768, by have h : (y 0).val < 1536 := (y 0).isLt; omega⟩ 0 (y 1)) : EReal)
    * (s (y 0) (y 1) + (x6 (ix3 0 0 (y 1)) : EReal))

theorem load_a (arg : Memref sig .tc .vmem S1536x3072 .bf16) (harg : arg.IsWhole) (x : Vec Ideal S1536x3072 .bf16) (o : Nat) (ho : o + 256 ≤ 1536)
    (r : Fin 256) (k : Fin 3072) :
    (View.readAt (Elt Ideal) arg.view (Rect.unit (s := S1536x3072) ![o, 0] S256x3072.size (a_inb o ho)).toLoadRect (harg.unread x) : Vec Ideal S256x3072 .bf16) (ix2 r k)
      = x (ix2 ⟨o + r.val, by omega⟩ k) :=
  (harg.readAt_unread x _ _).trans (congrArg x (by
    funext a
    match a with
    | ⟨0, _⟩ => exact Fin.ext (by show o + 1 * r.val = o + r.val; omega)
    | ⟨1, _⟩ => exact Fin.ext (by show 0 + 1 * k.val = k.val; omega)))

theorem first_holds (o : Nat) (ho : o + 256 ≤ 1536) :
    Holds (tile i) (tile_lt i) (firstSum x0 x2 x3) o ho
      (firstTile (View.readAt (Elt Ideal) arg2.view (Rect.unit (s := S1536x3072) ![o, 0] S256x3072.size (a_inb o ho)).toLoadRect (harg2.unread x0))
        (scratch c arg4 harg4 arg5 harg5 arg11 arg12 x2 x3)) := fun r q => by
  refine (firstTile_at _ _ r q).trans ?_
  show _ = prod x0 x2 x3 ⟨o + r.val, by omega⟩ q
  unfold prod
  refine Finset.sum_congr rfl fun k _ => congrArg₂ (fun u v : EReal => u * v) ?_ ?_
  · exact load_a arg2 harg2 x0 o ho r k
  · exact scratch_at c arg4 harg4 arg5 harg5 arg11 arg12 x2 x3 k q

theorem next_holds (o : Nat) (ho : o + 256 ≤ 1536) :
    Holds (tile i) (tile_lt i) (nextSum x1 x2 x3 d10) o ho
      (nextTile (View.readAt (Elt Ideal) arg10.view (Rect.unit (s := S6x1536x512) ![tile i, o, 0] S1x256x512.size (rows_inb (tile i) o (tile_lt i) ho)).toLoadRect (harg10.unread d10))
        (View.readAt (Elt Ideal) arg3.view (Rect.unit (s := S1536x3072) ![o, 0] S256x3072.size (a_inb o ho)).toLoadRect (harg3.unread x1))
        (scratch c arg4 harg4 arg5 harg5 arg11 arg12 x2 x3)) := fun r q => by
  refine (nextTile_at _ _ _ r q).trans ?_
  show _ = (d10 (ix3 ⟨tile i, tile_lt i⟩ ⟨o + r.val, by omega⟩ q) : EReal) + prod x1 x2 x3 ⟨o + r.val, by omega⟩ q
  unfold prod
  refine congrArg₂ (fun u v : EReal => u + v) ?_ (Finset.sum_congr rfl fun k _ => congrArg₂ (fun u v : EReal => u * v) ?_ ?_)
  · refine (harg10.readAt_unread d10 _ _).trans (congrArg d10 ?_)
    funext a
    match a with
    | ⟨0, _⟩ => exact Fin.ext (by show tile i + 1 * 0 = tile i; omega)
    | ⟨1, _⟩ => exact Fin.ext (by show o + 1 * r.val = o + r.val; omega)
    | ⟨2, _⟩ => exact Fin.ext (by show 0 + 1 * q.val = q.val; omega)
  · exact load_a arg3 harg3 x1 o ho r k
  · exact scratch_at c arg4 harg4 arg5 harg5 arg11 arg12 x2 x3 k q

/-- The stores of the first round. -/
def firstStores : List (View.Piece (Elt Ideal) S6x1536x512 .f32) :=
  rows (tile i) (tile_lt i)
    (firstTile (View.readAt (Elt Ideal) arg2.view (Rect.unit (s := S1536x3072) ![0, 0] S256x3072.size (a_inb 0 (by decide))).toLoadRect (harg2.unread x0))
      (scratch c arg4 harg4 arg5 harg5 arg11 arg12 x2 x3))
    (firstTile (View.readAt (Elt Ideal) arg2.view (Rect.unit (s := S1536x3072) ![256, 0] S256x3072.size (a_inb 256 (by decide))).toLoadRect (harg2.unread x0))
      (scratch c arg4 harg4 arg5 harg5 arg11 arg12 x2 x3))
    (firstTile (View.readAt (Elt Ideal) arg2.view (Rect.unit (s := S1536x3072) ![512, 0] S256x3072.size (a_inb 512 (by decide))).toLoadRect (harg2.unread x0))
      (scratch c arg4 harg4 arg5 harg5 arg11 arg12 x2 x3))
    (firstTile (View.readAt (Elt Ideal) arg2.view (Rect.unit (s := S1536x3072) ![768, 0] S256x3072.size (a_inb 768 (by decide))).toLoadRect (harg2.unread x0))
      (scratch c arg4 harg4 arg5 harg5 arg11 arg12 x2 x3))
    (firstTile (View.readAt (Elt Ideal) arg2.view (Rect.unit (s := S1536x3072) ![1024, 0] S256x3072.size (a_inb 1024 (by decide))).toLoadRect (harg2.unread x0))
      (scratch c arg4 harg4 arg5 harg5 arg11 arg12 x2 x3))
    (firstTile (View.readAt (Elt Ideal) arg2.view (Rect.unit (s := S1536x3072) ![1280, 0] S256x3072.size (a_inb 1280 (by decide))).toLoadRect (harg2.unread x0))
      (scratch c arg4 harg4 arg5 harg5 arg11 arg12 x2 x3))

/-- The stores of a later round. -/
def nextStores : List (View.Piece (Elt Ideal) S6x1536x512 .f32) :=
  rows (tile i) (tile_lt i)
    (nextTile (View.readAt (Elt Ideal) arg10.view (Rect.unit (s := S6x1536x512) ![tile i, 0, 0] S1x256x512.size (rows_inb (tile i) 0 (tile_lt i) (by decide))).toLoadRect (harg10.unread d10))
      (View.readAt (Elt Ideal) arg3.view (Rect.unit (s := S1536x3072) ![0, 0] S256x3072.size (a_inb 0 (by decide))).toLoadRect (harg3.unread x1)) (scratch c arg4 harg4 arg5 harg5 arg11 arg12 x2 x3))
    (nextTile (View.readAt (Elt Ideal) arg10.view (Rect.unit (s := S6x1536x512) ![tile i, 256, 0] S1x256x512.size (rows_inb (tile i) 256 (tile_lt i) (by decide))).toLoadRect (harg10.unread d10))
      (View.readAt (Elt Ideal) arg3.view (Rect.unit (s := S1536x3072) ![256, 0] S256x3072.size (a_inb 256 (by decide))).toLoadRect (harg3.unread x1)) (scratch c arg4 harg4 arg5 harg5 arg11 arg12 x2 x3))
    (nextTile (View.readAt (Elt Ideal) arg10.view (Rect.unit (s := S6x1536x512) ![tile i, 512, 0] S1x256x512.size (rows_inb (tile i) 512 (tile_lt i) (by decide))).toLoadRect (harg10.unread d10))
      (View.readAt (Elt Ideal) arg3.view (Rect.unit (s := S1536x3072) ![512, 0] S256x3072.size (a_inb 512 (by decide))).toLoadRect (harg3.unread x1)) (scratch c arg4 harg4 arg5 harg5 arg11 arg12 x2 x3))
    (nextTile (View.readAt (Elt Ideal) arg10.view (Rect.unit (s := S6x1536x512) ![tile i, 768, 0] S1x256x512.size (rows_inb (tile i) 768 (tile_lt i) (by decide))).toLoadRect (harg10.unread d10))
      (View.readAt (Elt Ideal) arg3.view (Rect.unit (s := S1536x3072) ![768, 0] S256x3072.size (a_inb 768 (by decide))).toLoadRect (harg3.unread x1)) (scratch c arg4 harg4 arg5 harg5 arg11 arg12 x2 x3))
    (nextTile (View.readAt (Elt Ideal) arg10.view (Rect.unit (s := S6x1536x512) ![tile i, 1024, 0] S1x256x512.size (rows_inb (tile i) 1024 (tile_lt i) (by decide))).toLoadRect (harg10.unread d10))
      (View.readAt (Elt Ideal) arg3.view (Rect.unit (s := S1536x3072) ![1024, 0] S256x3072.size (a_inb 1024 (by decide))).toLoadRect (harg3.unread x1)) (scratch c arg4 harg4 arg5 harg5 arg11 arg12 x2 x3))
    (nextTile (View.readAt (Elt Ideal) arg10.view (Rect.unit (s := S6x1536x512) ![tile i, 1280, 0] S1x256x512.size (rows_inb (tile i) 1280 (tile_lt i) (by decide))).toLoadRect (harg10.unread d10))
      (View.readAt (Elt Ideal) arg3.view (Rect.unit (s := S1536x3072) ![1280, 0] S256x3072.size (a_inb 1280 (by decide))).toLoadRect (harg3.unread x1)) (scratch c arg4 harg4 arg5 harg5 arg11 arg12 x2 x3))

set_option maxHeartbeats 8000000 in
theorem storesA_eq (hc1 : k0_cond1 i = 1#1) (hc2 : ¬ k0_cond2 i = 1#1) (hc3 : ¬ k0_cond3 i = 1#1) :
    (runA (F := Ideal) c i hc1 hc2 hc3 arg2 harg2 arg3 harg3 arg4 harg4 arg5 harg5 arg6 harg6 arg7 harg7 arg8 harg8 arg9 harg9 arg10 harg10 arg11 harg11 arg12 harg12 x0 x1 x2 x3 x4 x5 x6 d9 d10).1 = firstStores c i arg2 harg2 arg4 harg4 arg5 harg5 arg11 arg12 x0 x2 x3 := by
  sl_kernel_rfl

set_option maxHeartbeats 8000000 in
theorem storesB_eq (hc1 : ¬ k0_cond1 i = 1#1) (hc2 : k0_cond2 i = 1#1) (hc3 : ¬ k0_cond3 i = 1#1) :
    (runB (F := Ideal) c i hc1 hc2 hc3 arg2 harg2 arg3 harg3 arg4 harg4 arg5 harg5 arg6 harg6 arg7 harg7 arg8 harg8 arg9 harg9 arg10 harg10 arg11 harg11 arg12 harg12 x0 x1 x2 x3 x4 x5 x6 d9 d10).1 = nextStores c i arg3 harg3 arg4 harg4 arg5 harg5 arg10 harg10 arg11 arg12 x1 x2 x3 d10 := by
  sl_kernel_rfl

set_option maxHeartbeats 8000000 in
theorem storesC_eq (hc1 : ¬ k0_cond1 i = 1#1) (hc2 : k0_cond2 i = 1#1) (hc3 : k0_cond3 i = 1#1) :
    (runC (F := Ideal) c i hc1 hc2 hc3 arg2 harg2 arg3 harg3 arg4 harg4 arg5 harg5 arg6 harg6 arg7 harg7 arg8 harg8 arg9 harg9 arg10 harg10 arg11 harg11 arg12 harg12 x0 x1 x2 x3 x4 x5 x6 d9 d10).1 = nextStores c i arg3 harg3 arg4 harg4 arg5 harg5 arg10 harg10 arg11 arg12 x1 x2 x3 d10 := by
  sl_kernel_rfl

/-- The running sums after a point of the first round: the product in the point's tile, what they were elsewhere. -/
theorem firstStores_read (y : S6x1536x512.Idx) :
    arg10.view.read (Elt Ideal) (arg10.view.writes (Elt Ideal) (harg10.unread d10) (firstStores c i arg2 harg2 arg4 harg4 arg5 harg5 arg11 arg12 x0 x2 x3)) y
      = if (y 0).val = tile i then firstSum x0 x2 x3 y else d10 y := by
  have H := first_holds c i arg2 harg2 arg4 harg4 arg5 harg5 arg11 arg12 x0 x2 x3
  unfold firstStores
  rw [rows_read (tile i) (tile_lt i) arg10.view (harg10.unread d10) (H 0 (by decide)) (H 256 (by decide)) (H 512 (by decide)) (H 768 (by decide))
    (H 1024 (by decide)) (H 1280 (by decide)) y, harg10.read_unread]

/-- The running sums after a point of a later round. -/
theorem nextStores_read (y : S6x1536x512.Idx) :
    arg10.view.read (Elt Ideal) (arg10.view.writes (Elt Ideal) (harg10.unread d10) (nextStores c i arg3 harg3 arg4 harg4 arg5 harg5 arg10 harg10 arg11 arg12 x1 x2 x3 d10)) y
      = if (y 0).val = tile i then nextSum x1 x2 x3 d10 y else d10 y := by
  have H := next_holds c i arg3 harg3 arg4 harg4 arg5 harg5 arg10 harg10 arg11 arg12 x1 x2 x3 d10
  unfold nextStores
  rw [rows_read (tile i) (tile_lt i) arg10.view (harg10.unread d10) (H 0 (by decide)) (H 256 (by decide)) (H 512 (by decide)) (H 768 (by decide))
    (H 1024 (by decide)) (H 1280 (by decide)) y, harg10.read_unread]

end Cert.OutIdeal.Block

end
-- ==== Proof.OLast.lean ====
/-
  The output block after a point of the last round of the output projection.
-/
module

public import proofs.«01_k».proof.Proof.OBlock

@[expose] public section

set_option maxRecDepth 16384

noncomputable section

namespace Cert.OutIdeal.Block

open Cert.OutIdeal Cert.OutIdeal.Gen Cert.OutIdeal.Run Idealize.ShloMosaic Idealize.ShloMosaic.TcCoe Idealize.SL.Sem
open Cert.Scale Cert.OutIdeal.Weights

variable (c : Dev nD) (i : grid0.Coords)
  (arg2 : Memref sig .tc .vmem S1536x3072 .bf16) (harg2 : arg2.IsWhole) (arg3 : Memref sig .tc .vmem S1536x3072 .bf16) (harg3 : arg3.IsWhole)
  (arg4 : Memref sig .tc .vmem S3072x512 .fp8e4m3) (harg4 : arg4.IsWhole) (arg5 : Memref sig .tc .vmem S96x512 .i8) (harg5 : arg5.IsWhole)
  (arg6 : Memref sig .tc .vmem S1536x512 .bf16) (harg6 : arg6.IsWhole) (arg7 : Memref sig .tc .vmem S2x1x512 .f32) (harg7 : arg7.IsWhole)
  (arg8 : Memref sig .tc .vmem S1x1x512 .f32) (harg8 : arg8.IsWhole) (arg9 : Memref sig .tc .vmem S1536x512 .bf16) (harg9 : arg9.IsWhole)
  (arg10 : Memref sig .tc .vmem S6x1536x512 .f32) (harg10 : arg10.IsWhole) (arg11 : Memref sig .tc .vmem S3072x512 .bf16) (harg11 : arg11.IsWhole)
  (arg12 : Memref sig .tc .vmem S96x512 .i32) (harg12 : arg12.IsWhole)
  (x0 x1 : Vec Ideal S1536x3072 .bf16) (x2 : Vec Ideal S3072x512 .fp8e4m3) (x3 : Vec Ideal S96x512 .i8) (x4 : Vec Ideal S1536x512 .bf16)
  (x5 : Vec Ideal S2x1x512 .f32) (x6 : Vec Ideal S1x1x512 .f32) (d9 : Vec Ideal S1536x512 .bf16) (d10 : Vec Ideal S6x1536x512 .f32)

/-- What one store of 256 rows of the output holds. -/
theorem out_piece (o h : Nat) (ho : o + 256 ≤ 1536) (hh : h < 2) (hoh : ∀ r : Nat, r < 256 → (o + r) / 768 = h) (x : S256x512.Idx) :
    outTile (arg10.view.readCov (Val := Elt Ideal) (nextStores c i arg3 harg3 arg4 harg4 arg5 harg5 arg10 harg10 arg11 arg12 x1 x2 x3 d10)
          (Rect.unit (s := S6x1536x512) ![tile i, o, 0] S1x256x512.size (rows_inb (tile i) o (tile_lt i) ho)).toLoadRect)
        (View.readAt (Elt Ideal) arg8.view (Rect.unit (s := S1x1x512) ![0, 0, 0] S1x1x512.size b_inb).toLoadRect (harg8.unread x6))
        (View.readAt (Elt Ideal) arg7.view (Rect.unit (s := S2x1x512) ![h, 0, 0] S1x1x512.size (g_inb h hh)).toLoadRect (harg7.unread x5))
        (View.readAt (Elt Ideal) arg6.view (Rect.unit (s := S1536x512) ![o, 0] S256x512.size (x_inb o ho)).toLoadRect (harg6.unread x4)) x
      = outBlock x4 x5 x6 (fun r q => nextSum x1 x2 x3 d10 (ix3 ⟨tile i, tile_lt i⟩ r q)) ((Rect.unit (s := S1536x512) ![o, 0] S256x512.size (x_inb o ho)).emb x) := by
  have hx0 : (x 0).val < 256 := (x 0).isLt
  have hx1 : (x 1).val < 512 := (x 1).isLt
  have hx : x = ix2 (⟨(x 0).val, hx0⟩ : Fin 256) (⟨(x 1).val, hx1⟩ : Fin 512) := by
    funext a
    match a with
    | ⟨0, _⟩ => rfl
    | ⟨1, _⟩ => rfl
  have hy : (Rect.unit (s := S1536x512) ![o, 0] S256x512.size (x_inb o ho)).emb x
      = ix2 (⟨o + (x 0).val, by omega⟩ : Fin 1536) (⟨(x 1).val, hx1⟩ : Fin 512) := by
    funext a
    match a with
    | ⟨0, _⟩ => exact Fin.ext (by show o + 1 * (x 0).val = o + (x 0).val; omega)
    | ⟨1, _⟩ => exact Fin.ext (by show 0 + 1 * (x 1).val = (x 1).val; omega)
  have H := next_holds c i arg3 harg3 arg4 harg4 arg5 harg5 arg10 harg10 arg11 arg12 x1 x2 x3 d10
  have L := rows_load (tile i) (tile_lt i) arg10.view (H 0 (by decide)) (H 256 (by decide)) (H 512 (by decide)) (H 768 (by decide))
    (H 1024 (by decide)) (H 1280 (by decide)) o ho ⟨(x 0).val, hx0⟩ ⟨(x 1).val, hx1⟩
  refine (congrArg _ hx).trans ((outTile_at _ _ _ _ _ _).trans (Eq.trans ?_ (congrArg (outBlock x4 x5 x6 (fun r q => nextSum x1 x2 x3 d10 (ix3 ⟨tile i, tile_lt i⟩ r q))) hy.symm)))
  refine congrArg₂ (fun u v : EReal => u + v) ?_ (congrArg₂ (fun u v : EReal => u * v) ?_ (congrArg₂ (fun u v : EReal => u + v) L ?_))
  · refine (harg6.readAt_unread x4 _ _).trans (congrArg x4 ?_)
    funext a
    match a with
    | ⟨0, _⟩ => exact Fin.ext (by show o + 1 * (x 0).val = o + (x 0).val; omega)
    | ⟨1, _⟩ => exact Fin.ext (by show 0 + 1 * (x 1).val = (x 1).val; omega)
  · refine (harg7.readAt_unread x5 _ _).trans (congrArg x5 ?_)
    funext a
    match a with
    | ⟨0, _⟩ => exact Fin.ext (by have e := hoh (x 0).val hx0; show h + 1 * 0 = (o + (x 0).val) / 768; omega)
    | ⟨1, _⟩ => rfl
    | ⟨2, _⟩ => exact Fin.ext (by show 0 + 1 * (x 1).val = (x 1).val; omega)
  · refine (harg8.readAt_unread x6 _ _).trans (congrArg x6 ?_)
    funext a
    match a with
    | ⟨0, _⟩ => rfl
    | ⟨1, _⟩ => rfl
    | ⟨2, _⟩ => exact Fin.ext (by show 0 + 1 * (x 1).val = (x 1).val; omega)

/-- The stores of the output block, last first. -/
def outStores : List (View.Piece (Elt Ideal) S1536x512 .bf16) :=
  [
    ⟨Rect.unit (s := S1536x512) ![1280, 0] S256x512.size (x_inb 1280 (by decide)),
      outTile (arg10.view.readCov (Val := Elt Ideal) (nextStores c i arg3 harg3 arg4 harg4 arg5 harg5 arg10 harg10 arg11 arg12 x1 x2 x3 d10)
          (Rect.unit (s := S6x1536x512) ![tile i, 1280, 0] S1x256x512.size (rows_inb (tile i) 1280 (tile_lt i) (by decide))).toLoadRect)
        (View.readAt (Elt Ideal) arg8.view (Rect.unit (s := S1x1x512) ![0, 0, 0] S1x1x512.size b_inb).toLoadRect (harg8.unread x6))
        (View.readAt (Elt Ideal) arg7.view (Rect.unit (s := S2x1x512) ![1, 0, 0] S1x1x512.size (g_inb 1 (by decide))).toLoadRect (harg7.unread x5))
        (View.readAt (Elt Ideal) arg6.view (Rect.unit (s := S1536x512) ![1280, 0] S256x512.size (x_inb 1280 (by decide))).toLoadRect (harg6.unread x4))⟩,
    ⟨Rect.unit (s := S1536x512) ![1024, 0] S256x512.size (x_inb 1024 (by decide)),
      outTile (arg10.view.readCov (Val := Elt Ideal) (nextStores c i arg3 harg3 arg4 harg4 arg5 harg5 arg10 harg10 arg11 arg12 x1 x2 x3 d10)
          (Rect.unit (s := S6x1536x512) ![tile i, 1024, 0] S1x256x512.size (rows_inb (tile i) 1024 (tile_lt i) (by decide))).toLoadRect)
        (View.readAt (Elt Ideal) arg8.view (Rect.unit (s := S1x1x512) ![0, 0, 0] S1x1x512.size b_inb).toLoadRect (harg8.unread x6))
        (View.readAt (Elt Ideal) arg7.view (Rect.unit (s := S2x1x512) ![1, 0, 0] S1x1x512.size (g_inb 1 (by decide))).toLoadRect (harg7.unread x5))
        (View.readAt (Elt Ideal) arg6.view (Rect.unit (s := S1536x512) ![1024, 0] S256x512.size (x_inb 1024 (by decide))).toLoadRect (harg6.unread x4))⟩,
    ⟨Rect.unit (s := S1536x512) ![768, 0] S256x512.size (x_inb 768 (by decide)),
      outTile (arg10.view.readCov (Val := Elt Ideal) (nextStores c i arg3 harg3 arg4 harg4 arg5 harg5 arg10 harg10 arg11 arg12 x1 x2 x3 d10)
          (Rect.unit (s := S6x1536x512) ![tile i, 768, 0] S1x256x512.size (rows_inb (tile i) 768 (tile_lt i) (by decide))).toLoadRect)
        (View.readAt (Elt Ideal) arg8.view (Rect.unit (s := S1x1x512) ![0, 0, 0] S1x1x512.size b_inb).toLoadRect (harg8.unread x6))
        (View.readAt (Elt Ideal) arg7.view (Rect.unit (s := S2x1x512) ![1, 0, 0] S1x1x512.size (g_inb 1 (by decide))).toLoadRect (harg7.unread x5))
        (View.readAt (Elt Ideal) arg6.view (Rect.unit (s := S1536x512) ![768, 0] S256x512.size (x_inb 768 (by decide))).toLoadRect (harg6.unread x4))⟩,
    ⟨Rect.unit (s := S1536x512) ![512, 0] S256x512.size (x_inb 512 (by decide)),
      outTile (arg10.view.readCov (Val := Elt Ideal) (nextStores c i arg3 harg3 arg4 harg4 arg5 harg5 arg10 harg10 arg11 arg12 x1 x2 x3 d10)
          (Rect.unit (s := S6x1536x512) ![tile i, 512, 0] S1x256x512.size (rows_inb (tile i) 512 (tile_lt i) (by decide))).toLoadRect)
        (View.readAt (Elt Ideal) arg8.view (Rect.unit (s := S1x1x512) ![0, 0, 0] S1x1x512.size b_inb).toLoadRect (harg8.unread x6))
        (View.readAt (Elt Ideal) arg7.view (Rect.unit (s := S2x1x512) ![0, 0, 0] S1x1x512.size (g_inb 0 (by decide))).toLoadRect (harg7.unread x5))
        (View.readAt (Elt Ideal) arg6.view (Rect.unit (s := S1536x512) ![512, 0] S256x512.size (x_inb 512 (by decide))).toLoadRect (harg6.unread x4))⟩,
    ⟨Rect.unit (s := S1536x512) ![256, 0] S256x512.size (x_inb 256 (by decide)),
      outTile (arg10.view.readCov (Val := Elt Ideal) (nextStores c i arg3 harg3 arg4 harg4 arg5 harg5 arg10 harg10 arg11 arg12 x1 x2 x3 d10)
          (Rect.unit (s := S6x1536x512) ![tile i, 256, 0] S1x256x512.size (rows_inb (tile i) 256 (tile_lt i) (by decide))).toLoadRect)
        (View.readAt (Elt Ideal) arg8.view (Rect.unit (s := S1x1x512) ![0, 0, 0] S1x1x512.size b_inb).toLoadRect (harg8.unread x6))
        (View.readAt (Elt Ideal) arg7.view (Rect.unit (s := S2x1x512) ![0, 0, 0] S1x1x512.size (g_inb 0 (by decide))).toLoadRect (harg7.unread x5))
        (View.readAt (Elt Ideal) arg6.view (Rect.unit (s := S1536x512) ![256, 0] S256x512.size (x_inb 256 (by decide))).toLoadRect (harg6.unread x4))⟩,
    ⟨Rect.unit (s := S1536x512) ![0, 0] S256x512.size (x_inb 0 (by decide)),
      outTile (arg10.view.readCov (Val := Elt Ideal) (nextStores c i arg3 harg3 arg4 harg4 arg5 harg5 arg10 harg10 arg11 arg12 x1 x2 x3 d10)
          (Rect.unit (s := S6x1536x512) ![tile i, 0, 0] S1x256x512.size (rows_inb (tile i) 0 (tile_lt i) (by decide))).toLoadRect)
        (View.readAt (Elt Ideal) arg8.view (Rect.unit (s := S1x1x512) ![0, 0, 0] S1x1x512.size b_inb).toLoadRect (harg8.unread x6))
        (View.readAt (Elt Ideal) arg7.view (Rect.unit (s := S2x1x512) ![0, 0, 0] S1x1x512.size (g_inb 0 (by decide))).toLoadRect (harg7.unread x5))
        (View.readAt (Elt Ideal) arg6.view (Rect.unit (s := S1536x512) ![0, 0] S256x512.size (x_inb 0 (by decide))).toLoadRect (harg6.unread x4))⟩]

set_option maxHeartbeats 8000000 in
theorem outStores_eq (hc1 : ¬ k0_cond1 i = 1#1) (hc2 : k0_cond2 i = 1#1) (hc3 : k0_cond3 i = 1#1) :
    (runC (F := Ideal) c i hc1 hc2 hc3 arg2 harg2 arg3 harg3 arg4 harg4 arg5 harg5 arg6 harg6 arg7 harg7 arg8 harg8 arg9 harg9 arg10 harg10 arg11 harg11 arg12 harg12 x0 x1 x2 x3 x4 x5 x6 d9 d10).2.1 = outStores c i arg3 harg3 arg4 harg4 arg5 harg5 arg6 harg6 arg7 harg7 arg8 harg8 arg10 harg10 arg11 arg12 x1 x2 x3 x4 x5 x6 d10 := by
  sl_kernel_rfl

theorem outStores_pieces : View.PiecesOf (Val := Elt Ideal) (e := .bf16) (outBlock x4 x5 x6 (fun r q => nextSum x1 x2 x3 d10 (ix3 ⟨tile i, tile_lt i⟩ r q))) (outStores c i arg3 harg3 arg4 harg4 arg5 harg5 arg6 harg6 arg7 harg7 arg8 harg8 arg10 harg10 arg11 arg12 x1 x2 x3 x4 x5 x6 d10) := by
  have P := out_piece c i arg3 harg3 arg4 harg4 arg5 harg5 arg6 harg6 arg7 harg7 arg8 harg8 arg10 harg10 arg11 arg12 x1 x2 x3 x4 x5 x6 d10
  unfold outStores
  exact ⟨P 1280 1 (by decide) (by decide) (fun r hr => by omega), P 1024 1 (by decide) (by decide) (fun r hr => by omega), P 768 1 (by decide) (by decide) (fun r hr => by omega), P 512 0 (by decide) (by decide) (fun r hr => by omega), P 256 0 (by decide) (by decide) (fun r hr => by omega), P 0 0 (by decide) (by decide) (fun r hr => by omega), trivial⟩

theorem outStores_cover (y : S1536x512.Idx) : ∃ p ∈ outStores c i arg3 harg3 arg4 harg4 arg5 harg5 arg6 harg6 arg7 harg7 arg8 harg8 arg10 harg10 arg11 arg12 x1 x2 x3 x4 x5 x6 d10, y ∈ p.1.set :=
  View.cover_of_tiledL _ ![256, 512] (by sl_kernel_rfl) y

/-- The output block after the stores: the residual plus the gate times the final sum and the bias. -/
theorem outStores_read (f : arg9.view.ty.Contents (Elt Ideal)) (y : S1536x512.Idx) :
    arg9.view.read (Elt Ideal) (arg9.view.writes (Elt Ideal) f (outStores c i arg3 harg3 arg4 harg4 arg5 harg5 arg6 harg6 arg7 harg7 arg8 harg8 arg10 harg10 arg11 arg12 x1 x2 x3 x4 x5 x6 d10)) y = outBlock x4 x5 x6 (fun r q => nextSum x1 x2 x3 d10 (ix3 ⟨tile i, tile_lt i⟩ r q)) y := by
  have C := outStores_cover c i arg3 harg3 arg4 harg4 arg5 harg5 arg6 harg6 arg7 harg7 arg8 harg8 arg10 harg10 arg11 arg12 x1 x2 x3 x4 x5 x6 d10 y
  rw [View.read_writes_apply_eq_canon arg9.view f y _ C]
  exact View.canon_append_of_piecesOf (Val := Elt Ideal) (e := .bf16) _ [] _ (outStores_pieces c i arg3 harg3 arg4 harg4 arg5 harg5 arg6 harg6 arg7 harg7 arg8 harg8 arg10 harg10 arg11 arg12 x1 x2 x3 x4 x5 x6 d10) y C

end Cert.OutIdeal.Block

end
-- ==== Proof.OFrame.lean ====
/-
  The output projection over the reals: the running sums tracked from point to point, what its output block holds at each
  point of the last round, and the frame.
-/
module

public import proofs.«01_k».proof.Proof.OLast
public import Idealize.ShloMosaic.Lib.Claim

@[expose] public section

set_option maxRecDepth 16384

noncomputable section

namespace Cert.OutIdeal.Run

open Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.OutIdeal.Weights Cert.OutIdeal.Block
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

abbrev ms0_0 (t : Fin cfg0.N) : Memref sig .tc .vmem S1536x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3072x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S96x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1536x512 .bf16 := win0_7.stage (cfg0.slots t 7)
abbrev hs0_7 (t : Fin cfg0.N) : (ms0_7 t).IsWhole := hstage0_7 ((cfg0.slots t 7).cast nbuf0_7)
/-- The scratch operands: the running sums, the widened weights, the words of the scales. -/
abbrev scM0_0 : Memref sig .tc .vmem S6x1536x512 .f32 := Memref.whole cc0_scratch0
abbrev scM0_1 : Memref sig .tc .vmem S3072x512 .bf16 := Memref.whole cc0_scratch1
abbrev scM0_2 : Memref sig .tc .vmem S96x512 .i32 := Memref.whole cc0_scratch2

/-- What the launch hands the body beside the windows: the scratch operands at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- Every point is of the first round, of a round between, or of the last. -/
theorem rounds : ∀ t : Fin cfg0.N,
    (k0_cond1 (grid0.coords t) = 1#1 ∧ ¬ k0_cond2 (grid0.coords t) = 1#1 ∧ ¬ k0_cond3 (grid0.coords t) = 1#1 ∧ t.val < 6)
    ∨ (¬ k0_cond1 (grid0.coords t) = 1#1 ∧ k0_cond2 (grid0.coords t) = 1#1 ∧ ¬ k0_cond3 (grid0.coords t) = 1#1 ∧ 6 ≤ t.val ∧ t.val < 24)
    ∨ (¬ k0_cond1 (grid0.coords t) = 1#1 ∧ k0_cond2 (grid0.coords t) = 1#1 ∧ k0_cond3 (grid0.coords t) = 1#1 ∧ 24 ≤ t.val) := by
  decide +kernel

/-- The output is written at the points of the last round only. -/
theorem idle7 : ∀ t : Fin cfg0.N, cfg0.idle 7 (grid0.coords t) = decide (t.val < 24) := by decide +kernel
theorem flush7 : ∀ t : Fin cfg0.N, (cfg0.win 7).flush t = decide (24 ≤ t.val) := by decide +kernel
theorem tile_at : ∀ t : Fin cfg0.N, tile (grid0.coords t) = t.val % 6 := by decide +kernel

/-- The point of round `k` and tile `n`. -/
def pt (k n : Nat) : Fin cfg0.N := ⟨(6 * k + n) % 30, Nat.mod_lt _ (by decide)⟩

theorem pt_eq (t : Fin cfg0.N) (k n : Nat) (h : 6 * k + n = t.val) : pt k n = t :=
  Fin.ext (by have ht : t.val < 30 := t.isLt; show (6 * k + n) % 30 = t.val; omega)

/-- The product a point of the first round adds up, -/
def first (c : Dev nD) (t : Fin cfg0.N) : Fin 1536 → Fin 512 → EReal := prod (iblk m c 0 t) (iblk m c 2 t) (iblk m c 3 t)

/-- and a point of a later round. -/
def next (c : Dev nD) (t : Fin cfg0.N) : Fin 1536 → Fin 512 → EReal := prod (iblk m c 1 t) (iblk m c 2 t) (iblk m c 3 t)

/-- Tile `n`'s running sums after round `k`. -/
def sums (c : Dev nD) : Nat → Nat → Fin 1536 → Fin 512 → EReal
  | 0, n => first m c (pt 0 n)
  | k + 1, n => fun r q => sums c k n r q + next m c (pt (k + 1) n) r q

/-- Before point `t` the scratch holds, in each tile, the sums through the round last worked on. -/
def Inv (c : Dev nD) (t : Nat) (f : Vec Ideal S6x1536x512 .f32) : Prop :=
  ∀ (k n : Nat) (hn : n < 6), k < 5 → 6 * k + n < t → t ≤ 6 * k + n + 6 → ∀ (r : Fin 1536) (q : Fin 512),
    (f (ix3 (⟨n, hn⟩ : Fin 6) r q) : EReal) = sums m c k n r q

theorem inv_first (c : Dev nD) (t : Fin cfg0.N) (ht : t.val < 6) (f f' : Vec Ideal S6x1536x512 .f32) (h : Inv m c t.val f)
    (hf : ∀ y : S6x1536x512.Idx, f' y = if (y 0).val = tile (grid0.coords t) then firstSum (iblk m c 0 t) (iblk m c 2 t) (iblk m c 3 t) y else f y) :
    Inv m c (t.val + 1) f' := by
  intro k n hn hk h1 h2 r q
  refine (hf _).trans ?_
  rw [tile_at]
  by_cases e : n = t.val % 6
  · have hk0 : k = 0 := by omega
    subst hk0
    rw [if_pos (show ((ix3 (⟨n, hn⟩ : Fin 6) r q : S6x1536x512.Idx) 0).val = t.val % 6 from e)]
    show prod _ _ _ r q = first m c (pt 0 n) r q
    rw [pt_eq t 0 n (by omega)]
    rfl
  · rw [if_neg (show ¬ ((ix3 (⟨n, hn⟩ : Fin 6) r q : S6x1536x512.Idx) 0).val = t.val % 6 from e)]
    exact h k n hn hk (by omega) (by omega) r q

/-- The sums a point of a later round finds in its tile, with its product added, are the next ones. -/
theorem nextSum_eq (c : Dev nD) (t : Fin cfg0.N) (k n : Nat) (hn : n < 6) (ht : 6 * (k + 1) + n = t.val) (f : Vec Ideal S6x1536x512 .f32)
    (h : Inv m c t.val f) (r : Fin 1536) (q : Fin 512) :
    nextSum (iblk m c 1 t) (iblk m c 2 t) (iblk m c 3 t) f (ix3 (⟨n, hn⟩ : Fin 6) r q) = sums m c (k + 1) n r q := by
  have h30 : t.val < 30 := t.isLt
  show (f (ix3 (⟨n, hn⟩ : Fin 6) r q) : EReal) + prod _ _ _ r q = sums m c k n r q + next m c (pt (k + 1) n) r q
  rw [h k n hn (by omega) (by omega) (by omega) r q, pt_eq t (k + 1) n ht]
  rfl

theorem inv_next (c : Dev nD) (t : Fin cfg0.N) (ht : 6 ≤ t.val) (f f' : Vec Ideal S6x1536x512 .f32) (h : Inv m c t.val f)
    (hf : ∀ y : S6x1536x512.Idx, f' y = if (y 0).val = tile (grid0.coords t) then nextSum (iblk m c 1 t) (iblk m c 2 t) (iblk m c 3 t) f y else f y) :
    Inv m c (t.val + 1) f' := by
  intro k n hn hk h1 h2 r q
  refine (hf _).trans ?_
  rw [tile_at]
  by_cases e : n = t.val % 6
  · obtain ⟨k', rfl⟩ : ∃ k', k = k' + 1 := ⟨k - 1, by omega⟩
    rw [if_pos (show ((ix3 (⟨n, hn⟩ : Fin 6) r q : S6x1536x512.Idx) 0).val = t.val % 6 from e)]
    exact nextSum_eq m c t k' n hn (by omega) f h r q
  · rw [if_neg (show ¬ ((ix3 (⟨n, hn⟩ : Fin 6) r q : S6x1536x512.Idx) 0).val = t.val % 6 from e)]
    exact h k n hn hk (by omega) (by omega) r q

/-- The output's block at a point of the last round. -/
def outAt (c : Dev nD) (t : Fin cfg0.N) : Vec Ideal S1536x512 .bf16 :=
  outBlock (iblk m c 4 t) (iblk m c 5 t) (iblk m c 6 t) (sums m c 4 (t.val % 6))

theorem outAt_eq (c : Dev nD) (t : Fin cfg0.N) (ht : 24 ≤ t.val) (f : Vec Ideal S6x1536x512 .f32) (h : Inv m c t.val f) :
    outBlock (iblk m c 4 t) (iblk m c 5 t) (iblk m c 6 t)
      (fun r q => nextSum (iblk m c 1 t) (iblk m c 2 t) (iblk m c 3 t) f (ix3 ⟨tile (grid0.coords t), tile_lt _⟩ r q)) = outAt m c t := by
  have h30 : t.val < 30 := t.isLt
  unfold outAt
  refine congrArg _ (funext fun r => funext fun q => ?_)
  have e := nextSum_eq m c t 3 (t.val % 6) (by omega) (by omega) f h r q
  refine Eq.trans (congrArg _ ?_) e
  exact congrArg (fun n : Fin 6 => (ix3 n r q : S6x1536x512.Idx)) (Fin.ext (tile_at t))

/-- What the body finds in its scratch before point `t`: the running sums, and some contents of the other two. -/
def Phi (c : Dev nD) (t : Nat) : sProp 𝕄 :=
  iprop(iprop((∃ f, ⌜Inv m c t f⌝ ∗ owns (c : Thread nD τ) scM0_0 fullShare f) ∗ (∃ d, owns (c : Thread nD τ) scM0_1 fullShare d) ∗ (∃ d, owns (c : Thread nD τ) scM0_2 fullShare d)) ∗ (∃ r, prngReg c r))

/-- The proof data: the inputs' buffers hold their blocks; the output's, at a point of the last round, the output block. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- what it leaves of the output's buffer: as it was at a point that does not write it, the output block at one that does, -/
def post7 (c : Dev nD) (t : Fin cfg0.N) : sProp 𝕄 :=
  match cfg0.idle 7 (cfg0.grid.coords t) with
  | true =>
    match (cfg0.win 7).flush t with
    | false => iprop(∃ d, owns (c : Thread nD τ) (ms0_7 t) fullShare ((dats m 0 c).before 7 t d))
    | true => owns (c : Thread nD τ) (ms0_7 t) fullShare ((dats m 0 c).after 7 t)
  | false => owns (c : Thread nD τ) (ms0_7 t) fullShare ((dats m 0 c).after 7 t)

theorem post7_before (c : Dev nD) (t : Fin cfg0.N) (ht : t.val < 24) :
    post7 m c t = iprop(∃ d, owns (c : Thread nD τ) (ms0_7 t) fullShare ((dats m 0 c).before 7 t d)) := by
  unfold post7
  rw [show cfg0.idle 7 (cfg0.grid.coords t) = true from (idle7 t).trans (decide_eq_true ht),
    show (cfg0.win 7).flush t = false from (flush7 t).trans (decide_eq_false (by omega))]

theorem post7_after (c : Dev nD) (t : Fin cfg0.N) (ht : 24 ≤ t.val) :
    post7 m c t = owns (c : Thread nD τ) (ms0_7 t) fullShare (outAt m c t) := by
  unfold post7
  rw [show cfg0.idle 7 (cfg0.grid.coords t) = false from (idle7 t).trans (decide_eq_false (by omega)), after0_7]

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ post7 m c t)

set_option maxHeartbeats 1600000 in
/-- The body at any point: the inputs' memrefs hold their blocks, so the run of the point's round applies, and the running
    sums go from one round to the next. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6]
  rw [show (dats m 0 c).Φ t.castSucc = Phi m c t.val from rfl, show (dats m 0 c).Φ t.succ = Phi m c (t.val + 1) from rfl]
  unfold Phi
  iintro ⟨⟨⟨⟨%s0, %hs, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rcases rounds t with ⟨h1, h2, h3, ht⟩ | ⟨h1, h2, h3, ht, ht'⟩ | ⟨h1, h2, h3, ht⟩
  · rw [post7_before m c t (by omega)]
    iapply ((runA (F := Ideal) c (grid0.coords t) h1 h2 h3 (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) ((dats m 0 c).before 7 t d7) s0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, HS0, ⟨%fT1, HS1⟩, ⟨%fT2, HS2⟩⟩
    isplitl [HS0 HS1 HS2 Hg]
    · isplitl [HS0 HS1 HS2]
      · isplitl [HS0]
        · iexists _; isplitr
          swap
          · unfold owns; iexists _; isplitr
            swap; · iexact HS0
            ipureintro; rfl
          ipureintro
          refine inv_first m c t ht s0 _ hs fun y => ?_
          rw [storesA_eq]
          exact firstStores_read _ _ _ _ _ _ _ _ _ _ _ _ _ _ _ _ _
        isplitl [HS1]
        · iexists _; unfold owns; iexists _; isplitr
          swap; · iexact HS1
          ipureintro; rfl
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · rw [post7_before m c t (by omega)]
    iapply ((runB (F := Ideal) c (grid0.coords t) h1 h2 h3 (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) ((dats m 0 c).before 7 t d7) s0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, HS0, ⟨%fT1, HS1⟩, ⟨%fT2, HS2⟩⟩
    isplitl [HS0 HS1 HS2 Hg]
    · isplitl [HS0 HS1 HS2]
      · isplitl [HS0]
        · iexists _; isplitr
          swap
          · unfold owns; iexists _; isplitr
            swap; · iexact HS0
            ipureintro; rfl
          ipureintro
          refine inv_next m c t ht s0 _ hs fun y => ?_
          rw [storesB_eq]
          exact nextStores_read _ _ _ _ _ _ _ _ _ _ _ _ _ _ _ _ _
        isplitl [HS1]
        · iexists _; unfold owns; iexists _; isplitr
          swap; · iexact HS1
          ipureintro; rfl
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · rw [post7_after m c t ht]
    iapply ((runC (F := Ideal) c (grid0.coords t) h1 h2 h3 (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) ((dats m 0 c).before 7 t d7) s0).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, HS0, ⟨%fT1, HS1⟩, ⟨%fT2, HS2⟩⟩
    isplitl [HS0 HS1 HS2 Hg]
    · isplitl [HS0 HS1 HS2]
      · isplitl [HS0]
        · iexists _; isplitr
          swap
          · unfold owns; iexists _; isplitr
            swap; · iexact HS0
            ipureintro; rfl
          ipureintro
          refine inv_next m c t (by omega) s0 _ hs fun y => ?_
          rw [storesC_eq]
          exact nextStores_read _ _ _ _ _ _ _ _ _ _ _ _ _ _ _ _ _
        isplitl [HS1]
        · iexists _; unfold owns; iexists _; isplitr
          swap; · iexact HS1
          ipureintro; rfl
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro
    rw [outStores_eq]
    refine (funext fun y => ?_ : _ = outBlock (iblk m c 4 t) (iblk m c 5 t) (iblk m c 6 t)
      (fun r q => nextSum (iblk m c 1 t) (iblk m c 2 t) (iblk m c 3 t) s0 (ix3 ⟨tile (grid0.coords t), tile_lt _⟩ r q))).trans (outAt_eq m c t ht s0 hs)
    exact outStores_read _ _ _ _ _ _ _ _ _ _ _ _ _ _ _ _ _ _ _ _ _ _ _ _ _ _ _ _

theorem defs₀_row (t : Fin cfg0.N) :
    defs₀ (F := Ideal) .tc cfg0.body (cfg0.bodyArgs t (cfg0.slots t)) = bodyAt0 t := by
  unfold defs₀; rw [Defs.onTc_tc]

/-- The body's triple at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem Phi_in (c : Dev nD) : Pipeline.ΦA spec0 c ⊢ Phi m c 0 := by
  rw [PhiA0_eq]
  unfold Phi
  iintro ⟨⟨⟨%s0, HS0⟩, HS1, HS2⟩, Hg⟩
  isplitl [HS0 HS1 HS2]
  · isplitl [HS0]
    · iexists s0; isplitr
      · ipureintro
        intro k n hn hk h1 h2 r q
        exact absurd h1 (Nat.not_lt_zero _)
      iexact HS0
    isplitl [HS1]; · iexact HS1
    iexact HS2
  iexact Hg

theorem Phi_out (c : Dev nD) (t : Nat) : Phi m c t ⊢ Pipeline.ΦA spec0 c := by
  rw [PhiA0_eq]
  unfold Phi
  iintro ⟨⟨⟨%s0, %hs, HS0⟩, HS1, HS2⟩, Hg⟩
  isplitl [HS0 HS1 HS2]
  · isplitl [HS0]; · iexists s0; iexact HS0
    isplitl [HS1]; · iexact HS1
    iexact HS2
  iexact Hg

set_option backward.isDefEq.respectTransparency.types false in
/-- The launch: every execution ends, every array of the pipeline at what the proof data computes, every counter zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Phi_in m c) (hout := fun c => Phi_out m c _)

theorem run_main : θ_run defs (onTc (τ := τ) (main (F := Ideal))) (s₀ m ρ) (Pipeline.FramePost cfgs (dats m) 0 (V m)) :=
  (θ_run defs _ _).mono (fun _ h => h.1) (run_main_quiescent m ρ)

/-- The frame: every execution ends, with the arguments as they were and every counter zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.OutIdeal.Run

end
-- ==== Proof.OSpec.lean ====
/-
  The output projection, entry by entry, as a function of the arguments' entries.
-/
module

public import proofs.«01_k».proof.Proof.Scale

@[expose] public section

set_option maxRecDepth 16384

noncomputable section

namespace Cert.OutSpec

open Idealize.ShloMosaic Idealize.ShloMosaic.TcCoe Idealize.SL.Sem
open Cert.Scale

variable (a0 : (⟨2, ![1536, 3072]⟩ : Shape).Idx → EReal) (a1 : (⟨2, ![1536, 12288]⟩ : Shape).Idx → EReal)
  (a2 : (⟨2, ![15360, 3072]⟩ : Shape).Idx → EReal) (a3 : (⟨2, ![480, 3072]⟩ : Shape).Idx → BitVec 8)
  (a4 : (⟨2, ![1536, 3072]⟩ : Shape).Idx → EReal) (a5 : (⟨2, ![2, 3072]⟩ : Shape).Idx → EReal) (a6 : (⟨1, ![3072]⟩ : Shape).Idx → EReal)

/-- The widened weight of row `k` and column `q`. -/
def wide (k : Fin 15360) (q : Fin 3072) : EReal := a2 (ix2 k q) * scaleOf (a3 (ix2 (⟨k.val / 32, by omega⟩ : Fin 480) q))

/-- The attention's share of the projection: the first 3072 rows of the weights. -/
def ofAttn (i : Fin 1536) (q : Fin 3072) : EReal := ∑ k : Fin 3072, a0 (ix2 i k) * wide a2 a3 ⟨k.val, by omega⟩ q

/-- The mlp's share: the other 12288 rows of the weights. -/
def ofMlp (i : Fin 1536) (q : Fin 3072) : EReal := ∑ k : Fin 12288, a1 (ix2 i k) * wide a2 a3 ⟨3072 + k.val, by omega⟩ q

/-- Block `j` of the mlp's share: 3072 rows of the weights. -/
def ofPart (j : Fin 4) (i : Fin 1536) (q : Fin 3072) : EReal :=
  ∑ k : Fin 3072, a1 (ix2 i ⟨3072 * j.val + k.val, by omega⟩) * wide a2 a3 ⟨3072 * (j.val + 1) + k.val, by omega⟩ q

/-- A sum over 12288 rows is the sum of its four blocks of 3072. -/
theorem sum_parts (f : Fin 12288 → EReal) : ∑ k : Fin 12288, f k = ∑ j : Fin 4, ∑ k : Fin 3072, f ⟨3072 * j.val + k.val, by omega⟩ := by
  rw [← Finset.sum_product', Finset.univ_product_univ, ← Equiv.sum_comp (finProdFinEquiv : Fin 4 × Fin 3072 ≃ Fin (4 * 3072)) f]
  exact Finset.sum_congr rfl fun x _ => congrArg f (Fin.ext (by show x.2.val + 3072 * x.1.val = 3072 * x.1.val + x.2.val; omega))

/-- The mlp's share is the sum of its four blocks. -/
theorem ofMlp_parts (i : Fin 1536) (q : Fin 3072) : ofMlp a1 a2 a3 i q
    = ofPart a1 a2 a3 0 i q + ofPart a1 a2 a3 1 i q + ofPart a1 a2 a3 2 i q + ofPart a1 a2 a3 3 i q := by
  unfold ofMlp
  rw [sum_parts, Fin.sum_univ_four]
  have e : ∀ j : Fin 4, (∑ k : Fin 3072, a1 (ix2 i ⟨3072 * j.val + k.val, by omega⟩)
      * wide a2 a3 ⟨3072 + (⟨3072 * j.val + k.val, by omega⟩ : Fin 12288).val, by show 3072 + (3072 * j.val + k.val) < 15360; omega⟩ q)
      = ofPart a1 a2 a3 j i q := fun j => by
    unfold ofPart
    refine Finset.sum_congr rfl fun k _ => congrArg (fun z => _ * wide a2 a3 z q) (Fin.ext ?_)
    show 3072 + (3072 * j.val + k.val) = 3072 * (j.val + 1) + k.val
    omega
  rw [← e 0, ← e 1, ← e 2, ← e 3]

/-- Entry `(i, q)` of the result: the residual plus the gate times the projection with its bias. -/
def outAt (i : Fin 1536) (q : Fin 3072) : EReal :=
  a4 (ix2 i q) + a5 (ix2 (⟨i.val / 768, by omega⟩ : Fin 2) q) * ((ofMlp a1 a2 a3 i q + ofAttn a0 a2 a3 i q) + a6 (ix1 q))

/-- The result. -/
def out (y : (⟨2, ![1536, 3072]⟩ : Shape).Idx) : EReal := outAt a0 a1 a2 a3 a4 a5 a6 (y 0) (y 1)

/-- The attention's share and the four blocks, added in turn, are the two shares. -/
theorem in_turn (i : Fin 1536) (q : Fin 3072) :
    ofAttn a0 a2 a3 i q + ofPart a1 a2 a3 0 i q + ofPart a1 a2 a3 1 i q + ofPart a1 a2 a3 2 i q + ofPart a1 a2 a3 3 i q
      = ofMlp a1 a2 a3 i q + ofAttn a0 a2 a3 i q := by
  rw [ofMlp_parts]
  ac_rfl

end Cert.OutSpec

end
-- ==== Proof.OArray.lean ====
/-
  The output projection's result after the whole grid, as a function of the arguments.
-/
module

public import proofs.«01_k».proof.Proof.OFrame
public import proofs.«01_k».proof.Proof.OSpec

@[expose] public section

set_option maxRecDepth 16384

noncomputable section

namespace Cert.OutIdeal.Array

open Cert.OutIdeal Cert.OutIdeal.Gen Idealize.ShloMosaic Idealize.ShloMosaic.TcCoe Idealize.SL.Sem
open Cert.Scale Cert.OutSpec Cert.OutIdeal.Weights Cert.OutIdeal.Block Cert.OutIdeal.Run

variable (m : (ℓ : Loc nD τ sig) → Buf (Elt Ideal) ℓ) (ρ : Dev nD → PrngReg)

theorem points (t : Fin cfg0.N) : t.val < 30 := t.isLt

theorem bias_at (b : Vec Ideal S3072 .f32) (q : Fin 3072) : shapeCast S1x1x3072 b shapeCasts_S3072_S1x1x3072 (ix3 0 0 q) = b (ix1 q) := by
  pointwise

/-- The bias, as the kernel's window takes it. -/
theorem bias_row (c : Dev nD) (q : Fin 3072) :
    (V m c main_v1 : Vec Ideal S1x1x3072 .f32) (ix3 0 0 q) = (m ((c : Thread nD τ).loc main_arg6) : Vec Ideal S3072 .f32) (ix1 q) := by
  have e : V m c main_v1 = (shapeCast S1x1x3072 (m ((c : Thread nD τ).loc main_arg6) : Vec Ideal S3072 .f32) shapeCasts_S3072_S1x1x3072
      : Vec Ideal S1x1x3072 .f32) := by
    show StableHlo.after hostOps0 _ (Proc.devRef .tc main_v1) = _
    after_results
    rfl
  exact (congrFun e _).trans (bias_at _ q)

theorem gate_at (g : Vec Ideal S2x3072 .f32) (p : Fin 2) (q : Fin 3072) :
    broadcastInDim S2x1x3072 ![0, 2] bcast_S2x3072_S2x1x3072_0_2 g (ix3 p 0 q) = g (ix2 p q) := by
  pointwise

/-- The gate, as the kernel's window takes it. -/
theorem gate_row (c : Dev nD) (p : Fin 2) (q : Fin 3072) :
    (V m c main_v0 : Vec Ideal S2x1x3072 .f32) (ix3 p 0 q) = (m ((c : Thread nD τ).loc main_arg5) : Vec Ideal S2x3072 .f32) (ix2 p q) := by
  have e : V m c main_v0 = (broadcastInDim S2x1x3072 ![0, 2] bcast_S2x3072_S2x1x3072_0_2
      (m ((c : Thread nD τ).loc main_arg5) : Vec Ideal S2x3072 .f32) : Vec Ideal S2x1x3072 .f32) := by
    show StableHlo.after hostOps0 _ (Proc.devRef .tc main_v0) = _
    after_results
  exact (congrFun e _).trans (gate_at _ p q)

theorem iblk0_eq (c : Dev nD) (t : Fin cfg0.N) : iblk m c 0 t = V m c main_arg0 := by
  have e := (by decide +kernel : ∀ t : Fin grid0.N, win0_0.index t (0 : Fin 2) = 0 ∧ win0_0.index t (1 : Fin 2) = 0) t
  funext j
  show V m c main_arg0 (((cfg0.win 0).blk t).view.emb j) = V m c main_arg0 j
  refine congrArg (V m c main_arg0) (funext fun a => Fin.ext ?_)
  match a with
  | ⟨0, _⟩ => have := e.1; show win0_0.index t (0 : Fin 2) * 1536 + 1 * (j 0).val = (j 0).val; omega
  | ⟨1, _⟩ => have := e.2; show win0_0.index t (1 : Fin 2) * 3072 + 1 * (j 1).val = (j 1).val; omega

/-- Block `p` of the mlp's activations, at a point of round `p + 1`. -/
theorem iblk1_at (c : Dev nD) (t : Fin cfg0.N) (p : Fin 4) (ht : t.val / 6 = p.val + 1) (i : Fin 1536) (k : Fin 3072) :
    iblk m c 1 t (ix2 i k) = V m c main_arg1 (ix2 i (⟨3072 * p.val + k.val, by omega⟩ : Fin 12288)) := by
  have e := (by decide +kernel : ∀ t : Fin grid0.N, win0_1.index t (0 : Fin 2) = 0 ∧ win0_1.index t (1 : Fin 2) = t.val / 6 - 1) t
  show V m c main_arg1 (((cfg0.win 1).blk t).view.emb (ix2 i k)) = _
  refine congrArg (V m c main_arg1) (funext fun a => Fin.ext ?_)
  match a with
  | ⟨0, _⟩ => have := e.1; show win0_1.index t (0 : Fin 2) * 1536 + 1 * i.val = i.val; omega
  | ⟨1, _⟩ => have := e.2; show win0_1.index t (1 : Fin 2) * 3072 + 1 * k.val = 3072 * p.val + k.val; omega

/-- The weights at a point of round `p` and tile `n`, -/
theorem iblk2_at (c : Dev nD) (t : Fin cfg0.N) (p n : Nat) (hp : t.val / 6 = p) (hn : t.val % 6 = n) (k : Fin 3072) (q : Fin 512) :
    iblk m c 2 t (ix2 k q) = V m c main_arg2 (ix2 (⟨3072 * p + k.val, by have := points t; omega⟩ : Fin 15360)
      (⟨512 * n + q.val, by omega⟩ : Fin 3072)) := by
  have e := (by decide +kernel : ∀ t : Fin grid0.N, win0_2.index t (0 : Fin 2) = t.val / 6 ∧ win0_2.index t (1 : Fin 2) = t.val % 6) t
  show V m c main_arg2 (((cfg0.win 2).blk t).view.emb (ix2 k q)) = _
  refine congrArg (V m c main_arg2) (funext fun a => Fin.ext ?_)
  match a with
  | ⟨0, _⟩ => have := e.1; show win0_2.index t (0 : Fin 2) * 3072 + 1 * k.val = 3072 * p + k.val; omega
  | ⟨1, _⟩ => have := e.2; show win0_2.index t (1 : Fin 2) * 512 + 1 * q.val = 512 * n + q.val; omega

/-- and their scales. -/
theorem iblk3_at (c : Dev nD) (t : Fin cfg0.N) (p n : Nat) (hp : t.val / 6 = p) (hn : t.val % 6 = n) (k : Fin 96) (q : Fin 512) :
    iblk m c 3 t (ix2 k q) = V m c main_arg3 (ix2 (⟨96 * p + k.val, by have := points t; omega⟩ : Fin 480)
      (⟨512 * n + q.val, by omega⟩ : Fin 3072)) := by
  have e := (by decide +kernel : ∀ t : Fin grid0.N, win0_3.index t (0 : Fin 2) = t.val / 6 ∧ win0_3.index t (1 : Fin 2) = t.val % 6) t
  show V m c main_arg3 (((cfg0.win 3).blk t).view.emb (ix2 k q)) = _
  refine congrArg (V m c main_arg3) (funext fun a => Fin.ext ?_)
  match a with
  | ⟨0, _⟩ => have := e.1; show win0_3.index t (0 : Fin 2) * 96 + 1 * k.val = 96 * p + k.val; omega
  | ⟨1, _⟩ => have := e.2; show win0_3.index t (1 : Fin 2) * 512 + 1 * q.val = 512 * n + q.val; omega

/-- At a point of the last round: the residual's block, -/
theorem iblk4_at (c : Dev nD) (t : Fin cfg0.N) (ht : 24 ≤ t.val) (i : Fin 1536) (q : Fin 512) :
    iblk m c 4 t (ix2 i q) = V m c main_arg4 (ix2 i (⟨512 * (t.val % 6) + q.val, by omega⟩ : Fin 3072)) := by
  have e := (by decide +kernel : ∀ t : Fin grid0.N, 24 ≤ t.val → win0_4.index t (0 : Fin 2) = 0 ∧ win0_4.index t (1 : Fin 2) = t.val % 6) t ht
  show V m c main_arg4 (((cfg0.win 4).blk t).view.emb (ix2 i q)) = _
  refine congrArg (V m c main_arg4) (funext fun a => Fin.ext ?_)
  match a with
  | ⟨0, _⟩ => have := e.1; show win0_4.index t (0 : Fin 2) * 1536 + 1 * i.val = i.val; omega
  | ⟨1, _⟩ => have := e.2; show win0_4.index t (1 : Fin 2) * 512 + 1 * q.val = 512 * (t.val % 6) + q.val; omega

/-- the gate's, -/
theorem iblk5_at (c : Dev nD) (t : Fin cfg0.N) (ht : 24 ≤ t.val) (p : Fin 2) (q : Fin 512) :
    iblk m c 5 t (ix3 p 0 q) = V m c main_v0 (ix3 p 0 (⟨512 * (t.val % 6) + q.val, by omega⟩ : Fin 3072)) := by
  have e := (by decide +kernel : ∀ t : Fin grid0.N, 24 ≤ t.val → win0_5.index t (0 : Fin 3) = 0 ∧ win0_5.index t (1 : Fin 3) = 0
    ∧ win0_5.index t (2 : Fin 3) = t.val % 6) t ht
  show V m c main_v0 (((cfg0.win 5).blk t).view.emb (ix3 p 0 q)) = _
  refine congrArg (V m c main_v0) (funext fun a => Fin.ext ?_)
  match a with
  | ⟨0, _⟩ => have := e.1; show win0_5.index t (0 : Fin 3) * 2 + 1 * p.val = p.val; omega
  | ⟨1, _⟩ => have := e.2.1; show win0_5.index t (1 : Fin 3) * 1 + 1 * 0 = 0; omega
  | ⟨2, _⟩ => have := e.2.2; show win0_5.index t (2 : Fin 3) * 512 + 1 * q.val = 512 * (t.val % 6) + q.val; omega

/-- and the bias's. -/
theorem iblk6_at (c : Dev nD) (t : Fin cfg0.N) (ht : 24 ≤ t.val) (q : Fin 512) :
    iblk m c 6 t (ix3 0 0 q) = V m c main_v1 (ix3 0 0 (⟨512 * (t.val % 6) + q.val, by omega⟩ : Fin 3072)) := by
  have e := (by decide +kernel : ∀ t : Fin grid0.N, 24 ≤ t.val → win0_6.index t (0 : Fin 3) = 0 ∧ win0_6.index t (1 : Fin 3) = 0
    ∧ win0_6.index t (2 : Fin 3) = t.val % 6) t ht
  show V m c main_v1 (((cfg0.win 6).blk t).view.emb (ix3 0 0 q)) = _
  refine congrArg (V m c main_v1) (funext fun a => Fin.ext ?_)
  match a with
  | ⟨0, _⟩ => have := e.1; show win0_6.index t (0 : Fin 3) * 1 + 1 * 0 = 0; omega
  | ⟨1, _⟩ => have := e.2.1; show win0_6.index t (1 : Fin 3) * 1 + 1 * 0 = 0; omega
  | ⟨2, _⟩ => have := e.2.2; show win0_6.index t (2 : Fin 3) * 512 + 1 * q.val = 512 * (t.val % 6) + q.val; omega

/-- The widened weight of a block's row and column is the whole array's. -/
theorem weight_eq (a2 : Vec Ideal S15360x3072 .fp8e4m3) (a3 : Vec Ideal S480x3072 .i8) (x2 : Vec Ideal S3072x512 .fp8e4m3) (x3 : Vec Ideal S96x512 .i8)
    (p n : Nat) (hp : p < 5) (hn : n < 6)
    (h2 : ∀ (k : Fin 3072) (q : Fin 512), x2 (ix2 k q) = a2 (ix2 (⟨3072 * p + k.val, by omega⟩ : Fin 15360) (⟨512 * n + q.val, by omega⟩ : Fin 3072)))
    (h3 : ∀ (k : Fin 96) (q : Fin 512), x3 (ix2 k q) = a3 (ix2 (⟨96 * p + k.val, by omega⟩ : Fin 480) (⟨512 * n + q.val, by omega⟩ : Fin 3072)))
    (k : Fin 3072) (q : Fin 512) :
    weight x2 x3 k q = OutSpec.wide a2 a3 ⟨3072 * p + k.val, by omega⟩ ⟨512 * n + q.val, by omega⟩ := by
  unfold weight OutSpec.wide
  rw [h2, h3]
  have e : (⟨96 * p + (⟨k.val / 32, by omega⟩ : Fin 96).val, by show 96 * p + k.val / 32 < 480; omega⟩ : Fin 480)
      = ⟨(⟨3072 * p + k.val, by omega⟩ : Fin 15360).val / 32, by show (3072 * p + k.val) / 32 < 480; omega⟩ :=
    Fin.ext (by show 96 * p + k.val / 32 = (3072 * p + k.val) / 32; omega)
  rw [e]

/-- The widened weights a point multiplies by. -/
theorem weight_at (c : Dev nD) (t : Fin cfg0.N) (p n : Nat) (hp : t.val / 6 = p) (hn : t.val % 6 = n) (k : Fin 3072) (q : Fin 512) :
    weight (iblk m c 2 t) (iblk m c 3 t) k q
      = OutSpec.wide (m ((c : Thread nD τ).loc main_arg2)) (m ((c : Thread nD τ).loc main_arg3))
          ⟨3072 * p + k.val, by have := points t; omega⟩ ⟨512 * n + q.val, by omega⟩ :=
  weight_eq _ _ _ _ p n (by have := points t; omega) (by omega)
    (fun k q => (iblk2_at m c t p n hp hn k q).trans (congrFun (V_main_arg2 m c) _))
    (fun k q => (iblk3_at m c t p n hp hn k q).trans (congrFun (V_main_arg3 m c) _)) k q

/-- The product of a point of the first round is the attention's share. -/
theorem first_eq (c : Dev nD) (n : Nat) (hn : n < 6) (r : Fin 1536) (q : Fin 512) :
    first m c (pt 0 n) r q = ofAttn (m ((c : Thread nD τ).loc main_arg0)) (m ((c : Thread nD τ).loc main_arg2)) (m ((c : Thread nD τ).loc main_arg3))
      r ⟨512 * n + q.val, by omega⟩ := by
  have ht : (pt 0 n).val = n := by show (6 * 0 + n) % 30 = n; omega
  unfold first prod ofAttn
  refine Finset.sum_congr rfl fun k _ => ?_
  refine congr (congrArg HMul.hMul ?_) ?_
  · rw [iblk0_eq]
    exact congrFun (V_main_arg0 m c) _
  · refine (weight_at m c (pt 0 n) 0 n (by omega) (by omega) k q).trans (congrArg (fun z => OutSpec.wide _ _ z _) (Fin.ext ?_))
    show 3072 * 0 + k.val = k.val
    omega

/-- The product of a point of round `p + 1` is block `p` of the mlp's share. -/
theorem next_eq (c : Dev nD) (p : Fin 4) (n : Nat) (hn : n < 6) (r : Fin 1536) (q : Fin 512) :
    next m c (pt (p.val + 1) n) r q = ofPart (m ((c : Thread nD τ).loc main_arg1)) (m ((c : Thread nD τ).loc main_arg2)) (m ((c : Thread nD τ).loc main_arg3))
      p r ⟨512 * n + q.val, by omega⟩ := by
  have ht : (pt (p.val + 1) n).val = 6 * (p.val + 1) + n := by show (6 * (p.val + 1) + n) % 30 = 6 * (p.val + 1) + n; omega
  unfold next prod ofPart
  refine Finset.sum_congr rfl fun k _ => ?_
  refine congr (congrArg HMul.hMul ?_) ?_
  · exact (iblk1_at m c _ p (by omega) r k).trans (congrFun (V_main_arg1 m c) _)
  · exact weight_at m c (pt (p.val + 1) n) (p.val + 1) n (by omega) (by omega) k q

/-- After the last round a tile's sums are the two shares of the projection. -/
theorem sums_eq (c : Dev nD) (n : Nat) (hn : n < 6) (r : Fin 1536) (q : Fin 512) :
    sums m c 4 n r q = ofMlp (m ((c : Thread nD τ).loc main_arg1)) (m ((c : Thread nD τ).loc main_arg2)) (m ((c : Thread nD τ).loc main_arg3))
        r ⟨512 * n + q.val, by omega⟩
      + ofAttn (m ((c : Thread nD τ).loc main_arg0)) (m ((c : Thread nD τ).loc main_arg2)) (m ((c : Thread nD τ).loc main_arg3))
        r ⟨512 * n + q.val, by omega⟩ := by
  refine Eq.trans ?_ (in_turn _ _ _ _ _ _)
  have e0 := first_eq m c n hn r q
  have e1 := next_eq m c 0 n hn r q
  have e2 := next_eq m c 1 n hn r q
  have e3 := next_eq m c 2 n hn r q
  have e4 := next_eq m c 3 n hn r q
  rw [← e0, ← e1, ← e2, ← e3, ← e4]
  rfl

/-- The result of the arguments. -/
abbrev outOf (c : Dev nD) : Vec Ideal S1536x3072 .bf16 :=
  out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))

/-- What a block of the last round holds, from what its windows hold. -/
theorem block_at (a4 : S1536x3072.Idx → EReal) (a5 : S2x3072.Idx → EReal) (a6 : S3072.Idx → EReal) (s s' : Fin 1536 → Fin 512 → EReal)
    (x4 : Vec Ideal S1536x512 .bf16) (x5 : Vec Ideal S2x1x512 .f32) (x6 : Vec Ideal S1x1x512 .f32) (n : Nat) (hn : n < 6)
    (h4 : ∀ (i : Fin 1536) (q : Fin 512), x4 (ix2 i q) = a4 (ix2 i (⟨512 * n + q.val, by omega⟩ : Fin 3072)))
    (h5 : ∀ (p : Fin 2) (q : Fin 512), x5 (ix3 p 0 q) = a5 (ix2 p (⟨512 * n + q.val, by omega⟩ : Fin 3072)))
    (h6 : ∀ q : Fin 512, x6 (ix3 0 0 q) = a6 (ix1 (⟨512 * n + q.val, by omega⟩ : Fin 3072)))
    (hs : ∀ r q, s r q = s' r q) (i : Fin 1536) (q : Fin 512) :
    outBlock x4 x5 x6 s (ix2 i q) = a4 (ix2 i (⟨512 * n + q.val, by omega⟩ : Fin 3072))
      + a5 (ix2 (⟨i.val / 768, by omega⟩ : Fin 2) (⟨512 * n + q.val, by omega⟩ : Fin 3072))
        * (s' i q + a6 (ix1 (⟨512 * n + q.val, by omega⟩ : Fin 3072))) := by
  rw [← h4, ← h5, ← h6, ← hs]
  rfl

/-- What a point of the last round leaves, in terms of the arguments. -/
theorem outAt_at (c : Dev nD) (t : Fin cfg0.N) (ht : 24 ≤ t.val) (i : Fin 1536) (q : Fin 512) :
    Run.outAt m c t (ix2 i q) = outOf m c (ix2 i (⟨512 * (t.val % 6) + q.val, by omega⟩ : Fin 3072)) := by
  unfold Run.outAt
  exact block_at _ _ _ _ _ _ _ _ (t.val % 6) (by omega)
    (fun i q => (iblk4_at m c t ht i q).trans (congrFun (V_main_arg4 m c) _))
    (fun p q => (iblk5_at m c t ht p q).trans (gate_row m c p _))
    (fun q => (iblk6_at m c t ht q).trans (bias_row m c _))
    (fun r q => sums_eq m c (t.val % 6) (by omega) r q) i q

theorem emb7 (t : Fin cfg0.N) (ht : 24 ≤ t.val) (i : Fin 1536) (q : Fin 512) :
    ((cfg0.win 7).blk t).view.emb (ix2 i q) = (ix2 i (⟨512 * (t.val % 6) + q.val, by omega⟩ : Fin 3072) : S1536x3072.Idx) := by
  have e := (by decide +kernel : ∀ t : Fin grid0.N, 24 ≤ t.val → win0_7.index t (0 : Fin 2) = 0 ∧ win0_7.index t (1 : Fin 2) = t.val % 6) t ht
  refine funext fun a => Fin.ext ?_
  match a with
  | ⟨0, _⟩ => have := e.1; show win0_7.index t (0 : Fin 2) * 1536 + 1 * i.val = i.val; omega
  | ⟨1, _⟩ => have := e.2; show win0_7.index t (1 : Fin 2) * 512 + 1 * q.val = 512 * (t.val % 6) + q.val; omega

theorem read7 (t : Fin cfg0.N) (ht : 24 ≤ t.val) (X : S1536x512.Idx → EReal) (G : Vec Ideal S1536x3072 .bf16)
    (h : ∀ (i : Fin 1536) (q : Fin 512), X (ix2 i q) = G (ix2 i (⟨512 * (t.val % 6) + q.val, by omega⟩ : Fin 3072))) :
    (cfg0.win 7).cut (grid0.coords t) X = ((cfg0.win 7).blk t).view.read (Elt Ideal) G := by
  funext j
  have e : j = ix2 (j 0) (j 1) := funext fun a => by
    match a with
    | ⟨0, _⟩ => rfl
    | ⟨1, _⟩ => rfl
  rw [e]
  show X (ix2 (j 0) (j 1)) = G (((cfg0.win 7).blk t).view.emb (ix2 (j 0) (j 1)))
  exact (h (j 0) (j 1)).trans (congrArg G (emb7 t ht (j 0) (j 1)).symm)

theorem covered7 (y : S1536x3072.Idx) : ∃ t : Fin cfg0.N, (cfg0.win 7).flush t = true ∧ y ∈ ((cfg0.win 7).blk t).view.set := by
  have h1 : (y 1).val < 3072 := (y 1).isLt
  obtain ⟨t, ht⟩ : ∃ t : Fin cfg0.N, t.val = 24 + (y 1).val / 512 := ⟨⟨24 + (y 1).val / 512, by show 24 + (y 1).val / 512 < 30; omega⟩, rfl⟩
  have e : ((cfg0.win 7).blk t).view.emb (ix2 (⟨(y 0).val, (y 0).isLt⟩ : Fin 1536) (⟨(y 1).val % 512, by omega⟩ : Fin 512)) = y := by
    rw [emb7 t (by omega)]
    funext a
    match a with
    | ⟨0, _⟩ => rfl
    | ⟨1, _⟩ => exact Fin.ext (by show 512 * (t.val % 6) + (y 1).val % 512 = (y 1).val; omega)
  have h := ((cfg0.win 7).blk t).view.emb_mem_set (ix2 (⟨(y 0).val, (y 0).isLt⟩ : Fin 1536) (⟨(y 1).val % 512, by omega⟩ : Fin 512))
  exact ⟨t, (flush7 t).trans (decide_eq_true (by omega)), Eq.mp (congrArg (fun z => z ∈ ((cfg0.win 7).blk t).view.set) e) h⟩

/-- The result after the run, as a function of the arguments. -/
theorem final7 (c : Dev nD) : (dats m 0 c).arrAt 7 cfg0.N = outOf m c := by
  refine (dats m 0 c).arrAt_eq_of_cover 7 (outOf m c) (fun t hf => ?_) covered7
  have ht : 24 ≤ t.val := of_decide_eq_true ((flush7 t).symm.trans hf)
  show (cfg0.win 7).cut (grid0.coords t) ((dats m 0 c).after 7 t) = _
  rw [after0_7]
  exact read7 t ht _ _ fun i q => outAt_at m c t ht i q

end Cert.OutIdeal.Array

end
-- ==== Proof.ORef.lean ====
/-
  What the reference of the output projection computes, entry by entry.
-/
module

public import proofs.«01_k».proof.Proof.Gen.RefOIdeal.Value
public import proofs.«01_k».proof.Proof.OSpec

@[expose] public section

set_option maxRecDepth 16384

noncomputable section

namespace Cert.RefOIdeal.Ref

open Cert.RefOIdeal Cert.RefOIdeal.Gen Idealize.ShloMosaic Idealize.ShloMosaic.TcCoe Idealize.SL.Sem
open Cert.Scale Cert.OutSpec

/-- A scale's byte, unbiased and biased again and laid in the exponent's place. -/
theorem shifted (x : BitVec 8) :
    Ideal.ofBits .f32 (IntOp.shli ArithUnit.vector (IntOp.addi (IntOp.subi (BitVec.setWidth 32 x) 127#32) 127#32) 23#32) = scaleOf x := by
  unfold scaleOf
  exact congrArg (Ideal.ofBits .f32) (bias_roundtrip x)

/-- What the body computes, at an index. -/
theorem pay_at (w : Vec Ideal S15360x3072 .fp8e4m3) (e : Vec Ideal S480x3072 .i8) (h : Vec Ideal S1536x12288 .bf16)
    (a : Vec Ideal S1536x3072 .bf16) (b : Vec Ideal S1x3072 .f32) (x : Vec Ideal S1536x3072 .bf16) (g : Vec Ideal S2x3072 .f32)
    (i : Fin 1536) (q : Fin 3072) :
    k0_pay1 w e h a b x g (ix2 i q) = outAt a h w e x g (fun y => b (ix2 0 (y 0))) i q := by
  unfold k0_pay1
  pointwise
  simp only [shifted]
  have eh : ∀ k : Fin 12288, (⟨(3072 + k.val) / 32 * 32 + (3072 + k.val) % 32, by omega⟩ : Fin 15360) = ⟨3072 + k.val, by omega⟩ :=
    fun k => Fin.ext (by show (3072 + k.val) / 32 * 32 + (3072 + k.val) % 32 = 3072 + k.val; omega)
  have ea : ∀ k : Fin 3072, (⟨k.val / 32 * 32 + k.val % 32, by omega⟩ : Fin 15360) = ⟨k.val, by omega⟩ :=
    fun k => Fin.ext (by show k.val / 32 * 32 + k.val % 32 = k.val; omega)
  simp only [eh, ea]
  unfold outAt ofMlp ofAttn wide
  rfl

variable (x0 : Vec Ideal S1536x3072 .bf16) (x1 : Vec Ideal S1536x12288 .bf16) (x2 : Vec Ideal S15360x3072 .fp8e4m3)
  (x3 : Vec Ideal S480x3072 .i8) (x4 : Vec Ideal S1536x3072 .bf16) (x5 : Vec Ideal S2x3072 .f32) (x6 : Vec Ideal S1x3072 .f32)

theorem ld0 (v : Vec Ideal S15360x3072 .fp8e4m3) : View.ld v r0_0 = v := funext fun y => congrArg v (funext fun a => by
  match a with
  | ⟨0, _⟩ => exact Fin.ext (by show 0 + 1 * (y 0).val = (y 0).val; omega)
  | ⟨1, _⟩ => exact Fin.ext (by show 0 + 1 * (y 1).val = (y 1).val; omega))

theorem ld1 (v : Vec Ideal S480x3072 .i8) : View.ld v r0_1 = v := funext fun y => congrArg v (funext fun a => by
  match a with
  | ⟨0, _⟩ => exact Fin.ext (by show 0 + 1 * (y 0).val = (y 0).val; omega)
  | ⟨1, _⟩ => exact Fin.ext (by show 0 + 1 * (y 1).val = (y 1).val; omega))

theorem ld2 (v : Vec Ideal S1536x12288 .bf16) : View.ld v r0_2 = v := funext fun y => congrArg v (funext fun a => by
  match a with
  | ⟨0, _⟩ => exact Fin.ext (by show 0 + 1 * (y 0).val = (y 0).val; omega)
  | ⟨1, _⟩ => exact Fin.ext (by show 0 + 1 * (y 1).val = (y 1).val; omega))

theorem ld3 (v : Vec Ideal S1536x3072 .bf16) : View.ld v r0_3 = v := funext fun y => congrArg v (funext fun a => by
  match a with
  | ⟨0, _⟩ => exact Fin.ext (by show 0 + 1 * (y 0).val = (y 0).val; omega)
  | ⟨1, _⟩ => exact Fin.ext (by show 0 + 1 * (y 1).val = (y 1).val; omega))

theorem ld4 (v : Vec Ideal S1x3072 .f32) : View.ld v r0_4 = v := funext fun y => congrArg v (funext fun a => by
  match a with
  | ⟨0, _⟩ => exact Fin.ext (by show 0 + 1 * (y 0).val = (y 0).val; omega)
  | ⟨1, _⟩ => exact Fin.ext (by show 0 + 1 * (y 1).val = (y 1).val; omega))

theorem ld5 (v : Vec Ideal S2x3072 .f32) : View.ld v r0_5 = v := funext fun y => congrArg v (funext fun a => by
  match a with
  | ⟨0, _⟩ => exact Fin.ext (by show 0 + 1 * (y 0).val = (y 0).val; omega)
  | ⟨1, _⟩ => exact Fin.ext (by show 0 + 1 * (y 1).val = (y 1).val; omega))

/-- The result the body leaves. -/
theorem out_eq : out0_7 x0 x1 x2 x3 x4 x5 x6 = out x0 x1 x2 x3 x4 x5 (fun y => x6 (ix2 0 (y 0))) := by
  funext y
  unfold out0_7
  rw [ld0, ld1, ld2, ld3, ld3, ld4, ld5]
  refine (congrFun (View.canon_unit_zero (funext fun a => by fin_cases a <;> rfl) _ _) _).trans ?_
  refine (congrArg _ (show y = ix2 (y 0) (y 1) from funext fun a => by
    match a with
    | ⟨0, _⟩ => rfl
    | ⟨1, _⟩ => rfl)).trans ?_
  exact pay_at x2 x3 x1 x0 x6 x4 x5 (y 0) (y 1)

variable (m : (ℓ : Loc nD τ sig) → Buf (Elt Ideal) ℓ) (ρ : Dev nD → PrngReg)

theorem row_at (b : Vec Ideal S3072 .f32) (q : Fin 3072) : shapeCast S1x3072 b shapeCasts_S3072_S1x3072 (ix2 0 q) = b (ix1 q) := by
  pointwise

/-- The bias, as a row. -/
theorem bias_row (c : Dev nD) (q : Fin 3072) :
    (V m c main_v0 : Vec Ideal S1x3072 .f32) (ix2 0 q) = (m ((c : Thread nD τ).loc main_arg6) : Vec Ideal S3072 .f32) (ix1 q) := by
  have e : V m c main_v0 = (shapeCast S1x3072 (m ((c : Thread nD τ).loc main_arg6) : Vec Ideal S3072 .f32) shapeCasts_S3072_S1x3072
      : Vec Ideal S1x3072 .f32) := by
    show StableHlo.after hostOps0 _ (Proc.devRef .tc main_v0) = _
    after_results
    rfl
  exact (congrFun e _).trans (row_at _ q)

theorem iblk0_eq (c : Dev nD) (t : Fin cfg0.N) : iblk m c 0 t = V m c main_arg0 := by
  have e := (by decide +kernel : ∀ t : Fin grid0.N, win0_0.index t (0 : Fin 2) = 0 ∧ win0_0.index t (1 : Fin 2) = 0) t
  funext j
  show V m c main_arg0 (((cfg0.win 0).blk t).view.emb j) = V m c main_arg0 j
  refine congrArg (V m c main_arg0) (funext fun a => Fin.ext ?_)
  match a with
  | ⟨0, _⟩ => have := e.1; show win0_0.index t (0 : Fin 2) * 1536 + 1 * (j 0).val = (j 0).val; omega
  | ⟨1, _⟩ => have := e.2; show win0_0.index t (1 : Fin 2) * 3072 + 1 * (j 1).val = (j 1).val; omega

theorem iblk1_eq (c : Dev nD) (t : Fin cfg0.N) : iblk m c 1 t = V m c main_arg1 := by
  have e := (by decide +kernel : ∀ t : Fin grid0.N, win0_1.index t (0 : Fin 2) = 0 ∧ win0_1.index t (1 : Fin 2) = 0) t
  funext j
  show V m c main_arg1 (((cfg0.win 1).blk t).view.emb j) = V m c main_arg1 j
  refine congrArg (V m c main_arg1) (funext fun a => Fin.ext ?_)
  match a with
  | ⟨0, _⟩ => have := e.1; show win0_1.index t (0 : Fin 2) * 1536 + 1 * (j 0).val = (j 0).val; omega
  | ⟨1, _⟩ => have := e.2; show win0_1.index t (1 : Fin 2) * 12288 + 1 * (j 1).val = (j 1).val; omega

theorem iblk2_eq (c : Dev nD) (t : Fin cfg0.N) : iblk m c 2 t = V m c main_arg2 := by
  have e := (by decide +kernel : ∀ t : Fin grid0.N, win0_2.index t (0 : Fin 2) = 0 ∧ win0_2.index t (1 : Fin 2) = 0) t
  funext j
  show V m c main_arg2 (((cfg0.win 2).blk t).view.emb j) = V m c main_arg2 j
  refine congrArg (V m c main_arg2) (funext fun a => Fin.ext ?_)
  match a with
  | ⟨0, _⟩ => have := e.1; show win0_2.index t (0 : Fin 2) * 15360 + 1 * (j 0).val = (j 0).val; omega
  | ⟨1, _⟩ => have := e.2; show win0_2.index t (1 : Fin 2) * 3072 + 1 * (j 1).val = (j 1).val; omega

theorem iblk3_eq (c : Dev nD) (t : Fin cfg0.N) : iblk m c 3 t = V m c main_arg3 := by
  have e := (by decide +kernel : ∀ t : Fin grid0.N, win0_3.index t (0 : Fin 2) = 0 ∧ win0_3.index t (1 : Fin 2) = 0) t
  funext j
  show V m c main_arg3 (((cfg0.win 3).blk t).view.emb j) = V m c main_arg3 j
  refine congrArg (V m c main_arg3) (funext fun a => Fin.ext ?_)
  match a with
  | ⟨0, _⟩ => have := e.1; show win0_3.index t (0 : Fin 2) * 480 + 1 * (j 0).val = (j 0).val; omega
  | ⟨1, _⟩ => have := e.2; show win0_3.index t (1 : Fin 2) * 3072 + 1 * (j 1).val = (j 1).val; omega

theorem iblk4_eq (c : Dev nD) (t : Fin cfg0.N) : iblk m c 4 t = V m c main_arg4 := by
  have e := (by decide +kernel : ∀ t : Fin grid0.N, win0_4.index t (0 : Fin 2) = 0 ∧ win0_4.index t (1 : Fin 2) = 0) t
  funext j
  show V m c main_arg4 (((cfg0.win 4).blk t).view.emb j) = V m c main_arg4 j
  refine congrArg (V m c main_arg4) (funext fun a => Fin.ext ?_)
  match a with
  | ⟨0, _⟩ => have := e.1; show win0_4.index t (0 : Fin 2) * 1536 + 1 * (j 0).val = (j 0).val; omega
  | ⟨1, _⟩ => have := e.2; show win0_4.index t (1 : Fin 2) * 3072 + 1 * (j 1).val = (j 1).val; omega

theorem iblk5_eq (c : Dev nD) (t : Fin cfg0.N) : iblk m c 5 t = V m c main_arg5 := by
  have e := (by decide +kernel : ∀ t : Fin grid0.N, win0_5.index t (0 : Fin 2) = 0 ∧ win0_5.index t (1 : Fin 2) = 0) t
  funext j
  show V m c main_arg5 (((cfg0.win 5).blk t).view.emb j) = V m c main_arg5 j
  refine congrArg (V m c main_arg5) (funext fun a => Fin.ext ?_)
  match a with
  | ⟨0, _⟩ => have := e.1; show win0_5.index t (0 : Fin 2) * 2 + 1 * (j 0).val = (j 0).val; omega
  | ⟨1, _⟩ => have := e.2; show win0_5.index t (1 : Fin 2) * 3072 + 1 * (j 1).val = (j 1).val; omega

theorem iblk6_eq (c : Dev nD) (t : Fin cfg0.N) : iblk m c 6 t = V m c main_v0 := by
  have e := (by decide +kernel : ∀ t : Fin grid0.N, win0_6.index t (0 : Fin 2) = 0 ∧ win0_6.index t (1 : Fin 2) = 0) t
  funext j
  show V m c main_v0 (((cfg0.win 6).blk t).view.emb j) = V m c main_v0 j
  refine congrArg (V m c main_v0) (funext fun a => Fin.ext ?_)
  match a with
  | ⟨0, _⟩ => have := e.1; show win0_6.index t (0 : Fin 2) * 1 + 1 * (j 0).val = (j 0).val; omega
  | ⟨1, _⟩ => have := e.2; show win0_6.index t (1 : Fin 2) * 3072 + 1 * (j 1).val = (j 1).val; omega

theorem emb7 (t : Fin cfg0.N) (j : S1536x3072.Idx) : ((cfg0.win 7).blk t).view.emb j = j := by
  have e := (by decide +kernel : ∀ t : Fin grid0.N, win0_7.index t (0 : Fin 2) = 0 ∧ win0_7.index t (1 : Fin 2) = 0) t
  funext a
  apply Fin.ext
  match a with
  | ⟨0, _⟩ => have := e.1; show win0_7.index t (0 : Fin 2) * 1536 + 1 * (j 0).val = (j 0).val; omega
  | ⟨1, _⟩ => have := e.2; show win0_7.index t (1 : Fin 2) * 3072 + 1 * (j 1).val = (j 1).val; omega

theorem cut7 (t : Fin cfg0.N) (X : Vec Ideal S1536x3072 .bf16) :
    (cfg0.win 7).cut (grid0.coords t) X = ((cfg0.win 7).blk t).view.read (Elt Ideal) X := by
  funext j
  show X j = X (((cfg0.win 7).blk t).view.emb j)
  rw [emb7]

/-- The result after the run, as a function of the arguments. -/
theorem final7 (c : Dev nD) : (dats m 0 c).arrAt 7 cfg0.N
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine ((dats m 0 c).arrAt_eq_of_cover 7 (out0_7 (V m c main_arg0) (V m c main_arg1) (V m c main_arg2) (V m c main_arg3) (V m c main_arg4)
    (V m c main_arg5) (V m c main_v0)) (fun t _ => ?_) (fun i => ⟨(⟨0, by decide⟩ : Fin cfg0.N), flush0_7 _, ?_⟩)).trans ?_
  · rw [Value.flushed7, iblk0_eq, iblk1_eq, iblk2_eq, iblk3_eq, iblk4_eq, iblk5_eq, iblk6_eq]
    exact cut7 t _
  · have h := ((cfg0.win 7).blk (⟨0, by decide⟩ : Fin cfg0.N)).view.emb_mem_set i
    rwa [emb7] at h
  · rw [out_eq, V_main_arg0, V_main_arg1, V_main_arg2, V_main_arg3, V_main_arg4, V_main_arg5]
    refine congrArg (fun b => out _ _ _ _ _ _ b) (funext fun y => ?_)
    refine (bias_row m c (y 0)).trans (congrArg _ (funext fun a => ?_))
    match a with
    | ⟨0, _⟩ => rfl

end Cert.RefOIdeal.Ref

end
-- ==== Proof.OEq.lean ====
/-
  The output projection's kernel and its reference end with equal results.
-/
module

public import proofs.«01_k».proof.Defs
public import proofs.«01_k».proof.Proof.OArray
public import proofs.«01_k».proof.Proof.ORef

@[expose] public section

set_option maxRecDepth 16384

noncomputable section

namespace Cert.OutIdeal.Equal

open Idealize.ShloMosaic Idealize.ShloMosaic.TcCoe Idealize.SL.Sem

/-- From memories that agree on the arguments, both end with the result the arguments determine. -/
theorem algebraic : Cert.algebraic_OutIdeal_RefOIdeal (hOutIdeal := Cert.OutIdeal.Gen.facts) (hRefOIdeal := Cert.RefOIdeal.Gen.facts) := by
  intro m g m' g' _ hm
  have k7 := Cert.OutIdeal.Array.final7 m
  have r7 : ∀ c, (Cert.RefOIdeal.Gen.dats m' 0 c).arrAt 7 Cert.RefOIdeal.cfg0.N = Cert.OutIdeal.Array.outOf m c := fun c => by
    obtain ⟨h0, h1, h2, h3, h4, h5, h6⟩ := hm c
    refine (Cert.RefOIdeal.Ref.final7 m' c).trans ?_
    rw [h0, h1, h2, h3, h4, h5, h6]
  refine ⟨fun c => Cert.OutIdeal.Array.outOf m c, ?_, ?_⟩
  · refine (θ_run _ _ _).mono ?_ (θ_run_and (Cert.OutIdeal.Run.run_main m g) (Cert.OutIdeal.Run.frame m g))
    exact fun r h c => ⟨((h.1 c).1 7).trans (k7 c), h.2.1 c⟩
  · refine (θ_run _ _ _).mono ?_ (Cert.RefOIdeal.Value.run_blocks m' g')
    exact fun r h c => ⟨(h c).1.trans (r7 c), (h c).2⟩

end Cert.OutIdeal.Equal

end
-- ==== Proof.lean ====
/-
  The certificate's claims, assembled: each program runs to its end and leaves its arguments and semaphores as they
  were, each idealisation is its program read over the extended reals, and each projection ends with the same results
  as its reference.
-/
module

public import proofs.«01_k».proof.Defs
public import proofs.«01_k».proof.Proof.Gen.ProjQ
public import proofs.«01_k».proof.Proof.Gen.ProjQ.Skeleton
public import proofs.«01_k».proof.Proof.Gen.ProjQ.Launch
public import proofs.«01_k».proof.Proof.Gen.ProjQ.Points
public import proofs.«01_k».proof.Proof.Gen.ProjQ.Frame
public import proofs.«01_k».proof.Proof.Gen.ProjQIdeal
public import proofs.«01_k».proof.Proof.Gen.ProjQIdeal.Skeleton
public import proofs.«01_k».proof.Proof.Gen.ProjQIdeal.Launch
public import proofs.«01_k».proof.Proof.Gen.ProjQIdeal.Points
public import proofs.«01_k».proof.Proof.Gen.ProjQIdeal.Frame
public import proofs.«01_k».proof.Proof.Gen.ProjQIdeal.Value
public import proofs.«01_k».proof.Proof.Gen.RefQIdeal
public import proofs.«01_k».proof.Proof.Gen.RefQIdeal.Skeleton
public import proofs.«01_k».proof.Proof.Gen.RefQIdeal.Launch
public import proofs.«01_k».proof.Proof.Gen.RefQIdeal.Points
public import proofs.«01_k».proof.Proof.Gen.RefQIdeal.Frame
public import proofs.«01_k».proof.Proof.Gen.RefQIdeal.Value
public import proofs.«01_k».proof.Proof.Gen.ProjK
public import proofs.«01_k».proof.Proof.Gen.ProjK.Skeleton
public import proofs.«01_k».proof.Proof.Gen.ProjK.Launch
public import proofs.«01_k».proof.Proof.Gen.ProjK.Points
public import proofs.«01_k».proof.Proof.Gen.ProjK.Frame
public import proofs.«01_k».proof.Proof.Gen.ProjKIdeal
public import proofs.«01_k».proof.Proof.Gen.ProjKIdeal.Skeleton
public import proofs.«01_k».proof.Proof.Gen.ProjKIdeal.Launch
public import proofs.«01_k».proof.Proof.Gen.ProjKIdeal.Points
public import proofs.«01_k».proof.Proof.Gen.ProjKIdeal.Frame
public import proofs.«01_k».proof.Proof.Gen.ProjKIdeal.Value
public import proofs.«01_k».proof.Proof.Gen.RefKIdeal
public import proofs.«01_k».proof.Proof.Gen.RefKIdeal.Skeleton
public import proofs.«01_k».proof.Proof.Gen.RefKIdeal.Launch
public import proofs.«01_k».proof.Proof.Gen.RefKIdeal.Points
public import proofs.«01_k».proof.Proof.Gen.RefKIdeal.Frame
public import proofs.«01_k».proof.Proof.Gen.RefKIdeal.Value
public import proofs.«01_k».proof.Proof.Gen.ProjV
public import proofs.«01_k».proof.Proof.Gen.ProjV.Skeleton
public import proofs.«01_k».proof.Proof.Gen.ProjV.Launch
public import proofs.«01_k».proof.Proof.Gen.ProjV.Points
public import proofs.«01_k».proof.Proof.Gen.ProjV.Frame
public import proofs.«01_k».proof.Proof.Gen.ProjVIdeal
public import proofs.«01_k».proof.Proof.Gen.ProjVIdeal.Skeleton
public import proofs.«01_k».proof.Proof.Gen.ProjVIdeal.Launch
public import proofs.«01_k».proof.Proof.Gen.ProjVIdeal.Points
public import proofs.«01_k».proof.Proof.Gen.ProjVIdeal.Frame
public import proofs.«01_k».proof.Proof.Gen.ProjVIdeal.Value
public import proofs.«01_k».proof.Proof.Gen.RefVIdeal
public import proofs.«01_k».proof.Proof.Gen.RefVIdeal.Skeleton
public import proofs.«01_k».proof.Proof.Gen.RefVIdeal.Launch
public import proofs.«01_k».proof.Proof.Gen.RefVIdeal.Points
public import proofs.«01_k».proof.Proof.Gen.RefVIdeal.Frame
public import proofs.«01_k».proof.Proof.Gen.RefVIdeal.Value
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.RefOIdeal
public import proofs.«01_k».proof.Proof.Gen.RefOIdeal.Skeleton
public import proofs.«01_k».proof.Proof.Gen.RefOIdeal.Launch
public import proofs.«01_k».proof.Proof.Gen.RefOIdeal.Points
public import proofs.«01_k».proof.Proof.Gen.RefOIdeal.Frame
public import proofs.«01_k».proof.Proof.Gen.RefOIdeal.Value
public import proofs.«01_k».proof.Proof.QEq
public import proofs.«01_k».proof.Proof.KEq
public import proofs.«01_k».proof.Proof.VEq
public import proofs.«01_k».proof.Proof.PFrame
public import proofs.«01_k».proof.Proof.OEq
public import Idealize.ShloMosaic.Adequacy
public import Idealize.ShloMosaic.Init

@[expose] public section

noncomputable section

namespace Cert.Proof

theorem claim : Cert.Claim :=
  ⟨Cert.ProjQ.Gen.facts, Cert.ProjQIdeal.Gen.facts, Cert.RefQIdeal.Gen.facts, Cert.ProjK.Gen.facts, Cert.ProjKIdeal.Gen.facts,
    Cert.RefKIdeal.Gen.facts, Cert.ProjV.Gen.facts, Cert.ProjVIdeal.Gen.facts, Cert.RefVIdeal.Gen.facts,
    Cert.Out.Gen.facts, Cert.OutIdeal.Gen.facts, Cert.RefOIdeal.Gen.facts,
    fun m ρ _ => Cert.ProjQ.Gen.frame m ρ, fun m ρ _ => Cert.ProjQIdeal.Gen.frame m ρ, fun m ρ _ => Cert.RefQIdeal.Gen.frame m ρ,
    fun m ρ _ => Cert.ProjK.Gen.frame m ρ, fun m ρ _ => Cert.ProjKIdeal.Gen.frame m ρ, fun m ρ _ => Cert.RefKIdeal.Gen.frame m ρ,
    fun m ρ _ => Cert.ProjV.Gen.frame m ρ, fun m ρ _ => Cert.ProjVIdeal.Gen.frame m ρ, fun m ρ _ => Cert.RefVIdeal.Gen.frame m ρ,
    fun m ρ _ => Cert.Out.Run.frame m ρ, fun m ρ _ => Cert.OutIdeal.Run.frame m ρ, fun m ρ _ => Cert.RefOIdeal.Gen.frame m ρ,
    trivial, Cert.ProjQIdeal.Equal.algebraic, trivial, Cert.ProjKIdeal.Equal.algebraic,
    trivial, Cert.ProjVIdeal.Equal.algebraic, trivial, Cert.OutIdeal.Equal.algebraic⟩

end Cert.Proof

end
